-- ==== Defs.lean ====
def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_GmlpBwd (m : (ℓ : Loc Cert.GmlpBwd.nD Cert.GmlpBwd.τ Cert.GmlpBwd.sig) → Buf (Elt Bits) ℓ) : Prop :=
  True

def Pre_GmlpBwdIdeal (m : (ℓ : Loc Cert.GmlpBwdIdeal.nD Cert.GmlpBwdIdeal.τ Cert.GmlpBwdIdeal.sig) → Buf (Elt Ideal) ℓ) : Prop :=
  True

def Pre_GmlpBwdIdeal_gmlp_bwd_finite [hPre_gmlp_bwd_finite : Cert.Pre_gmlp_bwd_finite.Facts] (m : (ℓ : Loc Cert.GmlpBwdIdeal.nD Cert.GmlpBwdIdeal.τ Cert.GmlpBwdIdeal.sig) → Buf (Elt Ideal) ℓ) : Prop :=
  ∀ c : Dev Cert.GmlpBwdIdeal.nD,
    (Cert.Pre_gmlp_bwd_finite.fn (F := Ideal) (m ((c.tc : Thread Cert.GmlpBwdIdeal.nD Cert.GmlpBwdIdeal.τ).loc Cert.GmlpBwdIdeal.main_arg0)) (m ((c.tc : Thread Cert.GmlpBwdIdeal.nD Cert.GmlpBwdIdeal.τ).loc Cert.GmlpBwdIdeal.main_arg1)) (m ((c.tc : Thread Cert.GmlpBwdIdeal.nD Cert.GmlpBwdIdeal.τ).loc Cert.GmlpBwdIdeal.main_arg2)) (m ((c.tc : Thread Cert.GmlpBwdIdeal.nD Cert.GmlpBwdIdeal.τ).loc Cert.GmlpBwdIdeal.main_arg3)) (m ((c.tc : Thread Cert.GmlpBwdIdeal.nD Cert.GmlpBwdIdeal.τ).loc Cert.GmlpBwdIdeal.main_arg4)) (m ((c.tc : Thread Cert.GmlpBwdIdeal.nD Cert.GmlpBwdIdeal.τ).loc Cert.GmlpBwdIdeal.main_arg5)) (m ((c.tc : Thread Cert.GmlpBwdIdeal.nD Cert.GmlpBwdIdeal.τ).loc Cert.GmlpBwdIdeal.main_arg6)) (m ((c.tc : Thread Cert.GmlpBwdIdeal.nD Cert.GmlpBwdIdeal.τ).loc Cert.GmlpBwdIdeal.main_arg7))) = (fun _ => 1#1)

def Pre_GmlpBwdRefIdeal (m : (ℓ : Loc Cert.GmlpBwdRefIdeal.nD Cert.GmlpBwdRefIdeal.τ Cert.GmlpBwdRefIdeal.sig) → Buf (Elt Ideal) ℓ) : Prop :=
  True

def Pre_GmlpBwdRefIdeal_gmlp_bwd_finite [hPre_gmlp_bwd_finite : Cert.Pre_gmlp_bwd_finite.Facts] (m : (ℓ : Loc Cert.GmlpBwdRefIdeal.nD Cert.GmlpBwdRefIdeal.τ Cert.GmlpBwdRefIdeal.sig) → Buf (Elt Ideal) ℓ) : Prop :=
  ∀ c : Dev Cert.GmlpBwdRefIdeal.nD,
    (Cert.Pre_gmlp_bwd_finite.fn (F := Ideal) (m ((c.tc : Thread Cert.GmlpBwdRefIdeal.nD Cert.GmlpBwdRefIdeal.τ).loc Cert.GmlpBwdRefIdeal.main_arg0)) (m ((c.tc : Thread Cert.GmlpBwdRefIdeal.nD Cert.GmlpBwdRefIdeal.τ).loc Cert.GmlpBwdRefIdeal.main_arg1)) (m ((c.tc : Thread Cert.GmlpBwdRefIdeal.nD Cert.GmlpBwdRefIdeal.τ).loc Cert.GmlpBwdRefIdeal.main_arg2)) (m ((c.tc : Thread Cert.GmlpBwdRefIdeal.nD Cert.GmlpBwdRefIdeal.τ).loc Cert.GmlpBwdRefIdeal.main_arg3)) (m ((c.tc : Thread Cert.GmlpBwdRefIdeal.nD Cert.GmlpBwdRefIdeal.τ).loc Cert.GmlpBwdRefIdeal.main_arg4)) (m ((c.tc : Thread Cert.GmlpBwdRefIdeal.nD Cert.GmlpBwdRefIdeal.τ).loc Cert.GmlpBwdRefIdeal.main_arg5)) (m ((c.tc : Thread Cert.GmlpBwdRefIdeal.nD Cert.GmlpBwdRefIdeal.τ).loc Cert.GmlpBwdRefIdeal.main_arg6)) (m ((c.tc : Thread Cert.GmlpBwdRefIdeal.nD Cert.GmlpBwdRefIdeal.τ).loc Cert.GmlpBwdRefIdeal.main_arg7))) = (fun _ => 1#1)

def Pre_ProjBwd (m : (ℓ : Loc Cert.ProjBwd.nD Cert.ProjBwd.τ Cert.ProjBwd.sig) → Buf (Elt Bits) ℓ) : Prop :=
  True

def Pre_ProjBwdIdeal (m : (ℓ : Loc Cert.ProjBwdIdeal.nD Cert.ProjBwdIdeal.τ Cert.ProjBwdIdeal.sig) → Buf (Elt Ideal) ℓ) : Prop :=
  True

def Pre_ProjBwdIdeal_proj_bwd_finite [hPre_proj_bwd_finite : Cert.Pre_proj_bwd_finite.Facts] (m : (ℓ : Loc Cert.ProjBwdIdeal.nD Cert.ProjBwdIdeal.τ Cert.ProjBwdIdeal.sig) → Buf (Elt Ideal) ℓ) : Prop :=
  ∀ c : Dev Cert.ProjBwdIdeal.nD,
    (Cert.Pre_proj_bwd_finite.fn (F := Ideal) (m ((c.tc : Thread Cert.ProjBwdIdeal.nD Cert.ProjBwdIdeal.τ).loc Cert.ProjBwdIdeal.main_arg0)) (m ((c.tc : Thread Cert.ProjBwdIdeal.nD Cert.ProjBwdIdeal.τ).loc Cert.ProjBwdIdeal.main_arg1)) (m ((c.tc : Thread Cert.ProjBwdIdeal.nD Cert.ProjBwdIdeal.τ).loc Cert.ProjBwdIdeal.main_arg2)) (m ((c.tc : Thread Cert.ProjBwdIdeal.nD Cert.ProjBwdIdeal.τ).loc Cert.ProjBwdIdeal.main_arg3)) (m ((c.tc : Thread Cert.ProjBwdIdeal.nD Cert.ProjBwdIdeal.τ).loc Cert.ProjBwdIdeal.main_arg4))) = (fun _ => 1#1)

def Pre_ProjBwdRefIdeal (m : (ℓ : Loc Cert.ProjBwdRefIdeal.nD Cert.ProjBwdRefIdeal.τ Cert.ProjBwdRefIdeal.sig) → Buf (Elt Ideal) ℓ) : Prop :=
  True

def Pre_ProjBwdRefIdeal_proj_bwd_finite [hPre_proj_bwd_finite : Cert.Pre_proj_bwd_finite.Facts] (m : (ℓ : Loc Cert.ProjBwdRefIdeal.nD Cert.ProjBwdRefIdeal.τ Cert.ProjBwdRefIdeal.sig) → Buf (Elt Ideal) ℓ) : Prop :=
  ∀ c : Dev Cert.ProjBwdRefIdeal.nD,
    (Cert.Pre_proj_bwd_finite.fn (F := Ideal) (m ((c.tc : Thread Cert.ProjBwdRefIdeal.nD Cert.ProjBwdRefIdeal.τ).loc Cert.ProjBwdRefIdeal.main_arg0)) (m ((c.tc : Thread Cert.ProjBwdRefIdeal.nD Cert.ProjBwdRefIdeal.τ).loc Cert.ProjBwdRefIdeal.main_arg1)) (m ((c.tc : Thread Cert.ProjBwdRefIdeal.nD Cert.ProjBwdRefIdeal.τ).loc Cert.ProjBwdRefIdeal.main_arg2)) (m ((c.tc : Thread Cert.ProjBwdRefIdeal.nD Cert.ProjBwdRefIdeal.τ).loc Cert.ProjBwdRefIdeal.main_arg3)) (m ((c.tc : Thread Cert.ProjBwdRefIdeal.nD Cert.ProjBwdRefIdeal.τ).loc Cert.ProjBwdRefIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))) = (fun _ => 1#1)

def Pre_GmlpFwd (m : (ℓ : Loc Cert.GmlpFwd.nD Cert.GmlpFwd.τ Cert.GmlpFwd.sig) → Buf (Elt Bits) ℓ) : Prop :=
  True

def Pre_GmlpFwdIdeal (m : (ℓ : Loc Cert.GmlpFwdIdeal.nD Cert.GmlpFwdIdeal.τ Cert.GmlpFwdIdeal.sig) → Buf (Elt Ideal) ℓ) : Prop :=
  True

def Pre_GmlpFwdRefIdeal (m : (ℓ : Loc Cert.GmlpFwdRefIdeal.nD Cert.GmlpFwdRefIdeal.τ Cert.GmlpFwdRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_HgrnFwd (m : (ℓ : Loc Cert.HgrnFwd.nD Cert.HgrnFwd.τ Cert.HgrnFwd.sig) → Buf (Elt Bits) ℓ) : Prop :=
  True

def Pre_HgrnFwdIdeal (m : (ℓ : Loc Cert.HgrnFwdIdeal.nD Cert.HgrnFwdIdeal.τ Cert.HgrnFwdIdeal.sig) → Buf (Elt Ideal) ℓ) : Prop :=
  True

def Pre_HgrnFwdIdeal_hgrn_fwd_finite [hPre_hgrn_fwd_finite : Cert.Pre_hgrn_fwd_finite.Facts] (m : (ℓ : Loc Cert.HgrnFwdIdeal.nD Cert.HgrnFwdIdeal.τ Cert.HgrnFwdIdeal.sig) → Buf (Elt Ideal) ℓ) : Prop :=
  ∀ c : Dev Cert.HgrnFwdIdeal.nD,
    (Cert.Pre_hgrn_fwd_finite.fn (F := Ideal) (m ((c.tc : Thread Cert.HgrnFwdIdeal.nD Cert.HgrnFwdIdeal.τ).loc Cert.HgrnFwdIdeal.main_arg0)) (m ((c.tc : Thread Cert.HgrnFwdIdeal.nD Cert.HgrnFwdIdeal.τ).loc Cert.HgrnFwdIdeal.main_arg1)) (m ((c.tc : Thread Cert.HgrnFwdIdeal.nD Cert.HgrnFwdIdeal.τ).loc Cert.HgrnFwdIdeal.main_arg2))) = (fun _ => 1#1)

def Pre_HgrnFwdRefIdeal (m : (ℓ : Loc Cert.HgrnFwdRefIdeal.nD Cert.HgrnFwdRefIdeal.τ Cert.HgrnFwdRefIdeal.sig) → Buf (Elt Ideal) ℓ) : Prop :=
  True

def Pre_HgrnFwdRefIdeal_hgrn_fwd_finite [hPre_hgrn_fwd_finite : Cert.Pre_hgrn_fwd_finite.Facts] (m : (ℓ : Loc Cert.HgrnFwdRefIdeal.nD Cert.HgrnFwdRefIdeal.τ Cert.HgrnFwdRefIdeal.sig) → Buf (Elt Ideal) ℓ) : Prop :=
  ∀ c : Dev Cert.HgrnFwdRefIdeal.nD,
    (Cert.Pre_hgrn_fwd_finite.fn (F := Ideal) (m ((c.tc : Thread Cert.HgrnFwdRefIdeal.nD Cert.HgrnFwdRefIdeal.τ).loc Cert.HgrnFwdRefIdeal.main_arg0)) (m ((c.tc : Thread Cert.HgrnFwdRefIdeal.nD Cert.HgrnFwdRefIdeal.τ).loc Cert.HgrnFwdRefIdeal.main_arg1)) (m ((c.tc : Thread Cert.HgrnFwdRefIdeal.nD Cert.HgrnFwdRefIdeal.τ).loc Cert.HgrnFwdRefIdeal.main_arg2))) = (fun _ => 1#1)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4)
      ∧ r.2.mem ((c.tc : Thread Cert.MergeBwd.nD Cert.MergeBwd.τ).loc Cert.MergeBwd.main_arg5) = m ((c.tc : Thread Cert.MergeBwd.nD Cert.MergeBwd.τ).loc Cert.MergeBwd.main_arg5)
      ∧ r.2.mem ((c.tc : Thread Cert.MergeBwd.nD Cert.MergeBwd.τ).loc Cert.MergeBwd.main_arg6) = m ((c.tc : Thread Cert.MergeBwd.nD Cert.MergeBwd.τ).loc Cert.MergeBwd.main_arg6))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
      ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4)
      ∧ r.2.mem ((c.tc : Thread Cert.MergeBwdRefIdeal.nD Cert.MergeBwdRefIdeal.τ).loc Cert.MergeBwdRefIdeal.main_arg5) = m ((c.tc : Thread Cert.MergeBwdRefIdeal.nD Cert.MergeBwdRefIdeal.τ).loc Cert.MergeBwdRefIdeal.main_arg5)
      ∧ r.2.mem ((c.tc : Thread Cert.MergeBwdRefIdeal.nD Cert.MergeBwdRefIdeal.τ).loc Cert.MergeBwdRefIdeal.main_arg6) = m ((c.tc : Thread Cert.MergeBwdRefIdeal.nD Cert.MergeBwdRefIdeal.τ).loc Cert.MergeBwdRefIdeal.main_arg6))
      ∧ r.2.sem = fun _ => 0)

def quiescent_GmlpBwd [hGmlpBwd : Cert.GmlpBwd.Facts] : Prop :=
  ∀ (m : (ℓ : Loc Cert.GmlpBwd.nD Cert.GmlpBwd.τ Cert.GmlpBwd.sig) → Buf (Elt Bits) ℓ) (g : Dev Cert.GmlpBwd.nD → PrngReg), Pre_GmlpBwd m →
    θ_run (Cert.GmlpBwd.defs (F := Bits)) (onTc (τ := Cert.GmlpBwd.τ) (Cert.GmlpBwd.main (F := Bits))) ⟨m, fun _ => 0, g⟩ (fun r => (∀ c : Dev Cert.GmlpBwd.nD,
      r.2.mem ((c.tc : Thread Cert.GmlpBwd.nD Cert.GmlpBwd.τ).loc Cert.GmlpBwd.main_arg0) = m ((c.tc : Thread Cert.GmlpBwd.nD Cert.GmlpBwd.τ).loc Cert.GmlpBwd.main_arg0)
      ∧ r.2.mem ((c.tc : Thread Cert.GmlpBwd.nD Cert.GmlpBwd.τ).loc Cert.GmlpBwd.main_arg1) = m ((c.tc : Thread Cert.GmlpBwd.nD Cert.GmlpBwd.τ).loc Cert.GmlpBwd.main_arg1)
      ∧ r.2.mem ((c.tc : Thread Cert.GmlpBwd.nD Cert.GmlpBwd.τ).loc Cert.GmlpBwd.main_arg2) = m ((c.tc : Thread Cert.GmlpBwd.nD Cert.GmlpBwd.τ).loc Cert.GmlpBwd.main_arg2)
      ∧ r.2.mem ((c.tc : Thread Cert.GmlpBwd.nD Cert.GmlpBwd.τ).loc Cert.GmlpBwd.main_arg3) = m ((c.tc : Thread Cert.GmlpBwd.nD Cert.GmlpBwd.τ).loc Cert.GmlpBwd.main_arg3)
      ∧ r.2.mem ((c.tc : Thread Cert.GmlpBwd.nD Cert.GmlpBwd.τ).loc Cert.GmlpBwd.main_arg4) = m ((c.tc : Thread Cert.GmlpBwd.nD Cert.GmlpBwd.τ).loc Cert.GmlpBwd.main_arg4)
      ∧ r.2.mem ((c.tc : Thread Cert.GmlpBwd.nD Cert.GmlpBwd.τ).loc Cert.GmlpBwd.main_arg5) = m ((c.tc : Thread Cert.GmlpBwd.nD Cert.GmlpBwd.τ).loc Cert.GmlpBwd.main_arg5)
      ∧ r.2.mem ((c.tc : Thread Cert.GmlpBwd.nD Cert.GmlpBwd.τ).loc Cert.GmlpBwd.main_arg6) = m ((c.tc : Thread Cert.GmlpBwd.nD Cert.GmlpBwd.τ).loc Cert.GmlpBwd.main_arg6)
      ∧ r.2.mem ((c.tc : Thread Cert.GmlpBwd.nD Cert.GmlpBwd.τ).loc Cert.GmlpBwd.main_arg7) = m ((c.tc : Thread Cert.GmlpBwd.nD Cert.GmlpBwd.τ).loc Cert.GmlpBwd.main_arg7))
      ∧ r.2.sem = fun _ => 0)

def quiescent_GmlpBwdIdeal [hGmlpBwdIdeal : Cert.GmlpBwdIdeal.Facts] : Prop :=
  ∀ (m : (ℓ : Loc Cert.GmlpBwdIdeal.nD Cert.GmlpBwdIdeal.τ Cert.GmlpBwdIdeal.sig) → Buf (Elt Ideal) ℓ) (g : Dev Cert.GmlpBwdIdeal.nD → PrngReg), Pre_GmlpBwdIdeal m →
    θ_run (Cert.GmlpBwdIdeal.defs (F := Ideal)) (onTc (τ := Cert.GmlpBwdIdeal.τ) (Cert.GmlpBwdIdeal.main (F := Ideal))) ⟨m, fun _ => 0, g⟩ (fun r => (∀ c : Dev Cert.GmlpBwdIdeal.nD,
      r.2.mem ((c.tc : Thread Cert.GmlpBwdIdeal.nD Cert.GmlpBwdIdeal.τ).loc Cert.GmlpBwdIdeal.main_arg0) = m ((c.tc : Thread Cert.GmlpBwdIdeal.nD Cert.GmlpBwdIdeal.τ).loc Cert.GmlpBwdIdeal.main_arg0)
      ∧ r.2.mem ((c.tc : Thread Cert.GmlpBwdIdeal.nD Cert.GmlpBwdIdeal.τ).loc Cert.GmlpBwdIdeal.main_arg1) = m ((c.tc : Thread Cert.GmlpBwdIdeal.nD Cert.GmlpBwdIdeal.τ).loc Cert.GmlpBwdIdeal.main_arg1)
      ∧ r.2.mem ((c.tc : Thread Cert.GmlpBwdIdeal.nD Cert.GmlpBwdIdeal.τ).loc Cert.GmlpBwdIdeal.main_arg2) = m ((c.tc : Thread Cert.GmlpBwdIdeal.nD Cert.GmlpBwdIdeal.τ).loc Cert.GmlpBwdIdeal.main_arg2)
      ∧ r.2.mem ((c.tc : Thread Cert.GmlpBwdIdeal.nD Cert.GmlpBwdIdeal.τ).loc Cert.GmlpBwdIdeal.main_arg3) = m ((c.tc : Thread Cert.GmlpBwdIdeal.nD Cert.GmlpBwdIdeal.τ).loc Cert.GmlpBwdIdeal.main_arg3)
      ∧ r.2.mem ((c.tc : Thread Cert.GmlpBwdIdeal.nD Cert.GmlpBwdIdeal.τ).loc Cert.GmlpBwdIdeal.main_arg4) = m ((c.tc : Thread Cert.GmlpBwdIdeal.nD Cert.GmlpBwdIdeal.τ).loc Cert.GmlpBwdIdeal.main_arg4)
      ∧ r.2.mem ((c.tc : Thread Cert.GmlpBwdIdeal.nD Cert.GmlpBwdIdeal.τ).loc Cert.GmlpBwdIdeal.main_arg5) = m ((c.tc : Thread Cert.GmlpBwdIdeal.nD Cert.GmlpBwdIdeal.τ).loc Cert.GmlpBwdIdeal.main_arg5)
      ∧ r.2.mem ((c.tc : Thread Cert.GmlpBwdIdeal.nD Cert.GmlpBwdIdeal.τ).loc Cert.GmlpBwdIdeal.main_arg6) = m ((c.tc : Thread Cert.GmlpBwdIdeal.nD Cert.GmlpBwdIdeal.τ).loc Cert.GmlpBwdIdeal.main_arg6)
      ∧ r.2.mem ((c.tc : Thread Cert.GmlpBwdIdeal.nD Cert.GmlpBwdIdeal.τ).loc Cert.GmlpBwdIdeal.main_arg7) = m ((c.tc : Thread Cert.GmlpBwdIdeal.nD Cert.GmlpBwdIdeal.τ).loc Cert.GmlpBwdIdeal.main_arg7))
      ∧ r.2.sem = fun _ => 0)

def quiescent_GmlpBwdIdeal_pre_gmlp_bwd_finite [hGmlpBwdIdeal : Cert.GmlpBwdIdeal.Facts] [hPre_gmlp_bwd_finite : Cert.Pre_gmlp_bwd_finite.Facts] : Prop :=
  ∀ (m : (ℓ : Loc Cert.GmlpBwdIdeal.nD Cert.GmlpBwdIdeal.τ Cert.GmlpBwdIdeal.sig) → Buf (Elt Ideal) ℓ) (g : Dev Cert.GmlpBwdIdeal.nD → PrngReg), Pre_GmlpBwdIdeal_gmlp_bwd_finite m →
    θ_run (Cert.GmlpBwdIdeal.defs (F := Ideal)) (onTc (τ := Cert.GmlpBwdIdeal.τ) (Cert.GmlpBwdIdeal.main (F := Ideal))) ⟨m, fun _ => 0, g⟩ (fun r => (∀ c : Dev Cert.GmlpBwdIdeal.nD,
      r.2.mem ((c.tc : Thread Cert.GmlpBwdIdeal.nD Cert.GmlpBwdIdeal.τ).loc Cert.GmlpBwdIdeal.main_arg0) = m ((c.tc : Thread Cert.GmlpBwdIdeal.nD Cert.GmlpBwdIdeal.τ).loc Cert.GmlpBwdIdeal.main_arg0)
      ∧ r.2.mem ((c.tc : Thread Cert.GmlpBwdIdeal.nD Cert.GmlpBwdIdeal.τ).loc Cert.GmlpBwdIdeal.main_arg1) = m ((c.tc : Thread Cert.GmlpBwdIdeal.nD Cert.GmlpBwdIdeal.τ).loc Cert.GmlpBwdIdeal.main_arg1)
      ∧ r.2.mem ((c.tc : Thread Cert.GmlpBwdIdeal.nD Cert.GmlpBwdIdeal.τ).loc Cert.GmlpBwdIdeal.main_arg2) = m ((c.tc : Thread Cert.GmlpBwdIdeal.nD Cert.GmlpBwdIdeal.τ).loc Cert.GmlpBwdIdeal.main_arg2)
      ∧ r.2.mem ((c.tc : Thread Cert.GmlpBwdIdeal.nD Cert.GmlpBwdIdeal.τ).loc Cert.GmlpBwdIdeal.main_arg3) = m ((c.tc : Thread Cert.GmlpBwdIdeal.nD Cert.GmlpBwdIdeal.τ).loc Cert.GmlpBwdIdeal.main_arg3)
      ∧ r.2.mem ((c.tc : Thread Cert.GmlpBwdIdeal.nD Cert.GmlpBwdIdeal.τ).loc Cert.GmlpBwdIdeal.main_arg4) = m ((c.tc : Thread Cert.GmlpBwdIdeal.nD Cert.GmlpBwdIdeal.τ).loc Cert.GmlpBwdIdeal.main_arg4)
      ∧ r.2.mem ((c.tc : Thread Cert.GmlpBwdIdeal.nD Cert.GmlpBwdIdeal.τ).loc Cert.GmlpBwdIdeal.main_arg5) = m ((c.tc : Thread Cert.GmlpBwdIdeal.nD Cert.GmlpBwdIdeal.τ).loc Cert.GmlpBwdIdeal.main_arg5)
      ∧ r.2.mem ((c.tc : Thread Cert.GmlpBwdIdeal.nD Cert.GmlpBwdIdeal.τ).loc Cert.GmlpBwdIdeal.main_arg6) = m ((c.tc : Thread Cert.GmlpBwdIdeal.nD Cert.GmlpBwdIdeal.τ).loc Cert.GmlpBwdIdeal.main_arg6)
      ∧ r.2.mem ((c.tc : Thread Cert.GmlpBwdIdeal.nD Cert.GmlpBwdIdeal.τ).loc Cert.GmlpBwdIdeal.main_arg7) = m ((c.tc : Thread Cert.GmlpBwdIdeal.nD Cert.GmlpBwdIdeal.τ).loc Cert.GmlpBwdIdeal.main_arg7))
      ∧ r.2.sem = fun _ => 0)

def quiescent_GmlpBwdRefIdeal [hGmlpBwdRefIdeal : Cert.GmlpBwdRefIdeal.Facts] : Prop :=
  ∀ (m : (ℓ : Loc Cert.GmlpBwdRefIdeal.nD Cert.GmlpBwdRefIdeal.τ Cert.GmlpBwdRefIdeal.sig) → Buf (Elt Ideal) ℓ) (g : Dev Cert.GmlpBwdRefIdeal.nD → PrngReg), Pre_GmlpBwdRefIdeal m →
    θ_run (Cert.GmlpBwdRefIdeal.defs (F := Ideal)) (onTc (τ := Cert.GmlpBwdRefIdeal.τ) (Cert.GmlpBwdRefIdeal.main (F := Ideal))) ⟨m, fun _ => 0, g⟩ (fun r => (∀ c : Dev Cert.GmlpBwdRefIdeal.nD,
      r.2.mem ((c.tc : Thread Cert.GmlpBwdRefIdeal.nD Cert.GmlpBwdRefIdeal.τ).loc Cert.GmlpBwdRefIdeal.main_arg0) = m ((c.tc : Thread Cert.GmlpBwdRefIdeal.nD Cert.GmlpBwdRefIdeal.τ).loc Cert.GmlpBwdRefIdeal.main_arg0)
      ∧ r.2.mem ((c.tc : Thread Cert.GmlpBwdRefIdeal.nD Cert.GmlpBwdRefIdeal.τ).loc Cert.GmlpBwdRefIdeal.main_arg1) = m ((c.tc : Thread Cert.GmlpBwdRefIdeal.nD Cert.GmlpBwdRefIdeal.τ).loc Cert.GmlpBwdRefIdeal.main_arg1)
      ∧ r.2.mem ((c.tc : Thread Cert.GmlpBwdRefIdeal.nD Cert.GmlpBwdRefIdeal.τ).loc Cert.GmlpBwdRefIdeal.main_arg2) = m ((c.tc : Thread Cert.GmlpBwdRefIdeal.nD Cert.GmlpBwdRefIdeal.τ).loc Cert.GmlpBwdRefIdeal.main_arg2)
      ∧ r.2.mem ((c.tc : Thread Cert.GmlpBwdRefIdeal.nD Cert.GmlpBwdRefIdeal.τ).loc Cert.GmlpBwdRefIdeal.main_arg3) = m ((c.tc : Thread Cert.GmlpBwdRefIdeal.nD Cert.GmlpBwdRefIdeal.τ).loc Cert.GmlpBwdRefIdeal.main_arg3)
      ∧ r.2.mem ((c.tc : Thread Cert.GmlpBwdRefIdeal.nD Cert.GmlpBwdRefIdeal.τ).loc Cert.GmlpBwdRefIdeal.main_arg4) = m ((c.tc : Thread Cert.GmlpBwdRefIdeal.nD Cert.GmlpBwdRefIdeal.τ).loc Cert.GmlpBwdRefIdeal.main_arg4)
      ∧ r.2.mem ((c.tc : Thread Cert.GmlpBwdRefIdeal.nD Cert.GmlpBwdRefIdeal.τ).loc Cert.GmlpBwdRefIdeal.main_arg5) = m ((c.tc : Thread Cert.GmlpBwdRefIdeal.nD Cert.GmlpBwdRefIdeal.τ).loc Cert.GmlpBwdRefIdeal.main_arg5)
      ∧ r.2.mem ((c.tc : Thread Cert.GmlpBwdRefIdeal.nD Cert.GmlpBwdRefIdeal.τ).loc Cert.GmlpBwdRefIdeal.main_arg6) = m ((c.tc : Thread Cert.GmlpBwdRefIdeal.nD Cert.GmlpBwdRefIdeal.τ).loc Cert.GmlpBwdRefIdeal.main_arg6)
      ∧ r.2.mem ((c.tc : Thread Cert.GmlpBwdRefIdeal.nD Cert.GmlpBwdRefIdeal.τ).loc Cert.GmlpBwdRefIdeal.main_arg7) = m ((c.tc : Thread Cert.GmlpBwdRefIdeal.nD Cert.GmlpBwdRefIdeal.τ).loc Cert.GmlpBwdRefIdeal.main_arg7))
      ∧ r.2.sem = fun _ => 0)

def quiescent_GmlpBwdRefIdeal_pre_gmlp_bwd_finite [hGmlpBwdRefIdeal : Cert.GmlpBwdRefIdeal.Facts] [hPre_gmlp_bwd_finite : Cert.Pre_gmlp_bwd_finite.Facts] : Prop :=
  ∀ (m : (ℓ : Loc Cert.GmlpBwdRefIdeal.nD Cert.GmlpBwdRefIdeal.τ Cert.GmlpBwdRefIdeal.sig) → Buf (Elt Ideal) ℓ) (g : Dev Cert.GmlpBwdRefIdeal.nD → PrngReg), Pre_GmlpBwdRefIdeal_gmlp_bwd_finite m →
    θ_run (Cert.GmlpBwdRefIdeal.defs (F := Ideal)) (onTc (τ := Cert.GmlpBwdRefIdeal.τ) (Cert.GmlpBwdRefIdeal.main (F := Ideal))) ⟨m, fun _ => 0, g⟩ (fun r => (∀ c : Dev Cert.GmlpBwdRefIdeal.nD,
      r.2.mem ((c.tc : Thread Cert.GmlpBwdRefIdeal.nD Cert.GmlpBwdRefIdeal.τ).loc Cert.GmlpBwdRefIdeal.main_arg0) = m ((c.tc : Thread Cert.GmlpBwdRefIdeal.nD Cert.GmlpBwdRefIdeal.τ).loc Cert.GmlpBwdRefIdeal.main_arg0)
      ∧ r.2.mem ((c.tc : Thread Cert.GmlpBwdRefIdeal.nD Cert.GmlpBwdRefIdeal.τ).loc Cert.GmlpBwdRefIdeal.main_arg1) = m ((c.tc : Thread Cert.GmlpBwdRefIdeal.nD Cert.GmlpBwdRefIdeal.τ).loc Cert.GmlpBwdRefIdeal.main_arg1)
      ∧ r.2.mem ((c.tc : Thread Cert.GmlpBwdRefIdeal.nD Cert.GmlpBwdRefIdeal.τ).loc Cert.GmlpBwdRefIdeal.main_arg2) = m ((c.tc : Thread Cert.GmlpBwdRefIdeal.nD Cert.GmlpBwdRefIdeal.τ).loc Cert.GmlpBwdRefIdeal.main_arg2)
      ∧ r.2.mem ((c.tc : Thread Cert.GmlpBwdRefIdeal.nD Cert.GmlpBwdRefIdeal.τ).loc Cert.GmlpBwdRefIdeal.main_arg3) = m ((c.tc : Thread Cert.GmlpBwdRefIdeal.nD Cert.GmlpBwdRefIdeal.τ).loc Cert.GmlpBwdRefIdeal.main_arg3)
      ∧ r.2.mem ((c.tc : Thread Cert.GmlpBwdRefIdeal.nD Cert.GmlpBwdRefIdeal.τ).loc Cert.GmlpBwdRefIdeal.main_arg4) = m ((c.tc : Thread Cert.GmlpBwdRefIdeal.nD Cert.GmlpBwdRefIdeal.τ).loc Cert.GmlpBwdRefIdeal.main_arg4)
      ∧ r.2.mem ((c.tc : Thread Cert.GmlpBwdRefIdeal.nD Cert.GmlpBwdRefIdeal.τ).loc Cert.GmlpBwdRefIdeal.main_arg5) = m ((c.tc : Thread Cert.GmlpBwdRefIdeal.nD Cert.GmlpBwdRefIdeal.τ).loc Cert.GmlpBwdRefIdeal.main_arg5)
      ∧ r.2.mem ((c.tc : Thread Cert.GmlpBwdRefIdeal.nD Cert.GmlpBwdRefIdeal.τ).loc Cert.GmlpBwdRefIdeal.main_arg6) = m ((c.tc : Thread Cert.GmlpBwdRefIdeal.nD Cert.GmlpBwdRefIdeal.τ).loc Cert.GmlpBwdRefIdeal.main_arg6)
      ∧ r.2.mem ((c.tc : Thread Cert.GmlpBwdRefIdeal.nD Cert.GmlpBwdRefIdeal.τ).loc Cert.GmlpBwdRefIdeal.main_arg7) = m ((c.tc : Thread Cert.GmlpBwdRefIdeal.nD Cert.GmlpBwdRefIdeal.τ).loc Cert.GmlpBwdRefIdeal.main_arg7))
      ∧ r.2.sem = fun _ => 0)

def quiescent_ProjBwd [hProjBwd : Cert.ProjBwd.Facts] : Prop :=
  ∀ (m : (ℓ : Loc Cert.ProjBwd.nD Cert.ProjBwd.τ Cert.ProjBwd.sig) → Buf (Elt Bits) ℓ) (g : Dev Cert.ProjBwd.nD → PrngReg), Pre_ProjBwd m →
    θ_run (Cert.ProjBwd.defs (F := Bits)) (onTc (τ := Cert.ProjBwd.τ) (Cert.ProjBwd.main (F := Bits))) ⟨m, fun _ => 0, g⟩ (fun r => (∀ c : Dev Cert.ProjBwd.nD,
      r.2.mem ((c.tc : Thread Cert.ProjBwd.nD Cert.ProjBwd.τ).loc Cert.ProjBwd.main_arg0) = m ((c.tc : Thread Cert.ProjBwd.nD Cert.ProjBwd.τ).loc Cert.ProjBwd.main_arg0)
      ∧ r.2.mem ((c.tc : Thread Cert.ProjBwd.nD Cert.ProjBwd.τ).loc Cert.ProjBwd.main_arg1) = m ((c.tc : Thread Cert.ProjBwd.nD Cert.ProjBwd.τ).loc Cert.ProjBwd.main_arg1)
      ∧ r.2.mem ((c.tc : Thread Cert.ProjBwd.nD Cert.ProjBwd.τ).loc Cert.ProjBwd.main_arg2) = m ((c.tc : Thread Cert.ProjBwd.nD Cert.ProjBwd.τ).loc Cert.ProjBwd.main_arg2)
      ∧ r.2.mem ((c.tc : Thread Cert.ProjBwd.nD Cert.ProjBwd.τ).loc Cert.ProjBwd.main_arg3) = m ((c.tc : Thread Cert.ProjBwd.nD Cert.ProjBwd.τ).loc Cert.ProjBwd.main_arg3)
      ∧ r.2.mem ((c.tc : Thread Cert.ProjBwd.nD Cert.ProjBwd.τ).loc Cert.ProjBwd.main_arg4) = m ((c.tc : Thread Cert.ProjBwd.nD Cert.ProjBwd.τ).loc Cert.ProjBwd.main_arg4))
      ∧ r.2.sem = fun _ => 0)

def quiescent_ProjBwdIdeal [hProjBwdIdeal : Cert.ProjBwdIdeal.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg), Pre_ProjBwdIdeal m →
    θ_run (Cert.ProjBwdIdeal.defs (F := Ideal)) (onTc (τ := Cert.ProjBwdIdeal.τ) (Cert.ProjBwdIdeal.main (F := Ideal))) ⟨m, fun _ => 0, g⟩ (fun r => (∀ c : Dev Cert.ProjBwdIdeal.nD,
      r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
      ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
      ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
      ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
      ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4))
      ∧ r.2.sem = fun _ => 0)

def quiescent_ProjBwdIdeal_pre_proj_bwd_finite [hProjBwdIdeal : Cert.ProjBwdIdeal.Facts] [hPre_proj_bwd_finite : Cert.Pre_proj_bwd_finite.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg), Pre_ProjBwdIdeal_proj_bwd_finite m →
    θ_run (Cert.ProjBwdIdeal.defs (F := Ideal)) (onTc (τ := Cert.ProjBwdIdeal.τ) (Cert.ProjBwdIdeal.main (F := Ideal))) ⟨m, fun _ => 0, g⟩ (fun r => (∀ c : Dev Cert.ProjBwdIdeal.nD,
      r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
      ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
      ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
      ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
      ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4))
      ∧ r.2.sem = fun _ => 0)

def quiescent_ProjBwdRefIdeal [hProjBwdRefIdeal : Cert.ProjBwdRefIdeal.Facts] : Prop :=
  ∀ (m : (ℓ : Loc Cert.ProjBwdRefIdeal.nD Cert.ProjBwdRefIdeal.τ Cert.ProjBwdRefIdeal.sig) → Buf (Elt Ideal) ℓ) (g : Dev Cert.ProjBwdRefIdeal.nD → PrngReg), Pre_ProjBwdRefIdeal m →
    θ_run (Cert.ProjBwdRefIdeal.defs (F := Ideal)) (onTc (τ := Cert.ProjBwdRefIdeal.τ) (Cert.ProjBwdRefIdeal.main (F := Ideal))) ⟨m, fun _ => 0, g⟩ (fun r => (∀ c : Dev Cert.ProjBwdRefIdeal.nD,
      r.2.mem ((c.tc : Thread Cert.ProjBwdRefIdeal.nD Cert.ProjBwdRefIdeal.τ).loc Cert.ProjBwdRefIdeal.main_arg0) = m ((c.tc : Thread Cert.ProjBwdRefIdeal.nD Cert.ProjBwdRefIdeal.τ).loc Cert.ProjBwdRefIdeal.main_arg0)
      ∧ r.2.mem ((c.tc : Thread Cert.ProjBwdRefIdeal.nD Cert.ProjBwdRefIdeal.τ).loc Cert.ProjBwdRefIdeal.main_arg1) = m ((c.tc : Thread Cert.ProjBwdRefIdeal.nD Cert.ProjBwdRefIdeal.τ).loc Cert.ProjBwdRefIdeal.main_arg1)
      ∧ r.2.mem ((c.tc : Thread Cert.ProjBwdRefIdeal.nD Cert.ProjBwdRefIdeal.τ).loc Cert.ProjBwdRefIdeal.main_arg2) = m ((c.tc : Thread Cert.ProjBwdRefIdeal.nD Cert.ProjBwdRefIdeal.τ).loc Cert.ProjBwdRefIdeal.main_arg2)
      ∧ r.2.mem ((c.tc : Thread Cert.ProjBwdRefIdeal.nD Cert.ProjBwdRefIdeal.τ).loc Cert.ProjBwdRefIdeal.main_arg3) = m ((c.tc : Thread Cert.ProjBwdRefIdeal.nD Cert.ProjBwdRefIdeal.τ).loc Cert.ProjBwdRefIdeal.main_arg3)
      ∧ r.2.mem ((c.tc : Thread Cert.ProjBwdRefIdeal.nD Cert.ProjBwdRefIdeal.τ).loc Cert.ProjBwdRefIdeal.main_arg4) = m ((c.tc : Thread Cert.ProjBwdRefIdeal.nD Cert.ProjBwdRefIdeal.τ).loc Cert.ProjBwdRefIdeal.main_arg4))
      ∧ r.2.sem = fun _ => 0)

def quiescent_ProjBwdRefIdeal_pre_proj_bwd_finite [hProjBwdRefIdeal : Cert.ProjBwdRefIdeal.Facts] [hPre_proj_bwd_finite : Cert.Pre_proj_bwd_finite.Facts] : Prop :=
  ∀ (m : (ℓ : Loc Cert.ProjBwdRefIdeal.nD Cert.ProjBwdRefIdeal.τ Cert.ProjBwdRefIdeal.sig) → Buf (Elt Ideal) ℓ) (g : Dev Cert.ProjBwdRefIdeal.nD → PrngReg), Pre_ProjBwdRefIdeal_proj_bwd_finite m →
    θ_run (Cert.ProjBwdRefIdeal.defs (F := Ideal)) (onTc (τ := Cert.ProjBwdRefIdeal.τ) (Cert.ProjBwdRefIdeal.main (F := Ideal))) ⟨m, fun _ => 0, g⟩ (fun r => (∀ c : Dev Cert.ProjBwdRefIdeal.nD,
      r.2.mem ((c.tc : Thread Cert.ProjBwdRefIdeal.nD Cert.ProjBwdRefIdeal.τ).loc Cert.ProjBwdRefIdeal.main_arg0) = m ((c.tc : Thread Cert.ProjBwdRefIdeal.nD Cert.ProjBwdRefIdeal.τ).loc Cert.ProjBwdRefIdeal.main_arg0)
      ∧ r.2.mem ((c.tc : Thread Cert.ProjBwdRefIdeal.nD Cert.ProjBwdRefIdeal.τ).loc Cert.ProjBwdRefIdeal.main_arg1) = m ((c.tc : Thread Cert.ProjBwdRefIdeal.nD Cert.ProjBwdRefIdeal.τ).loc Cert.ProjBwdRefIdeal.main_arg1)
      ∧ r.2.mem ((c.tc : Thread Cert.ProjBwdRefIdeal.nD Cert.ProjBwdRefIdeal.τ).loc Cert.ProjBwdRefIdeal.main_arg2) = m ((c.tc : Thread Cert.ProjBwdRefIdeal.nD Cert.ProjBwdRefIdeal.τ).loc Cert.ProjBwdRefIdeal.main_arg2)
      ∧ r.2.mem ((c.tc : Thread Cert.ProjBwdRefIdeal.nD Cert.ProjBwdRefIdeal.τ).loc Cert.ProjBwdRefIdeal.main_arg3) = m ((c.tc : Thread Cert.ProjBwdRefIdeal.nD Cert.ProjBwdRefIdeal.τ).loc Cert.ProjBwdRefIdeal.main_arg3)
      ∧ r.2.mem ((c.tc : Thread Cert.ProjBwdRefIdeal.nD Cert.ProjBwdRefIdeal.τ).loc Cert.ProjBwdRefIdeal.main_arg4) = m ((c.tc : Thread Cert.ProjBwdRefIdeal.nD Cert.ProjBwdRefIdeal.τ).loc Cert.ProjBwdRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_GmlpFwd [hGmlpFwd : Cert.GmlpFwd.Facts] : Prop :=
  ∀ (m : (ℓ : Loc Cert.GmlpFwd.nD Cert.GmlpFwd.τ Cert.GmlpFwd.sig) → Buf (Elt Bits) ℓ) (g : Dev Cert.GmlpFwd.nD → PrngReg), Pre_GmlpFwd m →
    θ_run (Cert.GmlpFwd.defs (F := Bits)) (onTc (τ := Cert.GmlpFwd.τ) (Cert.GmlpFwd.main (F := Bits))) ⟨m, fun _ => 0, g⟩ (fun r => (∀ c : Dev Cert.GmlpFwd.nD,
      r.2.mem ((c.tc : Thread Cert.GmlpFwd.nD Cert.GmlpFwd.τ).loc Cert.GmlpFwd.main_arg0) = m ((c.tc : Thread Cert.GmlpFwd.nD Cert.GmlpFwd.τ).loc Cert.GmlpFwd.main_arg0)
      ∧ r.2.mem ((c.tc : Thread Cert.GmlpFwd.nD Cert.GmlpFwd.τ).loc Cert.GmlpFwd.main_arg1) = m ((c.tc : Thread Cert.GmlpFwd.nD Cert.GmlpFwd.τ).loc Cert.GmlpFwd.main_arg1)
      ∧ r.2.mem ((c.tc : Thread Cert.GmlpFwd.nD Cert.GmlpFwd.τ).loc Cert.GmlpFwd.main_arg2) = m ((c.tc : Thread Cert.GmlpFwd.nD Cert.GmlpFwd.τ).loc Cert.GmlpFwd.main_arg2)
      ∧ r.2.mem ((c.tc : Thread Cert.GmlpFwd.nD Cert.GmlpFwd.τ).loc Cert.GmlpFwd.main_arg3) = m ((c.tc : Thread Cert.GmlpFwd.nD Cert.GmlpFwd.τ).loc Cert.GmlpFwd.main_arg3)
      ∧ r.2.mem ((c.tc : Thread Cert.GmlpFwd.nD Cert.GmlpFwd.τ).loc Cert.GmlpFwd.main_arg4) = m ((c.tc : Thread Cert.GmlpFwd.nD Cert.GmlpFwd.τ).loc Cert.GmlpFwd.main_arg4))
      ∧ r.2.sem = fun _ => 0)

def quiescent_GmlpFwdIdeal [hGmlpFwdIdeal : Cert.GmlpFwdIdeal.Facts] : Prop :=
  ∀ (m : (ℓ : Loc Cert.GmlpFwdIdeal.nD Cert.GmlpFwdIdeal.τ Cert.GmlpFwdIdeal.sig) → Buf (Elt Ideal) ℓ) (g : Dev Cert.GmlpFwdIdeal.nD → PrngReg), Pre_GmlpFwdIdeal m →
    θ_run (Cert.GmlpFwdIdeal.defs (F := Ideal)) (onTc (τ := Cert.GmlpFwdIdeal.τ) (Cert.GmlpFwdIdeal.main (F := Ideal))) ⟨m, fun _ => 0, g⟩ (fun r => (∀ c : Dev Cert.GmlpFwdIdeal.nD,
      r.2.mem ((c.tc : Thread Cert.GmlpFwdIdeal.nD Cert.GmlpFwdIdeal.τ).loc Cert.GmlpFwdIdeal.main_arg0) = m ((c.tc : Thread Cert.GmlpFwdIdeal.nD Cert.GmlpFwdIdeal.τ).loc Cert.GmlpFwdIdeal.main_arg0)
      ∧ r.2.mem ((c.tc : Thread Cert.GmlpFwdIdeal.nD Cert.GmlpFwdIdeal.τ).loc Cert.GmlpFwdIdeal.main_arg1) = m ((c.tc : Thread Cert.GmlpFwdIdeal.nD Cert.GmlpFwdIdeal.τ).loc Cert.GmlpFwdIdeal.main_arg1)
      ∧ r.2.mem ((c.tc : Thread Cert.GmlpFwdIdeal.nD Cert.GmlpFwdIdeal.τ).loc Cert.GmlpFwdIdeal.main_arg2) = m ((c.tc : Thread Cert.GmlpFwdIdeal.nD Cert.GmlpFwdIdeal.τ).loc Cert.GmlpFwdIdeal.main_arg2)
      ∧ r.2.mem ((c.tc : Thread Cert.GmlpFwdIdeal.nD Cert.GmlpFwdIdeal.τ).loc Cert.GmlpFwdIdeal.main_arg3) = m ((c.tc : Thread Cert.GmlpFwdIdeal.nD Cert.GmlpFwdIdeal.τ).loc Cert.GmlpFwdIdeal.main_arg3)
      ∧ r.2.mem ((c.tc : Thread Cert.GmlpFwdIdeal.nD Cert.GmlpFwdIdeal.τ).loc Cert.GmlpFwdIdeal.main_arg4) = m ((c.tc : Thread Cert.GmlpFwdIdeal.nD Cert.GmlpFwdIdeal.τ).loc Cert.GmlpFwdIdeal.main_arg4))
      ∧ r.2.sem = fun _ => 0)

def quiescent_GmlpFwdRefIdeal [hGmlpFwdRefIdeal : Cert.GmlpFwdRefIdeal.Facts] : Prop :=
  ∀ (m : (ℓ : Loc Cert.GmlpFwdRefIdeal.nD Cert.GmlpFwdRefIdeal.τ Cert.GmlpFwdRefIdeal.sig) → Buf (Elt Ideal) ℓ) (g : Dev Cert.GmlpFwdRefIdeal.nD → PrngReg), Pre_GmlpFwdRefIdeal m →
    θ_run (Cert.GmlpFwdRefIdeal.defs (F := Ideal)) (onTc (τ := Cert.GmlpFwdRefIdeal.τ) (Cert.GmlpFwdRefIdeal.main (F := Ideal))) ⟨m, fun _ => 0, g⟩ (fun r => (∀ c : Dev Cert.GmlpFwdRefIdeal.nD,
      r.2.mem ((c.tc : Thread Cert.GmlpFwdRefIdeal.nD Cert.GmlpFwdRefIdeal.τ).loc Cert.GmlpFwdRefIdeal.main_arg0) = m ((c.tc : Thread Cert.GmlpFwdRefIdeal.nD Cert.GmlpFwdRefIdeal.τ).loc Cert.GmlpFwdRefIdeal.main_arg0)
      ∧ r.2.mem ((c.tc : Thread Cert.GmlpFwdRefIdeal.nD Cert.GmlpFwdRefIdeal.τ).loc Cert.GmlpFwdRefIdeal.main_arg1) = m ((c.tc : Thread Cert.GmlpFwdRefIdeal.nD Cert.GmlpFwdRefIdeal.τ).loc Cert.GmlpFwdRefIdeal.main_arg1)
      ∧ r.2.mem ((c.tc : Thread Cert.GmlpFwdRefIdeal.nD Cert.GmlpFwdRefIdeal.τ).loc Cert.GmlpFwdRefIdeal.main_arg2) = m ((c.tc : Thread Cert.GmlpFwdRefIdeal.nD Cert.GmlpFwdRefIdeal.τ).loc Cert.GmlpFwdRefIdeal.main_arg2)
      ∧ r.2.mem ((c.tc : Thread Cert.GmlpFwdRefIdeal.nD Cert.GmlpFwdRefIdeal.τ).loc Cert.GmlpFwdRefIdeal.main_arg3) = m ((c.tc : Thread Cert.GmlpFwdRefIdeal.nD Cert.GmlpFwdRefIdeal.τ).loc Cert.GmlpFwdRefIdeal.main_arg3)
      ∧ r.2.mem ((c.tc : Thread Cert.GmlpFwdRefIdeal.nD Cert.GmlpFwdRefIdeal.τ).loc Cert.GmlpFwdRefIdeal.main_arg4) = m ((c.tc : Thread Cert.GmlpFwdRefIdeal.nD Cert.GmlpFwdRefIdeal.τ).loc Cert.GmlpFwdRefIdeal.main_arg4))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5)
      ∧ r.2.mem ((c.tc : Thread Cert.MergeFwd.nD Cert.MergeFwd.τ).loc Cert.MergeFwd.main_arg6) = m ((c.tc : Thread Cert.MergeFwd.nD Cert.MergeFwd.τ).loc Cert.MergeFwd.main_arg6))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
      ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4)
      ∧ r.2.mem ((c.tc : Thread Cert.MergeFwdRefIdeal.nD Cert.MergeFwdRefIdeal.τ).loc Cert.MergeFwdRefIdeal.main_arg5) = m ((c.tc : Thread Cert.MergeFwdRefIdeal.nD Cert.MergeFwdRefIdeal.τ).loc Cert.MergeFwdRefIdeal.main_arg5)
      ∧ r.2.mem ((c.tc : Thread Cert.MergeFwdRefIdeal.nD Cert.MergeFwdRefIdeal.τ).loc Cert.MergeFwdRefIdeal.main_arg6) = m ((c.tc : Thread Cert.MergeFwdRefIdeal.nD Cert.MergeFwdRefIdeal.τ).loc Cert.MergeFwdRefIdeal.main_arg6))
      ∧ r.2.sem = fun _ => 0)

def quiescent_HgrnFwd [hHgrnFwd : Cert.HgrnFwd.Facts] : Prop :=
  ∀ (m : (ℓ : Loc Cert.HgrnFwd.nD Cert.HgrnFwd.τ Cert.HgrnFwd.sig) → Buf (Elt Bits) ℓ) (g : Dev Cert.HgrnFwd.nD → PrngReg), Pre_HgrnFwd m →
    θ_run (Cert.HgrnFwd.defs (F := Bits)) (onTc (τ := Cert.HgrnFwd.τ) (Cert.HgrnFwd.main (F := Bits))) ⟨m, fun _ => 0, g⟩ (fun r => (∀ c : Dev Cert.HgrnFwd.nD,
      r.2.mem ((c.tc : Thread Cert.HgrnFwd.nD Cert.HgrnFwd.τ).loc Cert.HgrnFwd.main_arg0) = m ((c.tc : Thread Cert.HgrnFwd.nD Cert.HgrnFwd.τ).loc Cert.HgrnFwd.main_arg0)
      ∧ r.2.mem ((c.tc : Thread Cert.HgrnFwd.nD Cert.HgrnFwd.τ).loc Cert.HgrnFwd.main_arg1) = m ((c.tc : Thread Cert.HgrnFwd.nD Cert.HgrnFwd.τ).loc Cert.HgrnFwd.main_arg1)
      ∧ r.2.mem ((c.tc : Thread Cert.HgrnFwd.nD Cert.HgrnFwd.τ).loc Cert.HgrnFwd.main_arg2) = m ((c.tc : Thread Cert.HgrnFwd.nD Cert.HgrnFwd.τ).loc Cert.HgrnFwd.main_arg2))
      ∧ r.2.sem = fun _ => 0)

def quiescent_HgrnFwdIdeal [hHgrnFwdIdeal : Cert.HgrnFwdIdeal.Facts] : Prop :=
  ∀ (m : (ℓ : Loc Cert.HgrnFwdIdeal.nD Cert.HgrnFwdIdeal.τ Cert.HgrnFwdIdeal.sig) → Buf (Elt Ideal) ℓ) (g : Dev Cert.HgrnFwdIdeal.nD → PrngReg), Pre_HgrnFwdIdeal m →
    θ_run (Cert.HgrnFwdIdeal.defs (F := Ideal)) (onTc (τ := Cert.HgrnFwdIdeal.τ) (Cert.HgrnFwdIdeal.main (F := Ideal))) ⟨m, fun _ => 0, g⟩ (fun r => (∀ c : Dev Cert.HgrnFwdIdeal.nD,
      r.2.mem ((c.tc : Thread Cert.HgrnFwdIdeal.nD Cert.HgrnFwdIdeal.τ).loc Cert.HgrnFwdIdeal.main_arg0) = m ((c.tc : Thread Cert.HgrnFwdIdeal.nD Cert.HgrnFwdIdeal.τ).loc Cert.HgrnFwdIdeal.main_arg0)
      ∧ r.2.mem ((c.tc : Thread Cert.HgrnFwdIdeal.nD Cert.HgrnFwdIdeal.τ).loc Cert.HgrnFwdIdeal.main_arg1) = m ((c.tc : Thread Cert.HgrnFwdIdeal.nD Cert.HgrnFwdIdeal.τ).loc Cert.HgrnFwdIdeal.main_arg1)
      ∧ r.2.mem ((c.tc : Thread Cert.HgrnFwdIdeal.nD Cert.HgrnFwdIdeal.τ).loc Cert.HgrnFwdIdeal.main_arg2) = m ((c.tc : Thread Cert.HgrnFwdIdeal.nD Cert.HgrnFwdIdeal.τ).loc Cert.HgrnFwdIdeal.main_arg2))
      ∧ r.2.sem = fun _ => 0)

def quiescent_HgrnFwdIdeal_pre_hgrn_fwd_finite [hHgrnFwdIdeal : Cert.HgrnFwdIdeal.Facts] [hPre_hgrn_fwd_finite : Cert.Pre_hgrn_fwd_finite.Facts] : Prop :=
  ∀ (m : (ℓ : Loc Cert.HgrnFwdIdeal.nD Cert.HgrnFwdIdeal.τ Cert.HgrnFwdIdeal.sig) → Buf (Elt Ideal) ℓ) (g : Dev Cert.HgrnFwdIdeal.nD → PrngReg), Pre_HgrnFwdIdeal_hgrn_fwd_finite m →
    θ_run (Cert.HgrnFwdIdeal.defs (F := Ideal)) (onTc (τ := Cert.HgrnFwdIdeal.τ) (Cert.HgrnFwdIdeal.main (F := Ideal))) ⟨m, fun _ => 0, g⟩ (fun r => (∀ c : Dev Cert.HgrnFwdIdeal.nD,
      r.2.mem ((c.tc : Thread Cert.HgrnFwdIdeal.nD Cert.HgrnFwdIdeal.τ).loc Cert.HgrnFwdIdeal.main_arg0) = m ((c.tc : Thread Cert.HgrnFwdIdeal.nD Cert.HgrnFwdIdeal.τ).loc Cert.HgrnFwdIdeal.main_arg0)
      ∧ r.2.mem ((c.tc : Thread Cert.HgrnFwdIdeal.nD Cert.HgrnFwdIdeal.τ).loc Cert.HgrnFwdIdeal.main_arg1) = m ((c.tc : Thread Cert.HgrnFwdIdeal.nD Cert.HgrnFwdIdeal.τ).loc Cert.HgrnFwdIdeal.main_arg1)
      ∧ r.2.mem ((c.tc : Thread Cert.HgrnFwdIdeal.nD Cert.HgrnFwdIdeal.τ).loc Cert.HgrnFwdIdeal.main_arg2) = m ((c.tc : Thread Cert.HgrnFwdIdeal.nD Cert.HgrnFwdIdeal.τ).loc Cert.HgrnFwdIdeal.main_arg2))
      ∧ r.2.sem = fun _ => 0)

def quiescent_HgrnFwdRefIdeal [hHgrnFwdRefIdeal : Cert.HgrnFwdRefIdeal.Facts] : Prop :=
  ∀ (m : (ℓ : Loc Cert.HgrnFwdRefIdeal.nD Cert.HgrnFwdRefIdeal.τ Cert.HgrnFwdRefIdeal.sig) → Buf (Elt Ideal) ℓ) (g : Dev Cert.HgrnFwdRefIdeal.nD → PrngReg), Pre_HgrnFwdRefIdeal m →
    θ_run (Cert.HgrnFwdRefIdeal.defs (F := Ideal)) (onTc (τ := Cert.HgrnFwdRefIdeal.τ) (Cert.HgrnFwdRefIdeal.main (F := Ideal))) ⟨m, fun _ => 0, g⟩ (fun r => (∀ c : Dev Cert.HgrnFwdRefIdeal.nD,
      r.2.mem ((c.tc : Thread Cert.HgrnFwdRefIdeal.nD Cert.HgrnFwdRefIdeal.τ).loc Cert.HgrnFwdRefIdeal.main_arg0) = m ((c.tc : Thread Cert.HgrnFwdRefIdeal.nD Cert.HgrnFwdRefIdeal.τ).loc Cert.HgrnFwdRefIdeal.main_arg0)
      ∧ r.2.mem ((c.tc : Thread Cert.HgrnFwdRefIdeal.nD Cert.HgrnFwdRefIdeal.τ).loc Cert.HgrnFwdRefIdeal.main_arg1) = m ((c.tc : Thread Cert.HgrnFwdRefIdeal.nD Cert.HgrnFwdRefIdeal.τ).loc Cert.HgrnFwdRefIdeal.main_arg1)
      ∧ r.2.mem ((c.tc : Thread Cert.HgrnFwdRefIdeal.nD Cert.HgrnFwdRefIdeal.τ).loc Cert.HgrnFwdRefIdeal.main_arg2) = m ((c.tc : Thread Cert.HgrnFwdRefIdeal.nD Cert.HgrnFwdRefIdeal.τ).loc Cert.HgrnFwdRefIdeal.main_arg2))
      ∧ r.2.sem = fun _ => 0)

def quiescent_HgrnFwdRefIdeal_pre_hgrn_fwd_finite [hHgrnFwdRefIdeal : Cert.HgrnFwdRefIdeal.Facts] [hPre_hgrn_fwd_finite : Cert.Pre_hgrn_fwd_finite.Facts] : Prop :=
  ∀ (m : (ℓ : Loc Cert.HgrnFwdRefIdeal.nD Cert.HgrnFwdRefIdeal.τ Cert.HgrnFwdRefIdeal.sig) → Buf (Elt Ideal) ℓ) (g : Dev Cert.HgrnFwdRefIdeal.nD → PrngReg), Pre_HgrnFwdRefIdeal_hgrn_fwd_finite m →
    θ_run (Cert.HgrnFwdRefIdeal.defs (F := Ideal)) (onTc (τ := Cert.HgrnFwdRefIdeal.τ) (Cert.HgrnFwdRefIdeal.main (F := Ideal))) ⟨m, fun _ => 0, g⟩ (fun r => (∀ c : Dev Cert.HgrnFwdRefIdeal.nD,
      r.2.mem ((c.tc : Thread Cert.HgrnFwdRefIdeal.nD Cert.HgrnFwdRefIdeal.τ).loc Cert.HgrnFwdRefIdeal.main_arg0) = m ((c.tc : Thread Cert.HgrnFwdRefIdeal.nD Cert.HgrnFwdRefIdeal.τ).loc Cert.HgrnFwdRefIdeal.main_arg0)
      ∧ r.2.mem ((c.tc : Thread Cert.HgrnFwdRefIdeal.nD Cert.HgrnFwdRefIdeal.τ).loc Cert.HgrnFwdRefIdeal.main_arg1) = m ((c.tc : Thread Cert.HgrnFwdRefIdeal.nD Cert.HgrnFwdRefIdeal.τ).loc Cert.HgrnFwdRefIdeal.main_arg1)
      ∧ r.2.mem ((c.tc : Thread Cert.HgrnFwdRefIdeal.nD Cert.HgrnFwdRefIdeal.τ).loc Cert.HgrnFwdRefIdeal.main_arg2) = m ((c.tc : Thread Cert.HgrnFwdRefIdeal.nD Cert.HgrnFwdRefIdeal.τ).loc Cert.HgrnFwdRefIdeal.main_arg2))
      ∧ r.2.sem = fun _ => 0)

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)
      ∧ m' ((c.tc : Thread Cert.MergeBwdRefIdeal.nD Cert.MergeBwdRefIdeal.τ).loc Cert.MergeBwdRefIdeal.main_arg5) = m ((c.tc : Thread Cert.MergeBwdIdeal.nD Cert.MergeBwdIdeal.τ).loc Cert.MergeBwdIdeal.main_arg5)
      ∧ m' ((c.tc : Thread Cert.MergeBwdRefIdeal.nD Cert.MergeBwdRefIdeal.τ).loc Cert.MergeBwdRefIdeal.main_arg6) = m ((c.tc : Thread Cert.MergeBwdIdeal.nD Cert.MergeBwdIdeal.τ).loc Cert.MergeBwdIdeal.main_arg6)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v1)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v0_0) = v0 c
          ∧ r.2.mem ((c.tc : Thread Cert.MergeBwdIdeal.nD Cert.MergeBwdIdeal.τ).loc Cert.MergeBwdIdeal.main_v0_1) = v1 c
          ∧ r.2.mem ((c.tc : Thread Cert.MergeBwdIdeal.nD Cert.MergeBwdIdeal.τ).loc Cert.MergeBwdIdeal.main_v1) = v2 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
          ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
          ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v43) = v0 c
          ∧ r.2.mem ((c.tc : Thread Cert.MergeBwdRefIdeal.nD Cert.MergeBwdRefIdeal.τ).loc Cert.MergeBwdRefIdeal.main_v45) = v1 c
          ∧ r.2.mem ((c.tc : Thread Cert.MergeBwdRefIdeal.nD Cert.MergeBwdRefIdeal.τ).loc Cert.MergeBwdRefIdeal.main_v47) = v2 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4)
          ∧ r.2.mem ((c.tc : Thread Cert.MergeBwdRefIdeal.nD Cert.MergeBwdRefIdeal.τ).loc Cert.MergeBwdRefIdeal.main_arg5) = m' ((c.tc : Thread Cert.MergeBwdRefIdeal.nD Cert.MergeBwdRefIdeal.τ).loc Cert.MergeBwdRefIdeal.main_arg5)
          ∧ r.2.mem ((c.tc : Thread Cert.MergeBwdRefIdeal.nD Cert.MergeBwdRefIdeal.τ).loc Cert.MergeBwdRefIdeal.main_arg6) = m' ((c.tc : Thread Cert.MergeBwdRefIdeal.nD Cert.MergeBwdRefIdeal.τ).loc Cert.MergeBwdRefIdeal.main_arg6))

def preserves_GmlpBwd_GmlpBwdIdeal : Prop :=
  IdealRules.named_const.Statement Cert.GmlpBwdIdeal.κ "gelu_c1" .f32 0x3D372713#32 ((8943 / 200000 : ℝ) : EReal)
  ∧ IdealRules.named_const.Statement Cert.GmlpBwdIdeal.κ "gelu_c1_times_3" .f32 0x3E095D4F#32 ((26829 / 200000 : ℝ) : EReal)

def algebraic_GmlpBwdIdeal_GmlpBwdRefIdeal_pre_gmlp_bwd_finite [hGmlpBwdIdeal : Cert.GmlpBwdIdeal.Facts] [hGmlpBwdRefIdeal : Cert.GmlpBwdRefIdeal.Facts] [hPre_gmlp_bwd_finite : Cert.Pre_gmlp_bwd_finite.Facts] : Prop :=
  ∀ (m : (ℓ : Loc Cert.GmlpBwdIdeal.nD Cert.GmlpBwdIdeal.τ Cert.GmlpBwdIdeal.sig) → Buf (Elt Ideal) ℓ) (g : Dev Cert.GmlpBwdIdeal.nD → PrngReg)
    (m' : (ℓ : Loc Cert.GmlpBwdRefIdeal.nD Cert.GmlpBwdRefIdeal.τ Cert.GmlpBwdRefIdeal.sig) → Buf (Elt Ideal) ℓ) (g' : Dev Cert.GmlpBwdRefIdeal.nD → PrngReg), Pre_GmlpBwdIdeal_gmlp_bwd_finite m →
    (∀ c : Dev Cert.GmlpBwdIdeal.nD,
      m' ((c.tc : Thread Cert.GmlpBwdRefIdeal.nD Cert.GmlpBwdRefIdeal.τ).loc Cert.GmlpBwdRefIdeal.main_arg0) = m ((c.tc : Thread Cert.GmlpBwdIdeal.nD Cert.GmlpBwdIdeal.τ).loc Cert.GmlpBwdIdeal.main_arg0)
      ∧ m' ((c.tc : Thread Cert.GmlpBwdRefIdeal.nD Cert.GmlpBwdRefIdeal.τ).loc Cert.GmlpBwdRefIdeal.main_arg1) = m ((c.tc : Thread Cert.GmlpBwdIdeal.nD Cert.GmlpBwdIdeal.τ).loc Cert.GmlpBwdIdeal.main_arg1)
      ∧ m' ((c.tc : Thread Cert.GmlpBwdRefIdeal.nD Cert.GmlpBwdRefIdeal.τ).loc Cert.GmlpBwdRefIdeal.main_arg2) = m ((c.tc : Thread Cert.GmlpBwdIdeal.nD Cert.GmlpBwdIdeal.τ).loc Cert.GmlpBwdIdeal.main_arg2)
      ∧ m' ((c.tc : Thread Cert.GmlpBwdRefIdeal.nD Cert.GmlpBwdRefIdeal.τ).loc Cert.GmlpBwdRefIdeal.main_arg3) = m ((c.tc : Thread Cert.GmlpBwdIdeal.nD Cert.GmlpBwdIdeal.τ).loc Cert.GmlpBwdIdeal.main_arg3)
      ∧ m' ((c.tc : Thread Cert.GmlpBwdRefIdeal.nD Cert.GmlpBwdRefIdeal.τ).loc Cert.GmlpBwdRefIdeal.main_arg4) = m ((c.tc : Thread Cert.GmlpBwdIdeal.nD Cert.GmlpBwdIdeal.τ).loc Cert.GmlpBwdIdeal.main_arg4)
      ∧ m' ((c.tc : Thread Cert.GmlpBwdRefIdeal.nD Cert.GmlpBwdRefIdeal.τ).loc Cert.GmlpBwdRefIdeal.main_arg5) = m ((c.tc : Thread Cert.GmlpBwdIdeal.nD Cert.GmlpBwdIdeal.τ).loc Cert.GmlpBwdIdeal.main_arg5)
      ∧ m' ((c.tc : Thread Cert.GmlpBwdRefIdeal.nD Cert.GmlpBwdRefIdeal.τ).loc Cert.GmlpBwdRefIdeal.main_arg6) = m ((c.tc : Thread Cert.GmlpBwdIdeal.nD Cert.GmlpBwdIdeal.τ).loc Cert.GmlpBwdIdeal.main_arg6)
      ∧ m' ((c.tc : Thread Cert.GmlpBwdRefIdeal.nD Cert.GmlpBwdRefIdeal.τ).loc Cert.GmlpBwdRefIdeal.main_arg7) = m ((c.tc : Thread Cert.GmlpBwdIdeal.nD Cert.GmlpBwdIdeal.τ).loc Cert.GmlpBwdIdeal.main_arg7)) →
    ∃ (v0 : (c : Dev Cert.GmlpBwdIdeal.nD) → Buf (Elt Ideal) ((c.tc : Thread Cert.GmlpBwdIdeal.nD Cert.GmlpBwdIdeal.τ).loc Cert.GmlpBwdIdeal.main_v8_0)) (v1 : (c : Dev Cert.GmlpBwdIdeal.nD) → Buf (Elt Ideal) ((c.tc : Thread Cert.GmlpBwdIdeal.nD Cert.GmlpBwdIdeal.τ).loc Cert.GmlpBwdIdeal.main_v18)) (v2 : (c : Dev Cert.GmlpBwdIdeal.nD) → Buf (Elt Ideal) ((c.tc : Thread Cert.GmlpBwdIdeal.nD Cert.GmlpBwdIdeal.τ).loc Cert.GmlpBwdIdeal.main_v21)) (v3 : (c : Dev Cert.GmlpBwdIdeal.nD) → Buf (Elt Ideal) ((c.tc : Thread Cert.GmlpBwdIdeal.nD Cert.GmlpBwdIdeal.τ).loc Cert.GmlpBwdIdeal.main_v12)) (v4 : (c : Dev Cert.GmlpBwdIdeal.nD) → Buf (Elt Ideal) ((c.tc : Thread Cert.GmlpBwdIdeal.nD Cert.GmlpBwdIdeal.τ).loc Cert.GmlpBwdIdeal.main_v15)),
      θ_run (Cert.GmlpBwdIdeal.defs (F := Ideal)) (onTc (τ := Cert.GmlpBwdIdeal.τ) (Cert.GmlpBwdIdeal.main (F := Ideal))) ⟨m, fun _ => 0, g⟩ (fun r => ∀ c : Dev Cert.GmlpBwdIdeal.nD,
          r.2.mem ((c.tc : Thread Cert.GmlpBwdIdeal.nD Cert.GmlpBwdIdeal.τ).loc Cert.GmlpBwdIdeal.main_v8_0) = v0 c
          ∧ r.2.mem ((c.tc : Thread Cert.GmlpBwdIdeal.nD Cert.GmlpBwdIdeal.τ).loc Cert.GmlpBwdIdeal.main_v18) = v1 c
          ∧ r.2.mem ((c.tc : Thread Cert.GmlpBwdIdeal.nD Cert.GmlpBwdIdeal.τ).loc Cert.GmlpBwdIdeal.main_v21) = v2 c
          ∧ r.2.mem ((c.tc : Thread Cert.GmlpBwdIdeal.nD Cert.GmlpBwdIdeal.τ).loc Cert.GmlpBwdIdeal.main_v12) = v3 c
          ∧ r.2.mem ((c.tc : Thread Cert.GmlpBwdIdeal.nD Cert.GmlpBwdIdeal.τ).loc Cert.GmlpBwdIdeal.main_v15) = v4 c
          ∧ r.2.mem ((c.tc : Thread Cert.GmlpBwdIdeal.nD Cert.GmlpBwdIdeal.τ).loc Cert.GmlpBwdIdeal.main_arg0) = m ((c.tc : Thread Cert.GmlpBwdIdeal.nD Cert.GmlpBwdIdeal.τ).loc Cert.GmlpBwdIdeal.main_arg0)
          ∧ r.2.mem ((c.tc : Thread Cert.GmlpBwdIdeal.nD Cert.GmlpBwdIdeal.τ).loc Cert.GmlpBwdIdeal.main_arg1) = m ((c.tc : Thread Cert.GmlpBwdIdeal.nD Cert.GmlpBwdIdeal.τ).loc Cert.GmlpBwdIdeal.main_arg1)
          ∧ r.2.mem ((c.tc : Thread Cert.GmlpBwdIdeal.nD Cert.GmlpBwdIdeal.τ).loc Cert.GmlpBwdIdeal.main_arg2) = m ((c.tc : Thread Cert.GmlpBwdIdeal.nD Cert.GmlpBwdIdeal.τ).loc Cert.GmlpBwdIdeal.main_arg2)
          ∧ r.2.mem ((c.tc : Thread Cert.GmlpBwdIdeal.nD Cert.GmlpBwdIdeal.τ).loc Cert.GmlpBwdIdeal.main_arg3) = m ((c.tc : Thread Cert.GmlpBwdIdeal.nD Cert.GmlpBwdIdeal.τ).loc Cert.GmlpBwdIdeal.main_arg3)
          ∧ r.2.mem ((c.tc : Thread Cert.GmlpBwdIdeal.nD Cert.GmlpBwdIdeal.τ).loc Cert.GmlpBwdIdeal.main_arg4) = m ((c.tc : Thread Cert.GmlpBwdIdeal.nD Cert.GmlpBwdIdeal.τ).loc Cert.GmlpBwdIdeal.main_arg4)
          ∧ r.2.mem ((c.tc : Thread Cert.GmlpBwdIdeal.nD Cert.GmlpBwdIdeal.τ).loc Cert.GmlpBwdIdeal.main_arg5) = m ((c.tc : Thread Cert.GmlpBwdIdeal.nD Cert.GmlpBwdIdeal.τ).loc Cert.GmlpBwdIdeal.main_arg5)
          ∧ r.2.mem ((c.tc : Thread Cert.GmlpBwdIdeal.nD Cert.GmlpBwdIdeal.τ).loc Cert.GmlpBwdIdeal.main_arg6) = m ((c.tc : Thread Cert.GmlpBwdIdeal.nD Cert.GmlpBwdIdeal.τ).loc Cert.GmlpBwdIdeal.main_arg6)
          ∧ r.2.mem ((c.tc : Thread Cert.GmlpBwdIdeal.nD Cert.GmlpBwdIdeal.τ).loc Cert.GmlpBwdIdeal.main_arg7) = m ((c.tc : Thread Cert.GmlpBwdIdeal.nD Cert.GmlpBwdIdeal.τ).loc Cert.GmlpBwdIdeal.main_arg7))
      ∧ θ_run (Cert.GmlpBwdRefIdeal.defs (F := Ideal)) (onTc (τ := Cert.GmlpBwdRefIdeal.τ) (Cert.GmlpBwdRefIdeal.main (F := Ideal))) ⟨m', fun _ => 0, g'⟩ (fun r => ∀ c : Dev Cert.GmlpBwdRefIdeal.nD,
          r.2.mem ((c.tc : Thread Cert.GmlpBwdRefIdeal.nD Cert.GmlpBwdRefIdeal.τ).loc Cert.GmlpBwdRefIdeal.main_v175) = v0 c
          ∧ r.2.mem ((c.tc : Thread Cert.GmlpBwdRefIdeal.nD Cert.GmlpBwdRefIdeal.τ).loc Cert.GmlpBwdRefIdeal.main_v120) = v1 c
          ∧ r.2.mem ((c.tc : Thread Cert.GmlpBwdRefIdeal.nD Cert.GmlpBwdRefIdeal.τ).loc Cert.GmlpBwdRefIdeal.main_v114) = v2 c
          ∧ r.2.mem ((c.tc : Thread Cert.GmlpBwdRefIdeal.nD Cert.GmlpBwdRefIdeal.τ).loc Cert.GmlpBwdRefIdeal.main_v110) = v3 c
          ∧ r.2.mem ((c.tc : Thread Cert.GmlpBwdRefIdeal.nD Cert.GmlpBwdRefIdeal.τ).loc Cert.GmlpBwdRefIdeal.main_v105) = v4 c
          ∧ r.2.mem ((c.tc : Thread Cert.GmlpBwdRefIdeal.nD Cert.GmlpBwdRefIdeal.τ).loc Cert.GmlpBwdRefIdeal.main_arg0) = m' ((c.tc : Thread Cert.GmlpBwdRefIdeal.nD Cert.GmlpBwdRefIdeal.τ).loc Cert.GmlpBwdRefIdeal.main_arg0)
          ∧ r.2.mem ((c.tc : Thread Cert.GmlpBwdRefIdeal.nD Cert.GmlpBwdRefIdeal.τ).loc Cert.GmlpBwdRefIdeal.main_arg1) = m' ((c.tc : Thread Cert.GmlpBwdRefIdeal.nD Cert.GmlpBwdRefIdeal.τ).loc Cert.GmlpBwdRefIdeal.main_arg1)
          ∧ r.2.mem ((c.tc : Thread Cert.GmlpBwdRefIdeal.nD Cert.GmlpBwdRefIdeal.τ).loc Cert.GmlpBwdRefIdeal.main_arg2) = m' ((c.tc : Thread Cert.GmlpBwdRefIdeal.nD Cert.GmlpBwdRefIdeal.τ).loc Cert.GmlpBwdRefIdeal.main_arg2)
          ∧ r.2.mem ((c.tc : Thread Cert.GmlpBwdRefIdeal.nD Cert.GmlpBwdRefIdeal.τ).loc Cert.GmlpBwdRefIdeal.main_arg3) = m' ((c.tc : Thread Cert.GmlpBwdRefIdeal.nD Cert.GmlpBwdRefIdeal.τ).loc Cert.GmlpBwdRefIdeal.main_arg3)
          ∧ r.2.mem ((c.tc : Thread Cert.GmlpBwdRefIdeal.nD Cert.GmlpBwdRefIdeal.τ).loc Cert.GmlpBwdRefIdeal.main_arg4) = m' ((c.tc : Thread Cert.GmlpBwdRefIdeal.nD Cert.GmlpBwdRefIdeal.τ).loc Cert.GmlpBwdRefIdeal.main_arg4)
          ∧ r.2.mem ((c.tc : Thread Cert.GmlpBwdRefIdeal.nD Cert.GmlpBwdRefIdeal.τ).loc Cert.GmlpBwdRefIdeal.main_arg5) = m' ((c.tc : Thread Cert.GmlpBwdRefIdeal.nD Cert.GmlpBwdRefIdeal.τ).loc Cert.GmlpBwdRefIdeal.main_arg5)
          ∧ r.2.mem ((c.tc : Thread Cert.GmlpBwdRefIdeal.nD Cert.GmlpBwdRefIdeal.τ).loc Cert.GmlpBwdRefIdeal.main_arg6) = m' ((c.tc : Thread Cert.GmlpBwdRefIdeal.nD Cert.GmlpBwdRefIdeal.τ).loc Cert.GmlpBwdRefIdeal.main_arg6)
          ∧ r.2.mem ((c.tc : Thread Cert.GmlpBwdRefIdeal.nD Cert.GmlpBwdRefIdeal.τ).loc Cert.GmlpBwdRefIdeal.main_arg7) = m' ((c.tc : Thread Cert.GmlpBwdRefIdeal.nD Cert.GmlpBwdRefIdeal.τ).loc Cert.GmlpBwdRefIdeal.main_arg7))

def preserves_ProjBwd_ProjBwdIdeal : Prop :=
  True

def algebraic_ProjBwdIdeal_ProjBwdRefIdeal_pre_proj_bwd_finite [hProjBwdIdeal : Cert.ProjBwdIdeal.Facts] [hProjBwdRefIdeal : Cert.ProjBwdRefIdeal.Facts] [hPre_proj_bwd_finite : Cert.Pre_proj_bwd_finite.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg)
    (m' : (ℓ : Loc Cert.ProjBwdRefIdeal.nD Cert.ProjBwdRefIdeal.τ Cert.ProjBwdRefIdeal.sig) → Buf (Elt Ideal) ℓ) (g' : Dev Cert.ProjBwdRefIdeal.nD → PrngReg), Pre_ProjBwdIdeal_proj_bwd_finite m →
    (∀ c : Dev Cert.ProjBwdIdeal.nD,
      m' ((c.tc : Thread Cert.ProjBwdRefIdeal.nD Cert.ProjBwdRefIdeal.τ).loc Cert.ProjBwdRefIdeal.main_arg0) = m ((c.tc : Thread Cert.ProjBwdIdeal.nD Cert.ProjBwdIdeal.τ).loc Cert.ProjBwdIdeal.main_arg0)
      ∧ m' ((c.tc : Thread Cert.ProjBwdRefIdeal.nD Cert.ProjBwdRefIdeal.τ).loc Cert.ProjBwdRefIdeal.main_arg1) = m ((c.tc : Thread Cert.ProjBwdIdeal.nD Cert.ProjBwdIdeal.τ).loc Cert.ProjBwdIdeal.main_arg1)
      ∧ m' ((c.tc : Thread Cert.ProjBwdRefIdeal.nD Cert.ProjBwdRefIdeal.τ).loc Cert.ProjBwdRefIdeal.main_arg2) = m ((c.tc : Thread Cert.ProjBwdIdeal.nD Cert.ProjBwdIdeal.τ).loc Cert.ProjBwdIdeal.main_arg2)
      ∧ m' ((c.tc : Thread Cert.ProjBwdRefIdeal.nD Cert.ProjBwdRefIdeal.τ).loc Cert.ProjBwdRefIdeal.main_arg3) = m ((c.tc : Thread Cert.ProjBwdIdeal.nD Cert.ProjBwdIdeal.τ).loc Cert.ProjBwdIdeal.main_arg3)
      ∧ m' ((c.tc : Thread Cert.ProjBwdRefIdeal.nD Cert.ProjBwdRefIdeal.τ).loc Cert.ProjBwdRefIdeal.main_arg4) = m ((c.tc : Thread Cert.ProjBwdIdeal.nD Cert.ProjBwdIdeal.τ).loc Cert.ProjBwdIdeal.main_arg4)) →
    ∃ (v0 : (c : Dev Cert.ProjBwdIdeal.nD) → Buf (Elt Ideal) ((c.tc : Thread Cert.ProjBwdIdeal.nD Cert.ProjBwdIdeal.τ).loc Cert.ProjBwdIdeal.main_v0_0)) (v1 : (c : Dev Cert.ProjBwdIdeal.nD) → Buf (Elt Ideal) ((c.tc : Thread Cert.ProjBwdIdeal.nD Cert.ProjBwdIdeal.τ).loc Cert.ProjBwdIdeal.main_v1)),
      θ_run (Cert.ProjBwdIdeal.defs (F := Ideal)) (onTc (τ := Cert.ProjBwdIdeal.τ) (Cert.ProjBwdIdeal.main (F := Ideal))) ⟨m, fun _ => 0, g⟩ (fun r => ∀ c : Dev Cert.ProjBwdIdeal.nD,
          r.2.mem ((c.tc : Thread Cert.ProjBwdIdeal.nD Cert.ProjBwdIdeal.τ).loc Cert.ProjBwdIdeal.main_v0_0) = v0 c
          ∧ r.2.mem ((c.tc : Thread Cert.ProjBwdIdeal.nD Cert.ProjBwdIdeal.τ).loc Cert.ProjBwdIdeal.main_v1) = v1 c
          ∧ r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
          ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
          ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
          ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
          ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4))
      ∧ θ_run (Cert.ProjBwdRefIdeal.defs (F := Ideal)) (onTc (τ := Cert.ProjBwdRefIdeal.τ) (Cert.ProjBwdRefIdeal.main (F := Ideal))) ⟨m', fun _ => 0, g'⟩ (fun r => ∀ c : Dev Cert.ProjBwdRefIdeal.nD,
          r.2.mem ((c.tc : Thread Cert.ProjBwdRefIdeal.nD Cert.ProjBwdRefIdeal.τ).loc Cert.ProjBwdRefIdeal.main_v72) = v0 c
          ∧ r.2.mem ((c.tc : Thread Cert.ProjBwdRefIdeal.nD Cert.ProjBwdRefIdeal.τ).loc Cert.ProjBwdRefIdeal.main_v55) = v1 c
          ∧ r.2.mem ((c.tc : Thread Cert.ProjBwdRefIdeal.nD Cert.ProjBwdRefIdeal.τ).loc Cert.ProjBwdRefIdeal.main_arg0) = m' ((c.tc : Thread Cert.ProjBwdRefIdeal.nD Cert.ProjBwdRefIdeal.τ).loc Cert.ProjBwdRefIdeal.main_arg0)
          ∧ r.2.mem ((c.tc : Thread Cert.ProjBwdRefIdeal.nD Cert.ProjBwdRefIdeal.τ).loc Cert.ProjBwdRefIdeal.main_arg1) = m' ((c.tc : Thread Cert.ProjBwdRefIdeal.nD Cert.ProjBwdRefIdeal.τ).loc Cert.ProjBwdRefIdeal.main_arg1)
          ∧ r.2.mem ((c.tc : Thread Cert.ProjBwdRefIdeal.nD Cert.ProjBwdRefIdeal.τ).loc Cert.ProjBwdRefIdeal.main_arg2) = m' ((c.tc : Thread Cert.ProjBwdRefIdeal.nD Cert.ProjBwdRefIdeal.τ).loc Cert.ProjBwdRefIdeal.main_arg2)
          ∧ r.2.mem ((c.tc : Thread Cert.ProjBwdRefIdeal.nD Cert.ProjBwdRefIdeal.τ).loc Cert.ProjBwdRefIdeal.main_arg3) = m' ((c.tc : Thread Cert.ProjBwdRefIdeal.nD Cert.ProjBwdRefIdeal.τ).loc Cert.ProjBwdRefIdeal.main_arg3)
          ∧ r.2.mem ((c.tc : Thread Cert.ProjBwdRefIdeal.nD Cert.ProjBwdRefIdeal.τ).loc Cert.ProjBwdRefIdeal.main_arg4) = m' ((c.tc : Thread Cert.ProjBwdRefIdeal.nD Cert.ProjBwdRefIdeal.τ).loc Cert.ProjBwdRefIdeal.main_arg4))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v1_0)) (v1 : (c : Dev Cert.FfnIdeal.nD) → Buf (Elt Ideal) ((c.tc : Thread Cert.FfnIdeal.nD Cert.FfnIdeal.τ).loc Cert.FfnIdeal.main_v1_1)) (v2 : (c : Dev Cert.FfnIdeal.nD) → Buf (Elt Ideal) ((c.tc : Thread Cert.FfnIdeal.nD Cert.FfnIdeal.τ).loc Cert.FfnIdeal.main_v1_2)) (v3 : (c : Dev Cert.FfnIdeal.nD) → Buf (Elt Ideal) ((c.tc : Thread Cert.FfnIdeal.nD Cert.FfnIdeal.τ).loc Cert.FfnIdeal.main_v1_3)) (v4 : (c : Dev Cert.FfnIdeal.nD) → Buf (Elt Ideal) ((c.tc : Thread Cert.FfnIdeal.nD Cert.FfnIdeal.τ).loc Cert.FfnIdeal.main_v1_4)) (v5 : (c : Dev Cert.FfnIdeal.nD) → Buf (Elt Ideal) ((c.tc : Thread Cert.FfnIdeal.nD Cert.FfnIdeal.τ).loc Cert.FfnIdeal.main_v1_5)) (v6 : (c : Dev Cert.FfnIdeal.nD) → Buf (Elt Ideal) ((c.tc : Thread Cert.FfnIdeal.nD Cert.FfnIdeal.τ).loc Cert.FfnIdeal.main_v4)) (v7 : (c : Dev Cert.FfnIdeal.nD) → Buf (Elt Ideal) ((c.tc : Thread Cert.FfnIdeal.nD Cert.FfnIdeal.τ).loc Cert.FfnIdeal.main_v7)) (v8 : (c : Dev Cert.FfnIdeal.nD) → Buf (Elt Ideal) ((c.tc : Thread Cert.FfnIdeal.nD Cert.FfnIdeal.τ).loc Cert.FfnIdeal.main_v10)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v1_0) = v0 c
          ∧ r.2.mem ((c.tc : Thread Cert.FfnIdeal.nD Cert.FfnIdeal.τ).loc Cert.FfnIdeal.main_v1_1) = v1 c
          ∧ r.2.mem ((c.tc : Thread Cert.FfnIdeal.nD Cert.FfnIdeal.τ).loc Cert.FfnIdeal.main_v1_2) = v2 c
          ∧ r.2.mem ((c.tc : Thread Cert.FfnIdeal.nD Cert.FfnIdeal.τ).loc Cert.FfnIdeal.main_v1_3) = v3 c
          ∧ r.2.mem ((c.tc : Thread Cert.FfnIdeal.nD Cert.FfnIdeal.τ).loc Cert.FfnIdeal.main_v1_4) = v4 c
          ∧ r.2.mem ((c.tc : Thread Cert.FfnIdeal.nD Cert.FfnIdeal.τ).loc Cert.FfnIdeal.main_v1_5) = v5 c
          ∧ r.2.mem ((c.tc : Thread Cert.FfnIdeal.nD Cert.FfnIdeal.τ).loc Cert.FfnIdeal.main_v4) = v6 c
          ∧ r.2.mem ((c.tc : Thread Cert.FfnIdeal.nD Cert.FfnIdeal.τ).loc Cert.FfnIdeal.main_v7) = v7 c
          ∧ r.2.mem ((c.tc : Thread Cert.FfnIdeal.nD Cert.FfnIdeal.τ).loc Cert.FfnIdeal.main_v10) = v8 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v115) = v0 c
          ∧ r.2.mem ((c.tc : Thread Cert.FfnRefIdeal.nD Cert.FfnRefIdeal.τ).loc Cert.FfnRefIdeal.main_v117) = v1 c
          ∧ r.2.mem ((c.tc : Thread Cert.FfnRefIdeal.nD Cert.FfnRefIdeal.τ).loc Cert.FfnRefIdeal.main_v119) = v2 c
          ∧ r.2.mem ((c.tc : Thread Cert.FfnRefIdeal.nD Cert.FfnRefIdeal.τ).loc Cert.FfnRefIdeal.main_v121) = v3 c
          ∧ r.2.mem ((c.tc : Thread Cert.FfnRefIdeal.nD Cert.FfnRefIdeal.τ).loc Cert.FfnRefIdeal.main_v122) = v4 c
          ∧ r.2.mem ((c.tc : Thread Cert.FfnRefIdeal.nD Cert.FfnRefIdeal.τ).loc Cert.FfnRefIdeal.main_v124) = v5 c
          ∧ r.2.mem ((c.tc : Thread Cert.FfnRefIdeal.nD Cert.FfnRefIdeal.τ).loc Cert.FfnRefIdeal.main_v56) = v6 c
          ∧ r.2.mem ((c.tc : Thread Cert.FfnRefIdeal.nD Cert.FfnRefIdeal.τ).loc Cert.FfnRefIdeal.main_v125) = v7 c
          ∧ r.2.mem ((c.tc : Thread Cert.FfnRefIdeal.nD Cert.FfnRefIdeal.τ).loc Cert.FfnRefIdeal.main_v68) = v8 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_GmlpFwd_GmlpFwdIdeal : Prop :=
  IdealRules.named_const.Statement Cert.GmlpFwdIdeal.κ "gelu_c1" .f32 0x3D372713#32 ((8943 / 200000 : ℝ) : EReal)

def algebraic_GmlpFwdIdeal_GmlpFwdRefIdeal [hGmlpFwdIdeal : Cert.GmlpFwdIdeal.Facts] [hGmlpFwdRefIdeal : Cert.GmlpFwdRefIdeal.Facts] : Prop :=
  ∀ (m : (ℓ : Loc Cert.GmlpFwdIdeal.nD Cert.GmlpFwdIdeal.τ Cert.GmlpFwdIdeal.sig) → Buf (Elt Ideal) ℓ) (g : Dev Cert.GmlpFwdIdeal.nD → PrngReg)
    (m' : (ℓ : Loc Cert.GmlpFwdRefIdeal.nD Cert.GmlpFwdRefIdeal.τ Cert.GmlpFwdRefIdeal.sig) → Buf (Elt Ideal) ℓ) (g' : Dev Cert.GmlpFwdRefIdeal.nD → PrngReg), Pre_GmlpFwdIdeal m →
    (∀ c : Dev Cert.GmlpFwdIdeal.nD,
      m' ((c.tc : Thread Cert.GmlpFwdRefIdeal.nD Cert.GmlpFwdRefIdeal.τ).loc Cert.GmlpFwdRefIdeal.main_arg0) = m ((c.tc : Thread Cert.GmlpFwdIdeal.nD Cert.GmlpFwdIdeal.τ).loc Cert.GmlpFwdIdeal.main_arg0)
      ∧ m' ((c.tc : Thread Cert.GmlpFwdRefIdeal.nD Cert.GmlpFwdRefIdeal.τ).loc Cert.GmlpFwdRefIdeal.main_arg1) = m ((c.tc : Thread Cert.GmlpFwdIdeal.nD Cert.GmlpFwdIdeal.τ).loc Cert.GmlpFwdIdeal.main_arg1)
      ∧ m' ((c.tc : Thread Cert.GmlpFwdRefIdeal.nD Cert.GmlpFwdRefIdeal.τ).loc Cert.GmlpFwdRefIdeal.main_arg2) = m ((c.tc : Thread Cert.GmlpFwdIdeal.nD Cert.GmlpFwdIdeal.τ).loc Cert.GmlpFwdIdeal.main_arg2)
      ∧ m' ((c.tc : Thread Cert.GmlpFwdRefIdeal.nD Cert.GmlpFwdRefIdeal.τ).loc Cert.GmlpFwdRefIdeal.main_arg3) = m ((c.tc : Thread Cert.GmlpFwdIdeal.nD Cert.GmlpFwdIdeal.τ).loc Cert.GmlpFwdIdeal.main_arg3)
      ∧ m' ((c.tc : Thread Cert.GmlpFwdRefIdeal.nD Cert.GmlpFwdRefIdeal.τ).loc Cert.GmlpFwdRefIdeal.main_arg4) = m ((c.tc : Thread Cert.GmlpFwdIdeal.nD Cert.GmlpFwdIdeal.τ).loc Cert.GmlpFwdIdeal.main_arg4)) →
    ∃ (v0 : (c : Dev Cert.GmlpFwdIdeal.nD) → Buf (Elt Ideal) ((c.tc : Thread Cert.GmlpFwdIdeal.nD Cert.GmlpFwdIdeal.τ).loc Cert.GmlpFwdIdeal.main_v7)),
      θ_run (Cert.GmlpFwdIdeal.defs (F := Ideal)) (onTc (τ := Cert.GmlpFwdIdeal.τ) (Cert.GmlpFwdIdeal.main (F := Ideal))) ⟨m, fun _ => 0, g⟩ (fun r => ∀ c : Dev Cert.GmlpFwdIdeal.nD,
          r.2.mem ((c.tc : Thread Cert.GmlpFwdIdeal.nD Cert.GmlpFwdIdeal.τ).loc Cert.GmlpFwdIdeal.main_v7) = v0 c
          ∧ r.2.mem ((c.tc : Thread Cert.GmlpFwdIdeal.nD Cert.GmlpFwdIdeal.τ).loc Cert.GmlpFwdIdeal.main_arg0) = m ((c.tc : Thread Cert.GmlpFwdIdeal.nD Cert.GmlpFwdIdeal.τ).loc Cert.GmlpFwdIdeal.main_arg0)
          ∧ r.2.mem ((c.tc : Thread Cert.GmlpFwdIdeal.nD Cert.GmlpFwdIdeal.τ).loc Cert.GmlpFwdIdeal.main_arg1) = m ((c.tc : Thread Cert.GmlpFwdIdeal.nD Cert.GmlpFwdIdeal.τ).loc Cert.GmlpFwdIdeal.main_arg1)
          ∧ r.2.mem ((c.tc : Thread Cert.GmlpFwdIdeal.nD Cert.GmlpFwdIdeal.τ).loc Cert.GmlpFwdIdeal.main_arg2) = m ((c.tc : Thread Cert.GmlpFwdIdeal.nD Cert.GmlpFwdIdeal.τ).loc Cert.GmlpFwdIdeal.main_arg2)
          ∧ r.2.mem ((c.tc : Thread Cert.GmlpFwdIdeal.nD Cert.GmlpFwdIdeal.τ).loc Cert.GmlpFwdIdeal.main_arg3) = m ((c.tc : Thread Cert.GmlpFwdIdeal.nD Cert.GmlpFwdIdeal.τ).loc Cert.GmlpFwdIdeal.main_arg3)
          ∧ r.2.mem ((c.tc : Thread Cert.GmlpFwdIdeal.nD Cert.GmlpFwdIdeal.τ).loc Cert.GmlpFwdIdeal.main_arg4) = m ((c.tc : Thread Cert.GmlpFwdIdeal.nD Cert.GmlpFwdIdeal.τ).loc Cert.GmlpFwdIdeal.main_arg4))
      ∧ θ_run (Cert.GmlpFwdRefIdeal.defs (F := Ideal)) (onTc (τ := Cert.GmlpFwdRefIdeal.τ) (Cert.GmlpFwdRefIdeal.main (F := Ideal))) ⟨m', fun _ => 0, g'⟩ (fun r => ∀ c : Dev Cert.GmlpFwdRefIdeal.nD,
          r.2.mem ((c.tc : Thread Cert.GmlpFwdRefIdeal.nD Cert.GmlpFwdRefIdeal.τ).loc Cert.GmlpFwdRefIdeal.main_v72) = v0 c
          ∧ r.2.mem ((c.tc : Thread Cert.GmlpFwdRefIdeal.nD Cert.GmlpFwdRefIdeal.τ).loc Cert.GmlpFwdRefIdeal.main_arg0) = m' ((c.tc : Thread Cert.GmlpFwdRefIdeal.nD Cert.GmlpFwdRefIdeal.τ).loc Cert.GmlpFwdRefIdeal.main_arg0)
          ∧ r.2.mem ((c.tc : Thread Cert.GmlpFwdRefIdeal.nD Cert.GmlpFwdRefIdeal.τ).loc Cert.GmlpFwdRefIdeal.main_arg1) = m' ((c.tc : Thread Cert.GmlpFwdRefIdeal.nD Cert.GmlpFwdRefIdeal.τ).loc Cert.GmlpFwdRefIdeal.main_arg1)
          ∧ r.2.mem ((c.tc : Thread Cert.GmlpFwdRefIdeal.nD Cert.GmlpFwdRefIdeal.τ).loc Cert.GmlpFwdRefIdeal.main_arg2) = m' ((c.tc : Thread Cert.GmlpFwdRefIdeal.nD Cert.GmlpFwdRefIdeal.τ).loc Cert.GmlpFwdRefIdeal.main_arg2)
          ∧ r.2.mem ((c.tc : Thread Cert.GmlpFwdRefIdeal.nD Cert.GmlpFwdRefIdeal.τ).loc Cert.GmlpFwdRefIdeal.main_arg3) = m' ((c.tc : Thread Cert.GmlpFwdRefIdeal.nD Cert.GmlpFwdRefIdeal.τ).loc Cert.GmlpFwdRefIdeal.main_arg3)
          ∧ r.2.mem ((c.tc : Thread Cert.GmlpFwdRefIdeal.nD Cert.GmlpFwdRefIdeal.τ).loc Cert.GmlpFwdRefIdeal.main_arg4) = m' ((c.tc : Thread Cert.GmlpFwdRefIdeal.nD Cert.GmlpFwdRefIdeal.τ).loc Cert.GmlpFwdRefIdeal.main_arg4))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)
      ∧ m' ((c.tc : Thread Cert.MergeFwdRefIdeal.nD Cert.MergeFwdRefIdeal.τ).loc Cert.MergeFwdRefIdeal.main_arg5) = m ((c.tc : Thread Cert.MergeFwdIdeal.nD Cert.MergeFwdIdeal.τ).loc Cert.MergeFwdIdeal.main_arg5)
      ∧ m' ((c.tc : Thread Cert.MergeFwdRefIdeal.nD Cert.MergeFwdRefIdeal.τ).loc Cert.MergeFwdRefIdeal.main_arg6) = m ((c.tc : Thread Cert.MergeFwdIdeal.nD Cert.MergeFwdIdeal.τ).loc Cert.MergeFwdIdeal.main_arg6)) →
    ∃ (v0 : (c : Dev Cert.MergeFwdIdeal.nD) → Buf (Elt Ideal) ((c.tc : Thread Cert.MergeFwdIdeal.nD Cert.MergeFwdIdeal.τ).loc Cert.MergeFwdIdeal.main_v0_0)) (v1 : (c : Dev Cert.MergeFwdIdeal.nD) → Buf (Elt Ideal) ((c.tc : Thread Cert.MergeFwdIdeal.nD Cert.MergeFwdIdeal.τ).loc Cert.MergeFwdIdeal.main_v0_1)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0_0) = v0 c
          ∧ r.2.mem ((c.tc : Thread Cert.MergeFwdIdeal.nD Cert.MergeFwdIdeal.τ).loc Cert.MergeFwdIdeal.main_v0_1) = v1 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
          ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v30) = v0 c
          ∧ r.2.mem ((c.tc : Thread Cert.MergeFwdRefIdeal.nD Cert.MergeFwdRefIdeal.τ).loc Cert.MergeFwdRefIdeal.main_v31) = v1 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4)
          ∧ r.2.mem ((c.tc : Thread Cert.MergeFwdRefIdeal.nD Cert.MergeFwdRefIdeal.τ).loc Cert.MergeFwdRefIdeal.main_arg5) = m' ((c.tc : Thread Cert.MergeFwdRefIdeal.nD Cert.MergeFwdRefIdeal.τ).loc Cert.MergeFwdRefIdeal.main_arg5)
          ∧ r.2.mem ((c.tc : Thread Cert.MergeFwdRefIdeal.nD Cert.MergeFwdRefIdeal.τ).loc Cert.MergeFwdRefIdeal.main_arg6) = m' ((c.tc : Thread Cert.MergeFwdRefIdeal.nD Cert.MergeFwdRefIdeal.τ).loc Cert.MergeFwdRefIdeal.main_arg6))

def preserves_HgrnFwd_HgrnFwdIdeal : Prop :=
  True

def algebraic_HgrnFwdIdeal_HgrnFwdRefIdeal_pre_hgrn_fwd_finite [hHgrnFwdIdeal : Cert.HgrnFwdIdeal.Facts] [hHgrnFwdRefIdeal : Cert.HgrnFwdRefIdeal.Facts] [hPre_hgrn_fwd_finite : Cert.Pre_hgrn_fwd_finite.Facts] : Prop :=
  ∀ (m : (ℓ : Loc Cert.HgrnFwdIdeal.nD Cert.HgrnFwdIdeal.τ Cert.HgrnFwdIdeal.sig) → Buf (Elt Ideal) ℓ) (g : Dev Cert.HgrnFwdIdeal.nD → PrngReg)
    (m' : (ℓ : Loc Cert.HgrnFwdRefIdeal.nD Cert.HgrnFwdRefIdeal.τ Cert.HgrnFwdRefIdeal.sig) → Buf (Elt Ideal) ℓ) (g' : Dev Cert.HgrnFwdRefIdeal.nD → PrngReg), Pre_HgrnFwdIdeal_hgrn_fwd_finite m →
    (∀ c : Dev Cert.HgrnFwdIdeal.nD,
      m' ((c.tc : Thread Cert.HgrnFwdRefIdeal.nD Cert.HgrnFwdRefIdeal.τ).loc Cert.HgrnFwdRefIdeal.main_arg0) = m ((c.tc : Thread Cert.HgrnFwdIdeal.nD Cert.HgrnFwdIdeal.τ).loc Cert.HgrnFwdIdeal.main_arg0)
      ∧ m' ((c.tc : Thread Cert.HgrnFwdRefIdeal.nD Cert.HgrnFwdRefIdeal.τ).loc Cert.HgrnFwdRefIdeal.main_arg1) = m ((c.tc : Thread Cert.HgrnFwdIdeal.nD Cert.HgrnFwdIdeal.τ).loc Cert.HgrnFwdIdeal.main_arg1)
      ∧ m' ((c.tc : Thread Cert.HgrnFwdRefIdeal.nD Cert.HgrnFwdRefIdeal.τ).loc Cert.HgrnFwdRefIdeal.main_arg2) = m ((c.tc : Thread Cert.HgrnFwdIdeal.nD Cert.HgrnFwdIdeal.τ).loc Cert.HgrnFwdIdeal.main_arg2)) →
    ∃ (v0 : (c : Dev Cert.HgrnFwdIdeal.nD) → Buf (Elt Ideal) ((c.tc : Thread Cert.HgrnFwdIdeal.nD Cert.HgrnFwdIdeal.τ).loc Cert.HgrnFwdIdeal.main_v0_0)) (v1 : (c : Dev Cert.HgrnFwdIdeal.nD) → Buf (Elt Ideal) ((c.tc : Thread Cert.HgrnFwdIdeal.nD Cert.HgrnFwdIdeal.τ).loc Cert.HgrnFwdIdeal.main_v0_1)),
      θ_run (Cert.HgrnFwdIdeal.defs (F := Ideal)) (onTc (τ := Cert.HgrnFwdIdeal.τ) (Cert.HgrnFwdIdeal.main (F := Ideal))) ⟨m, fun _ => 0, g⟩ (fun r => ∀ c : Dev Cert.HgrnFwdIdeal.nD,
          r.2.mem ((c.tc : Thread Cert.HgrnFwdIdeal.nD Cert.HgrnFwdIdeal.τ).loc Cert.HgrnFwdIdeal.main_v0_0) = v0 c
          ∧ r.2.mem ((c.tc : Thread Cert.HgrnFwdIdeal.nD Cert.HgrnFwdIdeal.τ).loc Cert.HgrnFwdIdeal.main_v0_1) = v1 c
          ∧ r.2.mem ((c.tc : Thread Cert.HgrnFwdIdeal.nD Cert.HgrnFwdIdeal.τ).loc Cert.HgrnFwdIdeal.main_arg0) = m ((c.tc : Thread Cert.HgrnFwdIdeal.nD Cert.HgrnFwdIdeal.τ).loc Cert.HgrnFwdIdeal.main_arg0)
          ∧ r.2.mem ((c.tc : Thread Cert.HgrnFwdIdeal.nD Cert.HgrnFwdIdeal.τ).loc Cert.HgrnFwdIdeal.main_arg1) = m ((c.tc : Thread Cert.HgrnFwdIdeal.nD Cert.HgrnFwdIdeal.τ).loc Cert.HgrnFwdIdeal.main_arg1)
          ∧ r.2.mem ((c.tc : Thread Cert.HgrnFwdIdeal.nD Cert.HgrnFwdIdeal.τ).loc Cert.HgrnFwdIdeal.main_arg2) = m ((c.tc : Thread Cert.HgrnFwdIdeal.nD Cert.HgrnFwdIdeal.τ).loc Cert.HgrnFwdIdeal.main_arg2))
      ∧ θ_run (Cert.HgrnFwdRefIdeal.defs (F := Ideal)) (onTc (τ := Cert.HgrnFwdRefIdeal.τ) (Cert.HgrnFwdRefIdeal.main (F := Ideal))) ⟨m', fun _ => 0, g'⟩ (fun r => ∀ c : Dev Cert.HgrnFwdRefIdeal.nD,
          r.2.mem ((c.tc : Thread Cert.HgrnFwdRefIdeal.nD Cert.HgrnFwdRefIdeal.τ).loc Cert.HgrnFwdRefIdeal.main_v96) = v0 c
          ∧ r.2.mem ((c.tc : Thread Cert.HgrnFwdRefIdeal.nD Cert.HgrnFwdRefIdeal.τ).loc Cert.HgrnFwdRefIdeal.main_v98) = v1 c
          ∧ r.2.mem ((c.tc : Thread Cert.HgrnFwdRefIdeal.nD Cert.HgrnFwdRefIdeal.τ).loc Cert.HgrnFwdRefIdeal.main_arg0) = m' ((c.tc : Thread Cert.HgrnFwdRefIdeal.nD Cert.HgrnFwdRefIdeal.τ).loc Cert.HgrnFwdRefIdeal.main_arg0)
          ∧ r.2.mem ((c.tc : Thread Cert.HgrnFwdRefIdeal.nD Cert.HgrnFwdRefIdeal.τ).loc Cert.HgrnFwdRefIdeal.main_arg1) = m' ((c.tc : Thread Cert.HgrnFwdRefIdeal.nD Cert.HgrnFwdRefIdeal.τ).loc Cert.HgrnFwdRefIdeal.main_arg1)
          ∧ r.2.mem ((c.tc : Thread Cert.HgrnFwdRefIdeal.nD Cert.HgrnFwdRefIdeal.τ).loc Cert.HgrnFwdRefIdeal.main_arg2) = m' ((c.tc : Thread Cert.HgrnFwdRefIdeal.nD Cert.HgrnFwdRefIdeal.τ).loc Cert.HgrnFwdRefIdeal.main_arg2))

def Claim : Prop :=
  ∃ (hMergeBwd : Cert.MergeBwd.Facts) (hMergeBwdIdeal : Cert.MergeBwdIdeal.Facts) (hMergeBwdRefIdeal : Cert.MergeBwdRefIdeal.Facts) (hGmlpBwd : Cert.GmlpBwd.Facts) (hGmlpBwdIdeal : Cert.GmlpBwdIdeal.Facts) (hGmlpBwdRefIdeal : Cert.GmlpBwdRefIdeal.Facts) (hProjBwd : Cert.ProjBwd.Facts) (hProjBwdIdeal : Cert.ProjBwdIdeal.Facts) (hProjBwdRefIdeal : Cert.ProjBwdRefIdeal.Facts) (hFfn : Cert.Ffn.Facts) (hFfnIdeal : Cert.FfnIdeal.Facts) (hFfnRefIdeal : Cert.FfnRefIdeal.Facts) (hGmlpFwd : Cert.GmlpFwd.Facts) (hGmlpFwdIdeal : Cert.GmlpFwdIdeal.Facts) (hGmlpFwdRefIdeal : Cert.GmlpFwdRefIdeal.Facts) (hMergeFwd : Cert.MergeFwd.Facts) (hMergeFwdIdeal : Cert.MergeFwdIdeal.Facts) (hMergeFwdRefIdeal : Cert.MergeFwdRefIdeal.Facts) (hHgrnFwd : Cert.HgrnFwd.Facts) (hHgrnFwdIdeal : Cert.HgrnFwdIdeal.Facts) (hHgrnFwdRefIdeal : Cert.HgrnFwdRefIdeal.Facts) (hPre_gmlp_bwd_finite : Cert.Pre_gmlp_bwd_finite.Facts) (hPre_proj_bwd_finite : Cert.Pre_proj_bwd_finite.Facts) (hPre_ffn_finite : Cert.Pre_ffn_finite.Facts) (hPre_hgrn_fwd_finite : Cert.Pre_hgrn_fwd_finite.Facts),
    quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_GmlpBwd (hGmlpBwd := hGmlpBwd)
    ∧ quiescent_GmlpBwdIdeal (hGmlpBwdIdeal := hGmlpBwdIdeal)
    ∧ quiescent_GmlpBwdIdeal_pre_gmlp_bwd_finite (hGmlpBwdIdeal := hGmlpBwdIdeal) (hPre_gmlp_bwd_finite := hPre_gmlp_bwd_finite)
    ∧ quiescent_GmlpBwdRefIdeal (hGmlpBwdRefIdeal := hGmlpBwdRefIdeal)
    ∧ quiescent_GmlpBwdRefIdeal_pre_gmlp_bwd_finite (hGmlpBwdRefIdeal := hGmlpBwdRefIdeal) (hPre_gmlp_bwd_finite := hPre_gmlp_bwd_finite)
    ∧ quiescent_ProjBwd (hProjBwd := hProjBwd)
    ∧ quiescent_ProjBwdIdeal (hProjBwdIdeal := hProjBwdIdeal)
    ∧ quiescent_ProjBwdIdeal_pre_proj_bwd_finite (hProjBwdIdeal := hProjBwdIdeal) (hPre_proj_bwd_finite := hPre_proj_bwd_finite)
    ∧ quiescent_ProjBwdRefIdeal (hProjBwdRefIdeal := hProjBwdRefIdeal)
    ∧ quiescent_ProjBwdRefIdeal_pre_proj_bwd_finite (hProjBwdRefIdeal := hProjBwdRefIdeal) (hPre_proj_bwd_finite := hPre_proj_bwd_finite)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_GmlpFwd (hGmlpFwd := hGmlpFwd)
    ∧ quiescent_GmlpFwdIdeal (hGmlpFwdIdeal := hGmlpFwdIdeal)
    ∧ quiescent_GmlpFwdRefIdeal (hGmlpFwdRefIdeal := hGmlpFwdRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_HgrnFwd (hHgrnFwd := hHgrnFwd)
    ∧ quiescent_HgrnFwdIdeal (hHgrnFwdIdeal := hHgrnFwdIdeal)
    ∧ quiescent_HgrnFwdIdeal_pre_hgrn_fwd_finite (hHgrnFwdIdeal := hHgrnFwdIdeal) (hPre_hgrn_fwd_finite := hPre_hgrn_fwd_finite)
    ∧ quiescent_HgrnFwdRefIdeal (hHgrnFwdRefIdeal := hHgrnFwdRefIdeal)
    ∧ quiescent_HgrnFwdRefIdeal_pre_hgrn_fwd_finite (hHgrnFwdRefIdeal := hHgrnFwdRefIdeal) (hPre_hgrn_fwd_finite := hPre_hgrn_fwd_finite)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_GmlpBwd_GmlpBwdIdeal
    ∧ algebraic_GmlpBwdIdeal_GmlpBwdRefIdeal_pre_gmlp_bwd_finite (hGmlpBwdIdeal := hGmlpBwdIdeal) (hGmlpBwdRefIdeal := hGmlpBwdRefIdeal) (hPre_gmlp_bwd_finite := hPre_gmlp_bwd_finite)
    ∧ preserves_ProjBwd_ProjBwdIdeal
    ∧ algebraic_ProjBwdIdeal_ProjBwdRefIdeal_pre_proj_bwd_finite (hProjBwdIdeal := hProjBwdIdeal) (hProjBwdRefIdeal := hProjBwdRefIdeal) (hPre_proj_bwd_finite := hPre_proj_bwd_finite)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_GmlpFwd_GmlpFwdIdeal
    ∧ algebraic_GmlpFwdIdeal_GmlpFwdRefIdeal (hGmlpFwdIdeal := hGmlpFwdIdeal) (hGmlpFwdRefIdeal := hGmlpFwdRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_HgrnFwd_HgrnFwdIdeal
    ∧ algebraic_HgrnFwdIdeal_HgrnFwdRefIdeal_pre_hgrn_fwd_finite (hHgrnFwdIdeal := hHgrnFwdIdeal) (hHgrnFwdRefIdeal := hHgrnFwdRefIdeal) (hPre_hgrn_fwd_finite := hPre_hgrn_fwd_finite)
-- ==== Pre_ffn_finite.lean ====
abbrev S4096x1024 : Shape := ⟨2, ![4096, 1024]⟩
abbrev S1x1024 : Shape := ⟨2, ![1, 1024]⟩
abbrev S1024 : Shape := ⟨1, ![1024]⟩
abbrev S2x1024x2816 : Shape := ⟨3, ![2, 1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024 : S_.BroadcastsInDim S1024 (![] : Fin 0 → Fin S1024.rank)
  reducesTo_S1024_S_d0 : S1024.ReducesTo [0] S_
  bitsLt_bf16_f32 : FTy.bits .bf16 < FTy.bits .f32
  bcast_S_S2x1024x2816 : S_.BroadcastsInDim S2x1024x2816 (![] : Fin 0 → Fin S2x1024x2816.rank)
  reducesTo_S2x1024x2816_S_d0_1_2 : S2x1024x2816.ReducesTo [0, 1, 2] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2x1024x2816 .bf16) (main_arg5 : FVec F S2816x1024 .bf16) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S2x1024x2816 .f32 := (extf .f32 · bitsLt_bf16_f32) main_arg4
  let main_v20 : FVec F S2x1024x2816 .f32 := Host.absf main_v19
  let main_cst_6 : FVec F S_ .f32 := constant S_ .f32 0x7F800000#32
  let main_v21 : FVec F S2x1024x2816 .f32 := broadcastInDim S2x1024x2816 ![] bcast_S_S2x1024x2816 main_cst_6
  let main_v22 : IVec S2x1024x2816 1 := cmpf .olt main_v20 main_v21
  let main_c_7 : IVec S_ 1 := constantI S_ 1 1#1
  let main_v23 : IVec S_ 1 := (fun x v => Host.reduce IntOp.andi x v reducesTo_S2x1024x2816_S_d0_1_2 h_S_) main_v22 main_c_7
  let main_v24 : IVec S_ 1 := andi main_v18 main_v23
  let main_v25 : FVec F S2816x1024 .f32 := (extf .f32 · bitsLt_bf16_f32) main_arg5
  let main_v26 : FVec F S2816x1024 .f32 := Host.absf main_v25
  let main_cst_8 : FVec F S_ .f32 := constant S_ .f32 0x7F800000#32
  let main_v27 : FVec F S2816x1024 .f32 := broadcastInDim S2816x1024 ![] bcast_S_S2816x1024 main_cst_8
  let main_v28 : IVec S2816x1024 1 := cmpf .olt main_v26 main_v27
  let main_c_9 : IVec S_ 1 := constantI S_ 1 1#1
  let main_v29 : IVec S_ 1 := (fun x v => Host.reduce IntOp.andi x v reducesTo_S2816x1024_S_d0_1 h_S_) main_v28 main_c_9
  let main_v30 : IVec S_ 1 := andi main_v24 main_v29
  main_v30

def fn {F : FTy → Type} [FloatOps F] (main_arg0 : FVec F S4096x1024 .f32) (main_arg1 : FVec F S4096x1024 .f32) (main_arg2 : FVec F S1x1024 .f32) (main_arg3 : FVec F S1024 .f32) (main_arg4 : FVec F S2x1024x2816 .bf16) (main_arg5 : FVec F S2816x1024 .bf16) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Pre_gmlp_bwd_finite.lean ====
abbrev S8x4096x1024 : Shape := ⟨3, ![8, 4096, 1024]⟩
abbrev S4096x1024 : Shape := ⟨2, ![4096, 1024]⟩
abbrev S1x1024 : Shape := ⟨2, ![1, 1024]⟩
abbrev S1x8x128x128 : Shape := ⟨4, ![1, 8, 128, 128]⟩
abbrev S1x8x128 : Shape := ⟨3, ![1, 8, 128]⟩
abbrev S1024x1024 : Shape := ⟨2, ![1024, 1024]⟩
abbrev S_ : Shape := ⟨0, ![]⟩
abbrev S2x4096x1024 : Shape := ⟨3, ![2, 4096, 1024]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  slices_S8x4096x1024_S2x4096x1024_0_0_0 : S8x4096x1024.Slices ![0, 0, 0] S2x4096x1024
  bcast_S_S2x4096x1024 : S_.BroadcastsInDim S2x4096x1024 (![] : Fin 0 → Fin S2x4096x1024.rank)
  reducesTo_S2x4096x1024_S_d0_1_2 : S2x4096x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1x8x128x128 : S_.BroadcastsInDim S1x8x128x128 (![] : Fin 0 → Fin S1x8x128x128.rank)
  reducesTo_S1x8x128x128_S_d0_1_2_3 : S1x8x128x128.ReducesTo [0, 1, 2, 3] S_
  bcast_S_S1x8x128 : S_.BroadcastsInDim S1x8x128 (![] : Fin 0 → Fin S1x8x128.rank)
  reducesTo_S1x8x128_S_d0_1_2 : S1x8x128.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_v30 : IVec S_ 1) (main_v34 : IVec S1024x1024 1) : IVec S_ 1 :=
  let main_c_11 : IVec S_ 1 := constantI S_ 1 1#1
  let main_v35 : IVec S_ 1 := (fun x v => Host.reduce IntOp.andi x v reducesTo_S1024x1024_S_d0_1 h_S_) main_v34 main_c_11
  let main_v36 : IVec S_ 1 := andi main_v30 main_v35
  main_v36

def fn_part1 {F : FTy → Type} [FloatOps F] (main_arg5 : FVec F S1x8x128x128 .f32) (main_arg6 : FVec F S1x8x128 .f32) (main_arg7 : FVec F S1024x1024 .bf16) (main_v15 : IVec S_ 1) (main_v16 : FVec F S1x1024 .f32) (main_cst_4 : FVec F S_ .f32) : IVec S_ 1 :=
  let main_v17 : FVec F S1x1024 .f32 := broadcastInDim S1x1024 ![] bcast_S_S1x1024 main_cst_4
  let main_v18 : IVec S1x1024 1 := cmpf .olt main_v16 main_v17
  let main_c_5 : IVec S_ 1 := constantI S_ 1 1#1
  let main_v19 : IVec S_ 1 := (fun x v => Host.reduce IntOp.andi x v reducesTo_S1x1024_S_d0_1 h_S_) main_v18 main_c_5
  let main_v20 : IVec S_ 1 := andi main_v15 main_v19
  let main_v21 : FVec F S1x8x128x128 .f32 := Host.absf main_arg5
  let main_cst_6 : FVec F S_ .f32 := constant S_ .f32 0x7F800000#32
  let main_v22 : FVec F S1x8x128x128 .f32 := broadcastInDim S1x8x128x128 ![] bcast_S_S1x8x128x128 main_cst_6
  let main_v23 : IVec S1x8x128x128 1 := cmpf .olt main_v21 main_v22
  let main_c_7 : IVec S_ 1 := constantI S_ 1 1#1
  let main_v24 : IVec S_ 1 := (fun x v => Host.reduce IntOp.andi x v reducesTo_S1x8x128x128_S_d0_1_2_3 h_S_) main_v23 main_c_7
  let main_v25 : IVec S_ 1 := andi main_v20 main_v24
  let main_v26 : FVec F S1x8x128 .f32 := Host.absf main_arg6
  let main_cst_8 : FVec F S_ .f32 := constant S_ .f32 0x7F800000#32
  let main_v27 : FVec F S1x8x128 .f32 := broadcastInDim S1x8x128 ![] bcast_S_S1x8x128 main_cst_8
  let main_v28 : IVec S1x8x128 1 := cmpf .olt main_v26 main_v27
  let main_c_9 : IVec S_ 1 := constantI S_ 1 1#1
  let main_v29 : IVec S_ 1 := (fun x v => Host.reduce IntOp.andi x v reducesTo_S1x8x128_S_d0_1_2 h_S_) main_v28 main_c_9
  let main_v30 : IVec S_ 1 := andi main_v25 main_v29
  let main_v31 : FVec F S1024x1024 .f32 := (extf .f32 · bitsLt_bf16_f32) main_arg7
  let main_v32 : FVec F S1024x1024 .f32 := Host.absf main_v31
  let main_cst_10 : FVec F S_ .f32 := constant S_ .f32 0x7F800000#32
  let main_v33 : FVec F S1024x1024 .f32 := broadcastInDim S1024x1024 ![] bcast_S_S1024x1024 main_cst_10
  let main_v34 : IVec S1024x1024 1 := cmpf .olt main_v32 main_v33
  fn_part2 (F := F) main_v30 main_v34

def fn {F : FTy → Type} [FloatOps F] (main_arg0 : FVec F S8x4096x1024 .bf16) (main_arg1 : FVec F S4096x1024 .bf16) (main_arg2 : FVec F S8x4096x1024 .f32) (main_arg3 : FVec F S1x1024 .f32) (main_arg4 : FVec F S1x1024 .f32) (main_arg5 : FVec F S1x8x128x128 .f32) (main_arg6 : FVec F S1x8x128 .f32) (main_arg7 : FVec F S1024x1024 .bf16) : IVec S_ 1 :=
  let main_v0 : FVec F S4096x1024 .f32 := (extf .f32 · bitsLt_bf16_f32) main_arg1
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S2x4096x1024 .f32 := (extractStridedSlice S2x4096x1024 ![0, 0, 0] · slices_S8x4096x1024_S2x4096x1024_0_0_0) main_arg2
  let main_v6 : FVec F S2x4096x1024 .f32 := Host.absf main_v5
  let main_cst_0 : FVec F S_ .f32 := constant S_ .f32 0x7F800000#32
  let main_v7 : FVec F S2x4096x1024 .f32 := broadcastInDim S2x4096x1024 ![] bcast_S_S2x4096x1024 main_cst_0
  let main_v8 : IVec S2x4096x1024 1 := cmpf .olt main_v6 main_v7
  let main_c_1 : IVec S_ 1 := constantI S_ 1 1#1
  let main_v9 : IVec S_ 1 := (fun x v => Host.reduce IntOp.andi x v reducesTo_S2x4096x1024_S_d0_1_2 h_S_) main_v8 main_c_1
  let main_v10 : IVec S_ 1 := andi main_v4 main_v9
  let main_v11 : FVec F S1x1024 .f32 := Host.absf main_arg3
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  let main_c_3 : IVec S_ 1 := constantI S_ 1 1#1
  let main_v14 : IVec S_ 1 := (fun x v => Host.reduce IntOp.andi x v reducesTo_S1x1024_S_d0_1 h_S_) main_v13 main_c_3
  let main_v15 : IVec S_ 1 := andi main_v10 main_v14
  let main_v16 : FVec F S1x1024 .f32 := Host.absf main_arg4
  let main_cst_4 : FVec F S_ .f32 := constant S_ .f32 0x7F800000#32
  fn_part1 (F := F) main_arg5 main_arg6 main_arg7 main_v15 main_v16 main_cst_4
-- ==== Pre_hgrn_fwd_finite.lean ====
abbrev S8x4096x1024 : Shape := ⟨3, ![8, 4096, 1024]⟩
abbrev S2x1024 : Shape := ⟨2, ![2, 1024]⟩
abbrev S1x1024 : Shape := ⟨2, ![1, 1024]⟩
abbrev S_ : Shape := ⟨0, ![]⟩

class Facts : Prop where
  bcast_S_S2x1024 : S_.BroadcastsInDim S2x1024 (![] : Fin 0 → Fin S2x1024.rank)
  reducesTo_S2x1024_S_d0_1 : S2x1024.ReducesTo [0, 1] S_
  h_S_ : 0 < S_.numel

variable [Facts]

def fn {F : FTy → Type} [FloatOps F] (main_arg0 : FVec F S8x4096x1024 .f32) (main_arg1 : FVec F S2x1024 .f32) (main_arg2 : FVec F S1x1024 .f32) : IVec S_ 1 :=
  let main_v0 : FVec F S2x1024 .f32 := Host.absf main_arg1
  let main_cst : FVec F S_ .f32 := constant S_ .f32 0x7F800000#32
  let main_v1 : FVec F S2x1024 .f32 := broadcastInDim S2x1024 ![] bcast_S_S2x1024 main_cst
  let main_v2 : IVec S2x1024 1 := cmpf .olt main_v0 main_v1
  let main_c : IVec S_ 1 := constantI S_ 1 1#1
  let main_v3 : IVec S_ 1 := (fun x v => Host.reduce IntOp.andi x v reducesTo_S2x1024_S_d0_1 h_S_) main_v2 main_c
  main_v3
-- ==== Pre_proj_bwd_finite.lean ====
abbrev S8x4096x1024 : Shape := ⟨3, ![8, 4096, 1024]⟩
abbrev S4x1024x2048 : Shape := ⟨3, ![4, 1024, 2048]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S4x1024x2048 : S_.BroadcastsInDim S4x1024x2048 (![] : Fin 0 → Fin S4x1024x2048.rank)
  reducesTo_S4x1024x2048_S_d0_1_2 : S4x1024x2048.ReducesTo [0, 1, 2] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v15 : IVec S_ 1) (main_v16 : FVec F S1x1024 .f32) (main_cst_4 : FVec F S_ .f32) : IVec S_ 1 :=
  let main_v17 : FVec F S1x1024 .f32 := broadcastInDim S1x1024 ![] bcast_S_S1x1024 main_cst_4
  let main_v18 : IVec S1x1024 1 := cmpf .olt main_v16 main_v17
  let main_c_5 : IVec S_ 1 := constantI S_ 1 1#1
  let main_v19 : IVec S_ 1 := (fun x v => Host.reduce IntOp.andi x v reducesTo_S1x1024_S_d0_1 h_S_) main_v18 main_c_5
  let main_v20 : IVec S_ 1 := andi main_v15 main_v19
  main_v20

def fn {F : FTy → Type} [FloatOps F] (main_arg0 : FVec F S8x4096x1024 .bf16) (main_arg1 : FVec F S4x1024x2048 .bf16) (main_arg2 : FVec F S4096x1024 .f32) (main_arg3 : FVec F S4096x1024 .f32) (main_arg4 : FVec F S1x1024 .f32) : IVec S_ 1 :=
  let main_v0 : FVec F S8x4096x1024 .f32 := (extf .f32 · bitsLt_bf16_f32) main_arg0
  let main_v1 : FVec F S8x4096x1024 .f32 := Host.absf main_v0
  let main_cst : FVec F S_ .f32 := constant S_ .f32 0x7F800000#32
  let main_v2 : FVec F S8x4096x1024 .f32 := broadcastInDim S8x4096x1024 ![] bcast_S_S8x4096x1024 main_cst
  let main_v3 : IVec S8x4096x1024 1 := cmpf .olt main_v1 main_v2
  let main_c : IVec S_ 1 := constantI S_ 1 1#1
  let main_v4 : IVec S_ 1 := (fun x v => Host.reduce IntOp.andi x v reducesTo_S8x4096x1024_S_d0_1_2 h_S_) main_v3 main_c
  let main_v5 : FVec F S4x1024x2048 .f32 := (extf .f32 · bitsLt_bf16_f32) main_arg1
  let main_v6 : FVec F S4x1024x2048 .f32 := Host.absf main_v5
  let main_cst_0 : FVec F S_ .f32 := constant S_ .f32 0x7F800000#32
  let main_v7 : FVec F S4x1024x2048 .f32 := broadcastInDim S4x1024x2048 ![] bcast_S_S4x1024x2048 main_cst_0
  let main_v8 : IVec S4x1024x2048 1 := cmpf .olt main_v6 main_v7
  let main_c_1 : IVec S_ 1 := constantI S_ 1 1#1
  let main_v9 : IVec S_ 1 := (fun x v => Host.reduce IntOp.andi x v reducesTo_S4x1024x2048_S_d0_1_2 h_S_) main_v8 main_c_1
  let main_v10 : IVec S_ 1 := andi main_v4 main_v9
  let main_v11 : FVec F S4096x1024 .f32 := Host.absf main_arg2
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S_ 1 := andi main_v10 main_v14
  let main_v16 : FVec F S1x1024 .f32 := Host.absf main_arg4
  let main_cst_4 : FVec F S_ .f32 := constant S_ .f32 0x7F800000#32
  fn_part1 (F := F) main_v15 main_v16 main_cst_4
-- ==== MergeBwd.lean ====
abbrev S4096x1024 : Shape := ⟨2, ![4096, 1024]⟩
abbrev S8x4096x1024 : Shape := ⟨3, ![8, 4096, 1024]⟩
abbrev S1024x1024 : Shape := ⟨2, ![1024, 1024]⟩
abbrev S512x1024 : Shape := ⟨2, ![512, 1024]⟩
abbrev S1x512x1024 : Shape := ⟨3, ![1, 512, 1024]⟩
abbrev S2x512x1024 : Shape := ⟨3, ![2, 512, 1024]⟩
abbrev S2x4096x1024 : Shape := ⟨3, ![2, 4096, 1024]⟩

abbrev nBuf : Space → Nat
  | .hbm => 11
  | .vmem => 19
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S8x4096x1024, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S4096x1024, .bf16⟩
  | .hbm, ⟨8, _⟩ => ⟨S4096x1024, .bf16⟩
  | .hbm, ⟨9, _⟩ => ⟨S8x4096x1024, .bf16⟩
  | .hbm, ⟨10, _⟩ => ⟨S2x4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S2x512x1024, .bf16⟩
  | .local _ .vmem, ⟨18, _⟩ => ⟨S2x512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_4 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeBwdRefIdeal.lean ====
abbrev S4096x1024 : Shape := ⟨2, ![4096, 1024]⟩
abbrev S8x4096x1024 : Shape := ⟨3, ![8, 4096, 1024]⟩
abbrev S1024x1024 : Shape := ⟨2, ![1024, 1024]⟩
abbrev S1x4096x1024 : Shape := ⟨3, ![1, 4096, 1024]⟩
abbrev S_ : Shape := ⟨0, ![]⟩
abbrev S2x4096x1024 : Shape := ⟨3, ![2, 4096, 1024]⟩

abbrev nBuf : Space → Nat
  | .hbm => 61
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S8x4096x1024, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S1x4096x1024, .bf16⟩
  | .hbm, ⟨8, _⟩ => ⟨S1x4096x1024, .f32⟩
  | .hbm, ⟨9, _⟩ => ⟨S1024x1024, .f32⟩
  | .hbm, ⟨10, _⟩ => ⟨S1x4096x1024, .f32⟩
  | .hbm, ⟨11, _⟩ => ⟨S1x4096x1024, .bf16⟩
  | .hbm, ⟨12, _⟩ => ⟨S1x4096x1024, .f32⟩
  | .hbm, ⟨13, _⟩ => ⟨S1024x1024, .f32⟩
  | .hbm, ⟨14, _⟩ => ⟨S1x4096x1024, .f32⟩
  | .hbm, ⟨15, _⟩ => ⟨S1x4096x1024, .f32⟩
  | .hbm, ⟨16, _⟩ => ⟨S1x4096x1024, .f32⟩
  | .hbm, ⟨17, _⟩ => ⟨S1024x1024, .f32⟩
  | .hbm, ⟨18, _⟩ => ⟨S1x4096x1024, .f32⟩
  | .hbm, ⟨19, _⟩ => ⟨S1x4096x1024, .f32⟩
  | .hbm, ⟨20, _⟩ => ⟨S_, .f32⟩
  | .hbm, ⟨21, _⟩ => ⟨S1x4096x1024, .f32⟩
  | .hbm, ⟨22, _⟩ => ⟨S1x4096x1024, .f32⟩
  | .hbm, ⟨23, _⟩ => ⟨S_, .f32⟩
  | .hbm, ⟨24, _⟩ => ⟨S1x4096x1024, .f32⟩
  | .hbm, ⟨25, _⟩ => ⟨S1x4096x1024, .f32⟩
  | .hbm, ⟨26, _⟩ => ⟨S_, .f32⟩
  | .hbm, ⟨27, _⟩ => ⟨S1x4096x1024, .f32⟩
  | .hbm, ⟨28, _⟩ => ⟨S1x4096x1024, .f32⟩
  | .hbm, ⟨29, _⟩ => ⟨S1x4096x1024, .f32⟩
  | .hbm, ⟨30, _⟩ => ⟨S1x4096x1024, .f32⟩
  | .hbm, ⟨31, _⟩ => ⟨S1x4096x1024, .f32⟩
  | .hbm, ⟨32, _⟩ => ⟨S1x4096x1024, .f32⟩
  | .hbm, ⟨33, _⟩ => ⟨S_, .f32⟩
  | .hbm, ⟨34, _⟩ => ⟨S1x4096x1024, .f32⟩
  | .hbm, ⟨35, _⟩ => ⟨S1x4096x1024, .f32⟩
  | .hbm, ⟨36, _⟩ => ⟨S_, .f32⟩
  | .hbm, ⟨37, _⟩ => ⟨S1x4096x1024, .f32⟩
  | .hbm, ⟨38, _⟩ => ⟨S1x4096x1024, .f32⟩
  | .hbm, ⟨39, _⟩ => ⟨S_, .f32⟩
  | .hbm, ⟨40, _⟩ => ⟨S1x4096x1024, .f32⟩
  | .hbm, ⟨41, _⟩ => ⟨S1x4096x1024, .f32⟩
  | .hbm, ⟨42, _⟩ => ⟨S1x4096x1024, .f32⟩
  | .hbm, ⟨43, _⟩ => ⟨S1x4096x1024, .f32⟩
  | .hbm, ⟨44, _⟩ => ⟨S1x4096x1024, .f32⟩
  | .hbm, ⟨45, _⟩ => ⟨S1x4096x1024, .f32⟩
  | .hbm, ⟨46, _⟩ => ⟨S1x4096x1024, .bf16⟩
  | .hbm, ⟨47, _⟩ => ⟨S1x4096x1024, .f32⟩
  | .hbm, ⟨48, _⟩ => ⟨S1x4096x1024, .f32⟩
  | .hbm, ⟨49, _⟩ => ⟨S1x4096x1024, .f32⟩
  | .hbm, ⟨50, _⟩ => ⟨S1x4096x1024, .f32⟩
  | .hbm, ⟨51, _⟩ => ⟨S1x4096x1024, .f32⟩
  | .hbm, ⟨52, _⟩ => ⟨S1x4096x1024, .f32⟩
  | .hbm, ⟨53, _⟩ => ⟨S1x4096x1024, .f32⟩
  | .hbm, ⟨54, _⟩ => ⟨S1x4096x1024, .f32⟩
  | .hbm, ⟨55, _⟩ => ⟨S4096x1024, .f32⟩
  | .hbm, ⟨56, _⟩ => ⟨S4096x1024, .bf16⟩
  | .hbm, ⟨57, _⟩ => ⟨S4096x1024, .f32⟩
  | .hbm, ⟨58, _⟩ => ⟨S4096x1024, .bf16⟩
  | .hbm, ⟨59, _⟩ => ⟨S2x4096x1024, .f32⟩
  | .hbm, ⟨60, _⟩ => ⟨S2x4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩

abbrev nD : Nat := 1
abbrev τ : Topo := Topo.v7x

variable {F : FTy → Type} [FloatOps F]
-- ==== GmlpBwd.lean ====
abbrev S8x4096x1024 : Shape := ⟨3, ![8, 4096, 1024]⟩
abbrev S4096x1024 : Shape := ⟨2, ![4096, 1024]⟩
abbrev S1x1024 : Shape := ⟨2, ![1, 1024]⟩
abbrev S1x8x128x128 : Shape := ⟨4, ![1, 8, 128, 128]⟩
abbrev S1x8x128 : Shape := ⟨3, ![1, 8, 128]⟩
abbrev S1024x1024 : Shape := ⟨2, ![1024, 1024]⟩
abbrev S_ : Shape := ⟨0, ![]⟩
abbrev S128x128 : Shape := ⟨2, ![128, 128]⟩
abbrev S8x128x128 : Shape := ⟨3, ![8, 128, 128]⟩
abbrev S8x128 : Shape := ⟨2, ![8, 128]⟩
abbrev S128x8 : Shape := ⟨2, ![128, 8]⟩
abbrev S2x8x1024 : Shape := ⟨3, ![2, 8, 1024]⟩
abbrev S128x1024 : Shape := ⟨2, ![128, 1024]⟩
abbrev S256x1024 : Shape := ⟨2, ![256, 1024]⟩
abbrev S1x256x1024 : Shape := ⟨3, ![1, 256, 1024]⟩
abbrev S2x256x1024 : Shape := ⟨3, ![2, 256, 1024]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S1x128x128 : Shape := ⟨3, ![1, 128, 128]⟩
abbrev S128x1 : Shape := ⟨2, ![128, 1]⟩
abbrev S1x8x1024 : Shape := ⟨3, ![1, 8, 1024]⟩
abbrev S8x1024 : Shape := ⟨2, ![8, 1024]⟩
abbrev S32x8x1024 : Shape := ⟨3, ![32, 8, 1024]⟩
abbrev S128x1x128 : Shape := ⟨3, ![128, 1, 128]⟩
abbrev S128x8x128 : Shape := ⟨3, ![128, 8, 128]⟩
abbrev S1024 : Shape := ⟨1, ![1024]⟩

abbrev nBuf : Space → Nat
  | .hbm => 53
  | .vmem => 19
  | .smem => 0
  | _ => 0

abbrev bufTy : (tb : Table) → Fin (tcTables nBuf tb) → BufTy
  | .hbm, ⟨0, _⟩ => ⟨S8x4096x1024, .bf16⟩
  | .hbm, ⟨1, _⟩ => ⟨S4096x1024, .bf16⟩
  | .hbm, ⟨2, _⟩ => ⟨S8x4096x1024, .f32⟩
  | .hbm, ⟨3, _⟩ => ⟨S1x1024, .f32⟩
  | .hbm, ⟨4, _⟩ => ⟨S1x1024, .f32⟩
  | .hbm, ⟨5, _⟩ => ⟨S1x8x128x128, .f32⟩
  | .hbm, ⟨6, _⟩ => ⟨S1x8x128, .f32⟩
  | .hbm, ⟨7, _⟩ => ⟨S1024x1024, .bf16⟩
  | .hbm, ⟨8, _⟩ => ⟨S_, .i1⟩
  | .hbm, ⟨9, _⟩ => ⟨S128x128, .i1⟩
  | .hbm, ⟨10, _⟩ => ⟨S128x128, .i32⟩
  | .hbm, ⟨11, _⟩ => ⟨S_, .i32⟩
  | .hbm, ⟨12, _⟩ => ⟨S128x128, .i32⟩
  | .hbm, ⟨13, _⟩ => ⟨S128x128, .i32⟩
  | .hbm, ⟨14, _⟩ => ⟨S128x128, .i32⟩
  | .hbm, ⟨15, _⟩ => ⟨S128x128, .i1⟩
  | .hbm, ⟨16, _⟩ => ⟨S_, .i1⟩
  | .hbm, ⟨17, _⟩ => ⟨S128x128, .i1⟩
  | .hbm, ⟨18, _⟩ => ⟨S128x128, .i1⟩
  | .hbm, ⟨19, _⟩ => ⟨S8x128x128, .f32⟩
  | .hbm, ⟨20, _⟩ => ⟨S_, .f32⟩
  | .hbm, ⟨21, _⟩ => ⟨S_, .f32⟩
  | .hbm, ⟨22, _⟩ => ⟨S8x128x128, .i1⟩
  | .hbm, ⟨23, _⟩ => ⟨S8x128x128, .f32⟩
  | .hbm, ⟨24, _⟩ => ⟨S8x128x128, .f32⟩
  | .hbm, ⟨25, _⟩ => ⟨S8x128x128, .bf16⟩
  | .hbm, ⟨26, _⟩ => ⟨S8x128x128, .bf16⟩
  | .hbm, ⟨27, _⟩ => ⟨S8x128, .f32⟩
  | .hbm, ⟨28, _⟩ => ⟨S128x8, .f32⟩
  | .hbm, ⟨29, _⟩ => ⟨S8x4096x1024, .bf16⟩
  | .hbm, ⟨30, _⟩ => ⟨S2x8x1024, .f32⟩
  | .hbm, ⟨31, _⟩ => ⟨S128x1024, .f32⟩
  | .hbm, ⟨32, _⟩ => ⟨S128x1024, .f32⟩
  | .hbm, ⟨33, _⟩ => ⟨S128x1x128, .i1⟩
  | .hbm, ⟨34, _⟩ => ⟨S128x8x128, .f32⟩
  | .hbm, ⟨35, _⟩ => ⟨S_, .f32⟩
  | .hbm, ⟨36, _⟩ => ⟨S_, .f32⟩
  | .hbm, ⟨37, _⟩ => ⟨S128x8x128, .i1⟩
  | .hbm, ⟨38, _⟩ => ⟨S128x8x128, .f32⟩
  | .hbm, ⟨39, _⟩ => ⟨S128x8x128, .f32⟩
  | .hbm, ⟨40, _⟩ => ⟨S8x128x128, .f32⟩
  | .hbm, ⟨41, _⟩ => ⟨S128x8x128, .f32⟩
  | .hbm, ⟨42, _⟩ => ⟨S_, .f32⟩
  | .hbm, ⟨43, _⟩ => ⟨S128x8, .f32⟩
  | .hbm, ⟨44, _⟩ => ⟨S8x128, .f32⟩
  | .hbm, ⟨45, _⟩ => ⟨S1x8x1024, .f32⟩
  | .hbm, ⟨46, _⟩ => ⟨S8x1024, .f32⟩
  | .hbm, ⟨47, _⟩ => ⟨S_, .f32⟩
  | .hbm, ⟨48, _⟩ => ⟨S1024, .f32⟩
  | .hbm, ⟨49, _⟩ => ⟨S1x8x1024, .f32⟩
  | .hbm, ⟨50, _⟩ => ⟨S8x1024, .f32⟩
  | .hbm, ⟨51, _⟩ => ⟨S_, .f32⟩
  | .hbm, ⟨52, _⟩ => ⟨S1024, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x1024, .f32⟩
  | .local _ .vmem, ⟨8, _⟩ => ⟨S1x1024, .f32⟩
  | .local _ .vmem, ⟨9, _⟩ => ⟨S8x128x128, .bf16⟩
  | .local _ .vmem, ⟨10, _⟩ => ⟨S8x128x128, .bf16⟩
  | .local _ .vmem, ⟨11, _⟩ => ⟨S128x8, .f32⟩
  | .local _ .vmem, ⟨12, _⟩ => ⟨S2x256x1024, .bf16⟩
  | .local _ .vmem, ⟨13, _⟩ => ⟨S2x256x1024, .bf16⟩
  | .local _ .vmem, ⟨14, _⟩ => ⟨S2x8x1024, .f32⟩
  | .local _ .vmem, ⟨15, _⟩ => ⟨S128x1024, .f32⟩
  | .local _ .vmem, ⟨16, _⟩ => ⟨S128x1024, .f32⟩
  | .local _ .vmem, ⟨17, _⟩ => ⟨S256x1024, .f32⟩
  | .local _ .vmem, ⟨18, _⟩ => ⟨S256x1024, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_0 : Ref sig .tc := ⟨.hbm, 16, rfl⟩
abbrev main_call0_v5 : Ref sig .tc := ⟨.hbm, 17, rfl⟩
abbrev main_v1 : Ref sig .tc := ⟨.hbm, 18, rfl⟩
abbrev main_v2 : Ref sig .tc := ⟨.hbm, 19, rfl⟩
abbrev main_cst : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8_0 : Ref sig .tc := ⟨.hbm, 29, rfl⟩
abbrev main_v8_1 : Ref sig .tc := ⟨.hbm, 30, rfl⟩
abbrev main_v8_2 : Ref sig .tc := ⟨.hbm, 31, rfl⟩
abbrev main_v8_3 : Ref sig .tc := ⟨.hbm, 32, rfl⟩
abbrev main_v9 : Ref sig .tc := ⟨.hbm, 33, rfl⟩
abbrev main_v10 : Ref sig .tc := ⟨.hbm, 34, rfl⟩
abbrev main_cst_0 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_1 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_cst_2 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_cst_3 : Ref sig .tc := ⟨.hbm, 51, rfl⟩
abbrev main_v21 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem12_0 : DmaSem sig := 16

abbrev nD : Nat := 1
abbrev τ : Topo := Topo.v7x

variable {F : FTy → Type} [FloatOps F]

abbrev grid0 : Pipeline.Grid := ⟨1, ![16], ![false]⟩

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2x8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== GmlpBwdIdeal.lean ====
variable {F : FTy → Type} [FloatOps F] [Named F]
def κ : String → Option EReal := fun
  | "gelu_c1" => some ((8943 / 200000 : ℝ) : EReal)
  | "gelu_c1_times_3" => some ((26829 / 200000 : ℝ) : EReal)
  | _ => none
-- ==== GmlpBwdRefIdeal.lean ====
abbrev S8x4096x1024 : Shape := ⟨3, ![8, 4096, 1024]⟩
abbrev S4096x1024 : Shape := ⟨2, ![4096, 1024]⟩
abbrev S1x1024 : Shape := ⟨2, ![1, 1024]⟩
abbrev S1x8x128x128 : Shape := ⟨4, ![1, 8, 128, 128]⟩
abbrev S1x8x128 : Shape := ⟨3, ![1, 8, 128]⟩
abbrev S1024x1024 : Shape := ⟨2, ![1024, 1024]⟩
abbrev S1x4096x1024 : Shape := ⟨3, ![1, 4096, 1024]⟩
abbrev S1024 : Shape := ⟨1, ![1024]⟩
abbrev S8x128x128 : Shape := ⟨3, ![8, 128, 128]⟩
abbrev S8x128 : Shape := ⟨2, ![8, 128]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x32x128x8x128 : Shape := ⟨5, ![1, 32, 128, 8, 128]⟩
abbrev S128x128 : Shape := ⟨2, ![128, 128]⟩
abbrev S8x1x32x128x128 : Shape := ⟨5, ![8, 1, 32, 128, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S1x128x8 : Shape := ⟨3, ![1, 128, 8]⟩
abbrev S4096 : Shape := ⟨1, ![4096]⟩
abbrev S4x4096x1024 : Shape := ⟨3, ![4, 4096, 1024]⟩
abbrev S2x4096x1024 : Shape := ⟨3, ![2, 4096, 1024]⟩

abbrev nBuf : Space → Nat
  | .hbm => 241
  | .vmem => 0
  | .smem => 0
  | _ => 0

abbrev hbmTy0_0 (i : Nat) : BufTy := match i % 128 with
  | 0 => ⟨S8x4096x1024, .bf16⟩
  | 1 => ⟨S4096x1024, .bf16⟩
  | 2 => ⟨S8x4096x1024, .f32⟩
  | 3 => ⟨S1x1024, .f32⟩
  | 4 => ⟨S1x1024, .f32⟩
  | 5 => ⟨S1x8x128x128, .f32⟩
  | 6 => ⟨S1x8x128, .f32⟩
  | 7 => ⟨S1024x1024, .bf16⟩
  | 8 => ⟨S1x4096x1024, .f32⟩
  | 9 => ⟨S1x4096x1024, .f32⟩
  | 10 => ⟨S1024, .f32⟩
  | 11 => ⟨S1024, .f32⟩
  | 12 => ⟨S8x128x128, .f32⟩
  | 13 => ⟨S8x128, .f32⟩
  | 14 => ⟨S1024x1024, .f32⟩
  | 15 => ⟨S_, .f32⟩
  | 16 => ⟨S_, .f32⟩
  | 17 => ⟨S_, .f32⟩
  | 18 => ⟨S1x4096x1024, .f32⟩
  | 19 => ⟨S1x4096x1024, .f32⟩
  | 20 => ⟨S1x4096x1024, .f32⟩
  | 21 => ⟨S_, .f32⟩
  | 22 => ⟨S1x4096x1024, .f32⟩
  | 23 => ⟨S1x4096x1024, .f32⟩
  | 24 => ⟨S1x4096x1024, .f32⟩
  | 25 => ⟨S1x4096x1024, .f32⟩
  | 26 => ⟨S1x4096x1024, .f32⟩
  | 27 => ⟨S_, .f32⟩
  | 28 => ⟨S1x4096x1024, .f32⟩
  | 29 => ⟨S1x4096x1024, .f32⟩
  | 30 => ⟨S1x4096x1024, .f32⟩
  | 31 => ⟨S_, .f32⟩
  | 32 => ⟨S1x4096x1024, .f32⟩
  | 33 => ⟨S1x4096x1024, .f32⟩
  | 34 => ⟨S_, .f32⟩
  | 35 => ⟨S1x4096x1024, .f32⟩
  | 36 => ⟨S1x4096x1024, .f32⟩
  | 37 => ⟨S1x4096x1024, .f32⟩
  | 38 => ⟨S_, .f32⟩
  | 39 => ⟨S1x4096x1024, .f32⟩
  | 40 => ⟨S1x4096x1024, .f32⟩
  | 41 => ⟨S_, .f32⟩
  | 42 => ⟨S1x4096x1024, .f32⟩
  | 43 => ⟨S1x4096x1024, .f32⟩
  | 44 => ⟨S1x4096x1024, .f32⟩
  | 45 => ⟨S_, .f32⟩
  | 46 => ⟨S_, .f32⟩
  | 47 => ⟨S_, .f32⟩
  | 48 => ⟨S1x4096x1024, .f32⟩
  | 49 => ⟨S1x4096x1024, .f32⟩
  | 50 => ⟨S1x4096x1024, .f32⟩
  | 51 => ⟨S_, .f32⟩
  | 52 => ⟨S1x4096x1024, .f32⟩
  | 53 => ⟨S1x4096x1024, .f32⟩
  | 54 => ⟨S1x4096x1024, .f32⟩
  | 55 => ⟨S1x4096x1024, .f32⟩
  | 56 => ⟨S1x4096x1024, .f32⟩
  | 57 => ⟨S_, .f32⟩
  | 58 => ⟨S1x4096x1024, .f32⟩
  | 59 => ⟨S1x4096x1024, .f32⟩
  | 60 => ⟨S1x4096x1024, .f32⟩
  | 61 => ⟨S_, .f32⟩
  | 62 => ⟨S1x4096x1024, .f32⟩
  | 63 => ⟨S1x4096x1024, .f32⟩
  | 64 => ⟨S_, .f32⟩
  | 65 => ⟨S1x4096x1024, .f32⟩
  | 66 => ⟨S1x4096x1024, .f32⟩
  | 67 => ⟨S1x4096x1024, .f32⟩
  | 68 => ⟨S_, .f32⟩
  | 69 => ⟨S1x4096x1024, .f32⟩
  | 70 => ⟨S1x4096x1024, .f32⟩
  | 71 => ⟨S_, .f32⟩
  | 72 => ⟨S1x4096x1024, .f32⟩
  | 73 => ⟨S1x4096x1024, .f32⟩
  | 74 => ⟨S1x4096x1024, .f32⟩
  | 75 => ⟨S_, .f32⟩
  | 76 => ⟨S1x4096, .f32⟩
  | 77 => ⟨S1x4096x1, .f32⟩
  | 78 => ⟨S_, .f32⟩
  | 79 => ⟨S1x4096x1, .f32⟩
  | 80 => ⟨S1x4096x1, .f32⟩
  | 81 => ⟨S1x4096x1024, .f32⟩
  | 82 => ⟨S1x4096x1024, .f32⟩
  | 83 => ⟨S1x4096x1024, .f32⟩
  | 84 => ⟨S_, .f32⟩
  | 85 => ⟨S1x4096x1024, .f32⟩
  | 86 => ⟨S1x4096x1024, .f32⟩
  | 87 => ⟨S_, .f32⟩
  | 88 => ⟨S1x4096, .f32⟩
  | 89 => ⟨S1x4096x1, .f32⟩
  | 90 => ⟨S_, .f32⟩
  | 91 => ⟨S1x4096x1, .f32⟩
  | 92 => ⟨S1x4096x1, .f32⟩
  | 93 => ⟨S1x4096x1024, .f32⟩
  | 94 => ⟨S1x4096x1024, .f32⟩
  | 95 => ⟨S_, .f32⟩
  | 96 => ⟨S1x4096x1, .f32⟩
  | 97 => ⟨S1x4096x1, .f32⟩
  | 98 => ⟨S1x4096x1, .f32⟩
  | 99 => ⟨S1x4096x1, .f32⟩
  | 100 => ⟨S_, .f32⟩
  | 101 => ⟨S1x4096x1, .f32⟩
  | 102 => ⟨S1x4096x1, .f32⟩
  | 103 => ⟨S1x4096x1024, .f32⟩
  | 104 => ⟨S1x4096x1024, .f32⟩
  | 105 => ⟨S1x1x1024, .f32⟩
  | 106 => ⟨S1x4096x1024, .f32⟩
  | 107 => ⟨S1x4096x1024, .f32⟩
  | 108 => ⟨S1x1x1024, .f32⟩
  | 109 => ⟨S1x4096x1024, .f32⟩
  | 110 => ⟨S1x4096x1024, .f32⟩
  | 111 => ⟨S1x32x128x8x128, .f32⟩
  | 112 => ⟨S_, .i1⟩
  | 113 => ⟨S128x128, .i1⟩
  | 114 => ⟨S128x128, .i32⟩
  | 115 => ⟨S_, .i32⟩
  | 116 => ⟨S128x128, .i32⟩
  | 117 => ⟨S128x128, .i32⟩
  | 118 => ⟨S128x128, .i32⟩
  | 119 => ⟨S128x128, .i1⟩
  | 120 => ⟨S_, .i1⟩
  | 121 => ⟨S128x128, .i1⟩
  | 122 => ⟨S128x128, .i1⟩
  | 123 => ⟨S_, .f32⟩
  | 124 => ⟨S8x128x128, .i1⟩
  | 125 => ⟨S8x128x128, .f32⟩
  | 126 => ⟨S8x128x128, .f32⟩
  | 127 => ⟨S_, .f32⟩
  | _ => ⟨S8x4096x1024, .bf16⟩

abbrev hbmTy0_1 (i : Nat) : BufTy := match i % 128 with
  | 0 => ⟨S8x128x128, .f32⟩
  | 1 => ⟨S8x1x32x128x128, .f32⟩
  | 2 => ⟨S1x32x128x8x128, .f32⟩
  | 3 => ⟨S128x8, .f32⟩
  | 4 => ⟨S128x8x1, .f32⟩
  | 5 => ⟨S1x1x128x8x1, .f32⟩
  | 6 => ⟨S1x32x128x8x128, .f32⟩
  | 7 => ⟨S1x32x128x8x128, .f32⟩
  | 8 => ⟨S1x4096x1024, .f32⟩
  | 9 => ⟨S1x4096x1024, .f32⟩
  | 10 => ⟨S1x4096x1024, .f32⟩
  | 11 => ⟨S1x4096x1024, .bf16⟩
  | 12 => ⟨S1x4096x1024, .f32⟩
  | 13 => ⟨S1x4096x1024, .f32⟩
  | 14 => ⟨S1x4096x1024, .f32⟩
  | 15 => ⟨S1x4096x1024, .f32⟩
  | 16 => ⟨S1x32x128x8x128, .f32⟩
  | 17 => ⟨S_, .f32⟩
  | 18 => ⟨S1x128x8, .f32⟩
  | 19 => ⟨S1x1x128x8x1, .f32⟩
  | 20 => ⟨S_, .f32⟩
  | 21 => ⟨S128x8, .f32⟩
  | 22 => ⟨S128x8x1, .f32⟩
  | 23 => ⟨S_, .f32⟩
  | 24 => ⟨S128x8, .f32⟩
  | 25 => ⟨S8x128, .f32⟩
  | 26 => ⟨S8x1x32x128x128, .f32⟩
  | 27 => ⟨S8x128x128, .f32⟩
  | 28 => ⟨S8x1x32x128x128, .f32⟩
  | 29 => ⟨S1x32x128x8x128, .f32⟩
  | 30 => ⟨S_, .f32⟩
  | 31 => ⟨S8x128x128, .f32⟩
  | 32 => ⟨S8x128x128, .f32⟩
  | 33 => ⟨S1x4096x1024, .f32⟩
  | 34 => ⟨S_, .f32⟩
  | 35 => ⟨S1x1024, .f32⟩
  | 36 => ⟨S1x1x1024, .f32⟩
  | 37 => ⟨S_, .f32⟩
  | 38 => ⟨S1024, .f32⟩
  | 39 => ⟨S1x4096x1024, .f32⟩
  | 40 => ⟨S_, .f32⟩
  | 41 => ⟨S1x1024, .f32⟩
  | 42 => ⟨S1x1x1024, .f32⟩
  | 43 => ⟨S1x4096x1024, .f32⟩
  | 44 => ⟨S1x4096x1024, .f32⟩
  | 45 => ⟨S_, .f32⟩
  | 46 => ⟨S1024, .f32⟩
  | 47 => ⟨S1x4096x1024, .f32⟩
  | 48 => ⟨S_, .f32⟩
  | 49 => ⟨S1x4096, .f32⟩
  | 50 => ⟨S1x4096x1, .f32⟩
  | 51 => ⟨S1x4096x1024, .f32⟩
  | 52 => ⟨S1x4096x1024, .f32⟩
  | 53 => ⟨S1x4096x1, .f32⟩
  | 54 => ⟨S1x4096x1024, .f32⟩
  | 55 => ⟨S_, .f32⟩
  | 56 => ⟨S1x4096, .f32⟩
  | 57 => ⟨S1x4096x1, .f32⟩
  | 58 => ⟨S_, .f32⟩
  | 59 => ⟨S1x4096x1, .f32⟩
  | 60 => ⟨S1x4096x1, .f32⟩
  | 61 => ⟨S_, .f32⟩
  | 62 => ⟨S4096, .f32⟩
  | 63 => ⟨S1x4096, .f32⟩
  | 64 => ⟨S1x4096x1024, .f32⟩
  | 65 => ⟨S1x4096x1024, .f32⟩
  | 66 => ⟨S1x4096x1024, .f32⟩
  | 67 => ⟨S_, .f32⟩
  | 68 => ⟨S1x4096, .f32⟩
  | 69 => ⟨S1x4096x1, .f32⟩
  | 70 => ⟨S1x4096x1024, .f32⟩
  | 71 => ⟨S1x4096x1, .f32⟩
  | 72 => ⟨S_, .f32⟩
  | 73 => ⟨S1x4096x1, .f32⟩
  | 74 => ⟨S1x4096x1, .f32⟩
  | 75 => ⟨S_, .f32⟩
  | 76 => ⟨S4096, .f32⟩
  | 77 => ⟨S1x4096, .f32⟩
  | 78 => ⟨S1x4096x1024, .f32⟩
  | 79 => ⟨S1x4096x1024, .f32⟩
  | 80 => ⟨S1x4096x1024, .f32⟩
  | 81 => ⟨S1x4096x1024, .f32⟩
  | 82 => ⟨S_, .f32⟩
  | 83 => ⟨S1x4096x1024, .f32⟩
  | 84 => ⟨S1x4096x1024, .f32⟩
  | 85 => ⟨S1x4096x1024, .f32⟩
  | 86 => ⟨S_, .f32⟩
  | 87 => ⟨S1x4096x1024, .f32⟩
  | 88 => ⟨S1x4096x1024, .f32⟩
  | 89 => ⟨S1x4096x1024, .f32⟩
  | 90 => ⟨S1x4096x1024, .f32⟩
  | 91 => ⟨S1x4096x1024, .f32⟩
  | 92 => ⟨S1x4096x1024, .f32⟩
  | 93 => ⟨S1x4096x1024, .f32⟩
  | 94 => ⟨S1x4096x1024, .f32⟩
  | 95 => ⟨S1x4096x1024, .f32⟩
  | 96 => ⟨S_, .f32⟩
  | 97 => ⟨S1x4096x1024, .f32⟩
  | 98 => ⟨S1x4096x1024, .f32⟩
  | 99 => ⟨S1x4096x1024, .f32⟩
  | 100 => ⟨S_, .f32⟩
  | 101 => ⟨S1x4096x1024, .f32⟩
  | 102 => ⟨S1x4096x1024, .f32⟩
  | 103 => ⟨S1x4096x1024, .f32⟩
  | 104 => ⟨S1x4096x1024, .f32⟩
  | 105 => ⟨S1x4096x1024, .f32⟩
  | 106 => ⟨S1x4096x1024, .f32⟩
  | 107 => ⟨S1x4096x1024, .f32⟩
  | 108 => ⟨S4x4096x1024, .bf16⟩
  | 109 => ⟨S1x4096x1024, .bf16⟩
  | 110 => ⟨S1x4096x1024, .bf16⟩
  | 111 => ⟨S2x4096x1024, .bf16⟩
  | 112 => ⟨S8x4096x1024, .bf16⟩
  | _ => ⟨S8x4096x1024, .bf16⟩

abbrev hbmTy (i : Nat) : BufTy := match i / 128 with
  | 0 => hbmTy0_0 i
  | 1 => hbmTy0_1 i
  | _ => ⟨S8x4096x1024, .bf16⟩

abbrev bufTy : (tb : Table) → Fin (tcTables nBuf tb) → BufTy
  | .hbm, ⟨i, _⟩ => hbmTy i
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_7 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_9 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_10 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_11 : Ref sig .tc := ⟨.hbm, 61, rfl⟩
abbrev main_v41 : Ref sig .tc := ⟨.hbm, 62, rfl⟩
abbrev main_v42 : Ref sig .tc := ⟨.hbm, 63, rfl⟩
abbrev main_cst_12 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_13 : Ref sig .tc := ⟨.hbm, 68, rfl⟩
abbrev main_v46 : Ref sig .tc := ⟨.hbm, 69, rfl⟩
abbrev main_v47 : Ref sig .tc := ⟨.hbm, 70, rfl⟩
abbrev main_cst_14 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_15 : Ref sig .tc := ⟨.hbm, 75, rfl⟩
abbrev main_v51 : Ref sig .tc := ⟨.hbm, 76, rfl⟩
abbrev main_v52 : Ref sig .tc := ⟨.hbm, 77, rfl⟩
abbrev main_cst_16 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_17 : Ref sig .tc := ⟨.hbm, 84, rfl⟩
abbrev main_v58 : Ref sig .tc := ⟨.hbm, 85, rfl⟩
abbrev main_v59 : Ref sig .tc := ⟨.hbm, 86, rfl⟩
abbrev main_cst_18 : Ref sig .tc := ⟨.hbm, 87, rfl⟩
abbrev main_v60 : Ref sig .tc := ⟨.hbm, 88, rfl⟩
abbrev main_v61 : Ref sig .tc := ⟨.hbm, 89, rfl⟩
abbrev main_cst_19 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_20 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_21 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_c : Ref sig .tc := ⟨.hbm, 112, rfl⟩
abbrev main_v81 : Ref sig .tc := ⟨.hbm, 113, rfl⟩
abbrev main_call0_v0 : Ref sig .tc := ⟨.hbm, 114, rfl⟩
abbrev main_call0_c : Ref sig .tc := ⟨.hbm, 115, rfl⟩
abbrev main_call0_v1 : Ref sig .tc := ⟨.hbm, 116, rfl⟩
abbrev main_call0_v2 : Ref sig .tc := ⟨.hbm, 117, rfl⟩
abbrev main_call0_v3 : Ref sig .tc := ⟨.hbm, 118, rfl⟩
abbrev main_call0_v4 : Ref sig .tc := ⟨.hbm, 119, rfl⟩
abbrev main_call0_c_0 : Ref sig .tc := ⟨.hbm, 120, rfl⟩
abbrev main_call0_v5 : Ref sig .tc := ⟨.hbm, 121, rfl⟩
abbrev main_v82 : Ref sig .tc := ⟨.hbm, 122, rfl⟩
abbrev main_cst_22 : Ref sig .tc := ⟨.hbm, 123, rfl⟩
abbrev main_v83_1 : Ref sig .tc := ⟨.hbm, 124, rfl⟩
abbrev main_call1_v1 : Ref sig .tc := ⟨.hbm, 125, rfl⟩
abbrev main_v83_0 : Ref sig .tc := ⟨.hbm, 126, rfl⟩
abbrev main_call1_cst : Ref sig .tc := ⟨.hbm, 127, rfl⟩
abbrev main_v83_2 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_cst_23 : Ref sig .tc := ⟨.hbm, 145, rfl⟩
abbrev main_v100 : Ref sig .tc := ⟨.hbm, 146, rfl⟩
abbrev main_v101 : Ref sig .tc := ⟨.hbm, 147, rfl⟩
abbrev main_cst_24 : Ref sig .tc := ⟨.hbm, 148, rfl⟩
abbrev main_v102 : Ref sig .tc := ⟨.hbm, 149, rfl⟩
abbrev main_v103 : Ref sig .tc := ⟨.hbm, 150, rfl⟩
abbrev main_cst_25 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_call2_cst : Ref sig .tc := ⟨.hbm, 158, rfl⟩
abbrev main_call2_v0 : Ref sig .tc := ⟨.hbm, 159, rfl⟩
abbrev main_v110 : Ref sig .tc := ⟨.hbm, 160, rfl⟩
abbrev main_v111 : Ref sig .tc := ⟨.hbm, 161, rfl⟩
abbrev main_cst_26 : Ref sig .tc := ⟨.hbm, 162, rfl⟩
abbrev main_v112 : Ref sig .tc := ⟨.hbm, 163, rfl⟩
abbrev main_v113 : Ref sig .tc := ⟨.hbm, 164, rfl⟩
abbrev main_cst_27 : Ref sig .tc := ⟨.hbm, 165, rfl⟩
abbrev main_v114 : Ref sig .tc := ⟨.hbm, 166, rfl⟩
abbrev main_v115 : Ref sig .tc := ⟨.hbm, 167, rfl⟩
abbrev main_cst_28 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_cst_29 : Ref sig .tc := ⟨.hbm, 173, rfl⟩
abbrev main_v120 : Ref sig .tc := ⟨.hbm, 174, rfl⟩
abbrev main_v121 : Ref sig .tc := ⟨.hbm, 175, rfl⟩
abbrev main_cst_30 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_cst_31 : Ref sig .tc := ⟨.hbm, 183, rfl⟩
abbrev main_v128 : Ref sig .tc := ⟨.hbm, 184, rfl⟩
abbrev main_v129 : Ref sig .tc := ⟨.hbm, 185, rfl⟩
abbrev main_cst_32 : Ref sig .tc := ⟨.hbm, 186, rfl⟩
abbrev main_v130 : Ref sig .tc := ⟨.hbm, 187, rfl⟩
abbrev main_v131 : Ref sig .tc := ⟨.hbm, 188, rfl⟩
abbrev main_cst_33 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_cst_34 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_cst_35 : Ref sig .tc := ⟨.hbm, 200, rfl⟩
abbrev main_v141 : Ref sig .tc := ⟨.hbm, 201, rfl⟩
abbrev main_v142 : Ref sig .tc := ⟨.hbm, 202, rfl⟩
abbrev main_cst_36 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_cst_37 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_cst_38 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_cst_39 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_cst_40 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩

abbrev nD : Nat := 1
abbrev τ : Topo := Topo.v7x

variable {F : FTy → Type} [FloatOps F]
-- ==== ProjBwd.lean ====
abbrev S8x4096x1024 : Shape := ⟨3, ![8, 4096, 1024]⟩
abbrev S4x1024x2048 : Shape := ⟨3, ![4, 1024, 2048]⟩
abbrev S4096x1024 : Shape := ⟨2, ![4096, 1024]⟩
abbrev S1x1024 : Shape := ⟨2, ![1, 1024]⟩
abbrev S8x1024 : Shape := ⟨2, ![8, 1024]⟩
abbrev S8x256x1024 : Shape := ⟨3, ![8, 256, 1024]⟩
abbrev S256x1024 : Shape := ⟨2, ![256, 1024]⟩
abbrev S1x256x1024 : Shape := ⟨3, ![1, 256, 1024]⟩
abbrev S1x1024x1024 : Shape := ⟨3, ![1, 1024, 1024]⟩
abbrev S1024x1024 : Shape := ⟨2, ![1024, 1024]⟩
abbrev S256 : Shape := ⟨1, ![256]⟩
abbrev S256x1 : Shape := ⟨2, ![256, 1]⟩
abbrev S32x8x1024 : Shape := ⟨3, ![32, 8, 1024]⟩
abbrev S_ : Shape := ⟨0, ![]⟩
abbrev S1024 : Shape := ⟨1, ![1024]⟩

abbrev nBuf : Space → Nat
  | .hbm => 9
  | .vmem => 11
  | .smem => 0
  | _ => 0

abbrev bufTy : (tb : Table) → Fin (tcTables nBuf tb) → BufTy
  | .hbm, ⟨0, _⟩ => ⟨S8x4096x1024, .bf16⟩
  | .hbm, ⟨1, _⟩ => ⟨S4x1024x2048, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S8x1024, .f32⟩
  | .hbm, ⟨7, _⟩ => ⟨S_, .f32⟩
  | .hbm, ⟨8, _⟩ => ⟨S1024, .f32⟩
  | .local _ .vmem, ⟨0, _⟩ => ⟨S8x256x1024, .bf16⟩
  | .local _ .vmem, ⟨1, _⟩ => ⟨S8x256x1024, .bf16⟩
  | .local _ .vmem, ⟨2, _⟩ => ⟨S4x1024x2048, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S8x1024, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_cst : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ProjBwdRefIdeal.lean ====
abbrev S8x4096x1024 : Shape := ⟨3, ![8, 4096, 1024]⟩
abbrev S4x1024x2048 : Shape := ⟨3, ![4, 1024, 2048]⟩
abbrev S4096x1024 : Shape := ⟨2, ![4096, 1024]⟩
abbrev S1x1024 : Shape := ⟨2, ![1, 1024]⟩
abbrev S1x1024x2048 : Shape := ⟨3, ![1, 1024, 2048]⟩
abbrev S1024x2048 : Shape := ⟨2, ![1024, 2048]⟩
abbrev S1024x8192 : Shape := ⟨2, ![1024, 8192]⟩
abbrev S1x4096x1024 : Shape := ⟨3, ![1, 4096, 1024]⟩
abbrev S4096x8192 : Shape := ⟨2, ![4096, 8192]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x4096x8192 : Shape := ⟨3, ![1, 4096, 8192]⟩
abbrev S4096 : Shape := ⟨1, ![4096]⟩

abbrev nBuf : Space → Nat
  | .hbm => 87
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S4x1024x2048, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024x2048, .bf16⟩
  | .hbm, ⟨6, _⟩ => ⟨S1024x2048, .bf16⟩
  | .hbm, ⟨7, _⟩ => ⟨S1x1024x2048, .bf16⟩
  | .hbm, ⟨8, _⟩ => ⟨S1024x2048, .bf16⟩
  | .hbm, ⟨9, _⟩ => ⟨S1x1024x2048, .bf16⟩
  | .hbm, ⟨10, _⟩ => ⟨S1024x2048, .bf16⟩
  | .hbm, ⟨11, _⟩ => ⟨S1x1024x2048, .bf16⟩
  | .hbm, ⟨12, _⟩ => ⟨S1024x2048, .bf16⟩
  | .hbm, ⟨13, _⟩ => ⟨S1024x8192, .bf16⟩
  | .hbm, ⟨14, _⟩ => ⟨S1024x8192, .f32⟩
  | .hbm, ⟨15, _⟩ => ⟨S1x4096x1024, .bf16⟩
  | .hbm, ⟨16, _⟩ => ⟨S4096x1024, .bf16⟩
  | .hbm, ⟨17, _⟩ => ⟨S1x4096x1024, .bf16⟩
  | .hbm, ⟨18, _⟩ => ⟨S4096x1024, .bf16⟩
  | .hbm, ⟨19, _⟩ => ⟨S1x4096x1024, .bf16⟩
  | .hbm, ⟨20, _⟩ => ⟨S4096x1024, .bf16⟩
  | .hbm, ⟨21, _⟩ => ⟨S1x4096x1024, .bf16⟩
  | .hbm, ⟨22, _⟩ => ⟨S4096x1024, .bf16⟩
  | .hbm, ⟨23, _⟩ => ⟨S1x4096x1024, .bf16⟩
  | .hbm, ⟨24, _⟩ => ⟨S4096x1024, .bf16⟩
  | .hbm, ⟨25, _⟩ => ⟨S1x4096x1024, .bf16⟩
  | .hbm, ⟨26, _⟩ => ⟨S4096x1024, .bf16⟩
  | .hbm, ⟨27, _⟩ => ⟨S1x4096x1024, .bf16⟩
  | .hbm, ⟨28, _⟩ => ⟨S4096x1024, .bf16⟩
  | .hbm, ⟨29, _⟩ => ⟨S1x4096x1024, .bf16⟩
  | .hbm, ⟨30, _⟩ => ⟨S4096x1024, .bf16⟩
  | .hbm, ⟨31, _⟩ => ⟨S4096x8192, .bf16⟩
  | .hbm, ⟨32, _⟩ => ⟨S4096x8192, .f32⟩
  | .hbm, ⟨33, _⟩ => ⟨S1x4096x1024, .f32⟩
  | .hbm, ⟨34, _⟩ => ⟨S1024, .f32⟩
  | .hbm, ⟨35, _⟩ => ⟨S1x4096x1024, .f32⟩
  | .hbm, ⟨36, _⟩ => ⟨S_, .f32⟩
  | .hbm, ⟨37, _⟩ => ⟨S1x4096, .f32⟩
  | .hbm, ⟨38, _⟩ => ⟨S1x4096x1, .f32⟩
  | .hbm, ⟨39, _⟩ => ⟨S_, .f32⟩
  | .hbm, ⟨40, _⟩ => ⟨S1x4096x1, .f32⟩
  | .hbm, ⟨41, _⟩ => ⟨S1x4096x1, .f32⟩
  | .hbm, ⟨42, _⟩ => ⟨S_, .f32⟩
  | .hbm, ⟨43, _⟩ => ⟨S1x4096x1, .f32⟩
  | .hbm, ⟨44, _⟩ => ⟨S1x4096x1, .f32⟩
  | .hbm, ⟨45, _⟩ => ⟨S1x4096x1, .f32⟩
  | .hbm, ⟨46, _⟩ => ⟨S1x4096x1, .f32⟩
  | .hbm, ⟨47, _⟩ => ⟨S_, .f32⟩
  | .hbm, ⟨48, _⟩ => ⟨S1x4096x1, .f32⟩
  | .hbm, ⟨49, _⟩ => ⟨S1x4096x1, .f32⟩
  | .hbm, ⟨50, _⟩ => ⟨S1x4096x1024, .f32⟩
  | .hbm, ⟨51, _⟩ => ⟨S1x4096x1024, .f32⟩
  | .hbm, ⟨52, _⟩ => ⟨S1x1x1024, .f32⟩
  | .hbm, ⟨53, _⟩ => ⟨S1x4096x1024, .f32⟩
  | .hbm, ⟨54, _⟩ => ⟨S1x4096x1024, .f32⟩
  | .hbm, ⟨55, _⟩ => ⟨S1x4096x8192, .f32⟩
  | .hbm, ⟨56, _⟩ => ⟨S1x4096x1024, .f32⟩
  | .hbm, ⟨57, _⟩ => ⟨S1x4096x8192, .f32⟩
  | .hbm, ⟨58, _⟩ => ⟨S1x4096x1024, .f32⟩
  | .hbm, ⟨59, _⟩ => ⟨S1x4096x1024, .f32⟩
  | .hbm, ⟨60, _⟩ => ⟨S_, .f32⟩
  | .hbm, ⟨61, _⟩ => ⟨S1x1024, .f32⟩
  | .hbm, ⟨62, _⟩ => ⟨S1x1x1024, .f32⟩
  | .hbm, ⟨63, _⟩ => ⟨S1x4096x1024, .f32⟩
  | .hbm, ⟨64, _⟩ => ⟨S1x4096x1024, .f32⟩
  | .hbm, ⟨65, _⟩ => ⟨S_, .f32⟩
  | .hbm, ⟨66, _⟩ => ⟨S1024, .f32⟩
  | .hbm, ⟨67, _⟩ => ⟨S1x4096x1024, .f32⟩
  | .hbm, ⟨68, _⟩ => ⟨S_, .f32⟩
  | .hbm, ⟨69, _⟩ => ⟨S1x4096, .f32⟩
  | .hbm, ⟨70, _⟩ => ⟨S1x4096x1, .f32⟩
  | .hbm, ⟨71, _⟩ => ⟨S1x4096x1024, .f32⟩
  | .hbm, ⟨72, _⟩ => ⟨S1x4096x1024, .f32⟩
  | .hbm, ⟨73, _⟩ => ⟨S1x4096x1024, .f32⟩
  | .hbm, ⟨74, _⟩ => ⟨S1x4096x1, .f32⟩
  | .hbm, ⟨75, _⟩ => ⟨S_, .f32⟩
  | .hbm, ⟨76, _⟩ => ⟨S1x4096x1, .f32⟩
  | .hbm, ⟨77, _⟩ => ⟨S1x4096x1, .f32⟩
  | .hbm, ⟨78, _⟩ => ⟨S_, .f32⟩
  | .hbm, ⟨79, _⟩ => ⟨S4096, .f32⟩
  | .hbm, ⟨80, _⟩ => ⟨S1x4096, .f32⟩
  | .hbm, ⟨81, _⟩ => ⟨S1x4096x1024, .f32⟩
  | .hbm, ⟨82, _⟩ => ⟨S1x4096x1024, .f32⟩
  | .hbm, ⟨83, _⟩ => ⟨S1x4096x1024, .f32⟩
  | .hbm, ⟨84, _⟩ => ⟨S1x4096x1024, .f32⟩
  | .hbm, ⟨85, _⟩ => ⟨S1x4096x1024, .f32⟩
  | .hbm, ⟨86, _⟩ => ⟨S4096x1024, .f32⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst : Ref sig .tc := ⟨.hbm, 36, rfl⟩
abbrev main_v31 : Ref sig .tc := ⟨.hbm, 37, rfl⟩
abbrev main_v32 : Ref sig .tc := ⟨.hbm, 38, rfl⟩
abbrev main_cst_0 : Ref sig .tc := ⟨.hbm, 39, rfl⟩
abbrev main_v33 : Ref sig .tc := ⟨.hbm, 40, rfl⟩
abbrev main_v34 : Ref sig .tc := ⟨.hbm, 41, rfl⟩
abbrev main_cst_1 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_2 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_cst_3 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_cst_4 : Ref sig .tc := ⟨.hbm, 65, rfl⟩
abbrev main_v55 : Ref sig .tc := ⟨.hbm, 66, rfl⟩
abbrev main_v56 : Ref sig .tc := ⟨.hbm, 67, rfl⟩
abbrev main_cst_5 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_cst_6 : Ref sig .tc := ⟨.hbm, 75, rfl⟩
abbrev main_v63 : Ref sig .tc := ⟨.hbm, 76, rfl⟩
abbrev main_v64 : Ref sig .tc := ⟨.hbm, 77, rfl⟩
abbrev main_cst_7 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩

abbrev nD : Nat := 1
abbrev τ : Topo := Topo.v7x

variable {F : FTy → Type} [FloatOps F]
-- ==== Ffn.lean ====
abbrev S4096x1024 : Shape := ⟨2, ![4096, 1024]⟩
abbrev S1x1024 : Shape := ⟨2, ![1, 1024]⟩
abbrev S1024 : Shape := ⟨1, ![1024]⟩
abbrev S2x1024x2816 : Shape := ⟨3, ![2, 1024, 2816]⟩
abbrev S2816x1024 : Shape := ⟨2, ![2816, 1024]⟩
abbrev S4096x2816 : Shape := ⟨2, ![4096, 2816]⟩
abbrev S2x4096x2816 : Shape := ⟨3, ![2, 4096, 2816]⟩
abbrev S3x8x1024 : Shape := ⟨3, ![3, 8, 1024]⟩
abbrev S256x1024 : Shape := ⟨2, ![256, 1024]⟩
abbrev S256x2816 : Shape := ⟨2, ![256, 2816]⟩
abbrev S2x256x2816 : Shape := ⟨3, ![2, 256, 2816]⟩
abbrev S256 : Shape := ⟨1, ![256]⟩
abbrev S256x1 : Shape := ⟨2, ![256, 1]⟩
abbrev S1x1024x2816 : Shape := ⟨3, ![1, 1024, 2816]⟩
abbrev S1024x2816 : Shape := ⟨2, ![1024, 2816]⟩
abbrev S1x8x1024 : Shape := ⟨3, ![1, 8, 1024]⟩
abbrev S8x1024 : Shape := ⟨2, ![8, 1024]⟩
abbrev S32x8x1024 : Shape := ⟨3, ![32, 8, 1024]⟩
abbrev S1x256x2816 : Shape := ⟨3, ![1, 256, 2816]⟩
abbrev S_ : Shape := ⟨0, ![]⟩

abbrev nBuf : Space → Nat
  | .hbm => 26
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024, .f32⟩
  | .hbm, ⟨4, _⟩ => ⟨S2x1024x2816, .bf16⟩
  | .hbm, ⟨5, _⟩ => ⟨S2816x1024, .bf16⟩
  | .hbm, ⟨6, _⟩ => ⟨S1x1024, .f32⟩
  | .hbm, ⟨7, _⟩ => ⟨S4096x2816, .bf16⟩
  | .hbm, ⟨8, _⟩ => ⟨S4096x1024, .bf16⟩
  | .hbm, ⟨9, _⟩ => ⟨S4096x1024, .bf16⟩
  | .hbm, ⟨10, _⟩ => ⟨S2x4096x2816, .bf16⟩
  | .hbm, ⟨11, _⟩ => ⟨S4096x1024, .f32⟩
  | .hbm, ⟨12, _⟩ => ⟨S4096x1024, .bf16⟩
  | .hbm, ⟨13, _⟩ => ⟨S3x8x1024, .f32⟩
  | .hbm, ⟨14, _⟩ => ⟨S1x8x1024, .f32⟩
  | .hbm, ⟨15, _⟩ => ⟨S8x1024, .f32⟩
  | .hbm, ⟨16, _⟩ => ⟨S_, .f32⟩
  | .hbm, ⟨17, _⟩ => ⟨S_, .f32⟩
  | .hbm, ⟨18, _⟩ => ⟨S1x8x1024, .f32⟩
  | .hbm, ⟨19, _⟩ => ⟨S8x1024, .f32⟩
  | .hbm, ⟨20, _⟩ => ⟨S_, .f32⟩
  | .hbm, ⟨21, _⟩ => ⟨S1024, .f32⟩
  | .hbm, ⟨22, _⟩ => ⟨S1x8x1024, .f32⟩
  | .hbm, ⟨23, _⟩ => ⟨S8x1024, .f32⟩
  | .hbm, ⟨24, _⟩ => ⟨S_, .f32⟩
  | .hbm, ⟨25, _⟩ => ⟨S1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S2x1024x2816, .bf16⟩
  | .local _ .vmem, ⟨7, _⟩ => ⟨S2816x1024, .bf16⟩
  | .local _ .vmem, ⟨8, _⟩ => ⟨S256x2816, .bf16⟩
  | .local _ .vmem, ⟨9, _⟩ => ⟨S256x2816, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S2x256x2816, .bf16⟩
  | .local _ .vmem, ⟨15, _⟩ => ⟨S2x256x2816, .bf16⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S3x8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev main_v1_5 : Ref sig .tc := ⟨.hbm, 12, rfl⟩
abbrev main_v1_6 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S3x8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== FfnRefIdeal.lean ====
abbrev S4096x1024 : Shape := ⟨2, ![4096, 1024]⟩
abbrev S1x1024 : Shape := ⟨2, ![1, 1024]⟩
abbrev S1024 : Shape := ⟨1, ![1024]⟩
abbrev S2x1024x2816 : Shape := ⟨3, ![2, 1024, 2816]⟩
abbrev S2816x1024 : Shape := ⟨2, ![2816, 1024]⟩
abbrev S1x4096x1024 : Shape := ⟨3, ![1, 4096, 1024]⟩
abbrev S1x1024x2816 : Shape := ⟨3, ![1, 1024, 2816]⟩
abbrev S1024x2816 : Shape := ⟨2, ![1024, 2816]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x4096x2816 : Shape := ⟨3, ![1, 4096, 2816]⟩
abbrev S4096 : Shape := ⟨1, ![4096]⟩
abbrev S4096x2816 : Shape := ⟨2, ![4096, 2816]⟩
abbrev S2x4096x2816 : Shape := ⟨3, ![2, 4096, 2816]⟩

abbrev nBuf : Space → Nat
  | .hbm => 173
  | .vmem => 0
  | .smem => 0
  | _ => 0

abbrev hbmTy0_0 (i : Nat) : BufTy := match i % 128 with
  | 0 => ⟨S4096x1024, .f32⟩
  | 1 => ⟨S4096x1024, .f32⟩
  | 2 => ⟨S1x1024, .f32⟩
  | 3 => ⟨S1024, .f32⟩
  | 4 => ⟨S2x1024x2816, .bf16⟩
  | 5 => ⟨S2816x1024, .bf16⟩
  | 6 => ⟨S1x4096x1024, .f32⟩
  | 7 => ⟨S1x1024x2816, .bf16⟩
  | 8 => ⟨S1024x2816, .bf16⟩
  | 9 => ⟨S1024x2816, .f32⟩
  | 10 => ⟨S1x1024x2816, .bf16⟩
  | 11 => ⟨S1024x2816, .bf16⟩
  | 12 => ⟨S1024x2816, .f32⟩
  | 13 => ⟨S2816x1024, .f32⟩
  | 14 => ⟨S1024, .f32⟩
  | 15 => ⟨S1x4096x1024, .f32⟩
  | 16 => ⟨S_, .f32⟩
  | 17 => ⟨S1x4096, .f32⟩
  | 18 => ⟨S1x4096x1, .f32⟩
  | 19 => ⟨S_, .f32⟩
  | 20 => ⟨S1x4096x1, .f32⟩
  | 21 => ⟨S1x4096x1, .f32⟩
  | 22 => ⟨S_, .f32⟩
  | 23 => ⟨S1x4096x1, .f32⟩
  | 24 => ⟨S1x4096x1, .f32⟩
  | 25 => ⟨S1x4096x1, .f32⟩
  | 26 => ⟨S1x4096x1, .f32⟩
  | 27 => ⟨S_, .f32⟩
  | 28 => ⟨S1x4096x1, .f32⟩
  | 29 => ⟨S1x4096x1, .f32⟩
  | 30 => ⟨S1x4096x1024, .f32⟩
  | 31 => ⟨S1x4096x1024, .f32⟩
  | 32 => ⟨S1x1x1024, .f32⟩
  | 33 => ⟨S1x4096x1024, .f32⟩
  | 34 => ⟨S1x4096x1024, .f32⟩
  | 35 => ⟨S1x4096x2816, .f32⟩
  | 36 => ⟨S1x4096x2816, .f32⟩
  | 37 => ⟨S1x4096x2816, .f32⟩
  | 38 => ⟨S1x4096x2816, .f32⟩
  | 39 => ⟨S_, .f32⟩
  | 40 => ⟨S1x4096x2816, .f32⟩
  | 41 => ⟨S1x4096x2816, .f32⟩
  | 42 => ⟨S_, .f32⟩
  | 43 => ⟨S1x4096x2816, .f32⟩
  | 44 => ⟨S1x4096x2816, .f32⟩
  | 45 => ⟨S_, .f32⟩
  | 46 => ⟨S1x4096x2816, .f32⟩
  | 47 => ⟨S1x4096x2816, .f32⟩
  | 48 => ⟨S1x4096x2816, .f32⟩
  | 49 => ⟨S1x4096x2816, .f32⟩
  | 50 => ⟨S1x4096x2816, .f32⟩
  | 51 => ⟨S1x4096x1024, .f32⟩
  | 52 => ⟨S1x4096x1024, .f32⟩
  | 53 => ⟨S1x4096x1024, .f32⟩
  | 54 => ⟨S1x4096x1024, .f32⟩
  | 55 => ⟨S_, .f32⟩
  | 56 => ⟨S1x4096, .f32⟩
  | 57 => ⟨S1x4096x1, .f32⟩
  | 58 => ⟨S_, .f32⟩
  | 59 => ⟨S1x4096x1, .f32⟩
  | 60 => ⟨S1x4096x1, .f32⟩
  | 61 => ⟨S_, .f32⟩
  | 62 => ⟨S1x4096x1, .f32⟩
  | 63 => ⟨S1x4096x1, .f32⟩
  | 64 => ⟨S1x4096x1, .f32⟩
  | 65 => ⟨S1x4096x1, .f32⟩
  | 66 => ⟨S_, .f32⟩
  | 67 => ⟨S1x4096x1, .f32⟩
  | 68 => ⟨S1x4096x1, .f32⟩
  | 69 => ⟨S1x4096x1024, .f32⟩
  | 70 => ⟨S1x4096x1024, .f32⟩
  | 71 => ⟨S1x1x1024, .f32⟩
  | 72 => ⟨S1x4096x1024, .f32⟩
  | 73 => ⟨S1x4096x1024, .f32⟩
  | 74 => ⟨S1x4096x1024, .f32⟩
  | 75 => ⟨S1x4096x1024, .f32⟩
  | 76 => ⟨S_, .f32⟩
  | 77 => ⟨S1x4096x1024, .f32⟩
  | 78 => ⟨S1x4096x1024, .f32⟩
  | 79 => ⟨S_, .f32⟩
  | 80 => ⟨S1x4096, .f32⟩
  | 81 => ⟨S_, .f32⟩
  | 82 => ⟨S1x4096, .f32⟩
  | 83 => ⟨S1x4096, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S1x4096, .f32⟩
  | 92 => ⟨S_, .f32⟩
  | 93 => ⟨S1x4096, .f32⟩
  | 94 => ⟨S1x4096, .f32⟩
  | 95 => ⟨S1x4096x1024, .f32⟩
  | 96 => ⟨S1x4096x1024, .f32⟩
  | 97 => ⟨S1x4096x1024, .f32⟩
  | 98 => ⟨S_, .f32⟩
  | 99 => ⟨S1x1024, .f32⟩
  | 100 => ⟨S1x1x1024, .f32⟩
  | 101 => ⟨S1x4096x1024, .f32⟩
  | 102 => ⟨S1x4096x1024, .f32⟩
  | 103 => ⟨S_, .f32⟩
  | 104 => ⟨S1024, .f32⟩
  | 105 => ⟨S1x4096x1024, .f32⟩
  | 106 => ⟨S_, .f32⟩
  | 107 => ⟨S1x4096, .f32⟩
  | 108 => ⟨S1x4096x1, .f32⟩
  | 109 => ⟨S1x4096x1024, .f32⟩
  | 110 => ⟨S1x4096x1024, .f32⟩
  | 111 => ⟨S1x4096x1, .f32⟩
  | 112 => ⟨S_, .f32⟩
  | 113 => ⟨S1x4096x1, .f32⟩
  | 114 => ⟨S1x4096x1, .f32⟩
  | 115 => ⟨S_, .f32⟩
  | 116 => ⟨S4096, .f32⟩
  | 117 => ⟨S1x4096, .f32⟩
  | 118 => ⟨S1x4096x1024, .f32⟩
  | 119 => ⟨S1x4096x1024, .f32⟩
  | 120 => ⟨S1x4096x1024, .f32⟩
  | 121 => ⟨S1x4096x1024, .f32⟩
  | 122 => ⟨S1x4096x1024, .f32⟩
  | 123 => ⟨S1x4096x2816, .f32⟩
  | 124 => ⟨S1x4096x2816, .f32⟩
  | 125 => ⟨S1x4096x2816, .f32⟩
  | 126 => ⟨S1x4096x2816, .f32⟩
  | 127 => ⟨S1x4096x2816, .f32⟩
  | _ => ⟨S4096x1024, .f32⟩

abbrev hbmTy0_1 (i : Nat) : BufTy := match i % 128 with
  | 0 => ⟨S1x4096x2816, .f32⟩
  | 1 => ⟨S1x4096x2816, .f32⟩
  | 2 => ⟨S1x4096x1024, .f32⟩
  | 3 => ⟨S1x4096x1024, .f32⟩
  | 4 => ⟨S1x4096x1024, .f32⟩
  | 5 => ⟨S1x4096x1024, .f32⟩
  | 6 => ⟨S_, .f32⟩
  | 7 => ⟨S1x1024, .f32⟩
  | 8 => ⟨S1x1x1024, .f32⟩
  | 9 => ⟨S1x4096x1024, .f32⟩
  | 10 => ⟨S1x4096x1024, .f32⟩
  | 11 => ⟨S_, .f32⟩
  | 12 => ⟨S1024, .f32⟩
  | 13 => ⟨S1x4096x1024, .f32⟩
  | 14 => ⟨S_, .f32⟩
  | 15 => ⟨S1x4096, .f32⟩
  | 16 => ⟨S1x4096x1, .f32⟩
  | 17 => ⟨S1x4096x1024, .f32⟩
  | 18 => ⟨S1x4096x1024, .f32⟩
  | 19 => ⟨S1x4096x1, .f32⟩
  | 20 => ⟨S_, .f32⟩
  | 21 => ⟨S1x4096x1, .f32⟩
  | 22 => ⟨S1x4096x1, .f32⟩
  | 23 => ⟨S_, .f32⟩
  | 24 => ⟨S4096, .f32⟩
  | 25 => ⟨S1x4096, .f32⟩
  | 26 => ⟨S1x4096x1024, .f32⟩
  | 27 => ⟨S1x4096x1024, .f32⟩
  | 28 => ⟨S1x4096x1024, .f32⟩
  | 29 => ⟨S1x4096x1024, .f32⟩
  | 30 => ⟨S1x4096x1024, .f32⟩
  | 31 => ⟨S1x1024, .f32⟩
  | 32 => ⟨S1x4096x1024, .f32⟩
  | 33 => ⟨S4096x2816, .f32⟩
  | 34 => ⟨S4096x2816, .bf16⟩
  | 35 => ⟨S4096x1024, .f32⟩
  | 36 => ⟨S4096x1024, .bf16⟩
  | 37 => ⟨S4096x1024, .f32⟩
  | 38 => ⟨S4096x1024, .bf16⟩
  | 39 => ⟨S2x4096x2816, .f32⟩
  | 40 => ⟨S2x4096x2816, .bf16⟩
  | 41 => ⟨S4096x1024, .f32⟩
  | 42 => ⟨S4096x1024, .f32⟩
  | 43 => ⟨S4096x1024, .bf16⟩
  | 44 => ⟨S1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v27_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v27_1 : Ref sig .tc := ⟨.hbm, 48, rfl⟩
abbrev main_v27_0 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_3 : Ref sig .tc := ⟨.hbm, 55, rfl⟩
abbrev main_v33 : Ref sig .tc := ⟨.hbm, 56, rfl⟩
abbrev main_v34 : Ref sig .tc := ⟨.hbm, 57, rfl⟩
abbrev main_cst_4 : Ref sig .tc := ⟨.hbm, 58, rfl⟩
abbrev main_v35 : Ref sig .tc := ⟨.hbm, 59, rfl⟩
abbrev main_v36 : Ref sig .tc := ⟨.hbm, 60, rfl⟩
abbrev main_cst_5 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_6 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_7 : Ref sig .tc := ⟨.hbm, 76, rfl⟩
abbrev main_v50 : Ref sig .tc := ⟨.hbm, 77, rfl⟩
abbrev main_v51 : Ref sig .tc := ⟨.hbm, 78, rfl⟩
abbrev main_cst_8 : Ref sig .tc := ⟨.hbm, 79, rfl⟩
abbrev main_v52 : Ref sig .tc := ⟨.hbm, 80, rfl⟩
abbrev main_cst_9 : Ref sig .tc := ⟨.hbm, 81, rfl⟩
abbrev main_v53 : Ref sig .tc := ⟨.hbm, 82, rfl⟩
abbrev main_v54 : Ref sig .tc := ⟨.hbm, 83, rfl⟩
abbrev main_cst_10 : Ref sig .tc := ⟨.hbm, 84, rfl⟩
abbrev main_v55 : Ref sig .tc := ⟨.hbm, 85, rfl⟩
abbrev main_cst_11 : Ref sig .tc := ⟨.hbm, 86, rfl⟩
abbrev main_v56 : Ref sig .tc := ⟨.hbm, 87, rfl⟩
abbrev main_cst_12 : Ref sig .tc := ⟨.hbm, 88, rfl⟩
abbrev main_cst_13 : Ref sig .tc := ⟨.hbm, 89, rfl⟩
abbrev main_v57 : Ref sig .tc := ⟨.hbm, 90, rfl⟩
abbrev main_v58 : Ref sig .tc := ⟨.hbm, 91, rfl⟩
abbrev main_cst_14 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_15 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_16 : Ref sig .tc := ⟨.hbm, 103, rfl⟩
abbrev main_v68 : Ref sig .tc := ⟨.hbm, 104, rfl⟩
abbrev main_v69 : Ref sig .tc := ⟨.hbm, 105, rfl⟩
abbrev main_cst_17 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_18 : Ref sig .tc := ⟨.hbm, 112, rfl⟩
abbrev main_v75 : Ref sig .tc := ⟨.hbm, 113, rfl⟩
abbrev main_v76 : Ref sig .tc := ⟨.hbm, 114, rfl⟩
abbrev main_cst_19 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_call1_v0 : Ref sig .tc := ⟨.hbm, 126, rfl⟩
abbrev main_call1_v1 : Ref sig .tc := ⟨.hbm, 127, rfl⟩
abbrev main_call1_v2 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_cst_20 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_cst_21 : Ref sig .tc := ⟨.hbm, 139, rfl⟩
abbrev main_v96 : Ref sig .tc := ⟨.hbm, 140, rfl⟩
abbrev main_v97 : Ref sig .tc := ⟨.hbm, 141, rfl⟩
abbrev main_cst_22 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_cst_23 : Ref sig .tc := ⟨.hbm, 148, rfl⟩
abbrev main_v103 : Ref sig .tc := ⟨.hbm, 149, rfl⟩
abbrev main_v104 : Ref sig .tc := ⟨.hbm, 150, rfl⟩
abbrev main_cst_24 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩

abbrev nD : Nat := 1
abbrev τ : Topo := Topo.v7x

variable {F : FTy → Type} [FloatOps F]
-- ==== GmlpFwd.lean ====
abbrev S8x4096x1024 : Shape := ⟨3, ![8, 4096, 1024]⟩
abbrev S1x1024 : Shape := ⟨2, ![1, 1024]⟩
abbrev S1x8x128x128 : Shape := ⟨4, ![1, 8, 128, 128]⟩
abbrev S1x8x128 : Shape := ⟨3, ![1, 8, 128]⟩
abbrev S_ : Shape := ⟨0, ![]⟩
abbrev S128x128 : Shape := ⟨2, ![128, 128]⟩
abbrev S8x128x128 : Shape := ⟨3, ![8, 128, 128]⟩
abbrev S8x128 : Shape := ⟨2, ![8, 128]⟩
abbrev S128x8 : Shape := ⟨2, ![128, 8]⟩
abbrev S4096x1024 : Shape := ⟨2, ![4096, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1x128x128 : Shape := ⟨3, ![1, 128, 128]⟩
abbrev S512x128 : Shape := ⟨2, ![512, 128]⟩
abbrev S128x512 : Shape := ⟨2, ![128, 512]⟩
abbrev S128x1 : Shape := ⟨2, ![128, 1]⟩

abbrev nBuf : Space → Nat
  | .hbm => 26
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024, .f32⟩
  | .hbm, ⟨3, _⟩ => ⟨S1x8x128x128, .f32⟩
  | .hbm, ⟨4, _⟩ => ⟨S1x8x128, .f32⟩
  | .hbm, ⟨5, _⟩ => ⟨S_, .i1⟩
  | .hbm, ⟨6, _⟩ => ⟨S128x128, .i1⟩
  | .hbm, ⟨7, _⟩ => ⟨S128x128, .i32⟩
  | .hbm, ⟨8, _⟩ => ⟨S_, .i32⟩
  | .hbm, ⟨9, _⟩ => ⟨S128x128, .i32⟩
  | .hbm, ⟨10, _⟩ => ⟨S128x128, .i32⟩
  | .hbm, ⟨11, _⟩ => ⟨S128x128, .i32⟩
  | .hbm, ⟨12, _⟩ => ⟨S128x128, .i1⟩
  | .hbm, ⟨13, _⟩ => ⟨S_, .i1⟩
  | .hbm, ⟨14, _⟩ => ⟨S128x128, .i1⟩
  | .hbm, ⟨15, _⟩ => ⟨S128x128, .i1⟩
  | .hbm, ⟨16, _⟩ => ⟨S8x128x128, .f32⟩
  | .hbm, ⟨17, _⟩ => ⟨S_, .f32⟩
  | .hbm, ⟨18, _⟩ => ⟨S_, .f32⟩
  | .hbm, ⟨19, _⟩ => ⟨S8x128x128, .i1⟩
  | .hbm, ⟨20, _⟩ => ⟨S8x128x128, .f32⟩
  | .hbm, ⟨21, _⟩ => ⟨S8x128x128, .f32⟩
  | .hbm, ⟨22, _⟩ => ⟨S8x128x128, .bf16⟩
  | .hbm, ⟨23, _⟩ => ⟨S8x128, .f32⟩
  | .hbm, ⟨24, _⟩ => ⟨S128x8, .f32⟩
  | .hbm, ⟨25, _⟩ => ⟨S4096x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1024, .f32⟩
  | .local _ .vmem, ⟨5, _⟩ => ⟨S1x1024, .f32⟩
  | .local _ .vmem, ⟨6, _⟩ => ⟨S8x128x128, .bf16⟩
  | .local _ .vmem, ⟨7, _⟩ => ⟨S128x8, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_0 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GmlpFwdIdeal.lean ====
variable {F : FTy → Type} [FloatOps F] [Named F]
def κ : String → Option EReal := fun
  | "gelu_c1" => some ((8943 / 200000 : ℝ) : EReal)
  | _ => none
-- ==== GmlpFwdRefIdeal.lean ====
abbrev S8x4096x1024 : Shape := ⟨3, ![8, 4096, 1024]⟩
abbrev S1x1024 : Shape := ⟨2, ![1, 1024]⟩
abbrev S1x8x128x128 : Shape := ⟨4, ![1, 8, 128, 128]⟩
abbrev S1x8x128 : Shape := ⟨3, ![1, 8, 128]⟩
abbrev S1x4096x1024 : Shape := ⟨3, ![1, 4096, 1024]⟩
abbrev S_ : Shape := ⟨0, ![]⟩
abbrev S1024 : Shape := ⟨1, ![1024]⟩
abbrev S8x128x128 : Shape := ⟨3, ![8, 128, 128]⟩
abbrev S8x128 : Shape := ⟨2, ![8, 128]⟩
abbrev S1x4096 : Shape := ⟨2, ![1, 4096]⟩
abbrev S1x4096x1 : Shape := ⟨3, ![1, 4096, 1]⟩
abbrev S1x1x1024 : Shape := ⟨3, ![1, 1, 1024]⟩
abbrev S1x32x128x8x128 : Shape := ⟨5, ![1, 32, 128, 8, 128]⟩
abbrev S128x128 : Shape := ⟨2, ![128, 128]⟩
abbrev S8x1x32x128x128 : Shape := ⟨5, ![8, 1, 32, 128, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S4096x1024 : Shape := ⟨2, ![4096, 1024]⟩

abbrev nBuf : Space → Nat
  | .hbm => 105
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024, .f32⟩
  | .hbm, ⟨3, _⟩ => ⟨S1x8x128x128, .f32⟩
  | .hbm, ⟨4, _⟩ => ⟨S1x8x128, .f32⟩
  | .hbm, ⟨5, _⟩ => ⟨S1x4096x1024, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1x4096x1024, .f32⟩
  | .hbm, ⟨10, _⟩ => ⟨S1x4096x1024, .f32⟩
  | .hbm, ⟨11, _⟩ => ⟨S1x4096x1024, .f32⟩
  | .hbm, ⟨12, _⟩ => ⟨S1x4096x1024, .f32⟩
  | .hbm, ⟨13, _⟩ => ⟨S1x4096x1024, .f32⟩
  | .hbm, ⟨14, _⟩ => ⟨S_, .f32⟩
  | .hbm, ⟨15, _⟩ => ⟨S1x4096x1024, .f32⟩
  | .hbm, ⟨16, _⟩ => ⟨S1x4096x1024, .f32⟩
  | .hbm, ⟨17, _⟩ => ⟨S1x4096x1024, .f32⟩
  | .hbm, ⟨18, _⟩ => ⟨S_, .f32⟩
  | .hbm, ⟨19, _⟩ => ⟨S1x4096x1024, .f32⟩
  | .hbm, ⟨20, _⟩ => ⟨S1x4096x1024, .f32⟩
  | .hbm, ⟨21, _⟩ => ⟨S_, .f32⟩
  | .hbm, ⟨22, _⟩ => ⟨S1x4096x1024, .f32⟩
  | .hbm, ⟨23, _⟩ => ⟨S1x4096x1024, .f32⟩
  | .hbm, ⟨24, _⟩ => ⟨S1x4096x1024, .f32⟩
  | .hbm, ⟨25, _⟩ => ⟨S1x4096x1024, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S1x4096x1024, .f32⟩
  | .hbm, ⟨30, _⟩ => ⟨S1x4096x1024, .f32⟩
  | .hbm, ⟨31, _⟩ => ⟨S1x4096x1024, .f32⟩
  | .hbm, ⟨32, _⟩ => ⟨S1x4096x1024, .f32⟩
  | .hbm, ⟨33, _⟩ => ⟨S1x4096x1024, .f32⟩
  | .hbm, ⟨34, _⟩ => ⟨S_, .f32⟩
  | .hbm, ⟨35, _⟩ => ⟨S1x4096x1024, .f32⟩
  | .hbm, ⟨36, _⟩ => ⟨S1x4096x1024, .f32⟩
  | .hbm, ⟨37, _⟩ => ⟨S1x4096x1024, .f32⟩
  | .hbm, ⟨38, _⟩ => ⟨S_, .f32⟩
  | .hbm, ⟨39, _⟩ => ⟨S1x4096x1024, .f32⟩
  | .hbm, ⟨40, _⟩ => ⟨S1x4096x1024, .f32⟩
  | .hbm, ⟨41, _⟩ => ⟨S_, .f32⟩
  | .hbm, ⟨42, _⟩ => ⟨S1x4096x1024, .f32⟩
  | .hbm, ⟨43, _⟩ => ⟨S1x4096x1024, .f32⟩
  | .hbm, ⟨44, _⟩ => ⟨S1x4096x1024, .f32⟩
  | .hbm, ⟨45, _⟩ => ⟨S1024, .f32⟩
  | .hbm, ⟨46, _⟩ => ⟨S1024, .f32⟩
  | .hbm, ⟨47, _⟩ => ⟨S8x128x128, .f32⟩
  | .hbm, ⟨48, _⟩ => ⟨S8x128, .f32⟩
  | .hbm, ⟨49, _⟩ => ⟨S_, .f32⟩
  | .hbm, ⟨50, _⟩ => ⟨S1x4096, .f32⟩
  | .hbm, ⟨51, _⟩ => ⟨S1x4096x1, .f32⟩
  | .hbm, ⟨52, _⟩ => ⟨S_, .f32⟩
  | .hbm, ⟨53, _⟩ => ⟨S1x4096x1, .f32⟩
  | .hbm, ⟨54, _⟩ => ⟨S1x4096x1, .f32⟩
  | .hbm, ⟨55, _⟩ => ⟨S1x4096x1024, .f32⟩
  | .hbm, ⟨56, _⟩ => ⟨S1x4096x1024, .f32⟩
  | .hbm, ⟨57, _⟩ => ⟨S1x4096x1024, .f32⟩
  | .hbm, ⟨58, _⟩ => ⟨S_, .f32⟩
  | .hbm, ⟨59, _⟩ => ⟨S1x4096, .f32⟩
  | .hbm, ⟨60, _⟩ => ⟨S1x4096x1, .f32⟩
  | .hbm, ⟨61, _⟩ => ⟨S_, .f32⟩
  | .hbm, ⟨62, _⟩ => ⟨S1x4096x1, .f32⟩
  | .hbm, ⟨63, _⟩ => ⟨S1x4096x1, .f32⟩
  | .hbm, ⟨64, _⟩ => ⟨S1x4096x1024, .f32⟩
  | .hbm, ⟨65, _⟩ => ⟨S1x4096x1024, .f32⟩
  | .hbm, ⟨66, _⟩ => ⟨S_, .f32⟩
  | .hbm, ⟨67, _⟩ => ⟨S1x4096x1, .f32⟩
  | .hbm, ⟨68, _⟩ => ⟨S1x4096x1, .f32⟩
  | .hbm, ⟨69, _⟩ => ⟨S1x4096x1, .f32⟩
  | .hbm, ⟨70, _⟩ => ⟨S1x4096x1024, .f32⟩
  | .hbm, ⟨71, _⟩ => ⟨S1x4096x1024, .f32⟩
  | .hbm, ⟨72, _⟩ => ⟨S1x1x1024, .f32⟩
  | .hbm, ⟨73, _⟩ => ⟨S1x4096x1024, .f32⟩
  | .hbm, ⟨74, _⟩ => ⟨S1x4096x1024, .f32⟩
  | .hbm, ⟨75, _⟩ => ⟨S1x1x1024, .f32⟩
  | .hbm, ⟨76, _⟩ => ⟨S1x4096x1024, .f32⟩
  | .hbm, ⟨77, _⟩ => ⟨S1x4096x1024, .f32⟩
  | .hbm, ⟨78, _⟩ => ⟨S1x32x128x8x128, .f32⟩
  | .hbm, ⟨79, _⟩ => ⟨S_, .i1⟩
  | .hbm, ⟨80, _⟩ => ⟨S128x128, .i1⟩
  | .hbm, ⟨81, _⟩ => ⟨S128x128, .i32⟩
  | .hbm, ⟨82, _⟩ => ⟨S_, .i32⟩
  | .hbm, ⟨83, _⟩ => ⟨S128x128, .i32⟩
  | .hbm, ⟨84, _⟩ => ⟨S128x128, .i32⟩
  | .hbm, ⟨85, _⟩ => ⟨S128x128, .i32⟩
  | .hbm, ⟨86, _⟩ => ⟨S128x128, .i1⟩
  | .hbm, ⟨87, _⟩ => ⟨S_, .i1⟩
  | .hbm, ⟨88, _⟩ => ⟨S128x128, .i1⟩
  | .hbm, ⟨89, _⟩ => ⟨S128x128, .i1⟩
  | .hbm, ⟨90, _⟩ => ⟨S_, .f32⟩
  | .hbm, ⟨91, _⟩ => ⟨S8x128x128, .i1⟩
  | .hbm, ⟨92, _⟩ => ⟨S8x128x128, .f32⟩
  | .hbm, ⟨93, _⟩ => ⟨S8x128x128, .f32⟩
  | .hbm, ⟨94, _⟩ => ⟨S8x1x32x128x128, .f32⟩
  | .hbm, ⟨95, _⟩ => ⟨S1x32x128x8x128, .f32⟩
  | .hbm, ⟨96, _⟩ => ⟨S128x8, .f32⟩
  | .hbm, ⟨97, _⟩ => ⟨S128x8x1, .f32⟩
  | .hbm, ⟨98, _⟩ => ⟨S1x1x128x8x1, .f32⟩
  | .hbm, ⟨99, _⟩ => ⟨S1x32x128x8x128, .f32⟩
  | .hbm, ⟨100, _⟩ => ⟨S1x32x128x8x128, .f32⟩
  | .hbm, ⟨101, _⟩ => ⟨S1x4096x1024, .f32⟩
  | .hbm, ⟨102, _⟩ => ⟨S1x4096x1024, .f32⟩
  | .hbm, ⟨103, _⟩ => ⟨S4096x1024, .f32⟩
  | .hbm, ⟨104, _⟩ => ⟨S4096x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_9 : Ref sig .tc := ⟨.hbm, 49, rfl⟩
abbrev main_v34 : Ref sig .tc := ⟨.hbm, 50, rfl⟩
abbrev main_v35 : Ref sig .tc := ⟨.hbm, 51, rfl⟩
abbrev main_cst_10 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_11 : Ref sig .tc := ⟨.hbm, 58, rfl⟩
abbrev main_v41 : Ref sig .tc := ⟨.hbm, 59, rfl⟩
abbrev main_v42 : Ref sig .tc := ⟨.hbm, 60, rfl⟩
abbrev main_cst_12 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_13 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_c : Ref sig .tc := ⟨.hbm, 79, rfl⟩
abbrev main_v59 : Ref sig .tc := ⟨.hbm, 80, rfl⟩
abbrev main_call0_v0 : Ref sig .tc := ⟨.hbm, 81, rfl⟩
abbrev main_call0_c : Ref sig .tc := ⟨.hbm, 82, rfl⟩
abbrev main_call0_v1 : Ref sig .tc := ⟨.hbm, 83, rfl⟩
abbrev main_call0_v2 : Ref sig .tc := ⟨.hbm, 84, rfl⟩
abbrev main_call0_v3 : Ref sig .tc := ⟨.hbm, 85, rfl⟩
abbrev main_call0_v4 : Ref sig .tc := ⟨.hbm, 86, rfl⟩
abbrev main_call0_c_0 : Ref sig .tc := ⟨.hbm, 87, rfl⟩
abbrev main_call0_v5 : Ref sig .tc := ⟨.hbm, 88, rfl⟩
abbrev main_v60 : Ref sig .tc := ⟨.hbm, 89, rfl⟩
abbrev main_cst_14 : Ref sig .tc := ⟨.hbm, 90, rfl⟩
abbrev main_call1_v0 : Ref sig .tc := ⟨.hbm, 91, rfl⟩
abbrev main_call1_v1 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩

abbrev nD : Nat := 1
abbrev τ : Topo := Topo.v7x

variable {F : FTy → Type} [FloatOps F]
-- ==== MergeFwd.lean ====
abbrev S4096x1024 : Shape := ⟨2, ![4096, 1024]⟩
abbrev S8x4096x1024 : Shape := ⟨3, ![8, 4096, 1024]⟩
abbrev S1024x1024 : Shape := ⟨2, ![1024, 1024]⟩
abbrev S512x1024 : Shape := ⟨2, ![512, 1024]⟩
abbrev S1x512x1024 : Shape := ⟨3, ![1, 512, 1024]⟩

abbrev nBuf : Space → Nat
  | .hbm => 9
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .bf16⟩
  | .hbm, ⟨3, _⟩ => ⟨S8x4096x1024, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S4096x1024, .bf16⟩
  | .hbm, ⟨8, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .f32⟩
  | .local _ .vmem, ⟨16, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_4 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeFwdRefIdeal.lean ====
abbrev S4096x1024 : Shape := ⟨2, ![4096, 1024]⟩
abbrev S8x4096x1024 : Shape := ⟨3, ![8, 4096, 1024]⟩
abbrev S1024x1024 : Shape := ⟨2, ![1024, 1024]⟩
abbrev S1x4096x1024 : Shape := ⟨3, ![1, 4096, 1024]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .bf16⟩
  | .hbm, ⟨3, _⟩ => ⟨S8x4096x1024, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S1x4096x1024, .bf16⟩
  | .hbm, ⟨8, _⟩ => ⟨S1x4096x1024, .f32⟩
  | .hbm, ⟨9, _⟩ => ⟨S1024x1024, .f32⟩
  | .hbm, ⟨10, _⟩ => ⟨S1x4096x1024, .f32⟩
  | .hbm, ⟨11, _⟩ => ⟨S1x4096x1024, .bf16⟩
  | .hbm, ⟨12, _⟩ => ⟨S1x4096x1024, .f32⟩
  | .hbm, ⟨13, _⟩ => ⟨S1024x1024, .f32⟩
  | .hbm, ⟨14, _⟩ => ⟨S1x4096x1024, .f32⟩
  | .hbm, ⟨15, _⟩ => ⟨S1x4096x1024, .f32⟩
  | .hbm, ⟨16, _⟩ => ⟨S1x4096x1024, .f32⟩
  | .hbm, ⟨17, _⟩ => ⟨S1x4096x1024, .f32⟩
  | .hbm, ⟨18, _⟩ => ⟨S_, .f32⟩
  | .hbm, ⟨19, _⟩ => ⟨S1x4096x1024, .f32⟩
  | .hbm, ⟨20, _⟩ => ⟨S1x4096x1024, .f32⟩
  | .hbm, ⟨21, _⟩ => ⟨S_, .f32⟩
  | .hbm, ⟨22, _⟩ => ⟨S1x4096x1024, .f32⟩
  | .hbm, ⟨23, _⟩ => ⟨S1x4096x1024, .f32⟩
  | .hbm, ⟨24, _⟩ => ⟨S1x4096x1024, .f32⟩
  | .hbm, ⟨25, _⟩ => ⟨S1x4096x1024, .f32⟩
  | .hbm, ⟨26, _⟩ => ⟨S1x4096x1024, .f32⟩
  | .hbm, ⟨27, _⟩ => ⟨S1x4096x1024, .f32⟩
  | .hbm, ⟨28, _⟩ => ⟨S_, .f32⟩
  | .hbm, ⟨29, _⟩ => ⟨S1x4096x1024, .f32⟩
  | .hbm, ⟨30, _⟩ => ⟨S1x4096x1024, .f32⟩
  | .hbm, ⟨31, _⟩ => ⟨S_, .f32⟩
  | .hbm, ⟨32, _⟩ => ⟨S1x4096x1024, .f32⟩
  | .hbm, ⟨33, _⟩ => ⟨S1x4096x1024, .f32⟩
  | .hbm, ⟨34, _⟩ => ⟨S1x4096x1024, .f32⟩
  | .hbm, ⟨35, _⟩ => ⟨S1x4096x1024, .f32⟩
  | .hbm, ⟨36, _⟩ => ⟨S1x4096x1024, .f32⟩
  | .hbm, ⟨37, _⟩ => ⟨S1024x1024, .f32⟩
  | .hbm, ⟨38, _⟩ => ⟨S1x4096x1024, .f32⟩
  | .hbm, ⟨39, _⟩ => ⟨S1x4096x1024, .f32⟩
  | .hbm, ⟨40, _⟩ => ⟨S4096x1024, .f32⟩
  | .hbm, ⟨41, _⟩ => ⟨S4096x1024, .bf16⟩
  | .hbm, ⟨42, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== HgrnFwd.lean ====
abbrev S8x4096x1024 : Shape := ⟨3, ![8, 4096, 1024]⟩
abbrev S2x1024 : Shape := ⟨2, ![2, 1024]⟩
abbrev S1x1024 : Shape := ⟨2, ![1, 1024]⟩
abbrev S4096x1024 : Shape := ⟨2, ![4096, 1024]⟩
abbrev S8x64x128x128 : Shape := ⟨4, ![8, 64, 128, 128]⟩
abbrev S1x256x1024 : Shape := ⟨3, ![1, 256, 1024]⟩
abbrev S256x1024 : Shape := ⟨2, ![256, 1024]⟩
abbrev S8x4x128x128 : Shape := ⟨4, ![8, 4, 128, 128]⟩
abbrev S8x128x128 : Shape := ⟨3, ![8, 128, 128]⟩
abbrev S4x64x1024 : Shape := ⟨3, ![4, 64, 1024]⟩
abbrev S4x1x1024 : Shape := ⟨3, ![4, 1, 1024]⟩
abbrev S64x64 : Shape := ⟨2, ![64, 64]⟩
abbrev S1x128x128 : Shape := ⟨3, ![1, 128, 128]⟩
abbrev S128x128 : Shape := ⟨2, ![128, 128]⟩
abbrev S1x1x128x128 : Shape := ⟨4, ![1, 1, 128, 128]⟩
abbrev S64x128 : Shape := ⟨2, ![64, 128]⟩
abbrev S256x128 : Shape := ⟨2, ![256, 128]⟩
abbrev S256 : Shape := ⟨1, ![256]⟩
abbrev S256x1 : Shape := ⟨2, ![256, 1]⟩

abbrev nBuf : Space → Nat
  | .hbm => 6
  | .vmem => 18
  | .smem => 0
  | _ => 0

abbrev bufTy : (tb : Table) → Fin (tcTables nBuf tb) → BufTy
  | .hbm, ⟨0, _⟩ => ⟨S8x4096x1024, .f32⟩
  | .hbm, ⟨1, _⟩ => ⟨S2x1024, .f32⟩
  | .hbm, ⟨2, _⟩ => ⟨S1x1024, .f32⟩
  | .hbm, ⟨3, _⟩ => ⟨S4096x1024, .f32⟩
  | .hbm, ⟨4, _⟩ => ⟨S4096x1024, .bf16⟩
  | .hbm, ⟨5, _⟩ => ⟨S8x64x128x128, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S2x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S8x4x128x128, .f32⟩
  | .local _ .vmem, ⟨15, _⟩ => ⟨S8x4x128x128, .f32⟩
  | .local _ .vmem, ⟨16, _⟩ => ⟨S8x128x128, .f32⟩
  | .local _ .vmem, ⟨17, _⟩ => ⟨S256x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![1, 16], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![c3_i32.toNat, arg1.toNat, arg0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![c4_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![c5_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== HgrnFwdRefIdeal.lean ====
abbrev S8x4096x1024 : Shape := ⟨3, ![8, 4096, 1024]⟩
abbrev S2x1024 : Shape := ⟨2, ![2, 1024]⟩
abbrev S1x1024 : Shape := ⟨2, ![1, 1024]⟩
abbrev S_ : Shape := ⟨0, ![]⟩
abbrev S1024 : Shape := ⟨1, ![1024]⟩
abbrev S1x4096x1024 : Shape := ⟨3, ![1, 4096, 1024]⟩
abbrev S1x1x1024 : Shape := ⟨3, ![1, 1, 1024]⟩
abbrev S1x64x64x8x128 : Shape := ⟨5, ![1, 64, 64, 8, 128]⟩
abbrev S1x8x64x64x128 : Shape := ⟨5, ![1, 8, 64, 64, 128]⟩
abbrev S1x8x64x1x128 : Shape := ⟨5, ![1, 8, 64, 1, 128]⟩
abbrev S64x64 : Shape := ⟨2, ![64, 64]⟩
abbrev S1x8x64x64x64 : Shape := ⟨5, ![1, 8, 64, 64, 64]⟩
abbrev S1x8x64x128x128 : Shape := ⟨5, ![1, 8, 64, 128, 128]⟩
abbrev S1x8x64x128 : Shape := ⟨4, ![1, 8, 64, 128]⟩
abbrev S1x8x128x128 : Shape := ⟨4, ![1, 8, 128, 128]⟩
abbrev S64x1x8x128 : Shape := ⟨4, ![64, 1, 8, 128]⟩
abbrev S64x1x8x128x128 : Shape := ⟨5, ![64, 1, 8, 128, 128]⟩
abbrev S64x1x8x64x128 : Shape := ⟨5, ![64, 1, 8, 64, 128]⟩
abbrev S1x1x8x128 : Shape := ⟨4, ![1, 1, 8, 128]⟩
abbrev S1x8x128 : Shape := ⟨3, ![1, 8, 128]⟩
abbrev S1x1x8x128x128 : Shape := ⟨5, ![1, 1, 8, 128, 128]⟩
abbrev S1x1x8x64x128 : Shape := ⟨5, ![1, 1, 8, 64, 128]⟩
abbrev S1x8x128x1 : Shape := ⟨4, ![1, 8, 128, 1]⟩
abbrev S1x4096x8x128 : Shape := ⟨4, ![1, 4096, 8, 128]⟩
abbrev S1x4096x8 : Shape := ⟨3, ![1, 4096, 8]⟩
abbrev S1x4096x8x1 : Shape := ⟨4, ![1, 4096, 8, 1]⟩
abbrev S4096x1024 : Shape := ⟨2, ![4096, 1024]⟩

abbrev nBuf : Space → Nat
  | .hbm => 186
  | .vmem => 0
  | .smem => 0
  | _ => 0

abbrev hbmTy0_0 (i : Nat) : BufTy := match i % 128 with
  | 0 => ⟨S8x4096x1024, .f32⟩
  | 1 => ⟨S2x1024, .f32⟩
  | 2 => ⟨S1x1024, .f32⟩
  | 3 => ⟨S_, .f32⟩
  | 4 => ⟨S1024, .f32⟩
  | 5 => ⟨S_, .f32⟩
  | 6 => ⟨S1024, .f32⟩
  | 7 => ⟨S1024, .f32⟩
  | 8 => ⟨S1x1024, .f32⟩
  | 9 => ⟨S2x1024, .f32⟩
  | 10 => ⟨S2x1024, .f32⟩
  | 11 => ⟨S2x1024, .f32⟩
  | 12 => ⟨S_, .f32⟩
  | 13 => ⟨S1024, .f32⟩
  | 14 => ⟨S1x1024, .f32⟩
  | 15 => ⟨S2x1024, .f32⟩
  | 16 => ⟨S2x1024, .f32⟩
  | 17 => ⟨S_, .f32⟩
  | 18 => ⟨S_, .f32⟩
  | 19 => ⟨S2x1024, .f32⟩
  | 20 => ⟨S1x4096x1024, .f32⟩
  | 21 => ⟨S1x4096x1024, .f32⟩
  | 22 => ⟨S1x4096x1024, .f32⟩
  | 23 => ⟨S1x1024, .f32⟩
  | 24 => ⟨S1024, .f32⟩
  | 25 => ⟨S_, .f32⟩
  | 26 => ⟨S1024, .f32⟩
  | 27 => ⟨S1024, .f32⟩
  | 28 => ⟨S1x4096x1024, .f32⟩
  | 29 => ⟨S1x4096x1024, .f32⟩
  | 30 => ⟨S_, .f32⟩
  | 31 => ⟨S1x4096x1024, .f32⟩
  | 32 => ⟨S1x4096x1024, .f32⟩
  | 33 => ⟨S_, .f32⟩
  | 34 => ⟨S1x4096x1024, .f32⟩
  | 35 => ⟨S1x4096x1024, .f32⟩
  | 36 => ⟨S1x1x1024, .f32⟩
  | 37 => ⟨S1x4096x1024, .f32⟩
  | 38 => ⟨S1x4096x1024, .f32⟩
  | 39 => ⟨S1x1x1024, .f32⟩
  | 40 => ⟨S1x4096x1024, .f32⟩
  | 41 => ⟨S1x4096x1024, .f32⟩
  | 42 => ⟨S_, .f32⟩
  | 43 => ⟨S1x4096x1024, .f32⟩
  | 44 => ⟨S1x4096x1024, .f32⟩
  | 45 => ⟨S1x4096x1024, .f32⟩
  | 46 => ⟨S1x64x64x8x128, .f32⟩
  | 47 => ⟨S1x8x64x64x128, .f32⟩
  | 48 => ⟨S_, .f32⟩
  | 49 => ⟨S1x8x64x64x128, .f32⟩
  | 50 => ⟨S1x8x64x64x128, .f32⟩
  | 51 => ⟨S1x64x64x8x128, .f32⟩
  | 52 => ⟨S1x8x64x64x128, .f32⟩
  | 53 => ⟨S1x64x64x8x128, .f32⟩
  | 54 => ⟨S1x8x64x64x128, .f32⟩
  | 55 => ⟨S1x64x64x8x128, .f32⟩
  | 56 => ⟨S1x8x64x64x128, .f32⟩
  | 57 => ⟨S_, .f32⟩
  | 58 => ⟨S_, .f32⟩
  | 59 => ⟨S1x8x64x64x128, .f32⟩
  | 60 => ⟨S1x8x64x1x128, .f32⟩
  | 61 => ⟨S1x8x64x1x128, .f32⟩
  | 62 => ⟨S1x8x64x64x128, .f32⟩
  | 63 => ⟨S1x8x64x64x128, .f32⟩
  | 64 => ⟨S1x8x64x64x128, .f32⟩
  | 65 => ⟨S1x8x64x64x128, .f32⟩
  | 66 => ⟨S1x8x64x64x128, .f32⟩
  | 67 => ⟨S1x8x64x64x128, .f32⟩
  | 68 => ⟨S1x8x64x64x128, .f32⟩
  | 69 => ⟨S1x8x64x64x128, .f32⟩
  | 70 => ⟨S_, .i1⟩
  | 71 => ⟨S64x64, .i1⟩
  | 72 => ⟨S64x64, .i32⟩
  | 73 => ⟨S_, .i32⟩
  | 74 => ⟨S64x64, .i32⟩
  | 75 => ⟨S64x64, .i32⟩
  | 76 => ⟨S64x64, .i32⟩
  | 77 => ⟨S64x64, .i1⟩
  | 78 => ⟨S_, .i1⟩
  | 79 => ⟨S64x64, .i1⟩
  | 80 => ⟨S64x64, .i1⟩
  | 81 => ⟨S1x8x64x64x64, .f32⟩
  | 82 => ⟨S_, .f32⟩
  | 83 => ⟨S_, .f32⟩
  | 84 => ⟨S1x8x64x64x64, .i1⟩
  | 85 => ⟨S1x8x64x64x64, .f32⟩
  | 86 => ⟨S1x8x64x64x64, .f32⟩
  | 87 => ⟨S1x8x64x64x128, .f32⟩
  | 88 => ⟨S1x8x64x64x128, .f32⟩
  | 89 => ⟨S1x8x64x64x128, .f32⟩
  | 90 => ⟨S1x8x64x64x128, .f32⟩
  | 91 => ⟨S1x8x64x64x128, .f32⟩
  | 92 => ⟨S1x8x64x128x128, .f32⟩
  | 93 => ⟨S1x8x64x128, .f32⟩
  | 94 => ⟨S1x8x64x128, .f32⟩
  | 95 => ⟨S1x8x64x64x128, .f32⟩
  | 96 => ⟨S1x8x64x64x128, .f32⟩
  | 97 => ⟨S_, .f32⟩
  | 98 => ⟨S1x8x128x128, .f32⟩
  | 99 => ⟨S64x1x8x128, .f32⟩
  | 100 => ⟨S64x1x8x128x128, .f32⟩
  | 101 => ⟨S64x1x8x64x128, .f32⟩
  | 102 => ⟨S64x1x8x64x128, .f32⟩
  | 103 => ⟨S_, .f32⟩
  | 104 => ⟨S64x1x8x64x128, .f32⟩
  | 105 => ⟨S_, .i32⟩
  | 106 => ⟨S64x1x8x128, .f32⟩
  | 107 => ⟨S64x1x8x128x128, .f32⟩
  | 108 => ⟨S64x1x8x64x128, .f32⟩
  | 109 => ⟨S64x1x8x64x128, .f32⟩
  | 110 => ⟨S_, .i32⟩
  | 111 => ⟨S1x8x128x128, .f32⟩
  | 112 => ⟨S64x1x8x64x128, .f32⟩
  | 113 => ⟨S_, .i32⟩
  | 114 => ⟨S_, .i1⟩
  | 115 => ⟨S_, .i32⟩
  | 116 => ⟨S_, .i32⟩
  | 117 => ⟨S_, .i32⟩
  | 118 => ⟨S1x1x8x128, .f32⟩
  | 119 => ⟨S1x8x128, .f32⟩
  | 120 => ⟨S_, .i32⟩
  | 121 => ⟨S_, .i32⟩
  | 122 => ⟨S_, .i32⟩
  | 123 => ⟨S_, .i32⟩
  | 124 => ⟨S1x1x8x128x128, .f32⟩
  | 125 => ⟨S1x8x128x128, .f32⟩
  | 126 => ⟨S_, .i32⟩
  | 127 => ⟨S_, .i32⟩
  | _ => ⟨S8x4096x1024, .f32⟩

abbrev hbmTy0_1 (i : Nat) : BufTy := match i % 128 with
  | 0 => ⟨S_, .i32⟩
  | 1 => ⟨S_, .i32⟩
  | 2 => ⟨S1x1x8x64x128, .f32⟩
  | 3 => ⟨S1x8x64x128, .f32⟩
  | 4 => ⟨S_, .i32⟩
  | 5 => ⟨S_, .i32⟩
  | 6 => ⟨S_, .i32⟩
  | 7 => ⟨S_, .i32⟩
  | 8 => ⟨S1x1x8x64x128, .f32⟩
  | 9 => ⟨S1x8x64x128, .f32⟩
  | 10 => ⟨S1x8x128x1, .f32⟩
  | 11 => ⟨S1x8x128x128, .f32⟩
  | 12 => ⟨S1x8x128x128, .f32⟩
  | 13 => ⟨S1x8x128x128, .f32⟩
  | 14 => ⟨S1x8x64x128, .f32⟩
  | 15 => ⟨S1x8x64x128, .f32⟩
  | 16 => ⟨S1x1x8x64x128, .f32⟩
  | 17 => ⟨S_, .i32⟩
  | 18 => ⟨S_, .i32⟩
  | 19 => ⟨S_, .i32⟩
  | 20 => ⟨S_, .i32⟩
  | 21 => ⟨S64x1x8x64x128, .f32⟩
  | 22 => ⟨S_, .i32⟩
  | 23 => ⟨S_, .i32⟩
  | 24 => ⟨S1x64x64x8x128, .f32⟩
  | 25 => ⟨S1x4096x8x128, .f32⟩
  | 26 => ⟨S1x4096x8x128, .f32⟩
  | 27 => ⟨S_, .f32⟩
  | 28 => ⟨S1x4096x8, .f32⟩
  | 29 => ⟨S1x4096x8x1, .f32⟩
  | 30 => ⟨S_, .f32⟩
  | 31 => ⟨S1x4096x8x1, .f32⟩
  | 32 => ⟨S1x4096x8x1, .f32⟩
  | 33 => ⟨S_, .f32⟩
  | 34 => ⟨S1x4096x8x1, .f32⟩
  | 35 => ⟨S1x4096x8x1, .f32⟩
  | 36 => ⟨S1x4096x8x1, .f32⟩
  | 37 => ⟨S1x4096x8x128, .f32⟩
  | 38 => ⟨S1x4096x8x128, .f32⟩
  | 39 => ⟨S1x4096x1024, .f32⟩
  | 40 => ⟨S1024, .f32⟩
  | 41 => ⟨S1x1x1024, .f32⟩
  | 42 => ⟨S1x4096x1024, .f32⟩
  | 43 => ⟨S1x4096x1024, .f32⟩
  | 44 => ⟨S1x4096x1024, .f32⟩
  | 45 => ⟨S1x4096x1024, .f32⟩
  | 46 => ⟨S1x4096x1024, .f32⟩
  | 47 => ⟨S_, .f32⟩
  | 48 => ⟨S1x4096x1024, .f32⟩
  | 49 => ⟨S1x4096x1024, .f32⟩
  | 50 => ⟨S_, .f32⟩
  | 51 => ⟨S1x4096x1024, .f32⟩
  | 52 => ⟨S1x4096x1024, .f32⟩
  | 53 => ⟨S1x4096x1024, .f32⟩
  | 54 => ⟨S1x4096x1024, .f32⟩
  | 55 => ⟨S4096x1024, .f32⟩
  | 56 => ⟨S4096x1024, .f32⟩
  | 57 => ⟨S4096x1024, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_cst : Ref sig .tc := ⟨.hbm, 17, rfl⟩
abbrev main_call0_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_call1_call0_cst : Ref sig .tc := ⟨.hbm, 57, rfl⟩
abbrev main_call1_call0_v0 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_c : Ref sig .tc := ⟨.hbm, 70, rfl⟩
abbrev main_v55 : Ref sig .tc := ⟨.hbm, 71, rfl⟩
abbrev main_call2_v0 : Ref sig .tc := ⟨.hbm, 72, rfl⟩
abbrev main_call2_c : Ref sig .tc := ⟨.hbm, 73, rfl⟩
abbrev main_call2_v1 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_c_0 : Ref sig .tc := ⟨.hbm, 78, rfl⟩
abbrev main_call2_v5 : Ref sig .tc := ⟨.hbm, 79, rfl⟩
abbrev main_v56 : Ref sig .tc := ⟨.hbm, 80, rfl⟩
abbrev main_v57 : Ref sig .tc := ⟨.hbm, 81, rfl⟩
abbrev main_cst_7 : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_8 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_9 : Ref sig .tc := ⟨.hbm, 103, rfl⟩
abbrev main_v74 : Ref sig .tc := ⟨.hbm, 104, rfl⟩
abbrev main_c_10 : Ref sig .tc := ⟨.hbm, 105, rfl⟩
abbrev main_v75_0 : Ref sig .tc := ⟨.hbm, 106, rfl⟩
abbrev main_v75_1 : Ref sig .tc := ⟨.hbm, 107, rfl⟩
abbrev main_v75_2 : Ref sig .tc := ⟨.hbm, 108, rfl⟩
abbrev main_v75_3 : Ref sig .tc := ⟨.hbm, 109, rfl⟩
abbrev main_v75_4 : Ref sig .tc := ⟨.hbm, 110, rfl⟩
abbrev main_v75_5 : Ref sig .tc := ⟨.hbm, 111, rfl⟩
abbrev main_v75_6 : Ref sig .tc := ⟨.hbm, 112, rfl⟩
abbrev main_while0c_c_20 : Ref sig .tc := ⟨.hbm, 113, rfl⟩
abbrev main_while0c_v99 : Ref sig .tc := ⟨.hbm, 114, rfl⟩
abbrev main_while0b_call4_c : Ref sig .tc := ⟨.hbm, 115, rfl⟩
abbrev main_while0b_call4_c_0 : Ref sig .tc := ⟨.hbm, 116, rfl⟩
abbrev main_while0b_call4_c_1 : Ref sig .tc := ⟨.hbm, 117, rfl⟩
abbrev main_while0b_call4_v0 : Ref sig .tc := ⟨.hbm, 118, rfl⟩
abbrev main_while0b_v99 : Ref sig .tc := ⟨.hbm, 119, rfl⟩
abbrev main_while0b_call5_c : Ref sig .tc := ⟨.hbm, 120, rfl⟩
abbrev main_while0b_call5_c_0 : Ref sig .tc := ⟨.hbm, 121, rfl⟩
abbrev main_while0b_call5_c_1 : Ref sig .tc := ⟨.hbm, 122, rfl⟩
abbrev main_while0b_call5_c_2 : Ref sig .tc := ⟨.hbm, 123, rfl⟩
abbrev main_while0b_call5_v0 : Ref sig .tc := ⟨.hbm, 124, rfl⟩
abbrev main_while0b_v100 : Ref sig .tc := ⟨.hbm, 125, rfl⟩
abbrev main_while0b_call6_c : Ref sig .tc := ⟨.hbm, 126, rfl⟩
abbrev main_while0b_call6_c_0 : Ref sig .tc := ⟨.hbm, 127, rfl⟩
abbrev main_while0b_call6_c_1 : Ref sig .tc := ⟨.hbm, 128, rfl⟩
abbrev main_while0b_call6_c_2 : Ref sig .tc := ⟨.hbm, 129, rfl⟩
abbrev main_while0b_call6_v0 : Ref sig .tc := ⟨.hbm, 130, rfl⟩
abbrev main_while0b_v101 : Ref sig .tc := ⟨.hbm, 131, rfl⟩
abbrev main_while0b_call7_c : Ref sig .tc := ⟨.hbm, 132, rfl⟩
abbrev main_while0b_call7_c_0 : Ref sig .tc := ⟨.hbm, 133, rfl⟩
abbrev main_while0b_call7_c_1 : Ref sig .tc := ⟨.hbm, 134, rfl⟩
abbrev main_while0b_call7_c_2 : Ref sig .tc := ⟨.hbm, 135, rfl⟩
abbrev main_while0b_call7_v0 : Ref sig .tc := ⟨.hbm, 136, rfl⟩
abbrev main_while0b_v102 : Ref sig .tc := ⟨.hbm, 137, rfl⟩
abbrev main_while0b_v103 : Ref sig .tc := ⟨.hbm, 138, rfl⟩
abbrev main_while0b_v104 : Ref sig .tc := ⟨.hbm, 139, rfl⟩
abbrev main_while0b_v105 : Ref sig .tc := ⟨.hbm, 140, rfl⟩
abbrev main_while0b_v106 : Ref sig .tc := ⟨.hbm, 141, rfl⟩
abbrev main_while0b_v107 : Ref sig .tc := ⟨.hbm, 142, rfl⟩
abbrev main_while0b_v108 : Ref sig .tc := ⟨.hbm, 143, rfl⟩
abbrev main_while0b_call8_v0 : Ref sig .tc := ⟨.hbm, 144, rfl⟩
abbrev main_while0b_call8_c : Ref sig .tc := ⟨.hbm, 145, rfl⟩
abbrev main_while0b_call8_c_0 : Ref sig .tc := ⟨.hbm, 146, rfl⟩
abbrev main_while0b_call8_c_1 : Ref sig .tc := ⟨.hbm, 147, rfl⟩
abbrev main_while0b_call8_c_2 : Ref sig .tc := ⟨.hbm, 148, rfl⟩
abbrev main_while0b_v109 : Ref sig .tc := ⟨.hbm, 149, rfl⟩
abbrev main_while0b_c_20 : Ref sig .tc := ⟨.hbm, 150, rfl⟩
abbrev main_while0b_v110 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_cst_11 : Ref sig .tc := ⟨.hbm, 155, rfl⟩
abbrev main_v79 : Ref sig .tc := ⟨.hbm, 156, rfl⟩
abbrev main_v80 : Ref sig .tc := ⟨.hbm, 157, rfl⟩
abbrev main_cst_12 : Ref sig .tc := ⟨.hbm, 158, rfl⟩
abbrev main_v81 : Ref sig .tc := ⟨.hbm, 159, rfl⟩
abbrev main_v82 : Ref sig .tc := ⟨.hbm, 160, rfl⟩
abbrev main_cst_13 : Ref sig .tc := ⟨.hbm, 161, rfl⟩
abbrev main_v83 : Ref sig .tc := ⟨.hbm, 162, rfl⟩
abbrev main_v84 : Ref sig .tc := ⟨.hbm, 163, rfl⟩
abbrev main_v85 : Ref sig .tc := ⟨.hbm, 164, rfl⟩
abbrev main_v86 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_call9_v0 : Ref sig .tc := ⟨.hbm, 173, rfl⟩
abbrev main_call9_v1 : Ref sig .tc := ⟨.hbm, 174, rfl⟩
abbrev main_call9_cst : Ref sig .tc := ⟨.hbm, 175, rfl⟩
abbrev main_call9_v2 : Ref sig .tc := ⟨.hbm, 176, rfl⟩
abbrev main_call9_v3 : Ref sig .tc := ⟨.hbm, 177, rfl⟩
abbrev main_call9_cst_0 : Ref sig .tc := ⟨.hbm, 178, rfl⟩
abbrev main_call9_v4 : Ref sig .tc := ⟨.hbm, 179, rfl⟩
abbrev main_call9_v5 : Ref sig .tc := ⟨.hbm, 180, rfl⟩
abbrev main_v94 : Ref sig .tc := ⟨.hbm, 181, rfl⟩
abbrev main_v95 : Ref sig .tc := ⟨.hbm, 182, rfl⟩
abbrev main_v96 : Ref sig .tc := ⟨.hbm, 183, rfl⟩
abbrev main_v97 : Ref sig .tc := ⟨.hbm, 184, rfl⟩
abbrev main_v98 : Ref sig .tc := ⟨.hbm, 185, rfl⟩

abbrev nD : Nat := 1
abbrev τ : Topo := Topo.v7x

variable {F : FTy → Type} [FloatOps F]

abbrev main_while0_count : Scf.Loop 32 := ⟨0#32, 64#32, 1#32⟩
-- ==== Proof.Blocks.lean ====
/-
  Where an element of a window's block sits in the window's array, stated once for every program's windows.
-/
module

public import Idealize.ShloMosaic.Lib.Pipeline.Value
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Grid Window)

namespace Cert.Blocks

variable {sig : RefSig} {G : Grid}

/-- Element `y` of a block-indexed window's block at point `t` is element `j` of the array, when on each axis `j` is the
    block's offset plus `y`. -/
theorem rect_emb_eq (w : Window sig G) (t : Fin G.N) (y : (w.xblock (G.coords t)).Idx) (j : w.shape.Idx)
    (h : ∀ a, w.index t a * w.size a + (y a : Nat) = (j a : Nat)) (hk : w.kind = .blocked := by first | rfl | decide) :
    (w.rect t).emb y = j :=
  funext fun a => Fin.ext ((w.rect_emb_val t y a hk).trans (h a))

/-- Membership in a block read from its offsets: `j` is in the block at point `t` when some `y` is placed at `j`. -/
theorem mem_rect (w : Window sig G) (t : Fin G.N) (y : (w.xblock (G.coords t)).Idx) (j : w.shape.Idx)
    (h : ∀ a, w.index t a * w.size a + (y a : Nat) = (j a : Nat)) (hk : w.kind = .blocked := by first | rfl | decide) :
    j ∈ (w.rect t).set := by
  rw [← rect_emb_eq w t y j h hk]; exact (w.rect t).toLoadRect.idx_mem y

/-- An index of a matrix, by its coordinates. -/
theorem exists_ix2 {a b : Nat} (i : (⟨2, ![a, b]⟩ : Shape).Idx) : ∃ (r : Fin a) (l : Fin b), i = ix2 r l :=
  ⟨i 0, i 1, (ix2_eta i).symm⟩

/-- An index of a stack of matrices, by its coordinates. -/
theorem exists_ix3 {a b d : Nat} (i : (⟨3, ![a, b, d]⟩ : Shape).Idx) : ∃ (k : Fin a) (r : Fin b) (l : Fin d), i = ix3 k r l :=
  ⟨i 0, i 1, i 2, (ix3_eta i).symm⟩

end Cert.Blocks

end
-- ==== Proof.MergeValue.lean ====
/-
  The gradient of the merge, kernel side: what `MergeBwdIdeal`'s run leaves in its three results, element by element.
-/
module

public import proofs.«01_k».proof.Proof.Gen.MergeBwdIdeal.Frame
public import proofs.«01_k».proof.Proof.Blocks

@[expose] public section

set_option maxRecDepth 16384

noncomputable section

open Idealize.ShloMosaic Idealize.ShloMosaic.TcCoe Idealize.SL.Sem
open Idealize.ShloMosaic.Pipeline (Dat)

namespace Cert.MergeBwdIdeal.KValue

open Cert.MergeBwdIdeal Cert.MergeBwdIdeal.Gen Cert.Blocks

/-- The logistic function as both programs spell it once the float formats are gone. -/
def sig1 (g : EReal) : EReal := Ideal.div 1 (1 + Ideal.exp (-g))

/-- Row `i` of the cotangent against row `j` of the output weights: the gradient of the merged activations. -/
def dmerged (dx : S4096x1024.Idx → EReal) (wo : S1024x1024.Idx → EReal) (i : Fin 4096) (j : Fin 1024) : EReal :=
  ∑ k : Fin 1024, dx (ix2 i k) * wo (ix2 j k)

/-- A branch's activations before its gate: row `i` of `a` through the branch's weights. -/
def branch (a : S4096x1024.Idx → EReal) (w : S1024x1024.Idx → EReal) (i : Fin 4096) (j : Fin 1024) : EReal :=
  ∑ k : Fin 1024, a (ix2 i k) * w (ix2 k j)

variable (m : (ℓ : Loc nD τ sig) → Buf (Elt Ideal) ℓ)

/-- Row `r` of the block at point `t`. -/
def row (t : Fin cfg0.N) (r : Fin 512) : Fin 4096 := ⟨t.val * 512 + r.val, by
  have := t.isLt; have h : cfg0.N = 8 := N_0; omega⟩

/-! The input windows' blocks at an index. -/

theorem blk0 (c : Dev nD) (t : Fin cfg0.N) (r : Fin 512) (l : Fin 1024) :
    iblk m c 0 t (ix2 r l) = m ((c : Thread nD τ).loc main_arg0) (ix2 (row t r) l) := by
  have e : ∀ (t : Fin cfg0.N) a, win0_0.index t a * win0_0.size a = ![t.val * 512, 0] a := by decide +kernel
  refine congrArg (m ((c : Thread nD τ).loc main_arg0)) (rect_emb_eq win0_0 t _ _ fun a => ?_)
  rw [e t a]; match a with
  | ⟨0, _⟩ => exact rfl
  | ⟨1, _⟩ => exact Nat.zero_add _

theorem blk1 (c : Dev nD) (t : Fin cfg0.N) (r : Fin 512) (l : Fin 1024) :
    iblk m c 1 t (ix2 r l) = m ((c : Thread nD τ).loc main_arg1) (ix2 (row t r) l) := by
  have e : ∀ (t : Fin cfg0.N) a, win0_1.index t a * win0_1.size a = ![t.val * 512, 0] a := by decide +kernel
  refine congrArg (m ((c : Thread nD τ).loc main_arg1)) (rect_emb_eq win0_1 t _ _ fun a => ?_)
  rw [e t a]; match a with
  | ⟨0, _⟩ => exact rfl
  | ⟨1, _⟩ => exact Nat.zero_add _

theorem blk2 (c : Dev nD) (t : Fin cfg0.N) (r : Fin 512) (l : Fin 1024) :
    iblk m c 2 t (ix2 r l) = m ((c : Thread nD τ).loc main_arg2) (ix2 (row t r) l) := by
  have e : ∀ (t : Fin cfg0.N) a, win0_2.index t a * win0_2.size a = ![t.val * 512, 0] a := by decide +kernel
  refine congrArg (m ((c : Thread nD τ).loc main_arg2)) (rect_emb_eq win0_2 t _ _ fun a => ?_)
  rw [e t a]; match a with
  | ⟨0, _⟩ => exact rfl
  | ⟨1, _⟩ => exact Nat.zero_add _

theorem blk3 (c : Dev nD) (t : Fin cfg0.N) (r : Fin 512) (l : Fin 1024) :
    iblk m c 3 t (ix3 0 r l) = m ((c : Thread nD τ).loc main_arg3) (ix3 6 (row t r) l) := by
  have e : ∀ (t : Fin cfg0.N) a, win0_3.index t a * win0_3.size a = ![6, t.val * 512, 0] a := by decide +kernel
  refine congrArg (m ((c : Thread nD τ).loc main_arg3)) (rect_emb_eq win0_3 t _ _ fun a => ?_)
  rw [e t a]; match a with
  | ⟨0, _⟩ => rfl
  | ⟨1, _⟩ => rfl
  | ⟨2, _⟩ => exact Nat.zero_add _

theorem blk4 (c : Dev nD) (t : Fin cfg0.N) (r : Fin 512) (l : Fin 1024) :
    iblk m c 4 t (ix3 0 r l) = m ((c : Thread nD τ).loc main_arg3) (ix3 7 (row t r) l) := by
  have e : ∀ (t : Fin cfg0.N) a, win0_4.index t a * win0_4.size a = ![7, t.val * 512, 0] a := by decide +kernel
  refine congrArg (m ((c : Thread nD τ).loc main_arg3)) (rect_emb_eq win0_4 t _ _ fun a => ?_)
  rw [e t a]; match a with
  | ⟨0, _⟩ => rfl
  | ⟨1, _⟩ => rfl
  | ⟨2, _⟩ => exact Nat.zero_add _

theorem blk5 (c : Dev nD) (t : Fin cfg0.N) (r : Fin 1024) (l : Fin 1024) :
    iblk m c 5 t (ix2 r l) = m ((c : Thread nD τ).loc main_arg4) (ix2 r l) := by
  have e : ∀ (t : Fin cfg0.N) a, win0_5.index t a * win0_5.size a = ![0, 0] a := by decide +kernel
  refine congrArg (m ((c : Thread nD τ).loc main_arg4)) (rect_emb_eq win0_5 t _ _ fun a => ?_)
  rw [e t a]; match a with
  | ⟨0, _⟩ => exact Nat.zero_add _
  | ⟨1, _⟩ => exact Nat.zero_add _

theorem blk6 (c : Dev nD) (t : Fin cfg0.N) (r : Fin 1024) (l : Fin 1024) :
    iblk m c 6 t (ix2 r l) = m ((c : Thread nD τ).loc main_arg5) (ix2 r l) := by
  have e : ∀ (t : Fin cfg0.N) a, win0_6.index t a * win0_6.size a = ![0, 0] a := by decide +kernel
  refine congrArg (m ((c : Thread nD τ).loc main_arg5)) (rect_emb_eq win0_6 t _ _ fun a => ?_)
  rw [e t a]; match a with
  | ⟨0, _⟩ => exact Nat.zero_add _
  | ⟨1, _⟩ => exact Nat.zero_add _

theorem blk7 (c : Dev nD) (t : Fin cfg0.N) (r : Fin 1024) (l : Fin 1024) :
    iblk m c 7 t (ix2 r l) = m ((c : Thread nD τ).loc main_arg6) (ix2 r l) := by
  have e : ∀ (t : Fin cfg0.N) a, win0_7.index t a * win0_7.size a = ![0, 0] a := by decide +kernel
  refine congrArg (m ((c : Thread nD τ).loc main_arg6)) (rect_emb_eq win0_7 t _ _ fun a => ?_)
  rw [e t a]; match a with
  | ⟨0, _⟩ => exact Nat.zero_add _
  | ⟨1, _⟩ => exact Nat.zero_add _

/-! What the body leaves in its output blocks, at an index. -/

section Body

variable (x0 x1 x2 : Vec Ideal S512x1024 .bf16) (x3 x4 : Vec Ideal S1x512x1024 .f32) (x5 x6 x7 : Vec Ideal S1024x1024 .bf16)

theorem hz2 : (![0, 0] : Fin 2 → Nat) = fun _ => 0 := funext fun a => by fin_cases a <;> rfl

theorem out8_apply (r : Fin 512) (l : Fin 1024) : out0_8 x0 x1 x2 x3 x4 x5 x6 x7 (ix2 r l)
      = (∑ k : Fin 1024, x0 (ix2 r k) * x5 (ix2 l k)) * sig1 (x3 (ix3 0 r l)) := by
  unfold out0_8
  rw [View.canon_unit_zero hz2, sig1, ← zero_sub]
  unfold_payloads
  pointwise

theorem out9_apply (r : Fin 512) (l : Fin 1024) : out0_9 x0 x1 x2 x3 x4 x5 x6 x7 (ix2 r l)
      = (∑ k : Fin 1024, x0 (ix2 r k) * x5 (ix2 l k)) * sig1 (x4 (ix3 0 r l)) := by
  unfold out0_9
  rw [View.canon_unit_zero hz2, sig1, ← zero_sub]
  unfold_payloads
  pointwise

/-- One plane of the gate gradients' block: `a` and `w` the branch's blocks, `g` its gate's. -/
def plane (a : Vec Ideal S512x1024 .bf16) (w : Vec Ideal S1024x1024 .bf16) (g : Vec Ideal S1x512x1024 .f32) (r : Fin 512) (l : Fin 1024) : EReal :=
  (∑ k : Fin 1024, x0 (ix2 r k) * x5 (ix2 l k)) * (∑ k : Fin 1024, a (ix2 r k) * w (ix2 k l)) * sig1 (g (ix3 0 r l)) * (1 - sig1 (g (ix3 0 r l)))

/-- Both planes as one function of the block's index. -/
def planes (y : S2x512x1024.Idx) : EReal :=
  if (y 0 : Nat) = 0 then plane x0 x5 x1 x6 x3 (y 1) (y 2) else plane x0 x5 x2 x7 x4 (y 1) (y 2)

theorem out10_apply (y : S2x512x1024.Idx) : out0_10 x0 x1 x2 x3 x4 x5 x6 x7 y = planes x0 x1 x2 x3 x4 x5 x6 x7 y := by
  unfold out0_10
  refine View.canon_apply_of_pieces (Val := Elt Ideal) (planes x0 x1 x2 x3 x4 x5 x6 x7) _ (fun p hp x => ?_) y (cover0_10 _ _ y)
  simp only [List.mem_cons, List.not_mem_nil, or_false] at hp
  rcases hp with rfl | rfl
  all_goals
    obtain ⟨k, r, l, rfl⟩ := exists_ix3 (a := 1) (b := 512) (d := 1024) x
    obtain rfl : k = 0 := Subsingleton.elim _ _
  · rw [show r0_4.emb (ix3 0 r l) = ix3 1 r l from funext fun a => Fin.ext (by match a with | ⟨0, _⟩ => rfl | ⟨1, _⟩ => simp [Rect.emb_apply] | ⟨2, _⟩ => simp [Rect.emb_apply])]
    refine Eq.trans ?_ (show plane x0 x5 x2 x7 x4 r l = _ from rfl)
    simp only [plane, sig1, ← zero_sub]
    unfold_payloads
    pointwise
  · rw [show r0_3.emb (ix3 0 r l) = ix3 0 r l from funext fun a => Fin.ext (by match a with | ⟨0, _⟩ => rfl | ⟨1, _⟩ => simp [Rect.emb_apply] | ⟨2, _⟩ => simp [Rect.emb_apply])]
    refine Eq.trans ?_ (show plane x0 x5 x1 x6 x3 r l = _ from rfl)
    simp only [plane, sig1, ← zero_sub]
    unfold_payloads
    pointwise

end Body

/-! The three results as functions of the argument arrays, which both programs are shown to compute. -/

section Spec

variable (dx : S4096x1024.Idx → EReal) (ab ob : S4096x1024.Idx → EReal) (proj : S8x4096x1024.Idx → EReal) (wo wa wb : S1024x1024.Idx → EReal)

/-- The gradient of a branch's activations: the merged gradient times the logistic of gate component `k`. -/
def specBranch (k : Fin 8) (i : S4096x1024.Idx) : EReal := dmerged dx wo (i 0) (i 1) * sig1 (proj (ix3 k (i 0) (i 1)))

/-- The gradient of a gate: the merged gradient times the branch's activations times the derivative of the logistic. -/
def specGate (a : S4096x1024.Idx → EReal) (w : S1024x1024.Idx → EReal) (k : Fin 8) (i : Fin 4096) (j : Fin 1024) : EReal :=
  dmerged dx wo i j * branch a w i j * sig1 (proj (ix3 k i j)) * (1 - sig1 (proj (ix3 k i j)))

/-- Both gates' gradients, stacked. -/
def specGates (i : S2x4096x1024.Idx) : EReal :=
  if (i 0 : Nat) = 0 then specGate dx proj wo ab wa 6 (i 1) (i 2) else specGate dx proj wo ob wb 7 (i 1) (i 2)

end Spec

/-! ## The result arrays -/

/-- The kernel's first result: the gradient of the first branch's activations. -/
def dya (c : Dev nD) : Buf (Elt Ideal) ((c : Thread nD τ).loc main_v0_0) :=
  specBranch (m ((c : Thread nD τ).loc main_arg0)) (m ((c : Thread nD τ).loc main_arg3)) (m ((c : Thread nD τ).loc main_arg4)) 6
/-- The second: that of the second branch's. -/
def dyb (c : Dev nD) : Buf (Elt Ideal) ((c : Thread nD τ).loc main_v0_1) :=
  specBranch (m ((c : Thread nD τ).loc main_arg0)) (m ((c : Thread nD τ).loc main_arg3)) (m ((c : Thread nD τ).loc main_arg4)) 7
/-- The third: the gates' gradients. -/
def dgates (c : Dev nD) : Buf (Elt Ideal) ((c : Thread nD τ).loc main_v1) :=
  specGates (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-- The region's third array, of eight components, of which the body fills the last two with the gates' gradients. -/
def full (c : Dev nD) : Buf (Elt Ideal) ((c : Thread nD τ).loc main_v0_2) := fun (i : S8x4096x1024.Idx) =>
  dgates m c (ix3 (if (i 0 : Nat) = 6 then 0 else 1) (i 1) (i 2))

theorem emb_rows (t : Fin cfg0.N) (r : Fin 512) (l : Fin 1024) :
    (win0_8.rect t).emb (ix2 r l) = ix2 (row t r) l ∧ (win0_9.rect t).emb (ix2 r l) = ix2 (row t r) l := by
  have e : ∀ (t : Fin cfg0.N) a, win0_8.index t a * win0_8.size a = ![t.val * 512, 0] a ∧ win0_9.index t a * win0_9.size a = ![t.val * 512, 0] a := by
    decide +kernel
  have h : ∀ a, (![t.val * 512, 0] : Fin 2 → Nat) a + ((ix2 r l : S512x1024.Idx) a : Nat) = ((ix2 (row t r) l : S4096x1024.Idx) a : Nat) := fun a => by
    match a with
    | ⟨0, _⟩ => rfl
    | ⟨1, _⟩ => exact Nat.zero_add _
  exact ⟨rect_emb_eq _ t _ _ fun a => (congrArg (· + _) (e t a).1).trans (h a), rect_emb_eq _ t _ _ fun a => (congrArg (· + _) (e t a).2).trans (h a)⟩

theorem emb_gates (t : Fin cfg0.N) (k : Fin 2) (r : Fin 512) (l : Fin 1024) :
    (win0_10.rect t).emb (ix3 k r l) = (ix3 ⟨6 + k.val, by omega⟩ (row t r) l : S8x4096x1024.Idx) := by
  have e : ∀ (t : Fin cfg0.N) a, win0_10.index t a * win0_10.size a = ![6, t.val * 512, 0] a := by decide +kernel
  refine rect_emb_eq _ t _ _ fun a => ?_
  rw [e t a]; match a with
  | ⟨0, _⟩ => rfl
  | ⟨1, _⟩ => rfl
  | ⟨2, _⟩ => exact Nat.zero_add _

theorem flushed8 (c : Dev nD) (t : Fin cfg0.N) : (dats m 0 c).flushed 8 t = (win0_8.blk t).view.read (Elt Ideal) (dya m c) := by
  funext (y : S512x1024.Idx)
  obtain ⟨r, l, rfl⟩ := exists_ix2 y
  show (dats m 0 c).after 8 t (ix2 r l) = dya m c ((win0_8.rect t).emb (ix2 r l))
  rw [after0_8, (emb_rows t r l).1, out8_apply]
  simp only [blk0, blk3, blk5]
  rfl

theorem flushed9 (c : Dev nD) (t : Fin cfg0.N) : (dats m 0 c).flushed 9 t = (win0_9.blk t).view.read (Elt Ideal) (dyb m c) := by
  funext (y : S512x1024.Idx)
  obtain ⟨r, l, rfl⟩ := exists_ix2 y
  show (dats m 0 c).after 9 t (ix2 r l) = dyb m c ((win0_9.rect t).emb (ix2 r l))
  rw [after0_9, (emb_rows t r l).2, out9_apply]
  simp only [blk0, blk4, blk5]
  rfl

theorem flushed10 (c : Dev nD) (t : Fin cfg0.N) : (dats m 0 c).flushed 10 t = (win0_10.blk t).view.read (Elt Ideal) (full m c) := by
  funext (y : S2x512x1024.Idx)
  obtain ⟨k, r, l, rfl⟩ := exists_ix3 y
  show (dats m 0 c).after 10 t (ix3 k r l) = full m c ((win0_10.rect t).emb (ix3 k r l))
  rw [after0_10, emb_gates t k r l, out10_apply]
  rcases (by omega : k = 0 ∨ k = 1) with rfl | rfl
  · show plane (iblk m c 0 t) (iblk m c 5 t) (iblk m c 1 t) (iblk m c 6 t) (iblk m c 3 t) r l = specGate _ _ _ _ _ 6 (row t r) l
    simp only [plane, blk0, blk1, blk3, blk5, blk6]; rfl
  · show plane (iblk m c 0 t) (iblk m c 5 t) (iblk m c 2 t) (iblk m c 7 t) (iblk m c 4 t) r l = specGate _ _ _ _ _ 7 (row t r) l
    simp only [plane, blk0, blk2, blk4, blk5, blk7]; rfl

/-- The point whose block holds row `i`, and the row within the block. -/
theorem split_row (i : Fin 4096) : ∃ (t : Fin cfg0.N) (r : Fin 512), row t r = i :=
  ⟨⟨i.val / 512, by have h : cfg0.N = 8 := N_0; omega⟩, ⟨i.val % 512, by omega⟩, Fin.ext (Nat.div_add_mod' _ _)⟩

theorem cover8 (i : S4096x1024.Idx) : ∃ t : Fin cfg0.N, (cfg0.win 8).flush t = true ∧ i ∈ ((cfg0.win 8).blk t).view.set := by
  obtain ⟨r, l, rfl⟩ := exists_ix2 i
  obtain ⟨t, r, rfl⟩ := split_row r
  exact ⟨t, flush0_8 t, (emb_rows t r l).1 ▸ ((cfg0.win 8).blk t).view.emb_mem_set (ix2 r l : S512x1024.Idx)⟩

theorem cover9 (i : S4096x1024.Idx) : ∃ t : Fin cfg0.N, (cfg0.win 9).flush t = true ∧ i ∈ ((cfg0.win 9).blk t).view.set := by
  obtain ⟨r, l, rfl⟩ := exists_ix2 i
  obtain ⟨t, r, rfl⟩ := split_row r
  exact ⟨t, flush0_9 t, (emb_rows t r l).2 ▸ ((cfg0.win 9).blk t).view.emb_mem_set (ix2 r l : S512x1024.Idx)⟩

theorem final8 (c : Dev nD) : (dats m 0 c).arrAt 8 cfg0.N = dya m c :=
  (dats m 0 c).arrAt_eq_of_cover 8 (dya m c) (fun t _ => flushed8 m c t) cover8
theorem final9 (c : Dev nD) : (dats m 0 c).arrAt 9 cfg0.N = dyb m c :=
  (dats m 0 c).arrAt_eq_of_cover 9 (dyb m c) (fun t _ => flushed9 m c t) cover9

/-- Of the third array only the last two components are written, and these are read. -/
theorem final10 (c : Dev nD) (k : Fin 2) (i : Fin 4096) (j : Fin 1024) :
    (dats m 0 c).arrAt 10 cfg0.N (ix3 ⟨6 + k.val, by omega⟩ i j : S8x4096x1024.Idx) = dgates m c (ix3 k i j) := by
  obtain ⟨t, r, rfl⟩ := split_row i
  rw [(dats m 0 c).arrAt_eq_piecewise 10 (full m c) (fun t _ => flushed10 m c t), if_pos]
  · rcases (by omega : k = 0 ∨ k = 1) with rfl | rfl <;> rfl
  · exact ⟨t, flush0_10 t, emb_gates t k r j ▸ ((cfg0.win 10).blk t).view.emb_mem_set (ix3 k r j : S2x512x1024.Idx)⟩

/-- The slice after the region, from any contents. -/
theorem tail_v1 (V : Valuation τ sig (Elt Ideal)) :
    StableHlo.after (List.flatten [Gen.hostOps1]) V (Proc.devRef .tc main_v1)
      = extractStridedSlice S2x4096x1024 ![6, 0, 0] (V (Proc.devRef .tc main_v0_2)) slices_S8x4096x1024_S2x4096x1024_6_0_0 := by
  simp only [Gen.hostOps1, List.flatten_cons, List.flatten_nil, List.append_nil, List.cons_append, List.nil_append]
  after_results

theorem final_v1 (c : Dev nD) : Pipeline.afterTail₀ cfgs (Gen.dats m) 0 (Gen.V0 m) [Gen.hostOps1] c main_v1 = dgates m c := by
  refine (tail_v1 _).trans ?_
  rw [show Pipeline.withArrays spec0 c (Gen.V0 m c) (fun w => (Gen.dats m 0 c).arrAt w cfg0.N) (Proc.devRef .tc main_v0_2) = (dats m 0 c).arrAt 10 cfg0.N from
    (dats m 0 c).withArrays_arrAt sharedIn0 (Gen.V0 m c) (A_eq m c) 10]
  funext (i : S2x4096x1024.Idx)
  obtain ⟨k, i, j, rfl⟩ := exists_ix3 i
  refine Eq.trans ?_ (final10 m c k i j)
  pointwise

/-- The run, read: the three results at the functions above of the arguments, and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v0_0) = dya m c
      ∧ r.2.mem ((c.tc : Thread nD τ).loc main_v0_1) = dyb m c
      ∧ r.2.mem ((c.tc : Thread nD τ).loc main_v1) = dgates m c :=
  (θ_run defs _ _).mono (fun _ h c => ⟨((h c).1 8).trans (final8 m c), ((h c).1 9).trans (final9 m c),
      ((h c).2 main_v1 (Pipeline.mem_restRefs_of main_v1 (by decide) (by decide))).trans (final_v1 m c)⟩) (Gen.run_main m ρ)

end Cert.MergeBwdIdeal.KValue

end
-- ==== Proof.MergeRef.lean ====
/-
  The gradient of the merge, reference side: what `MergeBwdRefIdeal` computes, element by element.
-/
module

public import proofs.«01_k».proof.Proof.MergeValue
public import proofs.«01_k».proof.Proof.Gen.MergeBwdRefIdeal.Read

@[expose] public section

set_option maxRecDepth 16384

noncomputable section

open Idealize.ShloMosaic Idealize.ShloMosaic.TcCoe Idealize.SL.Sem

namespace Cert.MergeBwdRefIdeal.RefValue

open Cert.MergeBwdRefIdeal Cert.MergeBwdRefIdeal.Gen Cert.MergeBwdRefIdeal.Read Cert.Blocks Cert.MergeBwdIdeal.KValue

variable (dx ab ob : S4096x1024.Idx → EReal) (proj : S8x4096x1024.Idx → EReal) (wo wa wb : S1024x1024.Idx → EReal)

/-- The product with the output weights, transposed: the gradient of the merged activations. -/
theorem v35_apply (i : Fin 4096) (j : Fin 1024) : val_main_v35 (F := Ideal) dx wo (ix3 0 i j) = dmerged dx wo i j := by
  pointwise [val_main_v35, val_main_v34, val_main_v33, val_main_v10, dmerged]

/-- The two gates' logistics. -/
theorem v16_apply (i : Fin 4096) (j : Fin 1024) : val_main_v16 (F := Ideal) proj (ix3 0 i j) = sig1 (proj (ix3 6 i j)) := by
  pointwise [val_main_v16, val_main_v15, val_main_v14, val_main_v13, val_main_v12, val_main_v11, val_main_v8, val_main_cst, val_main_cst_0, sig1]
theorem v26_apply (i : Fin 4096) (j : Fin 1024) : val_main_v26 (F := Ideal) proj (ix3 0 i j) = sig1 (proj (ix3 7 i j)) := by
  pointwise [val_main_v26, val_main_v25, val_main_v24, val_main_v23, val_main_v22, val_main_v21, val_main_v9, val_main_cst_2, val_main_cst_3, sig1]

/-- The two branches' activations. -/
theorem v3_apply (i : Fin 4096) (j : Fin 1024) : val_main_v3 (F := Ideal) ab wa (ix3 0 i j) = branch ab wa i j := by
  pointwise [val_main_v3, val_main_v2, val_main_v1, val_main_v0, branch]
theorem v7_apply (i : Fin 4096) (j : Fin 1024) : val_main_v7 (F := Ideal) ob wb (ix3 0 i j) = branch ob wb i j := by
  pointwise [val_main_v7, val_main_v6, val_main_v5, val_main_v4, branch]

theorem v43_eq : val_main_v43 (F := Ideal) dx proj wo = specBranch dx proj wo 6 := by
  funext (y : S4096x1024.Idx)
  obtain ⟨i, j, rfl⟩ := exists_ix2 y
  pointwise [val_main_v43, val_main_v42, val_main_v39, specBranch]
  rw [v16_apply, v35_apply, mul_comm]

theorem v45_eq : val_main_v45 (F := Ideal) dx proj wo = specBranch dx proj wo 7 := by
  funext (y : S4096x1024.Idx)
  obtain ⟨i, j, rfl⟩ := exists_ix2 y
  pointwise [val_main_v45, val_main_v44, val_main_v36, specBranch]
  rw [v26_apply, v35_apply, mul_comm]

theorem v47_eq : val_main_v47 (F := Ideal) dx ab ob proj wo wa wb = specGates dx ab ob proj wo wa wb := by
  funext (y : S2x4096x1024.Idx)
  obtain ⟨k, i, j, rfl⟩ := exists_ix3 y
  rcases (by omega : k = 0 ∨ k = 1) with rfl | rfl
  · refine Eq.trans ?_ (show specGate dx proj wo ab wa 6 i j = _ from rfl)
    pointwise [val_main_v47, val_main_v46, val_main_v41, val_main_v40, val_main_v19, val_main_v18, val_main_v17, val_main_cst_1, specGate, v16_apply, v35_apply, v3_apply]
    exact (mul_assoc _ _ _).symm
  · refine Eq.trans ?_ (show specGate dx proj wo ob wb 7 i j = _ from rfl)
    pointwise [val_main_v47, val_main_v46, val_main_v38, val_main_v37, val_main_v29, val_main_v28, val_main_v27, val_main_cst_4, specGate, v26_apply, v35_apply, v7_apply]
    exact (mul_assoc _ _ _).symm

/-- The run, read: the three results at the same functions of the arguments as the kernel's, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v43) = specBranch (m ((c : Thread nD τ).loc main_arg0)) (m ((c : Thread nD τ).loc main_arg3)) (m ((c : Thread nD τ).loc main_arg4)) 6
      ∧ r.2.mem ((c.tc : Thread nD τ).loc main_v45) = specBranch (m ((c : Thread nD τ).loc main_arg0)) (m ((c : Thread nD τ).loc main_arg3)) (m ((c : Thread nD τ).loc main_arg4)) 7
      ∧ r.2.mem ((c.tc : Thread nD τ).loc main_v47) = specGates (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) :=
  (θ_run defs _ _).mono (fun _ h c => ⟨((h c).1.trans (val_main_v43_eq _ _ _)).trans (v43_eq _ _ _),
      ((h c).2.1.trans (val_main_v45_eq _ _ _)).trans (v45_eq _ _ _),
      ((h c).2.2.1.trans (val_main_v47_eq _ _ _ _ _ _ _)).trans (v47_eq _ _ _ _ _ _ _)⟩) (Value.run (F := Ideal) m ρ)

/-- Every argument ends unchanged and every counter at zero: the program declares no semaphore. -/
theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0 :=
  (θ_run defs _ _).mono (fun r h => ⟨fun c => (h c).2.2.2, sem_eq_zero_of_no_sems (by decide) r.2⟩) (Value.run (F := Ideal) m ρ)

end Cert.MergeBwdRefIdeal.RefValue

end
-- ==== Proof.Merge.lean ====
/-
  The claims about the gradient of the merge: what the two runs leave is the same function of the same arguments.
-/
module

public import proofs.«01_k».proof.Defs
public import proofs.«01_k».proof.Proof.MergeValue
public import proofs.«01_k».proof.Proof.MergeRef
public import Idealize.ShloMosaic.Lib.Claim

@[expose] public section

noncomputable section

open Idealize.ShloMosaic Idealize.ShloMosaic.TcCoe Idealize.SL.Sem

namespace Cert.Proof.Merge

open Cert.MergeBwdIdeal.KValue

/-- Both runs end with the three gradients `specBranch` (twice) and `specGates` of the arguments. -/
theorem algebraic : Cert.algebraic_MergeBwdIdeal_MergeBwdRefIdeal := by
  intro m ρ m' ρ' _ hagree
  refine ⟨dya m, dyb m, dgates m, ?_, ?_⟩
  · refine (θ_run Cert.MergeBwdIdeal.defs _ _).mono (fun r h c => ?_) (θ_run_and (run m ρ) (Cert.MergeBwdIdeal.Gen.unchanged m ρ))
    exact ⟨(h.1 c).1, (h.1 c).2.1, (h.1 c).2.2, h.2 c⟩
  · refine (θ_run Cert.MergeBwdRefIdeal.defs _ _).mono (fun r h c => ?_)
      (θ_run_and (Cert.MergeBwdRefIdeal.RefValue.run m' ρ') (Cert.MergeBwdRefIdeal.RefValue.frame m' ρ'))
    obtain ⟨e0, e1, e2, e3, e4, e5, e6⟩ := hagree c
    refine ⟨(h.1 c).1.trans ?_, (h.1 c).2.1.trans ?_, (h.1 c).2.2.trans ?_, h.2.1 c⟩
    · rw [e0, e3, e4]; rfl
    · rw [e0, e3, e4]; rfl
    · rw [e0, e1, e2, e3, e4, e5, e6]; rfl

end Cert.Proof.Merge

end
-- ==== Proof.Pieces.lean ====
/-
  What a body leaves in a buffer it fills piece by piece, stated for every program: the buffer is one function as soon
  as the last stores tile it and each of them is a block of that function.
-/
module

public import proofs.«01_k».proof.Proof.Blocks
public import Idealize.ShloMosaic.Lib.Pipeline.ReadBack
public import Idealize.ShloMosaic.Lib.Pipeline.ValueKit
public import Idealize.ShloMosaic.Lib.Ring

@[expose] public section

noncomputable section

open Idealize.ShloMosaic Idealize.ShloMosaic.TcCoe Idealize.SL.Sem

namespace Cert.Pieces

variable {S : Shape} {e : EltTy}

/-- Stores of which the last `n` tile the buffer, each a block of `G`, leave `G`, whatever was stored before them. -/
theorem canon_of_tiles (G : S.Idx → Elt Ideal e) (n : ℕ) (size : Fin S.rank → ℕ) (L : List (View.Piece (Elt Ideal) S e))
    (ht : View.Piece.tiledL (L.take n) size = true)
    (h : ∀ p ∈ L.take n, ∀ x : p.1.shape.Idx, p.2 x = G (p.1.emb x)) : View.canon L = G := funext fun y => by
  have hc := View.cover_of_tiledL _ size ht y
  conv_lhs => rw [← List.take_append_drop n L]
  exact View.canon_append_of_pieces G _ _ h y hc

/-- Read back through the whole buffer after such stores, it is `G`. -/
theorem readCov_of_tiles {sig : RefSig} {κ : Kind} {sp : Space} (v : View sig κ sp S e) (G : S.Idx → Elt Ideal e) (n : ℕ) (size : Fin S.rank → ℕ)
    (L : List (View.Piece (Elt Ideal) S e)) {off : Fin S.rank → ℕ} (inb : ∀ a, off a + S.size a ≤ S.size a) (h0 : ∀ a, off a = 0)
    (ht : View.Piece.tiledL (L.take n) size = true)
    (h : ∀ p ∈ L.take n, ∀ x : p.1.shape.Idx, p.2 x = G (p.1.emb x)) : v.readCov L (Rect.unit off S.size inb).toLoadRect = G := by
  rw [View.readCov_eq_canon_ld v L _ fun y => ?_, canon_of_tiles G n size L ht h, View.ld_unit_lit inb G h0]
  obtain ⟨p, hp, hy⟩ := View.cover_of_tiledL _ size ht y
  exact ⟨p, List.mem_of_mem_take hp, hy⟩

/-- Where the elements of a rectangle of a matrix sit. -/
theorem emb_ix2 {R C a b o0 o1 : ℕ} (inb) (r : Fin a) (l : Fin b) (h0 : o0 + r < R) (h1 : o1 + l < C) :
    (Rect.unit (s := ⟨2, ![R, C]⟩) ![o0, o1] ![a, b] inb).emb (ix2 r l) = ix2 ⟨o0 + r, h0⟩ ⟨o1 + l, h1⟩ :=
  funext fun k => Fin.ext (by match k with | ⟨0, _⟩ => simp [Rect.emb_apply] | ⟨1, _⟩ => simp [Rect.emb_apply])

/-- Where the elements of a rectangle of a stack of matrices sit. -/
theorem emb_ix3 {K R C d a b o o0 o1 : ℕ} (inb) (k : Fin d) (r : Fin a) (l : Fin b) (h : o + k < K) (h0 : o0 + r < R) (h1 : o1 + l < C) :
    (Rect.unit (s := ⟨3, ![K, R, C]⟩) ![o, o0, o1] ![d, a, b] inb).emb (ix3 k r l) = ix3 ⟨o + k, h⟩ ⟨o0 + r, h0⟩ ⟨o1 + l, h1⟩ :=
  funext fun k => Fin.ext (by match k with | ⟨0, _⟩ => simp [Rect.emb_apply] | ⟨1, _⟩ => simp [Rect.emb_apply] | ⟨2, _⟩ => simp [Rect.emb_apply])

end Cert.Pieces

end
-- ==== Proof.GmlpSpec.lean ====
/-
  The gradient of the gated spatial mixing as a function of its arguments: what both programs are shown to compute.
  Rows have 1024 columns in eight groups of 128; the 4096 rows are 32 chunks of 128.
-/
module

public import proofs.«01_k».proof.Proof.Pieces

@[expose] public section

noncomputable section

open Idealize.ShloMosaic Idealize.ShloMosaic.TcCoe Idealize.SL.Sem

namespace Cert.Gmlp

abbrev Row := Fin 1024 → EReal
abbrev Chunk := Fin 128 → Row

/-! Scalars: the tanh form of the gelu, and its derivative. -/

/-- One half, the root of 2/π, the number of columns, and the norm's small summand, as the programs' float words. -/
def half : EReal := Ideal.ofBits .f32 1056964608#32
def c0 : EReal := Ideal.ofBits .f32 1061962282#32
def width : EReal := Ideal.ofBits .f32 1149239296#32
def eps : EReal := Ideal.ofBits .f32 897988541#32
/-- The cubic coefficient, and three times it. -/
def c1 : EReal := ((8943 / 200000 : ℝ) : EReal)
def c13 : EReal := ((26829 / 200000 : ℝ) : EReal)

def th (x : EReal) : EReal := Ideal.tanh (c0 * (x + c1 * x * x * x))
def gelu (x : EReal) : EReal := half * x * (1 + th x)
def gelu' (x : EReal) : EReal := half * (1 + th x) + half * x * (1 - th x * th x) * (c0 * (1 + c13 * x * x))

/-! Rows: the layer norm without its gain and bias, and the gradient back through it. -/

def mean (f : Row) : EReal := Ideal.div (∑ k, f k) width
def rs (f : Row) : EReal := Ideal.rsqrt (mean (fun k => (f k - mean f) * (f k - mean f)) + eps)
def hat (f : Row) (j : Fin 1024) : EReal := (f j - mean f) * rs f
/-- The gradient `d` of the normalised row, taken back to the row `f`. -/
def back (f d : Row) (j : Fin 1024) : EReal := rs f * (d j - mean d - hat f j * mean (fun k => d k * hat f k))

/-! Chunks: the mixing along the rows of a chunk, one 128 × 128 matrix for each group of columns. -/

def grp (j : Fin 1024) : Fin 8 := ⟨j.val / 128, by omega⟩
def lane (j : Fin 1024) : Fin 128 := ⟨j.val % 128, by omega⟩
def col (g : Fin 8) (d : Fin 128) : Fin 1024 := ⟨g.val * 128 + d.val, by omega⟩

theorem grp_col (g : Fin 8) (d : Fin 128) : grp (col g d) = g := Fin.ext (by simp only [grp, col]; omega)
theorem lane_col (g : Fin 8) (d : Fin 128) : lane (col g d) = d := Fin.ext (by simp only [lane, col]; omega)
theorem col_of (j : Fin 1024) : col (grp j) (lane j) = j := Fin.ext (Nat.div_add_mod' _ _)

/-- The mixed chunk: row `t` is the sum of the rows `s` with weights `w g t s`, plus the bias of row `t`. -/
def mix (w : Fin 8 → Fin 128 → Fin 128 → EReal) (b : Fin 8 → Fin 128 → EReal) (x : Chunk) (t : Fin 128) (j : Fin 1024) : EReal :=
  ∑ s, w (grp j) t s * x s j + b (grp j) t
/-- Its transpose, on a gradient. -/
def unmix (w : Fin 8 → Fin 128 → Fin 128 → EReal) (x : Chunk) (t : Fin 128) (j : Fin 1024) : EReal :=
  ∑ s, w (grp j) s t * x s j

/-! Arrays. -/

def crow (n : Fin 32) (t : Fin 128) : Fin 4096 := ⟨n.val * 128 + t.val, by omega⟩
def chunkOf (i : Fin 4096) : Fin 32 := ⟨i.val / 128, by omega⟩
def rowOf (i : Fin 4096) : Fin 128 := ⟨i.val % 128, by omega⟩

theorem crow_of (i : Fin 4096) : crow (chunkOf i) (rowOf i) = i := Fin.ext (Nat.div_add_mod' _ _)
theorem chunkOf_crow (n : Fin 32) (t : Fin 128) : chunkOf (crow n t) = n := Fin.ext (by simp [chunkOf, crow] <;> omega)
theorem rowOf_crow (n : Fin 32) (t : Fin 128) : rowOf (crow n t) = t := Fin.ext (by simp [rowOf, crow])

section Arrays

variable (dproj : (⟨3, ![8, 4096, 1024]⟩ : Shape).Idx → EReal) (dya : (⟨2, ![4096, 1024]⟩ : Shape).Idx → EReal)
  (proj : (⟨3, ![8, 4096, 1024]⟩ : Shape).Idx → EReal) (lg lb : (⟨2, ![1, 1024]⟩ : Shape).Idx → EReal)
  (ws : (⟨4, ![1, 8, 128, 128]⟩ : Shape).Idx → EReal) (bs : (⟨3, ![1, 8, 128]⟩ : Shape).Idx → EReal)
  (wa : (⟨2, ![1024, 1024]⟩ : Shape).Idx → EReal)

/-- The mixing weights, zero above the diagonal, and the mixing bias. -/
def wm (g : Fin 8) (t s : Fin 128) : EReal := if s ≤ t then ws (ix4 0 g t s) else 0
def bm (g : Fin 8) (t : Fin 128) : EReal := bs (ix3 0 g t)

/-- A row of the gelu of projection component `k`. -/
def gel (k : Fin 8) (i : Fin 4096) : Row := fun j => gelu (proj (ix3 k i j))
/-- The normalised rows of a chunk. -/
def vn (n : Fin 32) : Chunk := fun s j => hat (gel proj 1 (crow n s)) j * lg (ix2 0 j) + lb (ix2 0 j)
/-- The gated rows themselves. -/
def gatedOut (y : (⟨2, ![4096, 1024]⟩ : Shape).Idx) : EReal :=
  gel proj 0 (y 0) (y 1) * mix (wm ws) (bm bs) (vn proj lg lb (chunkOf (y 0))) (rowOf (y 0)) (y 1)
/-- The gradient of the gated rows. -/
def da (i : Fin 4096) : Row := fun j => ∑ k, dya (ix2 i k) * wa (ix2 j k)
/-- The gradient of the mixed rows of a chunk. -/
def dmx (n : Fin 32) : Chunk := fun s j => da dya wa (crow n s) j * gel proj 0 (crow n s) j
/-- The gradient of the normalised rows of a chunk. -/
def dvn (n : Fin 32) : Chunk := unmix (wm ws) (dmx dya proj wa n)

/-- The gradient of the first component. -/
def du (i : Fin 4096) : Row := fun j =>
  da dya wa i j * mix (wm ws) (bm bs) (vn proj lg lb (chunkOf i)) (rowOf i) j * gelu' (proj (ix3 0 i j))
/-- The gradient of the second. -/
def dv (i : Fin 4096) : Row := fun j =>
  back (gel proj 1 i) (fun k => dvn dya proj ws wa (chunkOf i) (rowOf i) k * lg (ix2 0 k)) j * gelu' (proj (ix3 1 i j))

/-- The projection gradients, components 4 and 5 replaced. -/
def dprojOut (y : (⟨3, ![8, 4096, 1024]⟩ : Shape).Idx) : EReal :=
  if (y 0 : Nat) = 4 then du dya proj lg lb ws bs wa (y 1) (y 2)
  else if (y 0 : Nat) = 5 then dv dya proj lg ws wa (y 1) (y 2) else dproj y
/-- The gradients of the norm's gain and bias. -/
def dlgOut (y : (⟨1, ![1024]⟩ : Shape).Idx) : EReal :=
  ∑ i, dvn dya proj ws wa (chunkOf i) (rowOf i) (y 0) * hat (gel proj 1 i) (y 0)
def dlbOut (y : (⟨1, ![1024]⟩ : Shape).Idx) : EReal := ∑ i, dvn dya proj ws wa (chunkOf i) (rowOf i) (y 0)
/-- The gradient of the mixing weights. -/
def dwsOut (y : (⟨3, ![8, 128, 128]⟩ : Shape).Idx) : EReal :=
  if (y 2 : Nat) ≤ (y 1 : Nat) then ∑ n, ∑ d, dmx dya proj wa n (y 1) (col (y 0) d) * vn proj lg lb n (y 2) (col (y 0) d) else 0
/-- The gradient of the mixing bias. -/
def dbsOut (y : (⟨2, ![8, 128]⟩ : Shape).Idx) : EReal := ∑ n, ∑ d, dmx dya proj wa n (y 1) (col (y 0) d)

end Arrays

/-- The mask of both programs: the weights on and below the diagonal. -/
theorem mask {α : Type} (t s : Fin 128) (a b : α) :
    Scalar.select (IntOp.cmpi .sge (IntOp.addi (BitVec.ofNat 32 t.val) 0#32) (BitVec.ofNat 32 s.val)) a b = if s ≤ t then a else b := by
  have h : ∀ t s : Fin 128, IntOp.cmpi .sge (IntOp.addi (BitVec.ofNat 32 t.val) 0#32) (BitVec.ofNat 32 s.val) = if s ≤ t then 1#1 else 0#1 := by
    decide +kernel
  rw [h]; split <;> rfl

/-- The same mask where the program compares once, keeps the outcome as a word and selects by it again. -/
theorem pick (t s : Fin 128) {α : Type} (a b : α) :
    Scalar.select (Scalar.select (IntOp.cmpi .sge (IntOp.addi (BitVec.ofNat 32 t.val) 0#32) (BitVec.ofNat 32 s.val)) 1#1 0#1) a b
      = if s ≤ t then a else b := by
  rw [mask]; split <;> rfl

/-- The group, and the place in it, of a column that is written `o + l` with `o` a multiple of 128. -/
theorem grp_add (o : ℕ) (l : Fin 128) (h : o + l.val < 1024) (ho : 128 ∣ o) : grp ⟨o + l.val, h⟩ = ⟨o / 128, by omega⟩ :=
  Fin.ext (by simp only [grp]; omega)
theorem lane_add (o : ℕ) (l : Fin 128) (h : o + l.val < 1024) (ho : 128 ∣ o) : lane ⟨o + l.val, h⟩ = l :=
  Fin.ext (by simp only [lane]; omega)

end Cert.Gmlp

end
-- ==== Proof.GmlpBody.lean ====
/-
  The gradient of the gated spatial mixing, kernel side: what the body leaves in its four output blocks at a point, as
  functions of the blocks it finds. A block has 256 rows, two chunks of 128.
-/
module

public import proofs.«01_k».proof.Proof.Gen.GmlpBwdIdeal.Frame
public import proofs.«01_k».proof.Proof.GmlpSpec
public import Idealize.ShloMosaic.Rules

@[expose] public section

set_option maxRecDepth 16384
set_option maxHeartbeats 4000000

noncomputable section

open Idealize.ShloMosaic Idealize.ShloMosaic.TcCoe Idealize.SL.Sem
open Idealize.ShloMosaic.Pipeline (Dat)

namespace Cert.GmlpBwdIdeal.KValue

open Cert.GmlpBwdIdeal Cert.GmlpBwdIdeal.Gen Cert.Blocks Cert.Pieces Cert.Gmlp

theorem named1 : (Named.named κ "gelu_c1" 0x3D372713#32 : Ideal .f32) = c1 :=
  (IdealRules.named_const.ideal_named_scalar _ _ _ _ rfl).trans (by norm_num [c1])
theorem named3 : (Named.named κ "gelu_c1_times_3" 0x3E095D4F#32 : Ideal .f32) = c13 :=
  (IdealRules.named_const.ideal_named_scalar _ _ _ _ rfl).trans (by norm_num [c13])

/-- Row `t` of a block's first chunk, and of its second. -/
def lo (t : Fin 128) : Fin 256 := ⟨t.val, by omega⟩
def hi (t : Fin 128) : Fin 256 := ⟨128 + t.val, by omega⟩

/-- A function of a chunk's row, chunk by chunk, as a function of the block's row. -/
def byHalf {α : Type} (f : (Fin 128 → Fin 256) → Fin 128 → α) (r : Fin 256) : α :=
  if h : r.val < 128 then f lo ⟨r.val, h⟩ else f hi ⟨r.val - 128, by omega⟩

theorem byHalf_lo {α : Type} (f : (Fin 128 → Fin 256) → Fin 128 → α) (t : Fin 128) : byHalf f (lo t) = f lo t := dif_pos t.isLt
theorem byHalf_hi {α : Type} (f : (Fin 128 → Fin 256) → Fin 128 → α) (t : Fin 128) : byHalf f (hi t) = f hi t := by
  refine (dif_neg (by simp [hi])).trans (congrArg (f hi) (Fin.ext (by simp [hi])))

/-! ## The vectors the body keeps -/

section Vectors

variable (GU DA : FVec Ideal S256x1024 .f32) (VN : FVec Ideal S256x1024 .bf16) (x6 x7 : Vec Ideal S8x128x128 .bf16) (x8 : Vec Ideal S128x8 .f32)

/-- The gradient of the gelu of the first component. -/
def vdu : FVec Ideal S256x1024 .f32 := fun (y : S256x1024.Idx) =>
  byHalf (fun h t => DA (ix2 (h t) (y 1)) * mix (fun g t s => x6 (ix3 g t s)) (fun g t => x8 (ix2 t g)) (fun s j => VN (ix2 (h s) j)) t (y 1)) (y 0)
/-- The gradient of the normalised rows. -/
def vdvn : FVec Ideal S256x1024 .f32 := fun (y : S256x1024.Idx) =>
  byHalf (fun h t => unmix (fun g s t => x7 (ix3 g t s)) (fun s j => DA (ix2 (h s) j) * GU (ix2 (h s) j)) t (y 1)) (y 0)
/-- What a point adds to the gradient of the mixing weights, and to that of the mixing bias. -/
def vdws (t : Fin 128) (j : Fin 1024) : EReal :=
  ∑ d, DA (ix2 (lo t) (col (grp j) d)) * GU (ix2 (lo t) (col (grp j) d)) * VN (ix2 (lo (lane j)) (col (grp j) d))
    + ∑ d, DA (ix2 (hi t) (col (grp j) d)) * GU (ix2 (hi t) (col (grp j) d)) * VN (ix2 (hi (lane j)) (col (grp j) d))
def vdmix (t : Fin 128) (j : Fin 1024) : EReal := DA (ix2 (lo t) j) * GU (ix2 (lo t) j) + DA (ix2 (hi t) j) * GU (ix2 (hi t) j)

/-- What a point adds to the two accumulators of the normalisation's own parameters, eight rows of partial sums each. -/
def vacc (H D : FVec Ideal S256x1024 .f32) (k : Fin 2) (r : Fin 8) (j : Fin 1024) : EReal :=
  if k = 0 then ∑ x : Fin 32, D (ix2 ⟨x.val * 8 + r.val, by omega⟩ j) * H (ix2 ⟨x.val * 8 + r.val, by omega⟩ j)
  else ∑ x : Fin 32, D (ix2 ⟨x.val * 8 + r.val, by omega⟩ j)
/-- The two planes of the first output, side by side. -/
def vout (P Q : Vec Ideal S1x256x1024 .bf16) (k : Fin 2) (r : Fin 256) (j : Fin 1024) : EReal :=
  if k = 0 then P (ix3 0 r j) else Q (ix3 0 r j)

end Vectors

section Body

variable (c : Dev nD) (i : grid0.Coords) (arg2 : Memref sig .tc .vmem S256x1024 .bf16) (harg2 : arg2.IsWhole) (arg3 : Memref sig .tc .vmem S1024x1024 .bf16) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S8x128x128 .bf16) (harg8 : arg8.IsWhole) (arg9 : Memref sig .tc .vmem S8x128x128 .bf16) (harg9 : arg9.IsWhole) (arg10 : Memref sig .tc .vmem S128x8 .f32) (harg10 : arg10.IsWhole) (arg11 : Memref sig .tc .vmem S2x256x1024 .bf16) (harg11 : arg11.IsWhole) (arg12 : Memref sig .tc .vmem S2x8x1024 .f32) (harg12 : arg12.IsWhole) (arg13 : Memref sig .tc .vmem S128x1024 .f32) (harg13 : arg13.IsWhole) (arg14 : Memref sig .tc .vmem S128x1024 .f32) (harg14 : arg14.IsWhole) (arg15 : Memref sig .tc .vmem S256x1024 .f32) (harg15 : arg15.IsWhole) (arg16 : Memref sig .tc .vmem S256x1024 .f32) (harg16 : arg16.IsWhole)
  (x0 : Vec Ideal S256x1024 .bf16) (x1 : Vec Ideal S1024x1024 .bf16) (x2 : Vec Ideal S1x256x1024 .f32) (x3 : Vec Ideal S1x256x1024 .f32) (x4 : Vec Ideal S1x1024 .f32) (x5 : Vec Ideal S1x1024 .f32) (x6 : Vec Ideal S8x128x128 .bf16) (x7 : Vec Ideal S8x128x128 .bf16) (x8 : Vec Ideal S128x8 .f32)
  (xo10 : Vec Ideal S2x8x1024 .f32) (xo11 : Vec Ideal S128x1024 .f32) (xo12 : Vec Ideal S128x1024 .f32)

/-- The gelu of the first component, the gradient of the gated rows, and the normalised rows. -/
abbrev GU := k0_pay8 (F := Ideal) x2
abbrev DA := k0_pay16 (F := Ideal) x0 x1
abbrev VN := k0_pay15 x4 (k0_pay10 (F := Ideal) x3) (k0_pay11 x3) x5

theorem out12_A (hc0 : cond0_0 i) : out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8
    = fun (y : S128x1024.Idx) => k0_pay4 (F := Ideal) y + vdmix (GU x2) (DA x0 x1) (y 0) (y 1) := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]
  simp (disch := decide) only [↓ View.readCov_skip, ↓ View.readCov_cons_toLoadRect, ↓ View.readCov_fill, View.ld_unit_lit']
  refine canon_of_tiles _ 8 ![128, 128] _ (by sl_kernel_rfl) fun p hp x => ?_
  simp only [List.take_succ_cons, List.take_zero, List.mem_cons, List.not_mem_nil, or_false] at hp
  rcases hp with rfl | rfl | rfl | rfl | rfl | rfl | rfl | rfl
  all_goals
    obtain ⟨r, l, rfl⟩ := exists_ix2 (a := 128) (b := 128) x
    rw [emb_ix2 (h0 := by omega) (h1 := by omega)]
    simp only [vdmix, GU, DA]
    first
      | (generalize k0_pay15 x4 (k0_pay10 x3) (k0_pay11 x3) x5 = VN, k0_pay16 x0 x1 = DA, k0_pay8 x2 = GU; unfold_payloads; pointwise; rfl)
      | (unfold_payloads; pointwise; rfl)

theorem out11_A (hc0 : cond0_0 i) : out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8
    = fun (y : S128x1024.Idx) => k0_pay3 (F := Ideal) y + vdws (GU x2) (DA x0 x1) (VN x3 x4 x5) (y 0) (y 1) := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]
  simp (disch := decide) only [↓ View.readCov_skip, ↓ View.readCov_cons_toLoadRect, ↓ View.readCov_fill, View.ld_unit_lit']
  refine canon_of_tiles _ 8 ![128, 128] _ (by sl_kernel_rfl) fun p hp x => ?_
  simp only [List.take_succ_cons, List.take_zero, List.mem_cons, List.not_mem_nil, or_false] at hp
  rcases hp with rfl | rfl | rfl | rfl | rfl | rfl | rfl | rfl
  all_goals
    obtain ⟨r, l, rfl⟩ := exists_ix2 (a := 128) (b := 128) x
    rw [emb_ix2 (h0 := by omega) (h1 := by omega)]
    simp only [vdws, GU, DA, VN, Matrix.cons_val_zero, Matrix.cons_val_one, ix2_0, ix2_1]
    simp (disch := decide) only [grp_add, lane_add]
    first
      | (generalize k0_pay15 x4 (k0_pay10 x3) (k0_pay11 x3) x5 = VN, k0_pay16 x0 x1 = DA, k0_pay8 x2 = GU; unfold_payloads; pointwise; rfl)
      | (unfold_payloads; pointwise; rfl)

theorem out10_A (hc0 : cond0_0 i) : out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8
    = fun (y : S2x8x1024.Idx) => k0_pay2 (F := Ideal) y + vacc (k0_pay14 (k0_pay10 x3) (k0_pay11 x3)) (vdvn (GU x2) (DA x0 x1) x7) (y 0) (y 1) (y 2) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]
  simp (disch := decide) only [↓ View.readCov_skip, ↓ View.readCov_cons_toLoadRect, ↓ View.readCov_fill, View.ld_unit_lit']
  rw [readCov_of_tiles arg16.view (vdvn (GU x2) (DA x0 x1) x7) 8 ![256, 128] _ _ (by decide) (by sl_kernel_rfl) fun p hp x => ?dvn]
  case dvn =>
    simp only [List.take_succ_cons, List.take_zero, List.mem_cons, List.not_mem_nil, or_false] at hp
    rcases hp with rfl | rfl | rfl | rfl | rfl | rfl | rfl | rfl
    all_goals
      obtain ⟨r, l, rfl⟩ := exists_ix2 (a := 256) (b := 128) x
      rw [emb_ix2 (h0 := by omega) (h1 := by omega)]
      simp only [vdvn, unmix, byHalf, GU, DA, VN, Matrix.cons_val_zero, Matrix.cons_val_one, ix2_0, ix2_1]
      simp (disch := decide) only [grp_add, lane_add]
      first
        | (generalize k0_pay15 x4 (k0_pay10 x3) (k0_pay11 x3) x5 = VN, k0_pay16 x0 x1 = DA, k0_pay8 x2 = GU; unfold_payloads; pointwise; rfl)
        | (unfold_payloads; pointwise; rfl)
  refine canon_of_tiles _ 2 ![1, 8, 1024] _ (by sl_kernel_rfl) fun p hp x => ?_
  simp only [List.take_succ_cons, List.take_zero, List.mem_cons, List.not_mem_nil, or_false] at hp
  rcases hp with rfl | rfl
  all_goals
    obtain ⟨k, r, l, rfl⟩ := exists_ix3 (a := 1) (b := 8) (d := 1024) x
    obtain rfl := Subsingleton.elim k 0
    rw [emb_ix3 (h := by omega) (h0 := by omega) (h1 := by omega)]
    generalize vdvn (GU x2) (DA x0 x1) x7 = D, k0_pay14 (k0_pay10 x3) (k0_pay11 x3) = H
    unfold_payloads
    pointwise
    rfl

theorem out9_A (hc0 : cond0_0 i) : out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8
    = fun (y : S2x256x1024.Idx) => vout (k0_pay94 (k0_pay5 x2) (k0_pay7 x2) (vdu (DA x0 x1) (VN x3 x4 x5) x6 x8))
        (k0_pay1 (k0_pay97 x4 (k0_pay13 (k0_pay10 x3) (k0_pay11 x3)) (k0_pay14 (k0_pay10 x3) (k0_pay11 x3)) (vdvn (GU x2) (DA x0 x1) x7)) (k0_pay98 (k0_pay9 x3)) (k0_pay99 (k0_pay6 x3) (k0_pay9 x3)) (k0_pay100 (k0_pay6 x3))) (y 0) (y 1) (y 2) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]
  simp (disch := decide) only [↓ View.readCov_skip, ↓ View.readCov_cons_toLoadRect, ↓ View.readCov_fill, View.ld_unit_lit']
  rw [readCov_of_tiles arg16.view (vdvn (GU x2) (DA x0 x1) x7) 8 ![256, 128] _ _ (by decide) (by sl_kernel_rfl) fun p hp x => ?dvn]
  case dvn =>
    simp only [List.take_succ_cons, List.take_zero, List.mem_cons, List.not_mem_nil, or_false] at hp
    rcases hp with rfl | rfl | rfl | rfl | rfl | rfl | rfl | rfl
    all_goals
      obtain ⟨r, l, rfl⟩ := exists_ix2 (a := 256) (b := 128) x
      rw [emb_ix2 (h0 := by omega) (h1 := by omega)]
      simp only [vdvn, unmix, byHalf, GU, DA, VN, Matrix.cons_val_zero, Matrix.cons_val_one, ix2_0, ix2_1]
      simp (disch := decide) only [grp_add, lane_add]
      first
        | (generalize k0_pay15 x4 (k0_pay10 x3) (k0_pay11 x3) x5 = VN, k0_pay16 x0 x1 = DA, k0_pay8 x2 = GU; unfold_payloads; pointwise; rfl)
        | (unfold_payloads; pointwise; rfl)
  rw [readCov_of_tiles arg15.view (vdu (DA x0 x1) (VN x3 x4 x5) x6 x8) 8 ![256, 128] _ _ (by decide) (by sl_kernel_rfl) fun p hp x => ?du]
  case du =>
    simp only [List.take_succ_cons, List.take_zero, List.mem_cons, List.not_mem_nil, or_false] at hp
    rcases hp with rfl | rfl | rfl | rfl | rfl | rfl | rfl | rfl
    all_goals
      obtain ⟨r, l, rfl⟩ := exists_ix2 (a := 256) (b := 128) x
      rw [emb_ix2 (h0 := by omega) (h1 := by omega)]
      simp only [vdu, mix, byHalf, GU, DA, VN, Matrix.cons_val_zero, Matrix.cons_val_one, ix2_0, ix2_1]
      simp (disch := decide) only [grp_add, lane_add]
      first
        | (generalize k0_pay15 x4 (k0_pay10 x3) (k0_pay11 x3) x5 = VN, k0_pay16 x0 x1 = DA, k0_pay8 x2 = GU; unfold_payloads; pointwise; rfl)
        | (unfold_payloads; pointwise; rfl)
  refine canon_of_tiles _ 2 ![1, 256, 1024] _ (by sl_kernel_rfl) fun p hp x => ?_
  simp only [List.take_succ_cons, List.take_zero, List.mem_cons, List.not_mem_nil, or_false] at hp
  rcases hp with rfl | rfl
  all_goals
    obtain ⟨k, r, l, rfl⟩ := exists_ix3 (a := 1) (b := 256) (d := 1024) x
    obtain rfl := Subsingleton.elim k 0
    rw [emb_ix3 (h := by omega) (h0 := by omega) (h1 := by omega)]
    simp only [vout, Nat.zero_add, Fin.eta]
    rfl
theorem out12_B (hc0 : ¬cond0_0 i) : out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12
    = fun (y : S128x1024.Idx) => xo12 y + vdmix (GU x2) (DA x0 x1) (y 0) (y 1) := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]
  simp (disch := decide) only [↓ View.readCov_skip, ↓ View.readCov_cons_toLoadRect, ↓ View.readCov_fill, View.ld_unit_lit']
  refine canon_of_tiles _ 8 ![128, 128] _ (by sl_kernel_rfl) fun p hp x => ?_
  simp only [List.take_succ_cons, List.take_zero, List.mem_cons, List.not_mem_nil, or_false] at hp
  rcases hp with rfl | rfl | rfl | rfl | rfl | rfl | rfl | rfl
  all_goals
    obtain ⟨r, l, rfl⟩ := exists_ix2 (a := 128) (b := 128) x
    rw [emb_ix2 (h0 := by omega) (h1 := by omega)]
    simp only [vdmix, GU, DA]
    first
      | (generalize k0_pay15 x4 (k0_pay10 x3) (k0_pay11 x3) x5 = VN, k0_pay16 x0 x1 = DA, k0_pay8 x2 = GU; unfold_payloads; pointwise; rfl)
      | (unfold_payloads; pointwise; rfl)

theorem out11_B (hc0 : ¬cond0_0 i) : out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12
    = fun (y : S128x1024.Idx) => xo11 y + vdws (GU x2) (DA x0 x1) (VN x3 x4 x5) (y 0) (y 1) := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]
  simp (disch := decide) only [↓ View.readCov_skip, ↓ View.readCov_cons_toLoadRect, ↓ View.readCov_fill, View.ld_unit_lit']
  refine canon_of_tiles _ 8 ![128, 128] _ (by sl_kernel_rfl) fun p hp x => ?_
  simp only [List.take_succ_cons, List.take_zero, List.mem_cons, List.not_mem_nil, or_false] at hp
  rcases hp with rfl | rfl | rfl | rfl | rfl | rfl | rfl | rfl
  all_goals
    obtain ⟨r, l, rfl⟩ := exists_ix2 (a := 128) (b := 128) x
    rw [emb_ix2 (h0 := by omega) (h1 := by omega)]
    simp only [vdws, GU, DA, VN, Matrix.cons_val_zero, Matrix.cons_val_one, ix2_0, ix2_1]
    simp (disch := decide) only [grp_add, lane_add]
    first
      | (generalize k0_pay15 x4 (k0_pay10 x3) (k0_pay11 x3) x5 = VN, k0_pay16 x0 x1 = DA, k0_pay8 x2 = GU; unfold_payloads; pointwise; rfl)
      | (unfold_payloads; pointwise; rfl)

theorem out10_B (hc0 : ¬cond0_0 i) : out0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12
    = fun (y : S2x8x1024.Idx) => xo10 y + vacc (k0_pay14 (k0_pay10 x3) (k0_pay11 x3)) (vdvn (GU x2) (DA x0 x1) x7) (y 0) (y 1) (y 2) := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]
  simp (disch := decide) only [↓ View.readCov_skip, ↓ View.readCov_cons_toLoadRect, ↓ View.readCov_fill, View.ld_unit_lit']
  rw [readCov_of_tiles arg16.view (vdvn (GU x2) (DA x0 x1) x7) 8 ![256, 128] _ _ (by decide) (by sl_kernel_rfl) fun p hp x => ?dvn]
  case dvn =>
    simp only [List.take_succ_cons, List.take_zero, List.mem_cons, List.not_mem_nil, or_false] at hp
    rcases hp with rfl | rfl | rfl | rfl | rfl | rfl | rfl | rfl
    all_goals
      obtain ⟨r, l, rfl⟩ := exists_ix2 (a := 256) (b := 128) x
      rw [emb_ix2 (h0 := by omega) (h1 := by omega)]
      simp only [vdvn, unmix, byHalf, GU, DA, VN, Matrix.cons_val_zero, Matrix.cons_val_one, ix2_0, ix2_1]
      simp (disch := decide) only [grp_add, lane_add]
      first
        | (generalize k0_pay15 x4 (k0_pay10 x3) (k0_pay11 x3) x5 = VN, k0_pay16 x0 x1 = DA, k0_pay8 x2 = GU; unfold_payloads; pointwise; rfl)
        | (unfold_payloads; pointwise; rfl)
  refine canon_of_tiles _ 2 ![1, 8, 1024] _ (by sl_kernel_rfl) fun p hp x => ?_
  simp only [List.take_succ_cons, List.take_zero, List.mem_cons, List.not_mem_nil, or_false] at hp
  rcases hp with rfl | rfl
  all_goals
    obtain ⟨k, r, l, rfl⟩ := exists_ix3 (a := 1) (b := 8) (d := 1024) x
    obtain rfl := Subsingleton.elim k 0
    rw [emb_ix3 (h := by omega) (h0 := by omega) (h1 := by omega)]
    generalize vdvn (GU x2) (DA x0 x1) x7 = D, k0_pay14 (k0_pay10 x3) (k0_pay11 x3) = H
    unfold_payloads
    pointwise
    rfl

theorem out9_B (hc0 : ¬cond0_0 i) : out0_B_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12
    = fun (y : S2x256x1024.Idx) => vout (k0_pay94 (k0_pay5 x2) (k0_pay7 x2) (vdu (DA x0 x1) (VN x3 x4 x5) x6 x8))
        (k0_pay1 (k0_pay97 x4 (k0_pay13 (k0_pay10 x3) (k0_pay11 x3)) (k0_pay14 (k0_pay10 x3) (k0_pay11 x3)) (vdvn (GU x2) (DA x0 x1) x7)) (k0_pay98 (k0_pay9 x3)) (k0_pay99 (k0_pay6 x3) (k0_pay9 x3)) (k0_pay100 (k0_pay6 x3))) (y 0) (y 1) (y 2) := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]
  simp (disch := decide) only [↓ View.readCov_skip, ↓ View.readCov_cons_toLoadRect, ↓ View.readCov_fill, View.ld_unit_lit']
  rw [readCov_of_tiles arg16.view (vdvn (GU x2) (DA x0 x1) x7) 8 ![256, 128] _ _ (by decide) (by sl_kernel_rfl) fun p hp x => ?dvn]
  case dvn =>
    simp only [List.take_succ_cons, List.take_zero, List.mem_cons, List.not_mem_nil, or_false] at hp
    rcases hp with rfl | rfl | rfl | rfl | rfl | rfl | rfl | rfl
    all_goals
      obtain ⟨r, l, rfl⟩ := exists_ix2 (a := 256) (b := 128) x
      rw [emb_ix2 (h0 := by omega) (h1 := by omega)]
      simp only [vdvn, unmix, byHalf, GU, DA, VN, Matrix.cons_val_zero, Matrix.cons_val_one, ix2_0, ix2_1]
      simp (disch := decide) only [grp_add, lane_add]
      first
        | (generalize k0_pay15 x4 (k0_pay10 x3) (k0_pay11 x3) x5 = VN, k0_pay16 x0 x1 = DA, k0_pay8 x2 = GU; unfold_payloads; pointwise; rfl)
        | (unfold_payloads; pointwise; rfl)
  rw [readCov_of_tiles arg15.view (vdu (DA x0 x1) (VN x3 x4 x5) x6 x8) 8 ![256, 128] _ _ (by decide) (by sl_kernel_rfl) fun p hp x => ?du]
  case du =>
    simp only [List.take_succ_cons, List.take_zero, List.mem_cons, List.not_mem_nil, or_false] at hp
    rcases hp with rfl | rfl | rfl | rfl | rfl | rfl | rfl | rfl
    all_goals
      obtain ⟨r, l, rfl⟩ := exists_ix2 (a := 256) (b := 128) x
      rw [emb_ix2 (h0 := by omega) (h1 := by omega)]
      simp only [vdu, mix, byHalf, GU, DA, VN, Matrix.cons_val_zero, Matrix.cons_val_one, ix2_0, ix2_1]
      simp (disch := decide) only [grp_add, lane_add]
      first
        | (generalize k0_pay15 x4 (k0_pay10 x3) (k0_pay11 x3) x5 = VN, k0_pay16 x0 x1 = DA, k0_pay8 x2 = GU; unfold_payloads; pointwise; rfl)
        | (unfold_payloads; pointwise; rfl)
  refine canon_of_tiles _ 2 ![1, 256, 1024] _ (by sl_kernel_rfl) fun p hp x => ?_
  simp only [List.take_succ_cons, List.take_zero, List.mem_cons, List.not_mem_nil, or_false] at hp
  rcases hp with rfl | rfl
  all_goals
    obtain ⟨k, r, l, rfl⟩ := exists_ix3 (a := 1) (b := 256) (d := 1024) x
    obtain rfl := Subsingleton.elim k 0
    rw [emb_ix3 (h := by omega) (h0 := by omega) (h1 := by omega)]
    simp only [vout, Nat.zero_add, Fin.eta]
    rfl
end Body

/-! ## The vectors at an index -/

section At

variable (x0 : Vec Ideal S256x1024 .bf16) (x1 : Vec Ideal S1024x1024 .bf16) (x2 x3 : Vec Ideal S1x256x1024 .f32) (x4 x5 : Vec Ideal S1x1024 .f32)

theorem GU_apply (r : Fin 256) (j : Fin 1024) : GU x2 (ix2 r j) = gelu (x2 (ix3 0 r j)) := by
  unfold GU; unfold_payloads; pointwise; simp only [named1]; rfl

theorem DA_apply (r : Fin 256) (j : Fin 1024) : DA x0 x1 (ix2 r j) = ∑ k, x0 (ix2 r k) * x1 (ix2 j k) := by
  unfold DA; unfold_payloads; pointwise

theorem p10_apply (r : Fin 256) (j : Fin 1024) : k0_pay10 (F := Ideal) x3 (ix2 r j) = gelu (x3 (ix3 0 r j)) := by
  unfold_payloads; pointwise; simp only [named1]; rfl

theorem p11_apply (r : Fin 256) : k0_pay11 (F := Ideal) x3 (ix2 r 0) = mean fun j => gelu (x3 (ix3 0 r j)) := by
  unfold_payloads; pointwise; simp only [named1]; rfl

theorem H_apply (r : Fin 256) (j : Fin 1024) : k0_pay14 (k0_pay10 (F := Ideal) x3) (k0_pay11 x3) (ix2 r j) = hat (fun j => gelu (x3 (ix3 0 r j))) j := by
  have h (X : FVec Ideal S256x1024 .f32) (M : FVec Ideal S256x1 .f32) (hM : M (ix2 r 0) = mean fun k => X (ix2 r k)) :
      k0_pay14 X M (ix2 r j) = hat (fun k => X (ix2 r k)) j := by
    unfold_payloads; pointwise; simp only [hM]; rfl
  rw [h _ _ (by simp only [p11_apply, p10_apply])]; simp only [p10_apply]

theorem VN_apply (r : Fin 256) (j : Fin 1024) :
    VN x3 x4 x5 (ix2 r j) = hat (fun j => gelu (x3 (ix3 0 r j))) j * x4 (ix2 0 j) + x5 (ix2 0 j) := by
  rw [← H_apply]; unfold VN; generalize k0_pay10 x3 = X, k0_pay11 x3 = M; unfold_payloads; pointwise

/-- The gradient of the first component's plane. -/
theorem P_apply (U : Vec Ideal S256x1024 .f32) (r : Fin 256) (j : Fin 1024) :
    k0_pay94 (k0_pay5 x2) (k0_pay7 x2) U (ix3 0 r j) = U (ix2 r j) * gelu' (x2 (ix3 0 r j)) := by
  unfold_payloads; pointwise; simp only [named1, named3]; rfl

/-- The gradient of the second component's plane. -/
theorem Q_apply (D : Vec Ideal S256x1024 .f32) (r : Fin 256) (j : Fin 1024) :
    k0_pay1 (k0_pay97 x4 (k0_pay13 (k0_pay10 x3) (k0_pay11 x3)) (k0_pay14 (k0_pay10 x3) (k0_pay11 x3)) D) (k0_pay98 (k0_pay9 x3))
        (k0_pay99 (k0_pay6 x3) (k0_pay9 x3)) (k0_pay100 (k0_pay6 x3)) (ix3 0 r j)
      = back (fun j => gelu (x3 (ix3 0 r j))) (fun j => D (ix2 r j) * x4 (ix2 0 j)) j * gelu' (x3 (ix3 0 r j)) := by
  have h13 : k0_pay13 (k0_pay10 (F := Ideal) x3) (k0_pay11 x3) (ix2 r 0) = rs fun j => gelu (x3 (ix3 0 r j)) := by
    have h (X : FVec Ideal S256x1024 .f32) (M : FVec Ideal S256x1 .f32) (hM : M (ix2 r 0) = mean fun k => X (ix2 r k)) :
        k0_pay13 X M (ix2 r 0) = rs (fun k => X (ix2 r k)) := by
      unfold_payloads; pointwise; simp only [hM]; rfl
    rw [h _ _ (by simp only [p11_apply, p10_apply])]; simp only [p10_apply]
  have hH := H_apply x3 r
  generalize k0_pay13 (k0_pay10 x3) (k0_pay11 x3) = R, k0_pay14 (k0_pay10 x3) (k0_pay11 x3) = H at h13 hH ⊢
  unfold_payloads; pointwise; simp only [named1, named3, h13, hH]; rfl

end At

end Cert.GmlpBwdIdeal.KValue

end
-- ==== Proof.GmlpBlocks.lean ====
/-
  The gradient of the gated spatial mixing, kernel side: the blocks its windows read.
-/
module

public import proofs.«01_k».proof.Proof.GmlpBody

@[expose] public section

set_option maxRecDepth 16384
set_option maxHeartbeats 4000000

noncomputable section

open Idealize.ShloMosaic Idealize.ShloMosaic.TcCoe Idealize.SL.Sem
open Idealize.ShloMosaic.Pipeline (Dat)

namespace Cert.GmlpBwdIdeal.KValue

open Cert.GmlpBwdIdeal Cert.GmlpBwdIdeal.Gen Cert.Blocks Cert.Pieces Cert.Gmlp

variable (m : (ℓ : Loc nD τ sig) → Buf (Elt Ideal) ℓ) (c : Dev nD)

/-! The arguments. -/

abbrev Dproj : S8x4096x1024.Idx → EReal := m ((c : Thread nD τ).loc main_arg0)
abbrev Dya : S4096x1024.Idx → EReal := m ((c : Thread nD τ).loc main_arg1)
abbrev Proj : S8x4096x1024.Idx → EReal := m ((c : Thread nD τ).loc main_arg2)
abbrev Lg : S1x1024.Idx → EReal := m ((c : Thread nD τ).loc main_arg3)
abbrev Lb : S1x1024.Idx → EReal := m ((c : Thread nD τ).loc main_arg4)
abbrev Ws : S1x8x128x128.Idx → EReal := m ((c : Thread nD τ).loc main_arg5)
abbrev Bs : S1x8x128.Idx → EReal := m ((c : Thread nD τ).loc main_arg6)
abbrev Wa : S1024x1024.Idx → EReal := m ((c : Thread nD τ).loc main_arg7)

/-! What the host prepares before the region. -/

/-- The mask: ones on and below the diagonal. -/
theorem pre_v1 (t s : Fin 128) : V m c main_v1 (ix2 t s : S128x128.Idx) = if s ≤ t then 1#1 else 0#1 := by
  have e : V m c main_v1 = select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1)) := by
    dsimp only [V, V0]
    simp only [Gen.hostOps0, Gen.hostOps0_1, Gen.hostOps0_2, Gen.hostOps0_3, Gen.hostOps0_4, List.flatten_cons, List.flatten_nil, List.append_nil, List.cons_append, List.nil_append]
    after_results
    rfl
  rw [e]
  pointwise
  exact mask t s _ _

/-- The masked mixing weights, before the casts and transposes. -/
def maskedW : FVec Ideal S8x128x128 .bf16 :=
  truncf .bf16 (select (broadcastInDim S8x128x128 ![1, 2] bcast_S128x128_S8x128x128_1_2 (
    select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1)))) (shapeCast S8x128x128 (Ws m c) shapeCasts_S1x8x128x128_S8x128x128) (broadcastInDim S8x128x128 ![] bcast_S_S8x128x128 (constant (F := Ideal) S_ .f32 0x00000000#32))) bitsLt_bf16_f32

theorem maskedW_apply (g : Fin 8) (t s : Fin 128) : maskedW m c (ix3 g t s) = wm (Ws m c) g t s := by
  unfold maskedW wm
  pointwise
  rw [mask]; split <;> rfl

/-- The mixing weights, and their transposes. -/
theorem pre_v4 (g : Fin 8) (t s : Fin 128) : V m c main_v4 (ix3 g t s : S8x128x128.Idx) = wm (Ws m c) g t s := by
  have e : V m c main_v4 = maskedW m c := by
    dsimp only [V, V0]
    simp only [Gen.hostOps0, Gen.hostOps0_1, Gen.hostOps0_2, Gen.hostOps0_3, Gen.hostOps0_4, List.flatten_cons, List.flatten_nil, List.append_nil, List.cons_append, List.nil_append]
    after_results
    rfl
  rw [e]
  exact maskedW_apply m c g t s

theorem pre_v5 (g : Fin 8) (t s : Fin 128) : V m c main_v5 (ix3 g t s : S8x128x128.Idx) = wm (Ws m c) g s t := by
  have e : V m c main_v5 = transpose S8x128x128 [0, 2, 1] (maskedW m c) transposes_S8x128x128_S8x128x128_0_2_1 := by
    dsimp only [V, V0]
    simp only [Gen.hostOps0, Gen.hostOps0_1, Gen.hostOps0_2, Gen.hostOps0_3, Gen.hostOps0_4, List.flatten_cons, List.flatten_nil, List.append_nil, List.cons_append, List.nil_append]
    after_results
    rfl
  rw [e]
  pointwise
  exact maskedW_apply m c g s t

/-- The mixing bias, one column for each group. -/
theorem pre_v7 (g : Fin 8) (t : Fin 128) : V m c main_v7 (ix2 t g : S128x8.Idx) = bm (Bs m c) g t := by
  have e : V m c main_v7 = transpose S128x8 [1, 0] (shapeCast S8x128 (Bs m c) shapeCasts_S1x8x128_S8x128) transposes_S8x128_S128x8_1_0 := by
    dsimp only [V, V0]
    simp only [Gen.hostOps0, Gen.hostOps0_1, Gen.hostOps0_2, Gen.hostOps0_3, Gen.hostOps0_4, List.flatten_cons, List.flatten_nil, List.append_nil, List.cons_append, List.nil_append]
    after_results
    rfl
  rw [e]
  unfold bm
  pointwise

/-- The first result starts as the projection gradients. -/
theorem pre_v8 : V m c main_v8_0 = m ((c : Thread nD τ).loc main_arg0) := by
  dsimp only [V, V0]
  simp only [Gen.hostOps0, Gen.hostOps0_1, Gen.hostOps0_2, Gen.hostOps0_3, Gen.hostOps0_4, List.flatten_cons, List.flatten_nil, List.append_nil, List.cons_append, List.nil_append]
  after_results
  rfl

/-! The windows' blocks. -/

/-- Row `r` of the block at point `t`; its two chunks. -/
def row (t : Fin cfg0.N) (r : Fin 256) : Fin 4096 := ⟨t.val * 256 + r.val, by
  have := t.isLt; have h : cfg0.N = 16 := N_0; omega⟩
def ch0 (t : Fin cfg0.N) : Fin 32 := ⟨t.val * 2 + 0, by have := t.isLt; have h : cfg0.N = 16 := N_0; omega⟩
def ch1 (t : Fin cfg0.N) : Fin 32 := ⟨t.val * 2 + 1, by have := t.isLt; have h : cfg0.N = 16 := N_0; omega⟩

theorem row_lo (t : Fin cfg0.N) (s : Fin 128) : row t (lo s) = crow (ch0 t) s := Fin.ext (by simp only [row, lo, crow, ch0]; omega)
theorem row_hi (t : Fin cfg0.N) (s : Fin 128) : row t (hi s) = crow (ch1 t) s := Fin.ext (by simp only [row, hi, crow, ch1]; omega)

variable (t : Fin cfg0.N)

theorem blk0 (r : Fin 256) (l : Fin 1024) : iblk m c 0 t (ix2 r l) = Dya m c (ix2 (row t r) l) := by
  have e : ∀ (t : Fin cfg0.N) a, win0_0.index t a * win0_0.size a = ![t.val * 256, 0] a := by decide +kernel
  refine (congrArg (V m c main_arg1) (rect_emb_eq win0_0 t _ _ fun a => ?_)).trans (congrFun (V_main_arg1 m c) _)
  rw [e t a]; match a with
  | ⟨0, _⟩ => rfl
  | ⟨1, _⟩ => exact Nat.zero_add _

theorem blk1 (r l : Fin 1024) : iblk m c 1 t (ix2 r l) = Wa m c (ix2 r l) := by
  have e : ∀ (t : Fin cfg0.N) a, win0_1.index t a * win0_1.size a = ![0, 0] a := by decide +kernel
  refine (congrArg (V m c main_arg7) (rect_emb_eq win0_1 t _ _ fun a => ?_)).trans (congrFun (V_main_arg7 m c) _)
  rw [e t a]; match a with
  | ⟨0, _⟩ => exact Nat.zero_add _
  | ⟨1, _⟩ => exact Nat.zero_add _

theorem blk2 (r : Fin 256) (l : Fin 1024) : iblk m c 2 t (ix3 0 r l) = Proj m c (ix3 0 (row t r) l) := by
  have e : ∀ (t : Fin cfg0.N) a, win0_2.index t a * win0_2.size a = ![0, t.val * 256, 0] a := by decide +kernel
  refine (congrArg (V m c main_arg2) (rect_emb_eq win0_2 t _ _ fun a => ?_)).trans (congrFun (V_main_arg2 m c) _)
  rw [e t a]; match a with
  | ⟨0, _⟩ => rfl
  | ⟨1, _⟩ => rfl
  | ⟨2, _⟩ => exact Nat.zero_add _

theorem blk3 (r : Fin 256) (l : Fin 1024) : iblk m c 3 t (ix3 0 r l) = Proj m c (ix3 1 (row t r) l) := by
  have e : ∀ (t : Fin cfg0.N) a, win0_3.index t a * win0_3.size a = ![1, t.val * 256, 0] a := by decide +kernel
  refine (congrArg (V m c main_arg2) (rect_emb_eq win0_3 t _ _ fun a => ?_)).trans (congrFun (V_main_arg2 m c) _)
  rw [e t a]; match a with
  | ⟨0, _⟩ => rfl
  | ⟨1, _⟩ => rfl
  | ⟨2, _⟩ => exact Nat.zero_add _

theorem blk4 (l : Fin 1024) : iblk m c 4 t (ix2 0 l) = Lg m c (ix2 0 l) := by
  have e : ∀ (t : Fin cfg0.N) a, win0_4.index t a * win0_4.size a = ![0, 0] a := by decide +kernel
  refine (congrArg (V m c main_arg3) (rect_emb_eq win0_4 t _ _ fun a => ?_)).trans (congrFun (V_main_arg3 m c) _)
  rw [e t a]; match a with
  | ⟨0, _⟩ => rfl
  | ⟨1, _⟩ => exact Nat.zero_add _

theorem blk5 (l : Fin 1024) : iblk m c 5 t (ix2 0 l) = Lb m c (ix2 0 l) := by
  have e : ∀ (t : Fin cfg0.N) a, win0_5.index t a * win0_5.size a = ![0, 0] a := by decide +kernel
  refine (congrArg (V m c main_arg4) (rect_emb_eq win0_5 t _ _ fun a => ?_)).trans (congrFun (V_main_arg4 m c) _)
  rw [e t a]; match a with
  | ⟨0, _⟩ => rfl
  | ⟨1, _⟩ => exact Nat.zero_add _

theorem blk6 (g : Fin 8) (i j : Fin 128) : iblk m c 6 t (ix3 g i j) = wm (Ws m c) g i j := by
  have e : ∀ (t : Fin cfg0.N) a, win0_6.index t a * win0_6.size a = ![0, 0, 0] a := by decide +kernel
  refine (congrArg (V m c main_v4) (rect_emb_eq win0_6 t _ _ fun a => ?_)).trans (pre_v4 m c _ _ _)
  rw [e t a]; match a with
  | ⟨0, _⟩ => exact Nat.zero_add _
  | ⟨1, _⟩ => exact Nat.zero_add _
  | ⟨2, _⟩ => exact Nat.zero_add _

theorem blk7 (g : Fin 8) (i j : Fin 128) : iblk m c 7 t (ix3 g i j) = wm (Ws m c) g j i := by
  have e : ∀ (t : Fin cfg0.N) a, win0_7.index t a * win0_7.size a = ![0, 0, 0] a := by decide +kernel
  refine (congrArg (V m c main_v5) (rect_emb_eq win0_7 t _ _ fun a => ?_)).trans (pre_v5 m c _ _ _)
  rw [e t a]; match a with
  | ⟨0, _⟩ => exact Nat.zero_add _
  | ⟨1, _⟩ => exact Nat.zero_add _
  | ⟨2, _⟩ => exact Nat.zero_add _

theorem blk8 (g : Fin 8) (i : Fin 128) : iblk m c 8 t (ix2 i g) = bm (Bs m c) g i := by
  have e : ∀ (t : Fin cfg0.N) a, win0_8.index t a * win0_8.size a = ![0, 0] a := by decide +kernel
  refine (congrArg (V m c main_v7) (rect_emb_eq win0_8 t _ _ fun a => ?_)).trans (pre_v7 m c _ _)
  rw [e t a]; match a with
  | ⟨0, _⟩ => exact Nat.zero_add _
  | ⟨1, _⟩ => exact Nat.zero_add _

end Cert.GmlpBwdIdeal.KValue

end
-- ==== Proof.Accum.lean ====
/-
  An accumulator that sixteen points add to, and the sums over points, blocks of 256 rows and eight partial sums that come
  of it, stated for every program.
-/
module

public import proofs.«01_k».proof.Proof.Pieces

@[expose] public section

noncomputable section

open Idealize.ShloMosaic Idealize.ShloMosaic.TcCoe Idealize.SL.Sem

namespace Cert.Accum

variable {N : ℕ} (hN : N = 16)

include hN

/-- A sequence that adds `g` at each point, from nothing at the first, is at each point the sum of `g` so far. -/
theorem acc_sum (F : (n : ℕ) → n < N → EReal) (g : Fin N → EReal)
    (h : ∀ t : Fin N, F t.val t.isLt = (if t.val % 16 = 0 then 0 else F (t.val - 1) (Nat.lt_of_le_of_lt (Nat.sub_le _ _) t.isLt)) + g t) :
    ∀ (n : ℕ) (hn : n < N), F n hn = ∑ i : Fin (n + 1), g ⟨i.val, by omega⟩
  | 0, hn => by
    rw [h ⟨0, hn⟩]
    simp only [Nat.zero_mod, if_true, zero_add]
    exact (Fin.sum_univ_one fun i : Fin 1 => g ⟨i.val, by omega⟩).symm
  | n + 1, hn => by
    rw [h ⟨n + 1, hn⟩, if_neg (by show ¬(n + 1) % 16 = 0; omega), Fin.sum_univ_castSucc]
    exact congrArg (· + _) (acc_sum F g h n (by omega))

/-- The last point, whose accumulators are stored. -/
theorem last (F : (n : ℕ) → n < N → EReal) (g : Fin N → EReal)
    (h : ∀ t : Fin N, F t.val t.isLt = (if t.val % 16 = 0 then 0 else F (t.val - 1) (Nat.lt_of_le_of_lt (Nat.sub_le _ _) t.isLt)) + g t)
    (t : Fin N) (ht : t.val % 16 = 15) : F t.val t.isLt = ∑ i : Fin N, g i := by
  subst hN
  have := t.isLt
  obtain rfl : t = ⟨15, by decide⟩ := Fin.ext (by show t.val = 15; omega)
  rw [acc_sum rfl F g h 15 _]

omit hN in
/-- Row `r` of the block of 256 rows at point `t`. -/
theorem row_lt (hN : N = 16) (t : Fin N) (r : Fin 256) : t.val * 256 + r.val < 4096 := by have := t.isLt; omega

omit hN in
theorem split_row (hN : N = 16) (i : Fin 4096) : ∃ (t : Fin N) (r : Fin 256), (⟨t.val * 256 + r.val, row_lt hN t r⟩ : Fin 4096) = i :=
  ⟨⟨i.val / 256, by omega⟩, ⟨i.val % 256, by omega⟩, Fin.ext (Nat.div_add_mod' _ _)⟩

/-- The eight partial sums of a column together are the sum over the rows. -/
theorem sum_rows (f : Fin 4096 → EReal) :
    ∑ r : Fin 8, ∑ t : Fin N, ∑ x : Fin 32, f ⟨t.val * 256 + (x.val * 8 + r.val), row_lt hN t ⟨x.val * 8 + r.val, by omega⟩⟩ = ∑ i, f i := by
  rw [Finset.sum_comm, ← Fin.sum_mul_add_fin N 256 f (by rw [hN])]
  refine Finset.sum_congr rfl fun t _ => ?_
  exact Finset.sum_comm.trans (Fin.sum_mul_add_fin 32 8 fun k : Fin 256 => f ⟨t.val * 256 + k.val, row_lt hN t k⟩)

end Cert.Accum

end
-- ==== Proof.GmlpValue.lean ====
/-
  The gradient of the gated spatial mixing, kernel side: what `GmlpBwdIdeal`'s run leaves in its five results.
-/
module

public import proofs.«01_k».proof.Proof.GmlpBlocks
public import proofs.«01_k».proof.Proof.Accum

@[expose] public section

set_option maxRecDepth 16384
set_option maxHeartbeats 4000000

noncomputable section

open Idealize.ShloMosaic Idealize.ShloMosaic.TcCoe Idealize.SL.Sem
open Idealize.ShloMosaic.Pipeline (Dat)

namespace Cert.GmlpBwdIdeal.KValue

open Cert.GmlpBwdIdeal Cert.GmlpBwdIdeal.Gen Cert.Blocks Cert.Pieces Cert.Gmlp

variable (m : (ℓ : Loc nD τ sig) → Buf (Elt Ideal) ℓ) (c : Dev nD)

variable (t : Fin cfg0.N)

/-! The body's vectors at a point, as the specification's functions. -/

abbrev bGU := GU (iblk m c 2 t)
abbrev bDA := DA (iblk m c 0 t) (iblk m c 1 t)
abbrev bVN := VN (iblk m c 3 t) (iblk m c 4 t) (iblk m c 5 t)
abbrev bDVN := vdvn (bGU m c t) (bDA m c t) (iblk m c 7 t)

theorem bGU_apply (r : Fin 256) (j : Fin 1024) : bGU m c t (ix2 r j) = gel (Proj m c) 0 (row t r) j :=
  (GU_apply _ r j).trans (congrArg gelu (blk2 m c t r j))
theorem bDA_apply (r : Fin 256) (j : Fin 1024) : bDA m c t (ix2 r j) = da (Dya m c) (Wa m c) (row t r) j := by
  rw [bDA, DA_apply]; simp only [blk0, blk1]; rfl
theorem bgel3 (r : Fin 256) : (fun j => gelu (iblk m c 3 t (ix3 0 r j))) = gel (Proj m c) 1 (row t r) :=
  funext fun j => congrArg gelu (blk3 m c t r j)
theorem bVN_apply (r : Fin 256) (j : Fin 1024) :
    bVN m c t (ix2 r j) = hat (gel (Proj m c) 1 (row t r)) j * Lg m c (ix2 0 j) + Lb m c (ix2 0 j) := by
  rw [bVN, VN_apply, bgel3, blk4, blk5]

theorem bVN_lo (s : Fin 128) (j : Fin 1024) : bVN m c t (ix2 (lo s) j) = vn (Proj m c) (Lg m c) (Lb m c) (ch0 t) s j := by
  rw [bVN_apply, row_lo]; rfl
theorem bVN_hi (s : Fin 128) (j : Fin 1024) : bVN m c t (ix2 (hi s) j) = vn (Proj m c) (Lg m c) (Lb m c) (ch1 t) s j := by
  rw [bVN_apply, row_hi]; rfl
theorem bDM_lo (s : Fin 128) (j : Fin 1024) : bDA m c t (ix2 (lo s) j) * bGU m c t (ix2 (lo s) j) = dmx (Dya m c) (Proj m c) (Wa m c) (ch0 t) s j := by
  rw [bDA_apply, bGU_apply, row_lo]; rfl
theorem bDM_hi (s : Fin 128) (j : Fin 1024) : bDA m c t (ix2 (hi s) j) * bGU m c t (ix2 (hi s) j) = dmx (Dya m c) (Proj m c) (Wa m c) (ch1 t) s j := by
  rw [bDA_apply, bGU_apply, row_hi]; rfl

/-- A row of a block is one of the first chunk's or one of the second's. -/
theorem lo_or_hi (r : Fin 256) : (∃ s, r = lo s) ∨ ∃ s, r = hi s := by
  by_cases h : r.val < 128
  · exact .inl ⟨⟨r.val, h⟩, rfl⟩
  · exact .inr ⟨⟨r.val - 128, by omega⟩, Fin.ext (by simp only [hi]; omega)⟩

theorem bDVN_apply (r : Fin 256) (j : Fin 1024) :
    bDVN m c t (ix2 r j) = dvn (Dya m c) (Proj m c) (Ws m c) (Wa m c) (chunkOf (row t r)) (rowOf (row t r)) j := by
  rcases lo_or_hi r with ⟨s, rfl⟩ | ⟨s, rfl⟩
  · rw [row_lo, chunkOf_crow, rowOf_crow]
    refine (byHalf_lo _ s).trans ?_
    simp only [unmix, dvn, blk7, bDM_lo, ix2_1]
  · rw [row_hi, chunkOf_crow, rowOf_crow]
    refine (byHalf_hi _ s).trans ?_
    simp only [unmix, dvn, blk7, bDM_hi, ix2_1]

theorem bdu_apply (r : Fin 256) (j : Fin 1024) :
    vdu (bDA m c t) (bVN m c t) (iblk m c 6 t) (iblk m c 8 t) (ix2 r j)
      = da (Dya m c) (Wa m c) (row t r) j * mix (wm (Ws m c)) (bm (Bs m c)) (vn (Proj m c) (Lg m c) (Lb m c) (chunkOf (row t r))) (rowOf (row t r)) j := by
  rcases lo_or_hi r with ⟨s, rfl⟩ | ⟨s, rfl⟩
  · rw [row_lo, chunkOf_crow, rowOf_crow]
    refine (byHalf_lo _ s).trans ?_
    simp only [mix, blk6, blk8, bVN_lo, bDA_apply, row_lo, ix2_1]
  · rw [row_hi, chunkOf_crow, rowOf_crow]
    refine (byHalf_hi _ s).trans ?_
    simp only [mix, blk6, blk8, bVN_hi, bDA_apply, row_hi, ix2_1]

/-! What a point leaves: the first output's block; and of the other three, what it adds. -/

theorem outs9 (k : Fin 2) (r : Fin 256) (j : Fin 1024) :
    (outsAt0 m c t.val t.isLt).1 (ix3 k r j)
      = if k = 0 then du (Dya m c) (Proj m c) (Lg m c) (Lb m c) (Ws m c) (Bs m c) (Wa m c) (row t r) j
        else dv (Dya m c) (Proj m c) (Lg m c) (Ws m c) (Wa m c) (row t r) j := by
  have h : (outsAt0 m c t.val t.isLt).1 = fun (y : S2x256x1024.Idx) =>
      vout (k0_pay94 (k0_pay5 (iblk m c 2 t)) (k0_pay7 (iblk m c 2 t)) (vdu (bDA m c t) (bVN m c t) (iblk m c 6 t) (iblk m c 8 t)))
        (k0_pay1 (k0_pay97 (iblk m c 4 t) (k0_pay13 (k0_pay10 (iblk m c 3 t)) (k0_pay11 (iblk m c 3 t))) (k0_pay14 (k0_pay10 (iblk m c 3 t)) (k0_pay11 (iblk m c 3 t))) (bDVN m c t))
          (k0_pay98 (k0_pay9 (iblk m c 3 t))) (k0_pay99 (k0_pay6 (iblk m c 3 t)) (k0_pay9 (iblk m c 3 t))) (k0_pay100 (k0_pay6 (iblk m c 3 t)))) (y 0) (y 1) (y 2) := by
    by_cases h0 : t.val % 16 = 0
    · rw [outsAt0_A m c t h0]; dsimp only; rw [out9_A]
    · rw [outsAt0_B m c t h0]; dsimp only; rw [out9_B]
  rw [h]
  show vout _ _ k r j = _
  unfold vout
  by_cases hk : k = 0
  · rw [if_pos hk, if_pos hk, P_apply, bdu_apply, blk2]; rfl
  · rw [if_neg hk, if_neg hk, Q_apply]
    simp only [bDVN_apply, blk4, bgel3, blk3]; rfl

theorem step10 (k : Fin 2) (r : Fin 8) (j : Fin 1024) :
    (outsAt0 m c t.val t.isLt).2.1 (ix3 k r j)
      = (if t.val % 16 = 0 then 0 else (outsAt0 m c (t.val - 1) (Nat.lt_of_le_of_lt (Nat.sub_le _ _) t.isLt)).2.1 (ix3 k r j)) + vacc (k0_pay14 (k0_pay10 (iblk m c 3 t)) (k0_pay11 (iblk m c 3 t))) (bDVN m c t) k r j := by
  by_cases h0 : t.val % 16 = 0
  · rw [outsAt0_A m c t h0, if_pos h0]
    dsimp only
    rw [out10_A]
    refine congrArg (· + _) ?_
    unfold_payloads
    pointwise
  · rw [outsAt0_B m c t h0, if_neg h0]
    dsimp only
    rw [out10_B]
    rfl

theorem step11 (r : Fin 128) (j : Fin 1024) :
    (outsAt0 m c t.val t.isLt).2.2.1 (ix2 r j)
      = (if t.val % 16 = 0 then 0 else (outsAt0 m c (t.val - 1) (Nat.lt_of_le_of_lt (Nat.sub_le _ _) t.isLt)).2.2.1 (ix2 r j)) + vdws (bGU m c t) (bDA m c t) (bVN m c t) r j := by
  by_cases h0 : t.val % 16 = 0
  · rw [outsAt0_A m c t h0, if_pos h0]
    dsimp only
    rw [out11_A]
    refine congrArg (· + _) ?_
    unfold_payloads
    pointwise
  · rw [outsAt0_B m c t h0, if_neg h0]
    dsimp only
    rw [out11_B]
    rfl

theorem step12 (r : Fin 128) (j : Fin 1024) :
    (outsAt0 m c t.val t.isLt).2.2.2 (ix2 r j)
      = (if t.val % 16 = 0 then 0 else (outsAt0 m c (t.val - 1) (Nat.lt_of_le_of_lt (Nat.sub_le _ _) t.isLt)).2.2.2 (ix2 r j)) + vdmix (bGU m c t) (bDA m c t) r j := by
  by_cases h0 : t.val % 16 = 0
  · rw [outsAt0_A m c t h0, if_pos h0]
    dsimp only
    rw [out12_A]
    refine congrArg (· + _) ?_
    unfold_payloads
    pointwise
  · rw [outsAt0_B m c t h0, if_neg h0]
    dsimp only
    rw [out12_B]
    rfl

/-! Over the sixteen points: the three accumulators. -/

/-- Two chunks a point are the 32 chunks. -/
theorem sum_chunks (f : Fin 32 → EReal) : ∑ t : Fin cfg0.N, (f (ch0 t) + f (ch1 t)) = ∑ n, f n := by
  rw [← Fin.sum_mul_add_fin cfg0.N 2 f (by rw [show cfg0.N = 16 from N_0])]
  exact Finset.sum_congr rfl fun t _ => (Fin.sum_univ_two fun k : Fin 2 => f ⟨t.val * 2 + k.val, by have := t.isLt; have h : cfg0.N = 16 := N_0; omega⟩).symm

/-- The accumulators' last contents. -/
def acc12 (r : Fin 128) (j : Fin 1024) : EReal := ∑ n, dmx (Dya m c) (Proj m c) (Wa m c) n r j
def acc11 (r : Fin 128) (j : Fin 1024) : EReal :=
  ∑ n, ∑ d, dmx (Dya m c) (Proj m c) (Wa m c) n r (col (grp j) d) * vn (Proj m c) (Lg m c) (Lb m c) n (lane j) (col (grp j) d)
def acc10 (k : Fin 2) (r : Fin 8) (j : Fin 1024) : EReal :=
  ∑ t : Fin cfg0.N, ∑ x : Fin 32, (fun i : Fin 4096 =>
    if k = 0 then dvn (Dya m c) (Proj m c) (Ws m c) (Wa m c) (chunkOf i) (rowOf i) j * hat (gel (Proj m c) 1 i) j
    else dvn (Dya m c) (Proj m c) (Ws m c) (Wa m c) (chunkOf i) (rowOf i) j) (row t ⟨x.val * 8 + r.val, by omega⟩)

theorem last12 (ht : t.val % 16 = 15) (r : Fin 128) (j : Fin 1024) : (outsAt0 m c t.val t.isLt).2.2.2 (ix2 r j) = acc12 m c r j := by
  rw [Accum.last N_0 (fun n hn => (outsAt0 m c n hn).2.2.2 (ix2 r j)) _ (fun t => step12 m c t r j) t ht, acc12, ← sum_chunks]
  exact Finset.sum_congr rfl fun t _ => by rw [vdmix, bDM_lo, bDM_hi]

theorem last11 (ht : t.val % 16 = 15) (r : Fin 128) (j : Fin 1024) : (outsAt0 m c t.val t.isLt).2.2.1 (ix2 r j) = acc11 m c r j := by
  rw [Accum.last N_0 (fun n hn => (outsAt0 m c n hn).2.2.1 (ix2 r j)) _ (fun t => step11 m c t r j) t ht, acc11, ← sum_chunks]
  exact Finset.sum_congr rfl fun t _ => by simp only [vdws, bDM_lo, bDM_hi, bVN_lo, bVN_hi]

theorem last10 (ht : t.val % 16 = 15) (k : Fin 2) (r : Fin 8) (j : Fin 1024) : (outsAt0 m c t.val t.isLt).2.1 (ix3 k r j) = acc10 m c k r j := by
  rw [Accum.last N_0 (fun n hn => (outsAt0 m c n hn).2.1 (ix3 k r j)) _ (fun t => step10 m c t k r j) t ht, acc10]
  refine Finset.sum_congr rfl fun t _ => ?_
  simp only [vacc, bDVN_apply, H_apply, bgel3]
  split <;> rfl

/-! The result arrays. -/

def G9 : Buf (Elt Ideal) ((c : Thread nD τ).loc main_v8_0) :=
  dprojOut (Dproj m c) (Dya m c) (Proj m c) (Lg m c) (Lb m c) (Ws m c) (Bs m c) (Wa m c)
def G10 : Buf (Elt Ideal) ((c : Thread nD τ).loc main_v8_1) := fun (y : S2x8x1024.Idx) => acc10 m c (y 0) (y 1) (y 2)
def G11 : Buf (Elt Ideal) ((c : Thread nD τ).loc main_v8_2) := fun (y : S128x1024.Idx) => acc11 m c (y 0) (y 1)
def G12 : Buf (Elt Ideal) ((c : Thread nD τ).loc main_v8_3) := fun (y : S128x1024.Idx) => acc12 m c (y 0) (y 1)

theorem emb9 (k : Fin 2) (r : Fin 256) (l : Fin 1024) :
    (win0_9.rect t).emb (ix3 k r l) = (ix3 ⟨4 + k.val, by omega⟩ (row t r) l : S8x4096x1024.Idx) := by
  have e : ∀ (t : Fin cfg0.N) a, win0_9.index t a * win0_9.size a = ![4, t.val * 256, 0] a := by decide +kernel
  refine rect_emb_eq _ t _ _ fun a => ?_
  rw [e t a]; match a with
  | ⟨0, _⟩ => rfl
  | ⟨1, _⟩ => rfl
  | ⟨2, _⟩ => exact Nat.zero_add _

theorem emb10 (k : Fin 2) (r : Fin 8) (l : Fin 1024) : (win0_10.rect t).emb (ix3 k r l) = (ix3 k r l : S2x8x1024.Idx) := by
  have e : ∀ (t : Fin cfg0.N) a, win0_10.index t a * win0_10.size a = ![0, 0, 0] a := by decide +kernel
  refine rect_emb_eq _ t _ _ fun a => ?_
  rw [e t a]; match a with
  | ⟨0, _⟩ => exact Nat.zero_add _
  | ⟨1, _⟩ => exact Nat.zero_add _
  | ⟨2, _⟩ => exact Nat.zero_add _

theorem emb11 (r : Fin 128) (l : Fin 1024) :
    (win0_11.rect t).emb (ix2 r l) = (ix2 r l : S128x1024.Idx) ∧ (win0_12.rect t).emb (ix2 r l) = (ix2 r l : S128x1024.Idx) := by
  have e : ∀ (t : Fin cfg0.N) a, win0_11.index t a * win0_11.size a = ![0, 0] a ∧ win0_12.index t a * win0_12.size a = ![0, 0] a := by decide +kernel
  have h : ∀ a, (![0, 0] : Fin 2 → Nat) a + ((ix2 r l : S128x1024.Idx) a : Nat) = ((ix2 r l : S128x1024.Idx) a : Nat) := fun a => by
    match a with
    | ⟨0, _⟩ => exact Nat.zero_add _
    | ⟨1, _⟩ => exact Nat.zero_add _
  exact ⟨rect_emb_eq _ t _ _ fun a => (congrArg (· + _) (e t a).1).trans (h a), rect_emb_eq _ t _ _ fun a => (congrArg (· + _) (e t a).2).trans (h a)⟩

theorem flushed9 : (dats m 0 c).flushed 9 t = (win0_9.blk t).view.read (Elt Ideal) (G9 m c) := by
  funext (y : S2x256x1024.Idx)
  obtain ⟨k, r, l, rfl⟩ := exists_ix3 y
  show (dats m 0 c).after 9 t (ix3 k r l) = G9 m c ((win0_9.rect t).emb (ix3 k r l))
  rw [after0_9, emb9, outs9]
  rcases (by omega : k = 0 ∨ k = 1) with rfl | rfl <;> rfl

theorem flushed10 (ht : t.val % 16 = 15) : (dats m 0 c).flushed 10 t = (win0_10.blk t).view.read (Elt Ideal) (G10 m c) := by
  funext (y : S2x8x1024.Idx)
  obtain ⟨k, r, l, rfl⟩ := exists_ix3 y
  show (dats m 0 c).after 10 t (ix3 k r l) = G10 m c ((win0_10.rect t).emb (ix3 k r l))
  rw [after0_10, emb10, last10 m c t ht]
  rfl

theorem flushed11 (ht : t.val % 16 = 15) : (dats m 0 c).flushed 11 t = (win0_11.blk t).view.read (Elt Ideal) (G11 m c) := by
  funext (y : S128x1024.Idx)
  obtain ⟨r, l, rfl⟩ := exists_ix2 y
  show (dats m 0 c).after 11 t (ix2 r l) = G11 m c ((win0_11.rect t).emb (ix2 r l))
  rw [after0_11, (emb11 t r l).1, last11 m c t ht]
  rfl

theorem flushed12 (ht : t.val % 16 = 15) : (dats m 0 c).flushed 12 t = (win0_12.blk t).view.read (Elt Ideal) (G12 m c) := by
  funext (y : S128x1024.Idx)
  obtain ⟨r, l, rfl⟩ := exists_ix2 y
  show (dats m 0 c).after 12 t (ix2 r l) = G12 m c ((win0_12.rect t).emb (ix2 r l))
  rw [after0_12, (emb11 t r l).2, last12 m c t ht]
  rfl

/-- The first result: components 4 and 5 are written, the others keep what they held. -/
theorem final9 : (dats m 0 c).arrAt 9 cfg0.N = G9 m c := by
  funext (i : S8x4096x1024.Idx)
  rw [(dats m 0 c).arrAt_eq_piecewise 9 (G9 m c) fun t _ => flushed9 m c t]
  obtain ⟨k, i, j, rfl⟩ := exists_ix3 i
  split
  · rfl
  · rename_i h
    have hk : k ≠ 4 ∧ k ≠ 5 := by
      obtain ⟨t, r, rfl⟩ := Accum.split_row N_0 i
      refine ⟨fun hk => h ?_, fun hk => h ?_⟩ <;> subst hk
      · exact ⟨t, flush0_9 t, emb9 t 0 r j ▸ ((cfg0.win 9).blk t).view.emb_mem_set (ix3 0 r j : S2x256x1024.Idx)⟩
      · exact ⟨t, flush0_9 t, emb9 t 1 r j ▸ ((cfg0.win 9).blk t).view.emb_mem_set (ix3 1 r j : S2x256x1024.Idx)⟩
    refine (congrFun ((A_eq m c 9).trans (pre_v8 m c)) _).trans ?_
    refine ((if_neg fun e => hk.1 (Fin.ext e)).trans (if_neg fun e => hk.2 (Fin.ext e))).symm

/-- The last point's block is the whole array. -/
theorem at15 : (⟨15, by rw [show cfg0.N = 16 from N_0]; decide⟩ : Fin cfg0.N).val % 16 = 15 := rfl

theorem final10 : (dats m 0 c).arrAt 10 cfg0.N = G10 m c :=
  (dats m 0 c).arrAt_eq_of_cover 10 (G10 m c) (fun t h => flushed10 m c t ((flush0_10 t).mp h)) fun (i : S2x8x1024.Idx) => by
    obtain ⟨k, r, l, rfl⟩ := exists_ix3 i
    exact ⟨_, (flush0_10 _).mpr at15, emb10 _ k r l ▸ ((cfg0.win 10).blk _).view.emb_mem_set (ix3 k r l : S2x8x1024.Idx)⟩
theorem final11 : (dats m 0 c).arrAt 11 cfg0.N = G11 m c :=
  (dats m 0 c).arrAt_eq_of_cover 11 (G11 m c) (fun t h => flushed11 m c t ((flush0_11 t).mp h)) fun (i : S128x1024.Idx) => by
    obtain ⟨r, l, rfl⟩ := exists_ix2 i
    exact ⟨_, (flush0_11 _).mpr at15, (emb11 _ r l).1 ▸ ((cfg0.win 11).blk _).view.emb_mem_set (ix2 r l : S128x1024.Idx)⟩
theorem final12 : (dats m 0 c).arrAt 12 cfg0.N = G12 m c :=
  (dats m 0 c).arrAt_eq_of_cover 12 (G12 m c) (fun t h => flushed12 m c t ((flush0_12 t).mp h)) fun (i : S128x1024.Idx) => by
    obtain ⟨r, l, rfl⟩ := exists_ix2 i
    exact ⟨_, (flush0_12 _).mpr at15, (emb11 _ r l).2 ▸ ((cfg0.win 12).blk _).view.emb_mem_set (ix2 r l : S128x1024.Idx)⟩

/-! The host lines after the region, from any contents. -/

section Tail

variable (V : Valuation τ sig (Elt Ideal))

theorem tail_v12 : StableHlo.after (List.flatten [Gen.hostOps1, Gen.hostOps1_1, Gen.hostOps1_2]) V (Proc.devRef .tc main_v12)
    = transpose S8x128x128 [1, 0, 2] (select (broadcastInDim S128x8x128 ![0, 1, 2] bcast_S128x1x128_S128x8x128_0_1_2 (broadcastInDim S128x1x128 ![0, 2] bcast_S128x128_S128x1x128_0_2 (V (Proc.devRef .tc main_v1))))
        (shapeCast S128x8x128 (V (Proc.devRef .tc main_v8_2)) shapeCasts_S128x1024_S128x8x128) (broadcastInDim S128x8x128 ![] bcast_S_S128x8x128 (constant (F := Ideal) S_ .f32 0x00000000#32))) transposes_S128x8x128_S8x128x128_1_0_2 := by
  simp only [Gen.hostOps1, Gen.hostOps1_1, Gen.hostOps1_2, List.flatten_cons, List.flatten_nil, List.append_nil, List.cons_append, List.nil_append]
  after_results
  rfl

theorem tail_v15 : StableHlo.after (List.flatten [Gen.hostOps1, Gen.hostOps1_1, Gen.hostOps1_2]) V (Proc.devRef .tc main_v15)
    = transpose S8x128 [1, 0] (Host.reduceAdd (shapeCast S128x8x128 (V (Proc.devRef .tc main_v8_3)) shapeCasts_S128x1024_S128x8x128) (constant (F := Ideal) S_ .f32 0x00000000#32) reducesTo_S128x8x128_S128x8_d2 h_S_) transposes_S128x8_S8x128_1_0 := by
  simp only [Gen.hostOps1, Gen.hostOps1_1, Gen.hostOps1_2, List.flatten_cons, List.flatten_nil, List.append_nil, List.cons_append, List.nil_append]
  after_results
  rfl

theorem tail_v18 : StableHlo.after (List.flatten [Gen.hostOps1, Gen.hostOps1_1, Gen.hostOps1_2]) V (Proc.devRef .tc main_v18)
    = Host.reduceAdd (shapeCast S8x1024 (extractStridedSlice S1x8x1024 ![0, 0, 0] (V (Proc.devRef .tc main_v8_1)) slices_S2x8x1024_S1x8x1024_0_0_0) shapeCasts_S1x8x1024_S8x1024) (constant (F := Ideal) S_ .f32 0x00000000#32) reducesTo_S8x1024_S1024_d0 h_S_ := by
  simp only [Gen.hostOps1, Gen.hostOps1_1, Gen.hostOps1_2, List.flatten_cons, List.flatten_nil, List.append_nil, List.cons_append, List.nil_append]
  after_results
  rfl

theorem tail_v21 : StableHlo.after (List.flatten [Gen.hostOps1, Gen.hostOps1_1, Gen.hostOps1_2]) V (Proc.devRef .tc main_v21)
    = Host.reduceAdd (shapeCast S8x1024 (extractStridedSlice S1x8x1024 ![1, 0, 0] (V (Proc.devRef .tc main_v8_1)) slices_S2x8x1024_S1x8x1024_1_0_0) shapeCasts_S1x8x1024_S8x1024) (constant (F := Ideal) S_ .f32 0x00000000#32) reducesTo_S8x1024_S1024_d0 h_S_ := by
  simp only [Gen.hostOps1, Gen.hostOps1_1, Gen.hostOps1_2, List.flatten_cons, List.flatten_nil, List.append_nil, List.cons_append, List.nil_append]
  after_results
  rfl

end Tail

/-- The contents the host lines after the region start from. -/
abbrev VT : Valuation τ sig (Elt Ideal) := Pipeline.withArrays spec0 c (Gen.V0 m c) fun w => (Gen.dats m 0 c).arrAt w cfg0.N

theorem VT_1 : VT m c (Proc.devRef .tc main_v8_1) = G10 m c :=
  ((dats m 0 c).withArrays_arrAt sharedIn0 (Gen.V0 m c) (A_eq m c) 10).trans (final10 m c)
theorem VT_2 : VT m c (Proc.devRef .tc main_v8_2) = G11 m c :=
  ((dats m 0 c).withArrays_arrAt sharedIn0 (Gen.V0 m c) (A_eq m c) 11).trans (final11 m c)
theorem VT_3 : VT m c (Proc.devRef .tc main_v8_3) = G12 m c :=
  ((dats m 0 c).withArrays_arrAt sharedIn0 (Gen.V0 m c) (A_eq m c) 12).trans (final12 m c)
theorem VT_mask (t s : Fin 128) : VT m c (Proc.devRef .tc main_v1) (ix2 t s : S128x128.Idx) = if s ≤ t then 1#1 else 0#1 :=
  (congrFun (Pipeline.withArrays_of_ne _ c (V0 m c) _ main_v1 (by exact (by decide : ∀ w, Pipeline.arrRef spec0 w ≠ main_v1))) _).trans (pre_v1 m c t s)

abbrev atEnd (b : Ref sig .tc) : Buf (Elt Ideal) ((c : Thread nD τ).loc b) :=
  Pipeline.afterTail₀ cfgs (Gen.dats m) 0 (Gen.V0 m) [Gen.hostOps1, Gen.hostOps1_1, Gen.hostOps1_2] c b

theorem end_v18 : atEnd m c main_v18 = dlgOut (Dya m c) (Proj m c) (Ws m c) (Wa m c) := by
  refine (tail_v18 (VT m c)).trans ?_
  rw [VT_1]
  funext (y : S1024.Idx)
  obtain ⟨j, rfl⟩ : ∃ j : Fin 1024, y = ix1 j := ⟨y 0, funext fun k => by match k with | ⟨0, _⟩ => rfl⟩
  refine Eq.trans ?_ (Accum.sum_rows N_0 fun i => dvn (Dya m c) (Proj m c) (Ws m c) (Wa m c) (chunkOf i) (rowOf i) j * hat (gel (Proj m c) 1 i) j)
  generalize hG : G10 m c = G
  pointwise
  subst hG
  rfl

theorem end_v21 : atEnd m c main_v21 = dlbOut (Dya m c) (Proj m c) (Ws m c) (Wa m c) := by
  refine (tail_v21 (VT m c)).trans ?_
  rw [VT_1]
  funext (y : S1024.Idx)
  obtain ⟨j, rfl⟩ : ∃ j : Fin 1024, y = ix1 j := ⟨y 0, funext fun k => by match k with | ⟨0, _⟩ => rfl⟩
  refine Eq.trans ?_ (Accum.sum_rows N_0 fun i => dvn (Dya m c) (Proj m c) (Ws m c) (Wa m c) (chunkOf i) (rowOf i) j)
  generalize hG : G10 m c = G
  pointwise
  subst hG
  rfl

theorem end_v15 : atEnd m c main_v15 = dbsOut (Dya m c) (Proj m c) (Wa m c) := by
  refine (tail_v15 (VT m c)).trans ?_
  rw [VT_3]
  funext (y : S8x128.Idx)
  obtain ⟨g, t, rfl⟩ := exists_ix2 y
  refine Eq.trans ?_ (Finset.sum_comm (f := fun (d : Fin 128) (n : Fin 32) => dmx (Dya m c) (Proj m c) (Wa m c) n t (col g d)))
  generalize hG : G12 m c = G
  pointwise
  subst hG
  rfl

theorem end_v12 : atEnd m c main_v12 = dwsOut (Dya m c) (Proj m c) (Lg m c) (Lb m c) (Wa m c) := by
  refine (tail_v12 (VT m c)).trans ?_
  rw [VT_2]
  funext (y : S8x128x128.Idx)
  obtain ⟨g, t, s, rfl⟩ := exists_ix3 y
  have hM := VT_mask m c t s
  have hG : G11 m c (ix2 t (col g s) : S128x1024.Idx) = ∑ n, ∑ d, dmx (Dya m c) (Proj m c) (Wa m c) n t (col g d) * vn (Proj m c) (Lg m c) (Lb m c) n s (col g d) := by
    show acc11 m c t (col g s) = _
    rw [acc11, grp_col, lane_col]
  generalize (G11 m c : S128x1024.Idx → EReal) = G at hG ⊢
  generalize VT m c (Proc.devRef .tc main_v1) = M at hM ⊢
  refine Eq.trans (b := Scalar.select (M (ix2 t s)) (G (ix2 t (col g s))) (0 : EReal)) ?_ ?_
  · pointwise
    rfl
  · rw [hM, hG]
    show _ = if (s : Nat) ≤ (t : Nat) then _ else _
    by_cases h : s ≤ t
    · rw [if_pos h, if_pos (show (s : Nat) ≤ t from h)]; rfl
    · rw [if_neg h, if_neg (show ¬(s : Nat) ≤ t from h)]; rfl

/-- The run, read: the five results at the specification's functions of the arguments. -/
theorem run (ρ : Dev nD → PrngReg) :
    θ_run defs (onTc (τ := τ) (main (F := Ideal))) ⟨m, fun _ => 0, ρ⟩ fun r => ∀ c : Dev nD,
      r.2.mem ((c.tc : Thread nD τ).loc main_v8_0) = G9 m c
      ∧ r.2.mem ((c.tc : Thread nD τ).loc main_v18) = dlgOut (Dya m c) (Proj m c) (Ws m c) (Wa m c)
      ∧ r.2.mem ((c.tc : Thread nD τ).loc main_v21) = dlbOut (Dya m c) (Proj m c) (Ws m c) (Wa m c)
      ∧ r.2.mem ((c.tc : Thread nD τ).loc main_v12) = dwsOut (Dya m c) (Proj m c) (Lg m c) (Lb m c) (Wa m c)
      ∧ r.2.mem ((c.tc : Thread nD τ).loc main_v15) = dbsOut (Dya m c) (Proj m c) (Wa m c) :=
  (θ_run defs _ _).mono (fun _ h c => ⟨((h c).1 9).trans (final9 m c),
      ((h c).2 main_v18 (Pipeline.mem_restRefs_of main_v18 (by decide) (by decide))).trans (end_v18 m c),
      ((h c).2 main_v21 (Pipeline.mem_restRefs_of main_v21 (by decide) (by decide))).trans (end_v21 m c),
      ((h c).2 main_v12 (Pipeline.mem_restRefs_of main_v12 (by decide) (by decide))).trans (end_v12 m c),
      ((h c).2 main_v15 (Pipeline.mem_restRefs_of main_v15 (by decide) (by decide))).trans (end_v15 m c)⟩) (Gen.run_main m ρ)

end Cert.GmlpBwdIdeal.KValue

end
-- ==== Proof.Reals.lean ====
/-
  Real numbers among the extended reals: which operations stay inside them, and what an `all(abs(x) < inf)` of a
  precondition says of an array.
-/
module

public import Idealize.ShloMosaic.Lib.Pipeline.Value
public import Idealize.ShloMosaic.Lib.Pointwise
public import Idealize.ShloMosaic.Lib.ReduceAll
public import Idealize.ShloMosaic.Lib.KernelVsHost

@[expose] public section

noncomputable section

open Idealize.ShloMosaic Idealize.ShloMosaic.TcCoe Idealize.SL.Sem

namespace Cert.Reals

/-- `x` is a real number. -/
def IsR (x : EReal) : Prop := ∃ r : ℝ, x = (r : EReal)

theorem isR_coe (r : ℝ) : IsR (r : EReal) := ⟨r, rfl⟩

theorem isR_zero : IsR 0 := ⟨0, rfl⟩

theorem isR_one : IsR 1 := ⟨1, rfl⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.neg {x : EReal} (hx : IsR x) : IsR (-x) := by
  obtain ⟨a, rfl⟩ := hx; exact ⟨-a, (EReal.coe_neg a).symm⟩

theorem IsR.tanh {x : EReal} (hx : IsR x) : IsR (Ideal.tanh x) := by
  obtain ⟨a, rfl⟩ := hx; exact ⟨Real.tanh a, rfl⟩

theorem IsR.exp {x : EReal} (hx : IsR x) : IsR (Ideal.exp x) := by
  obtain ⟨a, rfl⟩ := hx; exact ⟨Real.exp a, rfl⟩

theorem IsR.ite {p : Prop} [Decidable p] {x y : EReal} (hx : IsR x) (hy : IsR y) : IsR (if p then x else y) := by
  split <;> assumption

/-- A quotient of reals whose divisor is not zero is the real quotient. -/
theorem div_coe {a b : ℝ} (hb : b ≠ 0) : Ideal.div (a : EReal) (b : EReal) = ((a / b : ℝ) : EReal) := by
  unfold Ideal.div
  rw [if_neg (by exact_mod_cast hb), ← EReal.coe_inv, ← EReal.coe_mul, div_eq_mul_inv]

theorem IsR.div {x y : EReal} (hx : IsR x) (hy : IsR y) (h0 : y ≠ 0) : IsR (Ideal.div x y) := by
  obtain ⟨a, rfl⟩ := hx; obtain ⟨b, rfl⟩ := hy
  exact ⟨a / b, div_coe (by rintro rfl; exact h0 rfl)⟩

/-- The reciprocal root of a positive real. -/
theorem rsqrt_coe {a : ℝ} (ha : 0 < a) : Ideal.rsqrt (a : EReal) = (((√a)⁻¹ : ℝ) : EReal) := by
  show (if a < 0 then (⊥ : EReal) else if a = 0 then ⊤ else (((√a)⁻¹ : ℝ) : EReal)) = _
  rw [if_neg ha.le.not_gt, if_neg ha.ne']

theorem coe_sum {ι : Type} (s : Finset ι) (f : ι → ℝ) : ((∑ i ∈ s, f i : ℝ) : EReal) = ∑ i ∈ s, (f i : EReal) :=
  map_sum (⟨⟨fun r : ℝ => (r : EReal), rfl⟩, EReal.coe_add⟩ : ℝ →+ EReal) f s

theorem IsR.sum {ι : Type} (s : Finset ι) {f : ι → EReal} (h : ∀ i, IsR (f i)) : IsR (∑ i ∈ s, f i) := by
  choose g hg using h
  exact ⟨∑ i ∈ s, g i, by rw [coe_sum]; exact Finset.sum_congr rfl fun i _ => hg i⟩

/-- A real factor goes into a sum of reals. -/
theorem mul_sum {ι : Type} (s : Finset ι) {f : ι → EReal} {x : EReal} (hx : IsR x) (h : ∀ i, IsR (f i)) :
    x * ∑ i ∈ s, f i = ∑ i ∈ s, x * f i := by
  obtain ⟨a, rfl⟩ := hx
  choose g hg using h
  simp only [hg, ← coe_sum, ← EReal.coe_mul, Finset.mul_sum]

/-- An extended real whose absolute value is below infinity is a real. -/
theorem isR_of_abs_lt {x : EReal} (h : max x (-x) < ⊤) : IsR x := by
  induction x with
  | bot => simp at h
  | top => simp at h
  | coe r => exact ⟨r, rfl⟩

/-- Where the comparison of a precondition answers 1, the element is a real. -/
theorem isR_of_cmp {x : EReal}
    (h : FloatOps.cmpf (F := Ideal) (φ := .f32) .olt (FloatOps.hostAbsf (F := Ideal) (φ := .f32) x) (FloatOps.ofBits (F := Ideal) .f32 0x7F800000#32) = 1#1) : IsR x := by
  have h' : Ideal.cmp .olt (max x (-x)) (Ideal.ofBits .f32 0x7F800000#32) = 1#1 := h
  rw [show Ideal.ofBits .f32 0x7F800000#32 = (⊤ : EReal) by simp [Ideal.ofBits, Ideal.ieee]] at h'
  refine isR_of_abs_lt ?_
  by_contra hn
  simp [Ideal.cmp, hn] at h'

end Cert.Reals

end
-- ==== Proof.GmlpReal.lean ====
/-
  The two identities of the gated spatial mixing that need real arguments: the gradient of the rectifier and the gradient
  of the normalised rows, each from the form that differentiation in reverse gives to the form written by hand.
-/
module

public import proofs.«01_k».proof.Proof.GmlpSpec
public import proofs.«01_k».proof.Proof.Reals

@[expose] public section

noncomputable section

open Idealize.ShloMosaic Idealize.ShloMosaic.TcCoe

namespace Cert.Gmlp

open Cert.Reals

/-! ## The constants as reals -/

theorem half_eq : half = ((1 / 2 : ℝ) : EReal) := by simp [half, Ideal.ofBits, Ideal.ieee, -EReal.coe_mul]; norm_num
theorem width_eq : width = ((1024 : ℝ) : EReal) := by simp [width, Ideal.ofBits, Ideal.ieee, -EReal.coe_mul]; norm_num
theorem two_eq : Ideal.ofBits .f32 0x40000000#32 = ((2 : ℝ) : EReal) := by simp [Ideal.ofBits, Ideal.ieee, -EReal.coe_mul]; norm_num
theorem three_eq : Ideal.ofBits .f32 0x40400000#32 = ((3 : ℝ) : EReal) := by simp [Ideal.ofBits, Ideal.ieee, -EReal.coe_mul]; norm_num
theorem mhalf_eq : Ideal.ofBits .f32 0xBF000000#32 = ((-(1 / 2) : ℝ) : EReal) := by
  simp [Ideal.ofBits, Ideal.ieee, -EReal.coe_mul]; norm_num
theorem isR_c0 : IsR c0 := ⟨_, by simp [c0, Ideal.ofBits, Ideal.ieee, -EReal.coe_mul]; rfl⟩
theorem eps_pos : ∃ e : ℝ, 0 < e ∧ eps = (e : EReal) := by
  refine ⟨_, ?_, by simp [eps, Ideal.ofBits, Ideal.ieee, -EReal.coe_mul]; rfl⟩
  norm_num

/-! ## The rectifier -/

theorem isR_th {x : EReal} (hx : IsR x) : IsR (th x) :=
  (isR_c0.mul (hx.add (((isR_coe _).mul hx).mul hx |>.mul hx))).tanh
theorem isR_gelu {x : EReal} (hx : IsR x) : IsR (gelu x) :=
  ((half_eq ▸ isR_coe _ : IsR half).mul hx).mul (isR_one.add (isR_th hx))

/-- Differentiated in reverse, the rectifier's gradient comes as three terms. -/
theorem gelu_grad {x d : EReal} (hx : IsR x) (hd : IsR d) :
    d * (half * (1 + th x)) + c0 * (half * (x * d) * ((1 + th x) * (1 - th x)))
      + c1 * (c0 * (half * (x * d) * ((1 + th x) * (1 - th x)))) * (Ideal.ofBits .f32 0x40400000#32 * (x * x)) = d * gelu' x := by
  obtain ⟨t, ht⟩ := isR_th hx
  obtain ⟨c, hc⟩ := isR_c0
  obtain ⟨x, rfl⟩ := hx
  obtain ⟨d, rfl⟩ := hd
  rw [gelu', ht, hc, half_eq, three_eq, c1, c13, ← EReal.coe_one]
  norm_cast
  ring

/-! ## The normalised rows -/

variable {f d : Row}

theorem mean_coe (g : Fin 1024 → ℝ) : mean (fun j => (g j : EReal)) = (((∑ j, g j) / 1024 : ℝ) : EReal) := by
  rw [mean, width_eq, ← coe_sum, div_coe (by norm_num)]
theorem isR_mean (hf : ∀ j, IsR (f j)) : IsR (mean f) :=
  (IsR.sum _ hf).div (width_eq ▸ isR_coe _) (by rw [width_eq]; norm_num)

/-- The variance of a row plus the small constant. -/
def vareps (f : Row) : EReal := mean (fun j => (f j - mean f) * (f j - mean f)) + eps

theorem vareps_pos (hf : ∀ j, IsR (f j)) : ∃ s : ℝ, 0 < s ∧ vareps f = (s : EReal) := by
  choose g hg using hf
  obtain rfl : f = fun j => (g j : EReal) := funext hg
  obtain ⟨e, he, h⟩ := eps_pos
  refine ⟨(∑ j, (g j - (∑ j, g j) / 1024) * (g j - (∑ j, g j) / 1024)) / 1024 + e,
    add_pos_of_nonneg_of_pos (div_nonneg (Finset.sum_nonneg fun j _ => mul_self_nonneg _) (by norm_num)) he, ?_⟩
  rw [vareps, mean_coe, h]
  simp only [← EReal.coe_sub, ← EReal.coe_mul, mean_coe, ← EReal.coe_add]
theorem isR_rs (hf : ∀ j, IsR (f j)) : IsR (rs f) := by
  obtain ⟨s, hs, h⟩ := vareps_pos hf
  show IsR (Ideal.rsqrt (vareps f))
  rw [h, rsqrt_coe hs]; exact isR_coe _
theorem isR_hat (hf : ∀ j, IsR (f j)) (j : Fin 1024) : IsR (hat f j) := ((hf j).sub (isR_mean hf)).mul (isR_rs hf)
theorem isR_back (hf : ∀ j, IsR (f j)) (hd : ∀ j, IsR (d j)) (j : Fin 1024) : IsR (back f d j) :=
  (isR_rs hf).mul (((hd j).sub (isR_mean hd)).sub ((isR_hat hf j).mul (isR_mean fun k => (hd k).mul (isR_hat hf k))))

/-- Differentiated in reverse, the normalisation's gradient comes from its centred row, its variance and its mean. -/
theorem norm_grad (hf : ∀ j, IsR (f j)) (hd : ∀ j, IsR (d j)) (j : Fin 1024) (w : EReal)
    (hw : w = Ideal.div ((∑ k, (f k - mean f) * d k) * (Ideal.ofBits .f32 0xBF000000#32 * Ideal.div (rs f) (vareps f))) width) :
    d j * rs f + w * (Ideal.ofBits .f32 0x40000000#32 * (f j - mean f))
      + Ideal.div ((∑ k, -(d k * rs f)) + ∑ k, -(w * (Ideal.ofBits .f32 0x40000000#32 * (f k - mean f)))) width = back f d j := by
  obtain ⟨s, hs, h⟩ := vareps_pos hf
  have hr : rs f = (((√s)⁻¹ : ℝ) : EReal) := by
    show Ideal.rsqrt (vareps f) = _
    rw [h, rsqrt_coe hs]
  have hrs : (√s)⁻¹ / s = (√s)⁻¹ * (√s)⁻¹ * (√s)⁻¹ := by
    rw [div_eq_mul_inv, mul_assoc, ← mul_inv (√s) (√s), Real.mul_self_sqrt hs.le]
  choose g hg using hf
  choose e he using hd
  obtain rfl : f = fun j => (g j : EReal) := funext hg
  obtain rfl : d = fun j => (e j : EReal) := funext he
  generalize (√s)⁻¹ = r at hr hrs
  have hm : ∑ k, (g k - (∑ k, g k) / 1024) = 0 := by
    rw [Finset.sum_sub_distrib]; simp; ring
  unfold back hat
  rw [hw, hr, h, mean_coe, mean_coe, width_eq, mhalf_eq, two_eq, div_coe hs.ne', hrs]
  generalize (∑ k, g k) / 1024 = m at hm
  simp only [← EReal.coe_mul, ← EReal.coe_sub, mean_coe, ← coe_sum, div_coe (show (1024 : ℝ) ≠ 0 by norm_num), ← EReal.coe_neg, ← EReal.coe_add]
  refine congrArg _ ?_
  have h1 : ∑ k, -(e k * r) = -(r * ∑ k, e k) := by rw [Finset.sum_neg_distrib, ← Finset.sum_mul, mul_comm]
  have h2 (v : ℝ) : ∑ k, -(v * (2 * (g k - m))) = 0 := by
    rw [Finset.sum_neg_distrib, ← Finset.mul_sum, ← Finset.mul_sum, hm]; ring
  have h3 : ∑ k, e k * ((g k - m) * r) = r * ∑ k, (g k - m) * e k := by
    rw [Finset.mul_sum]; exact Finset.sum_congr rfl fun k _ => by ring
  rw [h1, h2, h3]
  ring

/-- The cubic coefficient is spelled as a quotient of whole numbers. -/
theorem coeff : Ideal.div (Ideal.ofBits .f32 0x472EAB00#32) (Ideal.ofBits .f32 0x49742400#32) = c1 := by
  have a : Ideal.ofBits .f32 0x472EAB00#32 = ((44715 : ℝ) : EReal) := by simp [Ideal.ofBits, Ideal.ieee, -EReal.coe_mul]; norm_num
  have b : Ideal.ofBits .f32 0x49742400#32 = ((1000000 : ℝ) : EReal) := by simp [Ideal.ofBits, Ideal.ieee, -EReal.coe_mul]; norm_num
  rw [a, b, Reals.div_coe (by norm_num), c1]; norm_num

/-- The hyperbolic tangent of the rectifier, its cubic term multiplied in the other order. -/
theorem tanh_eq (x : EReal) : Ideal.tanh (Ideal.ofBits .f32 0x3F4C422A#32
    * (x + Ideal.div (Ideal.ofBits .f32 0x472EAB00#32) (Ideal.ofBits .f32 0x49742400#32) * (x * x * x))) = th x := by
  rw [coeff, th, mul_assoc (c1 * x) x x, mul_assoc c1 x (x * x), ← mul_assoc x x x]; rfl

end Cert.Gmlp

end
-- ==== Proof.Sums.lean ====
/-
  Sums over the elements that a host reduction folds together, and sums over a contraction, written over any index type
  that names the summed elements once each.
-/
module

public import proofs.«01_k».proof.Proof.Blocks

@[expose] public section

open Idealize.ShloMosaic Idealize.ShloMosaic.TcCoe
open scoped BigOperators

namespace Cert.Sums

/-- A host reduction by addition is its initial value plus the sum over any family `e` that runs once through the elements
that fold to each place. -/
theorem reduce_eq {s t u : Shape} {φ : FTy} {axes : List (Fin s.rank)} {ι : Type} [Fintype ι] (h : s.ReducesTo axes t)
    (hu : 0 < u.numel) (x : FVec Ideal s φ) (init : u.Idx → Ideal φ) (e : t.Idx → ι → s.Idx) (hd : ∀ j k, h.drop (e j k) = j)
    (hs : ∀ i, ∃ k, e (h.drop i) k = i) (hi : ∀ j, Function.Injective (e j)) (j : t.Idx) :
    Host.reduceAdd x init h hu j = (init (Shape.Idx.first hu) + ∑ k, x (e j k) : EReal) := by
  rw [ValueIdx.hostReduceAdd_apply]
  refine congrArg (_ + ·) (Finset.sum_nbij (e j) (fun k _ => by simp [hd]) (fun a _ b _ he => hi j he) (fun i hm => ?_)
    (fun _ _ => rfl)).symm
  obtain rfl : h.drop i = j := by simpa using hm
  obtain ⟨k, hk⟩ := hs i
  exact ⟨k, by simp, hk⟩

/-- A sum over the places of a contraction, over any index type in bijection with them. -/
theorem dot_eq {sl sr so : Shape} {φ₁ φ₂ : FTy} {ι : Type} [Fintype ι] (d : DotDims sl sr so) (prec : Option ContractPrecision)
    (x : FVec Ideal sl φ₁) (y : FVec Ideal sr φ₂) (j : so.Idx) (e : ι → d.contr.Idx) (he : Function.Bijective e) :
    Host.dotGeneral d prec x y j = (∑ k, x (d.lhsIdx j (e k)) * y (d.rhsIdx j (e k)) : EReal) := by
  unfold Host.dotGeneral
  rw [Ideal.dotGeneral_apply]
  exact (he.sum_comp fun k => x (d.lhsIdx j k) * y (d.rhsIdx j k)).symm

/-- A sum over axes of one element drops them. -/
theorem drop_units (h : (⟨3, ![1, 1, 1024]⟩ : Shape).ReducesTo [0, 1] ⟨1, ![1024]⟩) {u : Shape} (hu : 0 < u.numel)
    (x : FVec Ideal ⟨3, ![1, 1, 1024]⟩ .f32) (z : FVec Ideal u .f32) (hz : z (Shape.Idx.first hu) = (0 : EReal)) (j : Fin 1024) :
    Host.reduceAdd x z h hu (ix1 j) = x (ix3 0 0 j) := by
  refine (reduce_eq h hu x z
    (fun (j : (⟨1, ![1024]⟩ : Shape).Idx) (_ : Unit) => (ix3 (0 : Fin 1) (0 : Fin 1) (j 0 : Fin 1024) : (⟨3, ![1, 1, 1024]⟩ : Shape).Idx))
    (fun j k => funext fun b => match b with
      | ⟨0, _⟩ => rfl)
    (fun i => ⟨(), funext fun b => match b with
      | ⟨0, _⟩ => Subsingleton.elim (α := Fin 1) _ _
      | ⟨1, _⟩ => Subsingleton.elim (α := Fin 1) _ _
      | ⟨2, _⟩ => rfl⟩)
    (fun j a b _ => rfl) _).trans ?_
  rw [hz, zero_add]
  exact Fintype.sum_unique _

theorem drop_row_units (h : (⟨3, ![1, 4096, 1]⟩ : Shape).ReducesTo [0, 2] ⟨1, ![4096]⟩) {u : Shape} (hu : 0 < u.numel)
    (x : FVec Ideal ⟨3, ![1, 4096, 1]⟩ .f32) (z : FVec Ideal u .f32) (hz : z (Shape.Idx.first hu) = (0 : EReal)) (i : Fin 4096) :
    Host.reduceAdd x z h hu (ix1 i) = x (ix3 0 i 0) := by
  refine (reduce_eq h hu x z
    (fun (j : (⟨1, ![4096]⟩ : Shape).Idx) (_ : Unit) => (ix3 (0 : Fin 1) (j 0 : Fin 4096) (0 : Fin 1) : (⟨3, ![1, 4096, 1]⟩ : Shape).Idx))
    (fun j k => funext fun b => match b with
      | ⟨0, _⟩ => rfl)
    (fun i => ⟨(), funext fun b => match b with
      | ⟨0, _⟩ => Subsingleton.elim (α := Fin 1) _ _
      | ⟨1, _⟩ => rfl
      | ⟨2, _⟩ => Subsingleton.elim (α := Fin 1) _ _⟩)
    (fun j a b _ => rfl) _).trans ?_
  rw [hz, zero_add]
  exact Fintype.sum_unique _

end Cert.Sums
-- ==== Proof.GmlpRef.lean ====
/-
  The gradient of the gated spatial mixing, reference side: what `GmlpBwdRefIdeal` computes, element by element, up to
  the gradient that reaches the normalised rows. Nothing here needs finite arguments.
-/
module

public import proofs.«01_k».proof.Proof.GmlpReal
public import proofs.«01_k».proof.Proof.Sums
public import proofs.«01_k».proof.Proof.Gen.GmlpBwdRefIdeal.Read

@[expose] public section

set_option maxRecDepth 16384

noncomputable section

open Idealize.ShloMosaic Idealize.ShloMosaic.TcCoe Idealize.SL.Sem

namespace Cert.GmlpBwdRefIdeal.RefValue

open Cert.GmlpBwdRefIdeal Cert.GmlpBwdRefIdeal.Gen Cert.GmlpBwdRefIdeal.Read Cert.Blocks Cert.Gmlp

variable (x0 : S8x4096x1024.Idx → EReal) (x1 : S4096x1024.Idx → EReal) (x2 : S8x4096x1024.Idx → EReal) (x3 x4 : S1x1024.Idx → EReal)
  (x5 : S1x8x128x128.Idx → EReal) (x6 : S1x8x128.Idx → EReal) (x7 : S1024x1024.Idx → EReal)

/-! ## The rectifier of the two branches -/

theorem u_tanh (i : Fin 4096) (j : Fin 1024) : val_main_v18 (F := Ideal) x2 (ix3 0 i j) = th (x2 (ix3 0 i j)) := by
  pointwise [val_main_v18, val_main_v17, val_main_v16, val_main_v15, val_main_v14, val_main_v13, val_main_v9, val_main_v8, val_main_v0, val_main_v7,
    val_main_cst, val_main_cst_0, val_main_cst_2]
  exact tanh_eq _
theorem u_gelu (i : Fin 4096) (j : Fin 1024) : val_main_v28 (F := Ideal) x2 (ix3 0 i j) = gel x2 0 i j := by
  pointwise [val_main_v28, val_main_v27, val_main_v26, val_main_v25, val_main_v24, val_main_cst_5, val_main_cst_6, val_main_v0, u_tanh x2]
  rw [mul_left_comm, ← mul_assoc]; rfl
theorem v_tanh (i : Fin 4096) (j : Fin 1024) : val_main_v40 (F := Ideal) x2 (ix3 0 i j) = th (x2 (ix3 1 i j)) := by
  pointwise [val_main_v40, val_main_v39, val_main_v38, val_main_v37, val_main_v36, val_main_v35, val_main_v31, val_main_v30, val_main_v1, val_main_v29,
    val_main_cst_7, val_main_cst_8, val_main_cst_10]
  exact tanh_eq _
theorem v_gelu (i : Fin 4096) (j : Fin 1024) : val_main_v50 (F := Ideal) x2 (ix3 0 i j) = gel x2 1 i j := by
  pointwise [val_main_v50, val_main_v49, val_main_v48, val_main_v47, val_main_v46, val_main_cst_13, val_main_cst_14, val_main_v1, v_tanh x2]
  rw [mul_left_comm, ← mul_assoc]; rfl

/-! ## The normalised rows -/

theorem centred (i : Fin 4096) (j : Fin 1024) : val_main_v65 (F := Ideal) x2 (ix3 0 i j) = gel x2 1 i j - mean (gel x2 1 i) := by
  pointwise [val_main_v65, val_main_v64, val_main_v54, val_main_v53, val_main_v52, val_main_v51, val_main_cst_15, val_main_cst_16, v_gelu x2]
  rfl
theorem centred' (i : Fin 4096) (j : Fin 1024) : val_main_v56 (F := Ideal) x2 (ix3 0 i j) = gel x2 1 i j - mean (gel x2 1 i) := by
  pointwise [val_main_v56, val_main_v55, val_main_v54, val_main_v53, val_main_v52, val_main_v51, val_main_cst_15, val_main_cst_16, v_gelu x2]
  rfl
theorem variance (i : Fin 4096) : val_main_v67 (F := Ideal) x2 (ix3 0 i 0) = vareps (gel x2 1 i) := by
  pointwise [val_main_v67, val_main_v66, val_main_v63, val_main_v62, val_main_v61, val_main_v60, val_main_v57, val_main_cst_18, val_main_cst_19,
    val_main_cst_20, centred' x2]
  rfl
theorem invdev (i : Fin 4096) : val_main_v68 (F := Ideal) x2 (ix3 0 i 0) = rs (gel x2 1 i) := by
  pointwise [val_main_v68, variance x2]
  rfl
theorem normed (i : Fin 4096) (j : Fin 1024) : val_main_v73 (F := Ideal) x2 (ix3 0 i j) = hat (gel x2 1 i) j := by
  pointwise [val_main_v73, val_main_v72, centred x2, invdev x2]
  rfl
theorem rows (n : Fin 32) (s : Fin 128) (j : Fin 1024) :
    val_main_v79 (F := Ideal) x2 x3 x4 (ix3 0 (crow n s) j) = vn x2 x3 x4 n s j := by
  pointwise [val_main_v79, val_main_v78, val_main_v77, val_main_v76, val_main_v75, val_main_v74, val_main_v3, val_main_v2, normed x2]
  rfl
theorem rows_split (n : Fin 32) (t : Fin 128) (g : Fin 8) (d : Fin 128) :
    val_main_v80 (F := Ideal) x2 x3 x4 (ix5 0 n t g d) = vn x2 x3 x4 n t (col g d) := by
  refine Eq.trans ?_ (rows x2 x3 x4 n t (col g d))
  pointwise [val_main_v80]
  rfl

/-! ## The mixing and what it multiplies -/

theorem lower (g : Fin 8) (t s : Fin 128) (a b : EReal) :
    Scalar.select (val_main_v83_1 (F := Ideal) (ix3 g t s)) a b = if s ≤ t then a else b := by
  pointwise [val_main_v83_1, val_main_v82, val_main_v81, val_main_c, val_main_call0_v4, val_main_call0_v2, val_main_call0_v0, val_main_call0_v1,
    val_main_call0_c, val_main_call0_v3, val_main_call0_v5, val_main_call0_c_0]
  exact pick t s a b
theorem weights (g : Fin 8) (t s : Fin 128) : val_main_v83_0 (F := Ideal) x5 (ix3 g t s) = wm x5 g t s := by
  pointwise [val_main_v83_0, val_main_v4, val_main_call1_v1, val_main_cst_22, lower g t s]
  rfl
theorem mixed (i : Fin 4096) (j : Fin 1024) :
    val_main_v91 (F := Ideal) x2 x3 x4 x5 x6 (ix3 0 i j) = mix (wm x5) (bm x6) (vn x2 x3 x4 (chunkOf i)) (rowOf i) j := by
  have h (n t g d) : val_main_v90 (F := Ideal) x2 x3 x4 x5 x6 (ix5 0 n t g d)
      = ∑ s, vn x2 x3 x4 n s (col g d) * wm x5 g t s + bm x6 g t := by
    pointwise [val_main_v90, val_main_v85, val_main_v84, val_main_v86, val_main_v87, val_main_v88, val_main_v89, val_main_v5, weights x5, rows_split x2 x3 x4]
    rfl
  pointwise [val_main_v91]
  refine (h (chunkOf i) (rowOf i) (grp j) (lane j)).trans ?_
  rw [col_of, mix]
  exact congrArg (· + _) (Finset.sum_congr rfl fun s _ => mul_comm _ _)
theorem inner (i : Fin 4096) (j : Fin 1024) : val_main_v96 (F := Ideal) x1 x7 (ix3 0 i j) = da x1 x7 i j := by
  pointwise [val_main_v96, val_main_v95, val_main_v94, val_main_v6, val_main_v93, val_main_v92]
  rfl
theorem d_mixed (n : Fin 32) (t : Fin 128) (j : Fin 1024) :
    val_main_v97 (F := Ideal) x1 x2 x7 (ix3 0 (crow n t) j) = dmx x1 x2 x7 n t j := by
  pointwise [val_main_v97, u_gelu x2, inner x1 x7]
  exact mul_comm _ _
theorem d_mixed_split (n : Fin 32) (t : Fin 128) (g : Fin 8) (d : Fin 128) :
    val_main_v99 (F := Ideal) x1 x2 x7 (ix5 0 n t g d) = dmx x1 x2 x7 n t (col g d) := by
  refine Eq.trans ?_ (d_mixed x1 x2 x7 n t (col g d))
  pointwise [val_main_v99]
  rfl
theorem d_rows (i : Fin 4096) (j : Fin 1024) :
    val_main_v111 (F := Ideal) x1 x2 x5 x7 (ix3 0 i j) = dvn x1 x2 x5 x7 (chunkOf i) (rowOf i) j := by
  have h (n s g d) : val_main_v109 (F := Ideal) x1 x2 x5 x7 (ix5 0 n s g d)
      = ∑ t, dmx x1 x2 x7 n t (col g d) * wm x5 g t s := by
    pointwise [val_main_v109, val_main_v108, val_main_v106, d_mixed_split x1 x2 x7, weights x5]
  pointwise [val_main_v111]
  refine (h (chunkOf i) (rowOf i) (grp j) (lane j)).trans ?_
  rw [col_of, dvn, unmix]
  exact Finset.sum_congr rfl fun s _ => mul_comm _ _
theorem d_gate (i : Fin 4096) (j : Fin 1024) : val_main_v98 (F := Ideal) x1 x2 x3 x4 x5 x6 x7 (ix3 0 i j)
    = da x1 x7 i j * mix (wm x5) (bm x6) (vn x2 x3 x4 (chunkOf i)) (rowOf i) j := by
  pointwise [val_main_v98, inner x1 x7, mixed x2 x3 x4 x5 x6]

/-! ## The gradients of the parameters -/

theorem sum_tokens_lanes (t : Fin 128) (g : Fin 8) : val_main_v100 (F := Ideal) x1 x2 x7 (ix3 0 t g)
    = ∑ k : Fin 32 × Fin 128, val_main_v99 (F := Ideal) x1 x2 x7 (ix5 0 k.1 t g k.2) := by
  unfold val_main_v100
  refine (Sums.reduce_eq reducesTo_S1x32x128x8x128_S1x128x8_d1_4 h_S_ (val_main_v99 (F := Ideal) x1 x2 x7) (val_main_cst_23 (F := Ideal))
    (fun (j : S1x128x8.Idx) (k : Fin 32 × Fin 128) => (ix5 (0 : Fin 1) k.1 (j 1 : Fin 128) (j 2 : Fin 8) k.2 : S1x32x128x8x128.Idx))
    (fun j k => funext fun b => match b with
      | ⟨0, _⟩ => Subsingleton.elim (α := Fin 1) _ _
      | ⟨1, _⟩ => rfl
      | ⟨2, _⟩ => rfl)
    (fun i => ⟨(i 1, i 4), funext fun b => match b with
      | ⟨0, _⟩ => Subsingleton.elim (α := Fin 1) _ _
      | ⟨1, _⟩ => rfl
      | ⟨2, _⟩ => rfl
      | ⟨3, _⟩ => rfl
      | ⟨4, _⟩ => rfl⟩)
    (fun j a b h => Prod.ext (congrFun h 1) (congrFun h 4)) _).trans ?_
  pointwise [val_main_cst_23]

theorem drop_ends (x : FVec Ideal S1x1x128x8x1 .f32) (z : FVec Ideal S_ .f32) (hz : z (Shape.Idx.first h_S_) = (0 : EReal)) (t : Fin 128) (g : Fin 8) :
    Host.reduceAdd x z reducesTo_S1x1x128x8x1_S128x8_d0_1_4 h_S_ (ix2 t g) = x (ix5 0 0 t g 0) := by
  refine (Sums.reduce_eq reducesTo_S1x1x128x8x1_S128x8_d0_1_4 h_S_ x z
    (fun (j : S128x8.Idx) (_ : Unit) => (ix5 (0 : Fin 1) (0 : Fin 1) (j 0 : Fin 128) (j 1 : Fin 8) (0 : Fin 1) : S1x1x128x8x1.Idx))
    (fun j k => funext fun b => match b with
      | ⟨0, _⟩ => rfl
      | ⟨1, _⟩ => rfl)
    (fun i => ⟨(), funext fun b => match b with
      | ⟨0, _⟩ => Subsingleton.elim (α := Fin 1) _ _
      | ⟨1, _⟩ => Subsingleton.elim (α := Fin 1) _ _
      | ⟨2, _⟩ => rfl
      | ⟨3, _⟩ => rfl
      | ⟨4, _⟩ => Subsingleton.elim (α := Fin 1) _ _⟩)
    (fun j a b _ => rfl) _).trans ?_
  rw [hz, zero_add]
  exact Fintype.sum_unique _

/-- The gradient of the mixing bias. -/
theorem d_bias : val_main_v105 (F := Ideal) x1 x2 x7 = dbsOut x1 x2 x7 := by
  funext y
  obtain ⟨g, t, rfl⟩ := exists_ix2 (a := 8) (b := 128) y
  have h : val_main_v102 (F := Ideal) x1 x2 x7 (ix2 t g) = val_main_v101 (F := Ideal) x1 x2 x7 (ix5 0 0 t g 0) :=
    drop_ends _ _ (by pointwise [val_main_cst_24]) t g
  pointwise [val_main_v105, val_main_v104, val_main_v103, val_main_cst_25, h, val_main_v101]
  rw [Fintype.sum_unique, sum_tokens_lanes]
  simp only [d_mixed_split x1 x2 x7, Fintype.sum_prod_type]
  rfl
/-- The places a product over segments and lanes is summed over. -/
def place (k : Fin 32 × Fin 128) : dot_S8x1x32x128x128_S1x32x128x8x128_S8x128x128_123_014_4_2_0_3.contr.Idx := fun a => match a with
  | ⟨0, _⟩ => (0 : Fin 1)
  | ⟨1, _⟩ => k.1
  | ⟨2, _⟩ => k.2

theorem d_weights_dot (g : Fin 8) (t s : Fin 128) : val_main_v107 (F := Ideal) x1 x2 x3 x4 x7 (ix3 g t s)
    = ∑ k : Fin 32 × Fin 128, val_main_v106 (F := Ideal) x1 x2 x7 (ix5 g 0 k.1 k.2 t) * val_main_v80 (F := Ideal) x2 x3 x4 (ix5 0 k.1 s g k.2) := by
  unfold val_main_v107
  rw [Sums.dot_eq _ _ _ _ _ place ⟨fun a b h => Prod.ext (congrFun h ⟨1, by decide⟩) (congrFun h ⟨2, by decide⟩), fun q =>
    ⟨(q ⟨1, by decide⟩, q ⟨2, by decide⟩), funext fun a => match a with
      | ⟨0, _⟩ => Subsingleton.elim (α := Fin 1) _ _
      | ⟨1, _⟩ => rfl
      | ⟨2, _⟩ => rfl⟩⟩]
  refine Finset.sum_congr rfl fun k _ => congrArg₂ (· * ·) (congrArg _ (funext fun a => ?_)) (congrArg _ (funext fun a => ?_)) <;>
  exact match a with
    | ⟨0, _⟩ => rfl
    | ⟨1, _⟩ => rfl
    | ⟨2, _⟩ => rfl
    | ⟨3, _⟩ => rfl
    | ⟨4, _⟩ => rfl

/-- The gradient of the mixing weights. -/
theorem d_weights : val_main_v110 (F := Ideal) x1 x2 x3 x4 x7 = dwsOut x1 x2 x3 x4 x7 := by
  funext y
  obtain ⟨g, t, s, rfl⟩ := exists_ix3 (a := 8) (b := 128) (d := 128) y
  pointwise [val_main_v110, val_main_call2_v0, val_main_call2_cst, lower g t s, d_weights_dot x1 x2 x3 x4 x7, val_main_v106, d_mixed_split x1 x2 x7,
    rows_split x2 x3 x4]
  simp only [Fintype.sum_prod_type]
  rfl

/-- The gradient of the normalisation's shift. -/
theorem d_shift : val_main_v114 (F := Ideal) x1 x2 x5 x7 = dlbOut x1 x2 x5 x7 := by
  funext y
  obtain ⟨j, rfl⟩ : ∃ j : Fin 1024, y = ix1 j := ⟨y 0, funext fun k => by match k with | ⟨0, _⟩ => rfl⟩
  refine (Sums.drop_units _ _ _ _ (by pointwise [val_main_cst_27]) j).trans ?_
  pointwise [val_main_v113, val_main_v112, val_main_cst_26, d_rows x1 x2 x5 x7]
  rfl
/-- The gradient of the normalisation's scale. -/
theorem d_scale : val_main_v120 (F := Ideal) x1 x2 x5 x7 = dlgOut x1 x2 x5 x7 := by
  funext y
  obtain ⟨j, rfl⟩ : ∃ j : Fin 1024, y = ix1 j := ⟨y 0, funext fun k => by match k with | ⟨0, _⟩ => rfl⟩
  refine (Sums.drop_units _ _ _ _ (by pointwise [val_main_cst_29]) j).trans ?_
  pointwise [val_main_v117, val_main_v116, val_main_cst_28, val_main_v115, normed x2, d_rows x1 x2 x5 x7]
  exact Finset.sum_congr rfl fun i _ => mul_comm _ _

/-! ## The gradient that reaches the two branches, as the reference spells it -/

variable (h2 : ∀ (k : Fin 8) i j, k.val < 2 → Reals.IsR (x2 (ix3 k i j))) (h1 : ∀ y, Reals.IsR (x1 y)) (h3 : ∀ y, Reals.IsR (x3 y)) (h4 : ∀ y, Reals.IsR (x4 y))
  (h5 : ∀ y, Reals.IsR (x5 y)) (h6 : ∀ y, Reals.IsR (x6 y)) (h7 : ∀ y, Reals.IsR (x7 y))

include h2 in
theorem isR_gel (k : Fin 8) (hk : k.val < 2) (i : Fin 4096) (j : Fin 1024) : Reals.IsR (gel x2 k i j) := isR_gelu (h2 k i j hk)
include h1 h7 in
theorem isR_da (i : Fin 4096) (j : Fin 1024) : Reals.IsR (da x1 x7 i j) := .sum _ fun _ => (h1 _).mul (h7 _)
include h5 in
theorem isR_wm (g : Fin 8) (t s : Fin 128) : Reals.IsR (wm x5 g t s) := .ite (h5 _) Reals.isR_zero
include h2 h3 h4 in
theorem isR_vn (n : Fin 32) (s : Fin 128) (j : Fin 1024) : Reals.IsR (vn x2 x3 x4 n s j) :=
  ((isR_hat (fun j => isR_gel x2 h2 1 (by decide) _ j) j).mul (h3 _)).add (h4 _)
include h2 h3 h4 h5 h6 in
theorem isR_mix (n : Fin 32) (t : Fin 128) (j : Fin 1024) : Reals.IsR (mix (wm x5) (bm x6) (vn x2 x3 x4 n) t j) :=
  (Reals.IsR.sum _ fun s => (isR_wm x5 h5 _ _ _).mul (isR_vn x2 x3 x4 h2 h3 h4 n s j)).add (h6 _)
include h1 h2 h5 h7 in
theorem isR_dvn (n : Fin 32) (t : Fin 128) (j : Fin 1024) : Reals.IsR (dvn x1 x2 x5 x7 n t j) :=
  Reals.IsR.sum Finset.univ (f := fun s => wm x5 (grp j) s t * dmx x1 x2 x7 n s j) fun s => (isR_wm x5 h5 _ _ _).mul ((isR_da x1 x7 h1 h7 _ _).mul (isR_gel x2 h2 0 (by decide) _ _))

include h1 h2 h3 h5 h7 in
/-- The gradient that reaches the second branch's rectifier. -/
theorem d_branch (i : Fin 4096) (j : Fin 1024) : val_main_v146 (F := Ideal) x1 x2 x3 x5 x7 (ix3 0 i j)
    = back (gel x2 1 i) (fun k => dvn x1 x2 x5 x7 (chunkOf i) (rowOf i) k * x3 (ix2 0 k)) j := by
  have h132 : val_main_v132 (F := Ideal) x1 x2 x3 x5 x7 (ix1 i) = val_main_v131 (F := Ideal) x1 x2 x3 x5 x7 (ix3 0 i 0) :=
    Sums.drop_row_units _ _ _ _ (by pointwise [val_main_cst_33]) i
  have h143 : val_main_v143 (F := Ideal) x1 x2 x3 x5 x7 (ix1 i) = val_main_v142 (F := Ideal) x1 x2 x3 x5 x7 (ix3 0 i 0) :=
    Sums.drop_row_units _ _ _ _ (by pointwise [val_main_cst_36]) i
  have h119 (j : Fin 1024) : val_main_v119 (F := Ideal) x1 x2 x3 x5 x7 (ix3 0 i j) = dvn x1 x2 x5 x7 (chunkOf i) (rowOf i) j * x3 (ix2 0 j) := by
    pointwise [val_main_v119, d_rows x1 x2 x5 x7, val_main_v118, val_main_v74, val_main_v2]
  refine Eq.trans ?_ (norm_grad (isR_gel x2 h2 1 (by decide) i) (fun k => (isR_dvn x1 x2 x5 x7 h2 h1 h5 h7 _ _ k).mul (h3 _)) j
    (val_main_v131 (F := Ideal) x1 x2 x3 x5 x7 (ix3 0 i 0)) ?_)
  · pointwise [val_main_v146, val_main_v145, val_main_v144, h143, val_main_v142, val_main_v140, val_main_v139, val_main_v138, val_main_v137,
      val_main_v136, val_main_v135, val_main_v134, val_main_v133, h132, val_main_v129, val_main_v128, val_main_v127, val_main_v125, val_main_v124,
      invdev x2, h119, val_main_v59, val_main_v58, val_main_cst_17, val_main_v141, centred' x2, val_main_cst_35, val_main_cst_31, val_main_cst_34]
    rfl
  · pointwise [val_main_v131, val_main_v130, val_main_cst_32, val_main_v126, val_main_v123, val_main_v122, val_main_v121, centred x2, val_main_v71,
      val_main_v70, val_main_v69, invdev x2, variance x2, h119, val_main_cst_21, val_main_cst_30]
    rfl

include h1 h2 h3 h5 h7 in
theorem d_second (i : Fin 4096) (j : Fin 1024) : val_main_v158 (F := Ideal) x1 x2 x3 x5 x7 (ix3 0 i j) = dv x1 x2 x3 x5 x7 i j := by
  pointwise [val_main_v158, val_main_v157, val_main_v156, val_main_v155, val_main_v154, val_main_v153, val_main_v152, val_main_v151, val_main_v150,
    val_main_v149, val_main_v148, val_main_v147, val_main_v49, val_main_v48, val_main_v47, val_main_v46, val_main_v45, val_main_v44, val_main_v43,
    val_main_v42, val_main_v41, v_tanh x2, val_main_v34, val_main_v33, val_main_v32, val_main_v30, val_main_v29, val_main_v1,
    d_branch x1 x2 x3 x5 x7 h2 h1 h3 h5 h7, val_main_cst_7, val_main_cst_8, val_main_cst_9, val_main_cst_11, val_main_cst_12, val_main_cst_13,
    val_main_cst_14, val_main_cst_37, val_main_cst_38]
  rw [coeff]
  exact gelu_grad (h2 1 i j (by decide)) (isR_back (isR_gel x2 h2 1 (by decide) i) (fun k => (isR_dvn x1 x2 x5 x7 h2 h1 h5 h7 _ _ k).mul (h3 _)) j)

include h1 h2 h3 h4 h5 h6 h7 in
theorem d_first (i : Fin 4096) (j : Fin 1024) : val_main_v170 (F := Ideal) x1 x2 x3 x4 x5 x6 x7 (ix3 0 i j) = du x1 x2 x3 x4 x5 x6 x7 i j := by
  pointwise [val_main_v170, val_main_v169, val_main_v168, val_main_v167, val_main_v166, val_main_v165, val_main_v164, val_main_v163, val_main_v162,
    val_main_v161, val_main_v160, val_main_v159, val_main_v27, val_main_v26, val_main_v25, val_main_v24, val_main_v23, val_main_v22, val_main_v21,
    val_main_v20, val_main_v19, u_tanh x2, val_main_v12, val_main_v11, val_main_v10, val_main_v8, val_main_v7, val_main_v0,
    d_gate x1 x2 x3 x4 x5 x6 x7, val_main_cst, val_main_cst_0, val_main_cst_1, val_main_cst_3, val_main_cst_4, val_main_cst_5, val_main_cst_6,
    val_main_cst_39, val_main_cst_40]
  rw [coeff]
  exact gelu_grad (h2 0 i j (by decide)) ((isR_da x1 x7 h1 h7 i j).mul (isR_mix x2 x3 x4 x5 x6 h2 h3 h4 h5 h6 _ _ j))

include h1 h2 h3 h4 h5 h6 h7 in
/-- The gradients of the projection, the two branches' own in their places. -/
theorem d_proj : val_main_v175 (F := Ideal) x0 x1 x2 x3 x4 x5 x6 x7 = dprojOut x0 x1 x2 x3 x4 x5 x6 x7 := by
  funext y
  obtain ⟨k, i, j, rfl⟩ := exists_ix3 (a := 8) (b := 4096) (d := 1024) y
  have e1 (p : Fin 1) : val_main_v170 (F := Ideal) x1 x2 x3 x4 x5 x6 x7 (ix3 p i j) = du x1 x2 x3 x4 x5 x6 x7 i j := by
    rw [Subsingleton.elim p 0, d_first x1 x2 x3 x4 x5 x6 x7 h2 h1 h3 h4 h5 h6 h7]
  have e2 (p : Fin 1) : val_main_v158 (F := Ideal) x1 x2 x3 x5 x7 (ix3 p i j) = dv x1 x2 x3 x5 x7 i j := by
    rw [Subsingleton.elim p 0, d_second x1 x2 x3 x5 x7 h2 h1 h3 h5 h7]
  pointwise [val_main_v175, val_main_v174, val_main_v173, val_main_v172, val_main_v171, e1, e2]
  have hk := k.isLt
  show _ = if (k : Nat) = 4 then du x1 x2 x3 x4 x5 x6 x7 i j else if (k : Nat) = 5 then dv x1 x2 x3 x5 x7 i j else x0 (ix3 k i j)
  by_cases k4 : k.val = 4
  · rw [dif_neg (by omega), dif_pos (by omega), if_pos k4]
  by_cases k5 : k.val = 5
  · rw [dif_neg (by omega), dif_neg (by omega), dif_pos (by omega), if_neg k4, if_pos k5]
  rw [if_neg k4, if_neg k5]
  by_cases k3 : k.val < 4
  · rw [dif_pos k3]
  · rw [dif_neg k3, dif_neg (by omega), dif_neg (by omega)]
    exact congrArg x0 (congrArg (ix3 · i j) (Fin.ext (show 6 + (k.val - 4 - 1 - 1) = k.val by omega)))

end Cert.GmlpBwdRefIdeal.RefValue

end
-- ==== Proof.Gmlp.lean ====
/-
  The claims about the gradient of the gated spatial mixing: where the arguments are real numbers, what the two runs leave
  is the same function of them.
-/
module

public import proofs.«01_k».proof.Defs
public import proofs.«01_k».proof.Proof.GmlpValue
public import proofs.«01_k».proof.Proof.GmlpRef
public import proofs.«01_k».proof.Proof.Gen.GmlpBwdRefIdeal.Run
public import proofs.«01_k».proof.Proof.Gen.Pre_gmlp_bwd_finite
public import Idealize.ShloMosaic.Lib.Claim

@[expose] public section

set_option maxRecDepth 16384

noncomputable section

open Idealize.ShloMosaic Idealize.ShloMosaic.TcCoe Idealize.SL.Sem

namespace Cert.Proof.Gmlp

open Cert.Gmlp Cert.GmlpBwdIdeal.KValue Cert.GmlpBwdRefIdeal.RefValue Cert.Reals

/-- What the precondition says of the arguments it names. -/
theorem finite {x0 : Cert.Pre_gmlp_bwd_finite.S8x4096x1024.Idx → EReal} {x1 : Cert.Pre_gmlp_bwd_finite.S4096x1024.Idx → EReal}
    {x2 : Cert.Pre_gmlp_bwd_finite.S8x4096x1024.Idx → EReal} {x3 x4 : Cert.Pre_gmlp_bwd_finite.S1x1024.Idx → EReal}
    {x5 : Cert.Pre_gmlp_bwd_finite.S1x8x128x128.Idx → EReal} {x6 : Cert.Pre_gmlp_bwd_finite.S1x8x128.Idx → EReal}
    {x7 : Cert.Pre_gmlp_bwd_finite.S1024x1024.Idx → EReal}
    (h : Cert.Pre_gmlp_bwd_finite.fn (F := Ideal) x0 x1 x2 x3 x4 x5 x6 x7 = fun _ => 1#1) :
    (∀ (k : Fin 8) (i : Fin 4096) (j : Fin 1024), k.val < 2 → IsR (x2 (ix3 k i j))) ∧ (∀ y, IsR (x1 y)) ∧ (∀ y, IsR (x3 y)) ∧ (∀ y, IsR (x4 y))
      ∧ (∀ y, IsR (x5 y)) ∧ (∀ y, IsR (x6 y)) ∧ (∀ y, IsR (x7 y)) := by
  have h := congrFun h ix0
  unfold Cert.Pre_gmlp_bwd_finite.fn Cert.Pre_gmlp_bwd_finite.fn_part1 Cert.Pre_gmlp_bwd_finite.fn_part2 at h
  obtain ⟨h, a7⟩ := IntOp.andi_eq_one.1 h
  obtain ⟨h, a6⟩ := IntOp.andi_eq_one.1 h
  obtain ⟨h, a5⟩ := IntOp.andi_eq_one.1 h
  obtain ⟨h, a4⟩ := IntOp.andi_eq_one.1 h
  obtain ⟨h, a3⟩ := IntOp.andi_eq_one.1 h
  obtain ⟨a1, a2⟩ := IntOp.andi_eq_one.1 h
  refine ⟨fun k i j hk => ?_, fun y => isR_of_cmp (Host.reduce_andi_all _ _ _ _ _ a1 y),
    fun y => isR_of_cmp (Host.reduce_andi_all _ _ _ _ _ a3 y), fun y => isR_of_cmp (Host.reduce_andi_all _ _ _ _ _ a4 y),
    fun y => isR_of_cmp (Host.reduce_andi_all _ _ _ _ _ a5 y), fun y => isR_of_cmp (Host.reduce_andi_all _ _ _ _ _ a6 y),
    fun y => isR_of_cmp (Host.reduce_andi_all _ _ _ _ _ a7 y)⟩
  have e := isR_of_cmp (Host.reduce_andi_all _ _ _ _ _ a2 (ix3 (⟨k.val, hk⟩ : Fin 2) i j))
  have q : extractStridedSlice Cert.Pre_gmlp_bwd_finite.S2x4096x1024 ![0, 0, 0] x2
    Cert.Pre_gmlp_bwd_finite.Facts.slices_S8x4096x1024_S2x4096x1024_0_0_0 (ix3 (⟨k.val, hk⟩ : Fin 2) i j) = x2 (ix3 k i j) := by pointwise []
  rw [← q]
  exact e

/-- Both runs end with the gradients `dprojOut`, `dlgOut`, `dlbOut`, `dwsOut`, `dbsOut` of the arguments. -/
theorem algebraic : Cert.algebraic_GmlpBwdIdeal_GmlpBwdRefIdeal_pre_gmlp_bwd_finite := by
  intro m ρ m' ρ' hpre hagree
  refine ⟨G9 m, fun c => dlgOut (Dya m c) (Proj m c) (Ws m c) (Wa m c), fun c => dlbOut (Dya m c) (Proj m c) (Ws m c) (Wa m c),
    fun c => dwsOut (Dya m c) (Proj m c) (Lg m c) (Lb m c) (Wa m c), fun c => dbsOut (Dya m c) (Proj m c) (Wa m c), (θ_run Cert.GmlpBwdIdeal.defs _ _).mono (fun r h c => ?_)
    (θ_run_and (run m ρ) (Cert.GmlpBwdIdeal.Gen.unchanged m ρ)), ?_⟩
  · exact ⟨(h.1 c).1, (h.1 c).2.1, (h.1 c).2.2.1, (h.1 c).2.2.2.1, (h.1 c).2.2.2.2, h.2 c⟩
  · refine (θ_run Cert.GmlpBwdRefIdeal.defs _ _).mono (fun r h c => ?_) (Cert.GmlpBwdRefIdeal.Value.run (F := Ideal) m' ρ')
    obtain ⟨e0, e1, e2, e3, e4, e5, e6, e7⟩ := hagree c
    obtain ⟨h2, h1, h3, h4, h5, h6, h7⟩ := finite (hpre c)
    obtain ⟨r1, r2, r3, r4, r5, hargs⟩ := h c
    refine ⟨r1.trans ?_, r2.trans ?_, r3.trans ?_, r4.trans ?_, r5.trans ?_, hargs⟩
    · refine (Cert.GmlpBwdRefIdeal.Read.val_main_v175_eq _).trans ?_
      unfold StableHlo.launchContents
      rw [e0, e1, e2, e3, e4, e5, e6, e7]
      exact d_proj _ _ _ _ _ _ _ _ h2 h1 h3 h4 h5 h6 h7
    · refine (Cert.GmlpBwdRefIdeal.Read.val_main_v120_eq _).trans ?_
      unfold StableHlo.launchContents
      rw [e1, e2, e5, e7]
      exact d_scale _ _ _ _
    · refine (Cert.GmlpBwdRefIdeal.Read.val_main_v114_eq _).trans ?_
      unfold StableHlo.launchContents
      rw [e1, e2, e5, e7]
      exact d_shift _ _ _ _
    · refine (Cert.GmlpBwdRefIdeal.Read.val_main_v110_eq _).trans ?_
      unfold StableHlo.launchContents
      rw [e1, e2, e3, e4, e7]
      exact d_weights _ _ _ _ _
    · refine (Cert.GmlpBwdRefIdeal.Read.val_main_v105_eq _).trans ?_
      unfold StableHlo.launchContents
      rw [e1, e2, e7]
      exact d_bias _ _ _

/-- The reference ends with its arguments unchanged and every counter at zero: it declares no semaphore. -/
theorem frame : Cert.quiescent_GmlpBwdRefIdeal := fun m ρ _ =>
  (θ_run Cert.GmlpBwdRefIdeal.defs _ _).mono (fun r h => ⟨fun c => (h c).2.2.2.2.2, sem_eq_zero_of_no_sems (by decide) r.2⟩)
    (Cert.GmlpBwdRefIdeal.Value.run (F := Ideal) m ρ)

end Cert.Proof.Gmlp

end
-- ==== Proof.Rms.lean ====
/-
  Root-mean-square normalisation of a row of 1024 columns: the normalised row, the gradient taken back through it as it
  is written by hand, and the identity that makes it the gradient which differentiation in reverse gives.
-/
module

public import proofs.«01_k».proof.Proof.GmlpReal

@[expose] public section

noncomputable section

open Idealize.ShloMosaic Idealize.ShloMosaic.TcCoe

namespace Cert.Rms

open Cert.Reals
open Cert.Gmlp (Row width eps mean width_eq mhalf_eq eps_pos mean_coe isR_mean)

/-- The mean square of a row plus the small constant, its inverse root, and the row it normalises. -/
def ms (f : Row) : EReal := mean (fun k => f k * f k) + eps
def rs (f : Row) : EReal := Ideal.rsqrt (ms f)
def hat (f : Row) (j : Fin 1024) : EReal := f j * rs f
/-- The gradient `d` of the normalised row, taken back to the row `f`. -/
def back (f d : Row) (j : Fin 1024) : EReal := rs f * (d j - hat f j * mean (fun k => d k * hat f k))

variable {f d : Row}

theorem ms_pos (hf : ∀ j, IsR (f j)) : ∃ s : ℝ, 0 < s ∧ ms f = (s : EReal) := by
  choose g hg using hf
  obtain rfl : f = fun j => (g j : EReal) := funext hg
  obtain ⟨e, he, h⟩ := eps_pos
  refine ⟨(∑ j, g j * g j) / 1024 + e, add_pos_of_nonneg_of_pos (div_nonneg (Finset.sum_nonneg fun j _ => mul_self_nonneg _) (by norm_num)) he, ?_⟩
  rw [ms, h]
  simp only [← EReal.coe_mul, mean_coe, ← EReal.coe_add]

theorem isR_rs (hf : ∀ j, IsR (f j)) : IsR (rs f) := by
  obtain ⟨s, hs, h⟩ := ms_pos hf
  rw [rs, h, rsqrt_coe hs]; exact isR_coe _

theorem isR_hat (hf : ∀ j, IsR (f j)) (j : Fin 1024) : IsR (hat f j) := (hf j).mul (isR_rs hf)

theorem isR_back (hf : ∀ j, IsR (f j)) (hd : ∀ j, IsR (d j)) (j : Fin 1024) : IsR (back f d j) :=
  (isR_rs hf).mul ((hd j).sub ((isR_hat hf j).mul (isR_mean fun k => (hd k).mul (isR_hat hf k))))

/-- Differentiated in reverse, the gradient comes through the row and, twice, through its mean square. -/
theorem norm_grad (hf : ∀ j, IsR (f j)) (hd : ∀ j, IsR (d j)) (j : Fin 1024) (w : EReal)
    (hw : w = Ideal.div ((∑ k, f k * d k) * (Ideal.ofBits .f32 0xBF000000#32 * Ideal.div (rs f) (ms f))) width) :
    d j * rs f + (f j * w + w * f j) = back f d j := by
  obtain ⟨s, hs, h⟩ := ms_pos hf
  have hr : rs f = (((√s)⁻¹ : ℝ) : EReal) := by rw [rs, h, rsqrt_coe hs]
  have hrs : (√s)⁻¹ / s = (√s)⁻¹ * (√s)⁻¹ * (√s)⁻¹ := by
    rw [div_eq_mul_inv, mul_assoc, ← mul_inv (√s) (√s), Real.mul_self_sqrt hs.le]
  choose g hg using hf
  choose e he using hd
  obtain rfl : f = fun j => (g j : EReal) := funext hg
  obtain rfl : d = fun j => (e j : EReal) := funext he
  generalize (√s)⁻¹ = r at hr hrs
  unfold back hat
  rw [hw, hr, h, width_eq, mhalf_eq, div_coe hs.ne', hrs]
  simp only [← EReal.coe_mul, ← EReal.coe_sub, mean_coe, ← coe_sum, div_coe (show (1024 : ℝ) ≠ 0 by norm_num), ← EReal.coe_add]
  refine congrArg _ ?_
  have h3 : ∑ k, e k * (g k * r) = r * ∑ k, g k * e k := by
    rw [Finset.mul_sum]; exact Finset.sum_congr rfl fun k _ => by ring
  rw [h3]
  ring

end Cert.Rms

end
-- ==== Proof.ProjSpec.lean ====
/-
  The gradient through the projection and the norm before it, as a function of its arguments: what both programs are shown
  to compute. The projection has eight components of 1024 columns, two in each quarter of its weights.
-/
module

public import proofs.«01_k».proof.Proof.Rms
public import proofs.«01_k».proof.Proof.Pieces

@[expose] public section

noncomputable section

open Idealize.ShloMosaic Idealize.ShloMosaic.TcCoe Idealize.SL.Sem

namespace Cert.Proj

/-- Row `d` of component `m`'s gradient against row `k` of the weights' component `o`. -/
def part {T : ℕ} (dp : (⟨3, ![8, T, 1024]⟩ : Shape).Idx → EReal) (w : (⟨3, ![4, 1024, 2048]⟩ : Shape).Idx → EReal)
    (m o : Fin 8) (i : Fin T) (k : Fin 1024) : EReal :=
  ∑ j : Fin 1024, dp (ix3 m i j) * w (ix3 ⟨o.val / 2, by omega⟩ k ⟨o.val % 2 * 1024 + j.val, by omega⟩)

/-- The gradient of the normalised row: the eight components in the order in which their gradients are held. -/
def dh {T : ℕ} (dp : (⟨3, ![8, T, 1024]⟩ : Shape).Idx → EReal) (w : (⟨3, ![4, 1024, 2048]⟩ : Shape).Idx → EReal)
    (i : Fin T) (k : Fin 1024) : EReal :=
  part dp w 0 2 i k + part dp w 1 3 i k + part dp w 2 4 i k + part dp w 3 5 i k + part dp w 4 0 i k + part dp w 5 1 i k
    + part dp w 6 6 i k + part dp w 7 7 i k

/-- The gradient of the norm's argument, added to the one `r` that goes round it. -/
def dx {T : ℕ} (dp : (⟨3, ![8, T, 1024]⟩ : Shape).Idx → EReal) (w : (⟨3, ![4, 1024, 2048]⟩ : Shape).Idx → EReal)
    (x r : (⟨2, ![T, 1024]⟩ : Shape).Idx → EReal) (g : (⟨2, ![1, 1024]⟩ : Shape).Idx → EReal) (i : Fin T) (j : Fin 1024) : EReal :=
  r (ix2 i j) + Rms.back (fun k => x (ix2 i k)) (fun k => dh dp w i k * g (ix2 0 k)) j

/-- The term of row `i` in the gradient of the norm's gain. -/
def dg {T : ℕ} (dp : (⟨3, ![8, T, 1024]⟩ : Shape).Idx → EReal) (w : (⟨3, ![4, 1024, 2048]⟩ : Shape).Idx → EReal)
    (x : (⟨2, ![T, 1024]⟩ : Shape).Idx → EReal) (i : Fin T) (j : Fin 1024) : EReal :=
  dh dp w i j * Rms.hat (fun k => x (ix2 i k)) j

/-- The two results. -/
def dxOut (dp : (⟨3, ![8, 4096, 1024]⟩ : Shape).Idx → EReal) (w : (⟨3, ![4, 1024, 2048]⟩ : Shape).Idx → EReal)
    (x r : (⟨2, ![4096, 1024]⟩ : Shape).Idx → EReal) (g : (⟨2, ![1, 1024]⟩ : Shape).Idx → EReal) (y : (⟨2, ![4096, 1024]⟩ : Shape).Idx) : EReal :=
  dx dp w x r g (y 0) (y 1)
def dgOut (dp : (⟨3, ![8, 4096, 1024]⟩ : Shape).Idx → EReal) (w : (⟨3, ![4, 1024, 2048]⟩ : Shape).Idx → EReal)
    (x : (⟨2, ![4096, 1024]⟩ : Shape).Idx → EReal) (y : (⟨1, ![1024]⟩ : Shape).Idx) : EReal :=
  ∑ i, dg dp w x i (y 0)

end Cert.Proj

end
-- ==== Proof.ProjBody.lean ====
/-
  The gradient through the projection, kernel side: what the body leaves in its two output blocks at a point, as functions
  of the blocks it finds. A block has 256 rows.
-/
module

public import proofs.«01_k».proof.Proof.Gen.ProjBwdIdeal.Frame
public import proofs.«01_k».proof.Proof.ProjSpec
public import Idealize.ShloMosaic.Rules

@[expose] public section

set_option maxRecDepth 16384
set_option maxHeartbeats 4000000

noncomputable section

open Idealize.ShloMosaic Idealize.ShloMosaic.TcCoe Idealize.SL.Sem
open Idealize.ShloMosaic.Pipeline (Dat)

namespace Cert.ProjBwdIdeal.KValue

open Cert.ProjBwdIdeal Cert.ProjBwdIdeal.Gen Cert.Blocks Cert.Pieces Cert.Proj

/-- What a point adds to the accumulator: eight rows of partial sums. -/
def vacc (x0 : Vec Ideal S8x256x1024 .bf16) (x1 : Vec Ideal S4x1024x2048 .bf16) (x2 : Vec Ideal S256x1024 .f32) (r : Fin 8) (j : Fin 1024) : EReal :=
  ∑ n : Fin 32, dg x0 x1 x2 (⟨n.val * 8 + r.val, by omega⟩ : Fin 256) j

section Body

variable (c : Dev nD) (i : grid0.Coords) (arg1 : Memref sig .tc .vmem S8x256x1024 .bf16) (harg1 : arg1.IsWhole) (arg2 : Memref sig .tc .vmem S4x1024x2048 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S256x1024 .f32) (harg6 : arg6.IsWhole) (arg7 : Memref sig .tc .vmem S8x1024 .f32) (harg7 : arg7.IsWhole)
  (x0 : Vec Ideal S8x256x1024 .bf16) (x1 : Vec Ideal S4x1024x2048 .bf16) (x2 : Vec Ideal S256x1024 .f32) (x3 : Vec Ideal S256x1024 .f32) (x4 : Vec Ideal S1x1024 .f32) (xo6 : Vec Ideal S8x1024 .f32)

theorem out5_A (hc0 : cond0_0 i) : out0_A_5 (F := Ideal) c i arg1 harg1 arg2 harg2 arg3 harg3 arg4 harg4 arg5 harg5 arg6 harg6 arg7 harg7 hc0 x0 x1 x2 x3 x4
    = fun (y : S256x1024.Idx) => dx x0 x1 x2 x3 x4 (y 0 : Fin 256) (y 1) := by
  unfold out0_A_5
  rw [View.read_writes_eq_canon _ _ _ (cover0_A_5 c i arg1 harg1 arg2 harg2 arg3 harg3 arg4 harg4 arg5 harg5 arg6 harg6 arg7 harg7 hc0 x0 x1 x2 x3 x4)]
  unfold kernelRun0_A
  dsimp only
  sl_unfold_words
  simp only [View.readAt_eq_ld, harg1.read_unread, harg2.read_unread, harg3.read_unread, harg4.read_unread, harg5.read_unread, harg6.read_unread, harg7.read_unread]
  simp (disch := decide) only [↓ View.readCov_skip, ↓ View.readCov_cons_toLoadRect, ↓ View.readCov_fill, View.ld_unit_lit']
  refine canon_of_tiles _ 1 ![256, 1024] _ (by sl_kernel_rfl) fun p hp x => ?_
  simp only [List.take_succ_cons, List.take_zero, List.mem_cons, List.not_mem_nil, or_false] at hp
  obtain rfl := hp
  obtain ⟨r, l, rfl⟩ := exists_ix2 (a := 256) (b := 1024) x
  rw [emb_ix2 (h0 := by omega) (h1 := by omega)]
  unfold_payloads
  pointwise
  rfl

theorem out6_A (hc0 : cond0_0 i) : out0_A_6 (F := Ideal) c i arg1 harg1 arg2 harg2 arg3 harg3 arg4 harg4 arg5 harg5 arg6 harg6 arg7 harg7 hc0 x0 x1 x2 x3 x4
    = fun (y : S8x1024.Idx) => k0_pay5 (F := Ideal) y + vacc x0 x1 x2 (y 0) (y 1) := by
  unfold out0_A_6
  rw [View.read_writes_eq_canon _ _ _ (cover0_A_6 c i arg1 harg1 arg2 harg2 arg3 harg3 arg4 harg4 arg5 harg5 arg6 harg6 arg7 harg7 hc0 x0 x1 x2 x3 x4)]
  unfold kernelRun0_A
  dsimp only
  sl_unfold_words
  simp only [View.readAt_eq_ld, harg1.read_unread, harg2.read_unread, harg3.read_unread, harg4.read_unread, harg5.read_unread, harg6.read_unread, harg7.read_unread]
  simp (disch := decide) only [↓ View.readCov_skip, ↓ View.readCov_cons_toLoadRect, ↓ View.readCov_fill, View.ld_unit_lit']
  refine canon_of_tiles _ 1 ![8, 1024] _ (by sl_kernel_rfl) fun p hp x => ?_
  simp only [List.take_succ_cons, List.take_zero, List.mem_cons, List.not_mem_nil, or_false] at hp
  obtain rfl := hp
  obtain ⟨r, l, rfl⟩ := exists_ix2 (a := 8) (b := 1024) x
  rw [emb_ix2 (h0 := by omega) (h1 := by omega)]
  unfold_payloads
  pointwise
  rfl

theorem out5_B (hc0 : ¬cond0_0 i) : out0_B_5 (F := Ideal) c i arg1 harg1 arg2 harg2 arg3 harg3 arg4 harg4 arg5 harg5 arg6 harg6 arg7 harg7 hc0 x0 x1 x2 x3 x4 xo6
    = fun (y : S256x1024.Idx) => dx x0 x1 x2 x3 x4 (y 0 : Fin 256) (y 1) := by
  unfold out0_B_5
  rw [View.read_writes_eq_canon _ _ _ (cover0_B_5 c i arg1 harg1 arg2 harg2 arg3 harg3 arg4 harg4 arg5 harg5 arg6 harg6 arg7 harg7 hc0 x0 x1 x2 x3 x4 xo6)]
  unfold kernelRun0_B
  dsimp only
  sl_unfold_words
  simp only [View.readAt_eq_ld, harg1.read_unread, harg2.read_unread, harg3.read_unread, harg4.read_unread, harg5.read_unread, harg6.read_unread, harg7.read_unread]
  simp (disch := decide) only [↓ View.readCov_skip, ↓ View.readCov_cons_toLoadRect, ↓ View.readCov_fill, View.ld_unit_lit']
  refine canon_of_tiles _ 1 ![256, 1024] _ (by sl_kernel_rfl) fun p hp x => ?_
  simp only [List.take_succ_cons, List.take_zero, List.mem_cons, List.not_mem_nil, or_false] at hp
  obtain rfl := hp
  obtain ⟨r, l, rfl⟩ := exists_ix2 (a := 256) (b := 1024) x
  rw [emb_ix2 (h0 := by omega) (h1 := by omega)]
  unfold_payloads
  pointwise
  rfl

theorem out6_B (hc0 : ¬cond0_0 i) : out0_B_6 (F := Ideal) c i arg1 harg1 arg2 harg2 arg3 harg3 arg4 harg4 arg5 harg5 arg6 harg6 arg7 harg7 hc0 x0 x1 x2 x3 x4 xo6
    = fun (y : S8x1024.Idx) => xo6 y + vacc x0 x1 x2 (y 0) (y 1) := by
  unfold out0_B_6
  rw [View.read_writes_eq_canon _ _ _ (cover0_B_6 c i arg1 harg1 arg2 harg2 arg3 harg3 arg4 harg4 arg5 harg5 arg6 harg6 arg7 harg7 hc0 x0 x1 x2 x3 x4 xo6)]
  unfold kernelRun0_B
  dsimp only
  sl_unfold_words
  simp only [View.readAt_eq_ld, harg1.read_unread, harg2.read_unread, harg3.read_unread, harg4.read_unread, harg5.read_unread, harg6.read_unread, harg7.read_unread]
  simp (disch := decide) only [↓ View.readCov_skip, ↓ View.readCov_cons_toLoadRect, ↓ View.readCov_fill, View.ld_unit_lit']
  refine canon_of_tiles _ 1 ![8, 1024] _ (by sl_kernel_rfl) fun p hp x => ?_
  simp only [List.take_succ_cons, List.take_zero, List.mem_cons, List.not_mem_nil, or_false] at hp
  obtain rfl := hp
  obtain ⟨r, l, rfl⟩ := exists_ix2 (a := 8) (b := 1024) x
  rw [emb_ix2 (h0 := by omega) (h1 := by omega)]
  unfold_payloads
  pointwise
  rfl

end Body

end Cert.ProjBwdIdeal.KValue

end
-- ==== Proof.ProjValue.lean ====
/-
  The gradient through the projection, kernel side: the arrays that the run leaves, from the blocks its points leave.
-/
module

public import proofs.«01_k».proof.Proof.ProjBody
public import proofs.«01_k».proof.Proof.Accum
public import proofs.«01_k».proof.Proof.Gen.ProjBwdIdeal.Run

@[expose] public section

set_option maxRecDepth 16384
set_option maxHeartbeats 4000000

noncomputable section

open Idealize.ShloMosaic Idealize.ShloMosaic.TcCoe Idealize.SL.Sem
open Idealize.ShloMosaic.Pipeline (Dat)

namespace Cert.ProjBwdIdeal.KValue

open Cert.ProjBwdIdeal Cert.ProjBwdIdeal.Gen Cert.Blocks Cert.Pieces Cert.Proj

variable (m : (ℓ : Loc nD τ sig) → Buf (Elt Ideal) ℓ) (c : Dev nD)

/-! The arguments. -/

abbrev Dp : S8x4096x1024.Idx → EReal := m ((c : Thread nD τ).loc main_arg0)
abbrev W : S4x1024x2048.Idx → EReal := m ((c : Thread nD τ).loc main_arg1)
abbrev X : S4096x1024.Idx → EReal := m ((c : Thread nD τ).loc main_arg2)
abbrev Dx1 : S4096x1024.Idx → EReal := m ((c : Thread nD τ).loc main_arg3)
abbrev G : S1x1024.Idx → EReal := m ((c : Thread nD τ).loc main_arg4)

theorem hN : cfg0.N = 16 := N_0

/-- Row `r` of the block at point `t`. -/
def row (t : Fin cfg0.N) (r : Fin 256) : Fin 4096 := ⟨t.val * 256 + r.val, Accum.row_lt hN t r⟩

variable (t : Fin cfg0.N)

/-! The windows' blocks. -/

theorem blk0 (k : Fin 8) (r : Fin 256) (l : Fin 1024) : iblk m c 0 t (ix3 k r l) = Dp m c (ix3 k (row t r) l) := by
  have e : ∀ (t : Fin cfg0.N) a, win0_0.index t a * win0_0.size a = ![0, t.val * 256, 0] a := by decide +kernel
  refine (congrArg (V m c main_arg0) (rect_emb_eq win0_0 t _ _ fun a => ?_)).trans (congrFun (V_main_arg0 m c) _)
  rw [e t a]; match a with
  | ⟨0, _⟩ => exact Nat.zero_add _
  | ⟨1, _⟩ => rfl
  | ⟨2, _⟩ => exact Nat.zero_add _

theorem blk1 (k : Fin 4) (r : Fin 1024) (l : Fin 2048) : iblk m c 1 t (ix3 k r l) = W m c (ix3 k r l) := by
  have e : ∀ (t : Fin cfg0.N) a, win0_1.index t a * win0_1.size a = ![0, 0, 0] a := by decide +kernel
  refine (congrArg (V m c main_arg1) (rect_emb_eq win0_1 t _ _ fun a => ?_)).trans (congrFun (V_main_arg1 m c) _)
  rw [e t a]; match a with
  | ⟨0, _⟩ => exact Nat.zero_add _
  | ⟨1, _⟩ => exact Nat.zero_add _
  | ⟨2, _⟩ => exact Nat.zero_add _

theorem blk2 (r : Fin 256) (l : Fin 1024) : iblk m c 2 t (ix2 r l) = X m c (ix2 (row t r) l) := by
  have e : ∀ (t : Fin cfg0.N) a, win0_2.index t a * win0_2.size a = ![t.val * 256, 0] a := by decide +kernel
  refine (congrArg (V m c main_arg2) (rect_emb_eq win0_2 t _ _ fun a => ?_)).trans (congrFun (V_main_arg2 m c) _)
  rw [e t a]; match a with
  | ⟨0, _⟩ => rfl
  | ⟨1, _⟩ => exact Nat.zero_add _

theorem blk3 (r : Fin 256) (l : Fin 1024) : iblk m c 3 t (ix2 r l) = Dx1 m c (ix2 (row t r) l) := by
  have e : ∀ (t : Fin cfg0.N) a, win0_3.index t a * win0_3.size a = ![t.val * 256, 0] a := by decide +kernel
  refine (congrArg (V m c main_arg3) (rect_emb_eq win0_3 t _ _ fun a => ?_)).trans (congrFun (V_main_arg3 m c) _)
  rw [e t a]; match a with
  | ⟨0, _⟩ => rfl
  | ⟨1, _⟩ => exact Nat.zero_add _

theorem blk4 (l : Fin 1024) : iblk m c 4 t (ix2 0 l) = G m c (ix2 0 l) := by
  have e : ∀ (t : Fin cfg0.N) a, win0_4.index t a * win0_4.size a = ![0, 0] a := by decide +kernel
  refine (congrArg (V m c main_arg4) (rect_emb_eq win0_4 t _ _ fun a => ?_)).trans (congrFun (V_main_arg4 m c) _)
  rw [e t a]; match a with
  | ⟨0, _⟩ => rfl
  | ⟨1, _⟩ => exact Nat.zero_add _

/-! What a point leaves: the first output's block; and of the accumulator, what it adds. -/

theorem bdh (r : Fin 256) (k : Fin 1024) : dh (T := 256) (iblk m c 0 t) (iblk m c 1 t) r k = dh (Dp m c) (W m c) (row t r) k := by
  unfold dh part
  simp only [blk0, blk1]

theorem outs5 (r : Fin 256) (j : Fin 1024) :
    (outsAt0 m c t.val t.isLt).1 (ix2 r j) = dx (Dp m c) (W m c) (X m c) (Dx1 m c) (G m c) (row t r) j := by
  have h : (outsAt0 m c t.val t.isLt).1 = fun (y : S256x1024.Idx) =>
      dx (iblk m c 0 t) (iblk m c 1 t) (iblk m c 2 t) (iblk m c 3 t) (iblk m c 4 t) (y 0 : Fin 256) (y 1) := by
    by_cases h0 : t.val % 16 = 0
    · rw [outsAt0_A m c t h0]; dsimp only; rw [out5_A]
    · rw [outsAt0_B m c t h0]; dsimp only; rw [out5_B]
  rw [h]
  show dx (T := 256) (iblk m c 0 t) (iblk m c 1 t) (iblk m c 2 t) (iblk m c 3 t) (iblk m c 4 t) r j = _
  unfold dx
  simp only [bdh, blk2, blk3, blk4]

theorem step6 (r : Fin 8) (j : Fin 1024) :
    (outsAt0 m c t.val t.isLt).2 (ix2 r j)
      = (if t.val % 16 = 0 then 0 else (outsAt0 m c (t.val - 1) (Nat.lt_of_le_of_lt (Nat.sub_le _ _) t.isLt)).2 (ix2 r j))
        + vacc (iblk m c 0 t) (iblk m c 1 t) (iblk m c 2 t) r j := by
  by_cases h0 : t.val % 16 = 0
  · rw [outsAt0_A m c t h0, if_pos h0]
    dsimp only
    rw [out6_A]
    refine congrArg (· + _) ?_
    unfold_payloads
    pointwise
  · rw [outsAt0_B m c t h0, if_neg h0]
    dsimp only
    rw [out6_B]
    rfl

/-- The accumulator's last contents. -/
def acc (r : Fin 8) (j : Fin 1024) : EReal :=
  ∑ t : Fin cfg0.N, ∑ x : Fin 32, dg (Dp m c) (W m c) (X m c) ⟨t.val * 256 + (x.val * 8 + r.val), Accum.row_lt hN t ⟨x.val * 8 + r.val, by omega⟩⟩ j

theorem last6 (ht : t.val % 16 = 15) (r : Fin 8) (j : Fin 1024) : (outsAt0 m c t.val t.isLt).2 (ix2 r j) = acc m c r j := by
  rw [Accum.last hN (fun n hn => (outsAt0 m c n hn).2 (ix2 r j)) _ (fun t => step6 m c t r j) t ht, acc]
  refine Finset.sum_congr rfl fun t _ => Finset.sum_congr rfl fun n _ => ?_
  unfold dg
  simp only [bdh, blk2]
  rfl

/-! The result arrays. -/

def G5 : Buf (Elt Ideal) ((c : Thread nD τ).loc main_v0_0) := dxOut (Dp m c) (W m c) (X m c) (Dx1 m c) (G m c)
def G6 : Buf (Elt Ideal) ((c : Thread nD τ).loc main_v0_1) := fun (y : S8x1024.Idx) => acc m c (y 0) (y 1)

theorem emb5 (r : Fin 256) (l : Fin 1024) : (win0_5.rect t).emb (ix2 r l) = (ix2 (row t r) l : S4096x1024.Idx) := by
  have e : ∀ (t : Fin cfg0.N) a, win0_5.index t a * win0_5.size a = ![t.val * 256, 0] a := by decide +kernel
  refine rect_emb_eq _ t _ _ fun a => ?_
  rw [e t a]; match a with
  | ⟨0, _⟩ => rfl
  | ⟨1, _⟩ => exact Nat.zero_add _

theorem emb6 (r : Fin 8) (l : Fin 1024) : (win0_6.rect t).emb (ix2 r l) = (ix2 r l : S8x1024.Idx) := by
  have e : ∀ (t : Fin cfg0.N) a, win0_6.index t a * win0_6.size a = ![0, 0] a := by decide +kernel
  refine rect_emb_eq _ t _ _ fun a => ?_
  rw [e t a]; match a with
  | ⟨0, _⟩ => exact Nat.zero_add _
  | ⟨1, _⟩ => exact Nat.zero_add _

theorem flushed5 : (dats m 0 c).flushed 5 t = (win0_5.blk t).view.read (Elt Ideal) (G5 m c) := by
  funext (y : S256x1024.Idx)
  obtain ⟨r, l, rfl⟩ := exists_ix2 y
  show (dats m 0 c).after 5 t (ix2 r l) = G5 m c ((win0_5.rect t).emb (ix2 r l))
  rw [after0_5, emb5, outs5]
  rfl

theorem flushed6 (ht : t.val % 16 = 15) : (dats m 0 c).flushed 6 t = (win0_6.blk t).view.read (Elt Ideal) (G6 m c) := by
  funext (y : S8x1024.Idx)
  obtain ⟨r, l, rfl⟩ := exists_ix2 y
  show (dats m 0 c).after 6 t (ix2 r l) = G6 m c ((win0_6.rect t).emb (ix2 r l))
  rw [after0_6, emb6, last6 m c t ht]
  rfl

theorem final5 : (dats m 0 c).arrAt 5 cfg0.N = G5 m c :=
  (dats m 0 c).arrAt_eq_of_cover 5 (G5 m c) (fun t _ => flushed5 m c t) fun (i : S4096x1024.Idx) => by
    obtain ⟨i, l, rfl⟩ := exists_ix2 i
    obtain ⟨t, r, rfl⟩ := Accum.split_row hN i
    exact ⟨t, flush0_5 t, emb5 t r l ▸ ((cfg0.win 5).blk t).view.emb_mem_set (ix2 r l : S256x1024.Idx)⟩

theorem final6 : (dats m 0 c).arrAt 6 cfg0.N = G6 m c :=
  (dats m 0 c).arrAt_eq_of_cover 6 (G6 m c) (fun t h => flushed6 m c t ((flush0_6 t).mp h)) fun (i : S8x1024.Idx) => by
    obtain ⟨r, l, rfl⟩ := exists_ix2 i
    have h15 : 15 < cfg0.N := by rw [hN]; decide
    exact ⟨⟨15, h15⟩, (flush0_6 _).mpr rfl, emb6 ⟨15, h15⟩ r l ▸ ((cfg0.win 6).blk ⟨15, h15⟩).view.emb_mem_set (ix2 r l : S8x1024.Idx)⟩

/-- The sum of the accumulator's eight rows. -/
theorem tail6 : Host.reduceAdd (Cert.ProjBwdIdeal.Value.reg_main_v0_1 m c) (constant (F := Ideal) S_ .f32 0x00000000#32) reducesTo_S8x1024_S1024_d0 h_S_ = dgOut (Dp m c) (W m c) (X m c) := by
  rw [show Cert.ProjBwdIdeal.Value.reg_main_v0_1 m c = G6 m c from final6 m c]
  funext (y : S1024.Idx)
  obtain ⟨j, rfl⟩ : ∃ j : Fin 1024, y = ix1 j := ⟨y 0, funext fun k => by match k with | ⟨0, _⟩ => rfl⟩
  refine Eq.trans ?_ (Accum.sum_rows hN fun i => dg (Dp m c) (W m c) (X m c) i j)
  generalize hG : G6 m c = G
  pointwise
  subst hG
  rfl

end Cert.ProjBwdIdeal.KValue

end
-- ==== Proof.ProjRef.lean ====
/-
  The gradient through the projection, reference side: differentiation in reverse of the norm and the projection, read
  line by line, is the specification's function of the arguments.
-/
module

public import proofs.«01_k».proof.Proof.ProjSpec
public import proofs.«01_k».proof.Proof.Sums
public import proofs.«01_k».proof.Proof.Gen.ProjBwdRefIdeal.Read
public import Idealize.ShloMosaic.Lib.Pipeline.ValueKit

@[expose] public section

set_option maxRecDepth 16384
set_option maxHeartbeats 4000000

noncomputable section

open Idealize.ShloMosaic Idealize.ShloMosaic.TcCoe Idealize.SL.Sem

namespace Cert.ProjBwdRefIdeal.RefValue

open Cert.ProjBwdRefIdeal Cert.ProjBwdRefIdeal.Gen Cert.ProjBwdRefIdeal.Read Cert.Blocks Cert.Proj

variable (x0 : S8x4096x1024.Idx → EReal) (x1 : S4x1024x2048.Idx → EReal) (x2 x3 : S4096x1024.Idx → EReal) (x4 : S1x1024.Idx → EReal)

/-! The product: its 8192 columns are the eight components. -/

/-- Which of the held gradients belongs to a component of the weights. -/
def src : Fin 8 → Fin 8 := ![4, 5, 0, 1, 2, 3, 6, 7]

theorem ct_at (i : Fin 4096) (c : Fin 8) (j : Fin 1024) :
    val_main_v27 (F := Ideal) x0 (ix2 i ⟨c.val * 1024 + j.val, by omega⟩) = x0 (ix3 (src c) i j) := by
  obtain ⟨c, hc⟩ := c
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10]
  rcases (by omega : c = 0 ∨ c = 1 ∨ c = 2 ∨ c = 3 ∨ c = 4 ∨ c = 5 ∨ c = 6 ∨ c = 7) with rfl | rfl | rfl | rfl | rfl | rfl | rfl | rfl
  all_goals
    repeat first
      | rw [dif_pos (by omega)]
      | rw [dif_neg (by omega)]
    exact congrArg (fun l : Fin 1024 => x0 (ix3 _ i l)) (Fin.ext (by simp only; omega))

theorem w_at (k : Fin 1024) (c : Fin 8) (j : Fin 1024) :
    val_main_v9 (F := Ideal) x1 (ix2 k ⟨c.val * 1024 + j.val, by omega⟩)
      = x1 (ix3 ⟨c.val / 2, by omega⟩ k ⟨c.val % 2 * 1024 + j.val, by omega⟩) := by
  obtain ⟨c, hc⟩ := c
  pointwise [val_main_v9, val_main_v8, val_main_v7, val_main_v6, val_main_v5, val_main_v4, val_main_v3, val_main_v2, val_main_v1, val_main_v0]
  rcases (by omega : c = 0 ∨ c = 1 ∨ c = 2 ∨ c = 3 ∨ c = 4 ∨ c = 5 ∨ c = 6 ∨ c = 7) with rfl | rfl | rfl | rfl | rfl | rfl | rfl | rfl
  all_goals
    repeat first
      | rw [dif_pos (by omega)]
      | rw [dif_neg (by omega)]
    exact congrArg (fun l : Fin 2048 => x1 (ix3 _ k l)) (Fin.ext (by simp only <;> omega))

theorem d_normed (i : Fin 4096) (k : Fin 1024) : val_main_v49 (F := Ideal) x0 x1 (ix3 0 i k) = dh x0 x1 i k := by
  pointwise [val_main_v49, val_main_v48]
  rw [← Fin.sum_mul_add_fin 8 1024 (fun e : Fin 8192 => val_main_v27 (F := Ideal) x0 (ix2 i e) * val_main_v9 (F := Ideal) x1 (ix2 k e)) (by norm_num)]
  simp only [ct_at, w_at]
  show ∑ c : Fin 8, part x0 x1 (src c) c i k = _
  rw [Fin.sum_univ_eight, dh]
  show part x0 x1 4 0 i k + part x0 x1 5 1 i k + part x0 x1 0 2 i k + part x0 x1 1 3 i k + part x0 x1 2 4 i k + part x0 x1 3 5 i k
    + part x0 x1 6 6 i k + part x0 x1 7 7 i k = _
  ac_rfl

/-! The norm. -/

theorem meansq (i : Fin 4096) : val_main_v36 (F := Ideal) x2 (ix3 0 i 0) = Rms.ms fun k => x2 (ix2 i k) := by
  pointwise [val_main_v36, val_main_v35, val_main_v34, val_main_v33, val_main_v32, val_main_v31, val_main_v30, val_main_v28, val_main_cst, val_main_cst_0, val_main_cst_1]
  rfl

theorem invroot (i : Fin 4096) : val_main_v37 (F := Ideal) x2 (ix3 0 i 0) = Rms.rs fun k => x2 (ix2 i k) := by
  pointwise [val_main_v37, meansq x2]
  rfl

theorem normed (i : Fin 4096) (k : Fin 1024) : val_main_v42 (F := Ideal) x2 (ix3 0 i k) = Rms.hat (fun k => x2 (ix2 i k)) k := by
  pointwise [val_main_v42, val_main_v41, val_main_v28, invroot x2]
  rfl

theorem d_gain : val_main_v55 (F := Ideal) x0 x1 x2 = dgOut x0 x1 x2 := by
  funext y
  obtain ⟨j, rfl⟩ : ∃ j : Fin 1024, y = ix1 j := ⟨y 0, funext fun k => by match k with | ⟨0, _⟩ => rfl⟩
  refine (Sums.drop_units _ _ _ _ (by pointwise [val_main_cst_4]) j).trans ?_
  pointwise [val_main_v52, val_main_v51, val_main_v50, normed x2, d_normed x0 x1, val_main_cst_3]
  exact Finset.sum_congr rfl fun i _ => mul_comm _ _

theorem d_hat (i : Fin 4096) (k : Fin 1024) : val_main_v54 (F := Ideal) x0 x1 x4 (ix3 0 i k) = dh x0 x1 i k * x4 (ix2 0 k) := by
  pointwise [val_main_v54, val_main_v53, val_main_v43, val_main_v29, d_normed x0 x1]

theorem through_mean (i : Fin 4096) (k : Fin 1024) : val_main_v67 (F := Ideal) x0 x1 x2 x4 (ix3 0 i k)
    = Ideal.div ((∑ k, x2 (ix2 i k) * (dh x0 x1 i k * x4 (ix2 0 k)))
        * (Ideal.ofBits .f32 0xBF000000#32 * Ideal.div (Rms.rs fun k => x2 (ix2 i k)) (Rms.ms fun k => x2 (ix2 i k)))) Gmlp.width := by
  have e : val_main_v65 (F := Ideal) x0 x1 x2 x4 (ix1 i) = val_main_v64 (F := Ideal) x0 x1 x2 x4 (ix3 0 i 0) :=
    Sums.drop_row_units _ _ _ _ (by pointwise [val_main_cst_7]) i
  pointwise [val_main_v67, val_main_v66, e, val_main_v64, val_main_v63, val_main_v62, val_main_v58, val_main_v57, val_main_v56, val_main_v40, val_main_v39, val_main_v38, val_main_v28,
    d_hat x0 x1 x4, meansq x2, invroot x2, val_main_cst_2, val_main_cst_5, val_main_cst_6]
  rfl

section Finite

variable (h0 : ∀ y, Reals.IsR (x0 y)) (h1 : ∀ y, Reals.IsR (x1 y)) (h2 : ∀ y, Reals.IsR (x2 y)) (h4 : ∀ y, Reals.IsR (x4 y))

include h0 h1 h2 h4

theorem isR_dh (i : Fin 4096) (k : Fin 1024) : Reals.IsR (dh x0 x1 i k) := by
  have h (m o : Fin 8) : Reals.IsR (part x0 x1 m o i k) := .sum _ fun _ => (h0 _).mul (h1 _)
  exact (((((((h _ _).add (h _ _)).add (h _ _)).add (h _ _)).add (h _ _)).add (h _ _)).add (h _ _)).add (h _ _)

theorem d_x : val_main_v72 (F := Ideal) x0 x1 x2 x3 x4 = dxOut x0 x1 x2 x3 x4 := by
  funext y
  obtain ⟨i, j, rfl⟩ := exists_ix2 (a := 4096) (b := 1024) y
  have e := Rms.norm_grad (f := fun k => x2 (ix2 i k)) (d := fun k => dh x0 x1 i k * x4 (ix2 0 k)) (fun k => h2 _)
    (fun k => (isR_dh x0 x1 x2 x4 h0 h1 h2 h4 i k).mul (h4 _)) j _ rfl
  show _ = x3 (ix2 i j) + Rms.back (fun k => x2 (ix2 i k)) (fun k => dh x0 x1 i k * x4 (ix2 0 k)) j
  rw [← e, ← add_assoc, ← add_assoc]
  pointwise [val_main_v72, val_main_v71, val_main_v70, val_main_v69, val_main_v68, val_main_v61, val_main_v60, val_main_v59, val_main_v47, val_main_v28, through_mean x0 x1 x2 x4, d_hat x0 x1 x4, invroot x2]

end Finite

end Cert.ProjBwdRefIdeal.RefValue

end
-- ==== Proof.Proj.lean ====
/-
  The claims about the gradient through the projection: where the arguments are real numbers, what the two runs leave is the
  same function of them.
-/
module

public import proofs.«01_k».proof.Defs
public import proofs.«01_k».proof.Proof.ProjValue
public import proofs.«01_k».proof.Proof.ProjRef
public import proofs.«01_k».proof.Proof.Gen.ProjBwdRefIdeal.Run
public import proofs.«01_k».proof.Proof.Gen.Pre_proj_bwd_finite
public import Idealize.ShloMosaic.Lib.Claim

@[expose] public section

set_option maxRecDepth 16384

noncomputable section

open Idealize.ShloMosaic Idealize.ShloMosaic.TcCoe Idealize.SL.Sem

namespace Cert.Proof.Proj

open Cert.Proj Cert.ProjBwdIdeal.KValue Cert.ProjBwdRefIdeal.RefValue Cert.Reals

/-- What the precondition says of the arguments it names. -/
theorem finite {x0 : Cert.Pre_proj_bwd_finite.S8x4096x1024.Idx → EReal} {x1 : Cert.Pre_proj_bwd_finite.S4x1024x2048.Idx → EReal}
    {x2 x3 : Cert.Pre_proj_bwd_finite.S4096x1024.Idx → EReal} {x4 : Cert.Pre_proj_bwd_finite.S1x1024.Idx → EReal}
    (h : Cert.Pre_proj_bwd_finite.fn (F := Ideal) x0 x1 x2 x3 x4 = fun _ => 1#1) :
    (∀ y, IsR (x0 y)) ∧ (∀ y, IsR (x1 y)) ∧ (∀ y, IsR (x2 y)) ∧ (∀ y, IsR (x4 y)) := by
  have h := congrFun h ix0
  unfold Cert.Pre_proj_bwd_finite.fn Cert.Pre_proj_bwd_finite.fn_part1 at h
  obtain ⟨h, a4⟩ := IntOp.andi_eq_one.1 h
  obtain ⟨h, a2⟩ := IntOp.andi_eq_one.1 h
  obtain ⟨a0, a1⟩ := IntOp.andi_eq_one.1 h
  exact ⟨fun y => isR_of_cmp (Host.reduce_andi_all _ _ _ _ _ a0 y), fun y => isR_of_cmp (Host.reduce_andi_all _ _ _ _ _ a1 y),
    fun y => isR_of_cmp (Host.reduce_andi_all _ _ _ _ _ a2 y), fun y => isR_of_cmp (Host.reduce_andi_all _ _ _ _ _ a4 y)⟩

/-- Both runs end with the gradients `dxOut` and `dgOut` of the arguments. -/
theorem algebraic : Cert.algebraic_ProjBwdIdeal_ProjBwdRefIdeal_pre_proj_bwd_finite := by
  intro m ρ m' ρ' hpre hagree
  refine ⟨G5 m, fun c => dgOut (Dp m c) (W m c) (X m c), (θ_run Cert.ProjBwdIdeal.defs _ _).mono (fun r h c => ?_)
    (Cert.ProjBwdIdeal.Value.run m ρ), ?_⟩
  · exact ⟨(h c).1.trans (final5 m c), (h c).2.1.trans (tail6 m c), (h c).2.2⟩
  · refine (θ_run Cert.ProjBwdRefIdeal.defs _ _).mono (fun r h c => ?_) (Cert.ProjBwdRefIdeal.Value.run (F := Ideal) m' ρ')
    obtain ⟨e0, e1, e2, e3, e4⟩ := hagree c
    obtain ⟨h0, h1, h2, h4⟩ := finite (hpre c)
    obtain ⟨r1, r2, hargs⟩ := h c
    refine ⟨r1.trans ?_, r2.trans ?_, hargs⟩
    · refine (Cert.ProjBwdRefIdeal.Read.val_main_v72_eq _ _).trans ?_
      rw [e0, e1, e2, e3, e4]
      exact d_x _ _ _ _ _ h0 h1 h2 h4
    · refine (Cert.ProjBwdRefIdeal.Read.val_main_v55_eq _ _).trans ?_
      rw [e0, e1, e2]
      exact d_gain _ _ _

/-- The reference ends with its arguments unchanged and every counter at zero: it declares no semaphore. -/
theorem frame : Cert.quiescent_ProjBwdRefIdeal := fun m ρ _ =>
  (θ_run Cert.ProjBwdRefIdeal.defs _ _).mono (fun r h => ⟨fun c => (h c).2.2, sem_eq_zero_of_no_sems (by decide) r.2⟩)
    (Cert.ProjBwdRefIdeal.Value.run (F := Ideal) m ρ)

end Cert.Proof.Proj

end
-- ==== Proof.FfnSpec.lean ====
/-
  The feed-forward part of the layer with the loss after it, forward and backward, as functions of one row of its argument
  and one of the target: what both programs are shown to compute.
-/
module

public import proofs.«01_k».proof.Proof.Rms
public import proofs.«01_k».proof.Proof.Pieces

@[expose] public section

noncomputable section

open Idealize.ShloMosaic Idealize.ShloMosaic.TcCoe Idealize.SL.Sem

namespace Cert.Ffn

open Cert.Gmlp (Row)

/-- The parameters: the two norms' gains, the weights of the gate and of the values, and those that lead back. -/
structure Par where
  gf : Row
  gn : Row
  wg : Fin 1024 → Fin 2816 → EReal
  wu : Fin 1024 → Fin 2816 → EReal
  wd : Fin 2816 → Fin 1024 → EReal

/-- The parameters read from their arrays. -/
def par (gf : (⟨2, ![1, 1024]⟩ : Shape).Idx → EReal) (gn : Row) (w : (⟨3, ![2, 1024, 2816]⟩ : Shape).Idx → EReal)
    (wd : (⟨2, ![2816, 1024]⟩ : Shape).Idx → EReal) : Par where
  gf k := gf (ix2 0 k)
  gn := gn
  wg k l := w (ix3 0 k l)
  wu k l := w (ix3 1 k l)
  wd l k := wd (ix2 l k)

/-- A row of an array. -/
def rowOf {T : ℕ} (x : (⟨2, ![T, 1024]⟩ : Shape).Idx → EReal) (i : Fin T) : Row := fun k => x (ix2 i k)

def invD : EReal := Ideal.ofBits .f32 0x3A800000#32
def halfInvD : EReal := Ideal.ofBits .f32 0x3A000000#32

theorem invD_eq : invD = ((1 / 1024 : ℝ) : EReal) := by simp [invD, Ideal.ofBits, Ideal.ieee, -EReal.coe_mul]; norm_num
theorem halfInvD_eq : halfInvD = ((1 / 2048 : ℝ) : EReal) := by simp [halfInvD, Ideal.ofBits, Ideal.ieee, -EReal.coe_mul]; norm_num
theorem isR_halfInvD : Reals.IsR halfInvD := halfInvD_eq ▸ Reals.isR_coe _

variable (p : Par) (f g : Row)

/-! Forward. -/

def h : Row := fun k => Rms.hat f k * p.gf k
def gate (l : Fin 2816) : EReal := ∑ k, h p f k * p.wg k l
def up (l : Fin 2816) : EReal := ∑ k, h p f k * p.wu k l
def sg (l : Fin 2816) : EReal := Ideal.div 1 (1 + Ideal.exp (0 - gate p f l))
def si (l : Fin 2816) : EReal := gate p f l * sg p f l
def act (l : Fin 2816) : EReal := si p f l * up p f l
def x2 : Row := fun k => f k + ∑ l, act p f l * p.wd l k
/-- The error, and the term of one column in the row's loss but for its factor. -/
def err : Row := fun k => Rms.hat (x2 p f) k * p.gn k - g k
def sq : Row := fun k => err p f g k * err p f g k

/-! Backward. -/

def dy : Row := fun k => err p f g k * invD
def dx2 : Row := fun k => Rms.back (x2 p f) (fun k => dy p f g k * p.gn k) k
def dact (l : Fin 2816) : EReal := ∑ k, dx2 p f g k * p.wd l k
def dgate (l : Fin 2816) : EReal := dact p f g l * up p f l * (sg p f l * (1 + gate p f l * (1 - sg p f l)))
def dup (l : Fin 2816) : EReal := dact p f g l * si p f l
def dh : Row := fun k => ∑ l, dgate p f g l * p.wg k l + ∑ l, dup p f g l * p.wu k l
def dx1 : Row := fun k => dx2 p f g k + Rms.back f (fun k => dh p f g k * p.gf k) k
/-- The row's terms in the gradients of the two gains. -/
def dgn : Row := fun k => dy p f g k * Rms.hat (x2 p f) k
def dgf : Row := fun k => dh p f g k * Rms.hat f k

/-- The gradient of the gate or of the values. -/
def dgu (k : Fin 2) (l : Fin 2816) : EReal := if k.val = 0 then dgate p f g l else dup p f g l

end Cert.Ffn

end
-- ==== Proof.FfnBody.lean ====
/-
  The feed-forward part, kernel side: what the body leaves in its seven output blocks at a point, as functions of the
  blocks it finds. A block has 256 rows.
-/
module

public import proofs.«01_k».proof.Proof.Gen.FfnIdeal.Frame
public import proofs.«01_k».proof.Proof.FfnSpec
public import Idealize.ShloMosaic.Rules

@[expose] public section

set_option maxRecDepth 16384
set_option maxHeartbeats 4000000

noncomputable section

open Idealize.ShloMosaic Idealize.ShloMosaic.TcCoe Idealize.SL.Sem
open Idealize.ShloMosaic.Pipeline (Dat)

namespace Cert.FfnIdeal.KValue

open Cert.FfnIdeal Cert.FfnIdeal.Gen Cert.Blocks Cert.Pieces Cert.Ffn

/-- What a point adds to the accumulator: eight rows of partial sums, of the loss and of the two gains' gradients. -/
def vacc (x0 x1 : Vec Ideal S256x1024 .f32) (p : Par) (k : Fin 3) (r : Fin 8) (j : Fin 1024) : EReal :=
  if k.val = 0 then (∑ n : Fin 32, sq p (rowOf x0 (⟨n.val * 8 + r.val, by omega⟩ : Fin 256)) (rowOf x1 (⟨n.val * 8 + r.val, by omega⟩ : Fin 256)) j) * halfInvD
  else if k.val = 1 then ∑ n : Fin 32, dgn p (rowOf x0 (⟨n.val * 8 + r.val, by omega⟩ : Fin 256)) (rowOf x1 (⟨n.val * 8 + r.val, by omega⟩ : Fin 256)) j
  else ∑ n : Fin 32, dgf p (rowOf x0 (⟨n.val * 8 + r.val, by omega⟩ : Fin 256)) (rowOf x1 (⟨n.val * 8 + r.val, by omega⟩ : Fin 256)) j

/-! The body's values, one after the other: each is its function of a row of the block. -/

section Values

variable (x0 x1 : Vec Ideal S256x1024 .f32) (x2 x3 : Vec Ideal S1x1024 .f32) (x4 : Vec Ideal S2x1024x2816 .bf16) (x5 : Vec Ideal S2816x1024 .bf16)

theorem p_gn (k : Fin 1024) : k0_pay2 (F := Ideal) x3 (ix2 0 k) = x3 (ix2 0 k) := by
  unfold k0_pay2
  pointwise

theorem p_rs (r : Fin 256) : k0_pay3 (F := Ideal) x0 (ix2 r 0)
    = Rms.rs (rowOf x0 r) := by
  unfold k0_pay3
  pointwise []
  rfl

theorem p_hat (r : Fin 256) (k : Fin 1024) : k0_pay4 (F := Ideal) x0 (ix2 r k)
    = Rms.hat (rowOf x0 r) k := by
  unfold k0_pay4
  pointwise [p_rs x0]
  rfl

theorem p_h (r : Fin 256) (k : Fin 1024) : k0_pay5 (F := Ideal) x0 x2 (ix2 r k)
    = h (par x2 (fun k => x3 (ix2 0 k)) x4 x5) (rowOf x0 r) k := by
  unfold k0_pay5
  pointwise [p_hat x0]
  rfl

theorem p_gate (r : Fin 256) (l : Fin 2816) : k0_pay6 (F := Ideal) x0 x2 (View.ld x4 (Rect.unit ![0, 0, 0] ![1, 1024, 2816] inb_S2x1024x2816_S1x1024x2816_0_0_0)) (ix2 r l)
    = gate (par x2 (fun k => x3 (ix2 0 k)) x4 x5) (rowOf x0 r) l := by
  unfold k0_pay6
  pointwise [p_h x0 x2 x3 x4 x5]
  rfl

theorem p_up (r : Fin 256) (l : Fin 2816) : k0_pay7 (F := Ideal) x0 x2 (View.ld x4 (Rect.unit ![1, 0, 0] ![1, 1024, 2816] inb_S2x1024x2816_S1x1024x2816_1_0_0)) (ix2 r l)
    = up (par x2 (fun k => x3 (ix2 0 k)) x4 x5) (rowOf x0 r) l := by
  unfold k0_pay7
  pointwise [p_h x0 x2 x3 x4 x5]
  rfl

theorem p_sg (r : Fin 256) (l : Fin 2816) : k0_pay10 (F := Ideal) (k0_pay8 (F := Ideal) x0 x2 (View.ld x4 (Rect.unit ![0, 0, 0] ![1, 1024, 2816] inb_S2x1024x2816_S1x1024x2816_0_0_0))) (k0_pay9 (F := Ideal)) (ix2 r l)
    = sg (par x2 (fun k => x3 (ix2 0 k)) x4 x5) (rowOf x0 r) l := by
  unfold k0_pay10 k0_pay9 k0_pay8
  pointwise [p_gate x0 x2 x3 x4 x5]
  rfl

theorem p_si (r : Fin 256) (l : Fin 2816) : k0_pay11 (F := Ideal) (k0_pay6 (F := Ideal) x0 x2 (View.ld x4 (Rect.unit ![0, 0, 0] ![1, 1024, 2816] inb_S2x1024x2816_S1x1024x2816_0_0_0))) (k0_pay8 (F := Ideal) x0 x2 (View.ld x4 (Rect.unit ![0, 0, 0] ![1, 1024, 2816] inb_S2x1024x2816_S1x1024x2816_0_0_0))) (k0_pay9 (F := Ideal)) (ix2 r l)
    = si (par x2 (fun k => x3 (ix2 0 k)) x4 x5) (rowOf x0 r) l := by
  unfold k0_pay11
  pointwise [p_gate x0 x2 x3 x4 x5, p_sg x0 x2 x3 x4 x5]
  rfl

theorem p_act (r : Fin 256) (l : Fin 2816) : k0_pay12 (F := Ideal) (k0_pay6 (F := Ideal) x0 x2 (View.ld x4 (Rect.unit ![0, 0, 0] ![1, 1024, 2816] inb_S2x1024x2816_S1x1024x2816_0_0_0))) (k0_pay7 (F := Ideal) x0 x2 (View.ld x4 (Rect.unit ![1, 0, 0] ![1, 1024, 2816] inb_S2x1024x2816_S1x1024x2816_1_0_0))) (k0_pay8 (F := Ideal) x0 x2 (View.ld x4 (Rect.unit ![0, 0, 0] ![1, 1024, 2816] inb_S2x1024x2816_S1x1024x2816_0_0_0))) (k0_pay9 (F := Ideal)) (ix2 r l)
    = act (par x2 (fun k => x3 (ix2 0 k)) x4 x5) (rowOf x0 r) l := by
  unfold k0_pay12
  pointwise [p_si x0 x2 x3 x4 x5, p_up x0 x2 x3 x4 x5]
  rfl

theorem p_x2 (r : Fin 256) (k : Fin 1024) : k0_pay13 (F := Ideal) x0 (k0_pay6 (F := Ideal) x0 x2 (View.ld x4 (Rect.unit ![0, 0, 0] ![1, 1024, 2816] inb_S2x1024x2816_S1x1024x2816_0_0_0))) (k0_pay7 (F := Ideal) x0 x2 (View.ld x4 (Rect.unit ![1, 0, 0] ![1, 1024, 2816] inb_S2x1024x2816_S1x1024x2816_1_0_0))) (k0_pay8 (F := Ideal) x0 x2 (View.ld x4 (Rect.unit ![0, 0, 0] ![1, 1024, 2816] inb_S2x1024x2816_S1x1024x2816_0_0_0))) (k0_pay9 (F := Ideal)) x5 (ix2 r k)
    = Ffn.x2 (par x2 (fun k => x3 (ix2 0 k)) x4 x5) (rowOf x0 r) k := by
  unfold k0_pay13
  pointwise [p_act x0 x2 x3 x4 x5]
  rfl

theorem p_rs2 (r : Fin 256) : k0_pay14 (F := Ideal) x0 (k0_pay6 (F := Ideal) x0 x2 (View.ld x4 (Rect.unit ![0, 0, 0] ![1, 1024, 2816] inb_S2x1024x2816_S1x1024x2816_0_0_0))) (k0_pay7 (F := Ideal) x0 x2 (View.ld x4 (Rect.unit ![1, 0, 0] ![1, 1024, 2816] inb_S2x1024x2816_S1x1024x2816_1_0_0))) (k0_pay8 (F := Ideal) x0 x2 (View.ld x4 (Rect.unit ![0, 0, 0] ![1, 1024, 2816] inb_S2x1024x2816_S1x1024x2816_0_0_0))) (k0_pay9 (F := Ideal)) x5 (ix2 r 0)
    = Rms.rs (Ffn.x2 (par x2 (fun k => x3 (ix2 0 k)) x4 x5) (rowOf x0 r)) := by
  unfold k0_pay14
  pointwise [p_x2 x0 x2 x3 x4 x5]
  rfl

theorem p_hat2 (r : Fin 256) (k : Fin 1024) : k0_pay15 (F := Ideal) x0 (k0_pay6 (F := Ideal) x0 x2 (View.ld x4 (Rect.unit ![0, 0, 0] ![1, 1024, 2816] inb_S2x1024x2816_S1x1024x2816_0_0_0))) (k0_pay7 (F := Ideal) x0 x2 (View.ld x4 (Rect.unit ![1, 0, 0] ![1, 1024, 2816] inb_S2x1024x2816_S1x1024x2816_1_0_0))) (k0_pay8 (F := Ideal) x0 x2 (View.ld x4 (Rect.unit ![0, 0, 0] ![1, 1024, 2816] inb_S2x1024x2816_S1x1024x2816_0_0_0))) (k0_pay9 (F := Ideal)) x5 (ix2 r k)
    = Rms.hat (Ffn.x2 (par x2 (fun k => x3 (ix2 0 k)) x4 x5) (rowOf x0 r)) k := by
  unfold k0_pay15
  pointwise [p_x2 x0 x2 x3 x4 x5, p_rs2 x0 x2 x3 x4 x5]
  rfl

theorem p_err (r : Fin 256) (k : Fin 1024) : k0_pay16 (F := Ideal) x0 (k0_pay2 (F := Ideal) x3) (k0_pay6 (F := Ideal) x0 x2 (View.ld x4 (Rect.unit ![0, 0, 0] ![1, 1024, 2816] inb_S2x1024x2816_S1x1024x2816_0_0_0))) (k0_pay7 (F := Ideal) x0 x2 (View.ld x4 (Rect.unit ![1, 0, 0] ![1, 1024, 2816] inb_S2x1024x2816_S1x1024x2816_1_0_0))) (k0_pay8 (F := Ideal) x0 x2 (View.ld x4 (Rect.unit ![0, 0, 0] ![1, 1024, 2816] inb_S2x1024x2816_S1x1024x2816_0_0_0))) (k0_pay9 (F := Ideal)) x5 x1 (ix2 r k)
    = err (par x2 (fun k => x3 (ix2 0 k)) x4 x5) (rowOf x0 r) (rowOf x1 r) k := by
  unfold k0_pay16
  pointwise [p_gn x3, p_hat2 x0 x2 x3 x4 x5]
  rfl

theorem p_dy (r : Fin 256) (k : Fin 1024) : k0_pay18 (F := Ideal) x0 (k0_pay2 (F := Ideal) x3) (k0_pay6 (F := Ideal) x0 x2 (View.ld x4 (Rect.unit ![0, 0, 0] ![1, 1024, 2816] inb_S2x1024x2816_S1x1024x2816_0_0_0))) (k0_pay7 (F := Ideal) x0 x2 (View.ld x4 (Rect.unit ![1, 0, 0] ![1, 1024, 2816] inb_S2x1024x2816_S1x1024x2816_1_0_0))) (k0_pay8 (F := Ideal) x0 x2 (View.ld x4 (Rect.unit ![0, 0, 0] ![1, 1024, 2816] inb_S2x1024x2816_S1x1024x2816_0_0_0))) (k0_pay9 (F := Ideal)) x5 x1 (ix2 r k)
    = dy (par x2 (fun k => x3 (ix2 0 k)) x4 x5) (rowOf x0 r) (rowOf x1 r) k := by
  unfold k0_pay18
  pointwise [p_err x0 x1 x2 x3 x4 x5]
  rfl

theorem p_dx2 (r : Fin 256) (k : Fin 1024) : k0_pay20 (F := Ideal) (k0_pay2 (F := Ideal) x3) (k0_pay14 (F := Ideal) x0 (k0_pay6 (F := Ideal) x0 x2 (View.ld x4 (Rect.unit ![0, 0, 0] ![1, 1024, 2816] inb_S2x1024x2816_S1x1024x2816_0_0_0))) (k0_pay7 (F := Ideal) x0 x2 (View.ld x4 (Rect.unit ![1, 0, 0] ![1, 1024, 2816] inb_S2x1024x2816_S1x1024x2816_1_0_0))) (k0_pay8 (F := Ideal) x0 x2 (View.ld x4 (Rect.unit ![0, 0, 0] ![1, 1024, 2816] inb_S2x1024x2816_S1x1024x2816_0_0_0))) (k0_pay9 (F := Ideal)) x5) (k0_pay15 (F := Ideal) x0 (k0_pay6 (F := Ideal) x0 x2 (View.ld x4 (Rect.unit ![0, 0, 0] ![1, 1024, 2816] inb_S2x1024x2816_S1x1024x2816_0_0_0))) (k0_pay7 (F := Ideal) x0 x2 (View.ld x4 (Rect.unit ![1, 0, 0] ![1, 1024, 2816] inb_S2x1024x2816_S1x1024x2816_1_0_0))) (k0_pay8 (F := Ideal) x0 x2 (View.ld x4 (Rect.unit ![0, 0, 0] ![1, 1024, 2816] inb_S2x1024x2816_S1x1024x2816_0_0_0))) (k0_pay9 (F := Ideal)) x5) (k0_pay18 (F := Ideal) x0 (k0_pay2 (F := Ideal) x3) (k0_pay6 (F := Ideal) x0 x2 (View.ld x4 (Rect.unit ![0, 0, 0] ![1, 1024, 2816] inb_S2x1024x2816_S1x1024x2816_0_0_0))) (k0_pay7 (F := Ideal) x0 x2 (View.ld x4 (Rect.unit ![1, 0, 0] ![1, 1024, 2816] inb_S2x1024x2816_S1x1024x2816_1_0_0))) (k0_pay8 (F := Ideal) x0 x2 (View.ld x4 (Rect.unit ![0, 0, 0] ![1, 1024, 2816] inb_S2x1024x2816_S1x1024x2816_0_0_0))) (k0_pay9 (F := Ideal)) x5 x1) (ix2 r k)
    = Ffn.dx2 (par x2 (fun k => x3 (ix2 0 k)) x4 x5) (rowOf x0 r) (rowOf x1 r) k := by
  unfold k0_pay20
  pointwise [p_gn x3, p_dy x0 x1 x2 x3 x4 x5, p_rs2 x0 x2 x3 x4 x5, p_hat2 x0 x2 x3 x4 x5]
  rfl

theorem p_dact (r : Fin 256) (l : Fin 2816) : k0_pay22 (F := Ideal) (k0_pay2 (F := Ideal) x3) (k0_pay14 (F := Ideal) x0 (k0_pay6 (F := Ideal) x0 x2 (View.ld x4 (Rect.unit ![0, 0, 0] ![1, 1024, 2816] inb_S2x1024x2816_S1x1024x2816_0_0_0))) (k0_pay7 (F := Ideal) x0 x2 (View.ld x4 (Rect.unit ![1, 0, 0] ![1, 1024, 2816] inb_S2x1024x2816_S1x1024x2816_1_0_0))) (k0_pay8 (F := Ideal) x0 x2 (View.ld x4 (Rect.unit ![0, 0, 0] ![1, 1024, 2816] inb_S2x1024x2816_S1x1024x2816_0_0_0))) (k0_pay9 (F := Ideal)) x5) (k0_pay15 (F := Ideal) x0 (k0_pay6 (F := Ideal) x0 x2 (View.ld x4 (Rect.unit ![0, 0, 0] ![1, 1024, 2816] inb_S2x1024x2816_S1x1024x2816_0_0_0))) (k0_pay7 (F := Ideal) x0 x2 (View.ld x4 (Rect.unit ![1, 0, 0] ![1, 1024, 2816] inb_S2x1024x2816_S1x1024x2816_1_0_0))) (k0_pay8 (F := Ideal) x0 x2 (View.ld x4 (Rect.unit ![0, 0, 0] ![1, 1024, 2816] inb_S2x1024x2816_S1x1024x2816_0_0_0))) (k0_pay9 (F := Ideal)) x5) (k0_pay18 (F := Ideal) x0 (k0_pay2 (F := Ideal) x3) (k0_pay6 (F := Ideal) x0 x2 (View.ld x4 (Rect.unit ![0, 0, 0] ![1, 1024, 2816] inb_S2x1024x2816_S1x1024x2816_0_0_0))) (k0_pay7 (F := Ideal) x0 x2 (View.ld x4 (Rect.unit ![1, 0, 0] ![1, 1024, 2816] inb_S2x1024x2816_S1x1024x2816_1_0_0))) (k0_pay8 (F := Ideal) x0 x2 (View.ld x4 (Rect.unit ![0, 0, 0] ![1, 1024, 2816] inb_S2x1024x2816_S1x1024x2816_0_0_0))) (k0_pay9 (F := Ideal)) x5 x1) x5 (ix2 r l)
    = dact (par x2 (fun k => x3 (ix2 0 k)) x4 x5) (rowOf x0 r) (rowOf x1 r) l := by
  unfold k0_pay22 k0_pay21
  pointwise [p_dx2 x0 x1 x2 x3 x4 x5]
  rfl

theorem p_dgate (r : Fin 256) (l : Fin 2816) : k0_pay23 (F := Ideal) (k0_pay2 (F := Ideal) x3) (k0_pay6 (F := Ideal) x0 x2 (View.ld x4 (Rect.unit ![0, 0, 0] ![1, 1024, 2816] inb_S2x1024x2816_S1x1024x2816_0_0_0))) (k0_pay7 (F := Ideal) x0 x2 (View.ld x4 (Rect.unit ![1, 0, 0] ![1, 1024, 2816] inb_S2x1024x2816_S1x1024x2816_1_0_0))) (k0_pay10 (F := Ideal) (k0_pay8 (F := Ideal) x0 x2 (View.ld x4 (Rect.unit ![0, 0, 0] ![1, 1024, 2816] inb_S2x1024x2816_S1x1024x2816_0_0_0))) (k0_pay9 (F := Ideal))) (k0_pay14 (F := Ideal) x0 (k0_pay6 (F := Ideal) x0 x2 (View.ld x4 (Rect.unit ![0, 0, 0] ![1, 1024, 2816] inb_S2x1024x2816_S1x1024x2816_0_0_0))) (k0_pay7 (F := Ideal) x0 x2 (View.ld x4 (Rect.unit ![1, 0, 0] ![1, 1024, 2816] inb_S2x1024x2816_S1x1024x2816_1_0_0))) (k0_pay8 (F := Ideal) x0 x2 (View.ld x4 (Rect.unit ![0, 0, 0] ![1, 1024, 2816] inb_S2x1024x2816_S1x1024x2816_0_0_0))) (k0_pay9 (F := Ideal)) x5) (k0_pay15 (F := Ideal) x0 (k0_pay6 (F := Ideal) x0 x2 (View.ld x4 (Rect.unit ![0, 0, 0] ![1, 1024, 2816] inb_S2x1024x2816_S1x1024x2816_0_0_0))) (k0_pay7 (F := Ideal) x0 x2 (View.ld x4 (Rect.unit ![1, 0, 0] ![1, 1024, 2816] inb_S2x1024x2816_S1x1024x2816_1_0_0))) (k0_pay8 (F := Ideal) x0 x2 (View.ld x4 (Rect.unit ![0, 0, 0] ![1, 1024, 2816] inb_S2x1024x2816_S1x1024x2816_0_0_0))) (k0_pay9 (F := Ideal)) x5) (k0_pay18 (F := Ideal) x0 (k0_pay2 (F := Ideal) x3) (k0_pay6 (F := Ideal) x0 x2 (View.ld x4 (Rect.unit ![0, 0, 0] ![1, 1024, 2816] inb_S2x1024x2816_S1x1024x2816_0_0_0))) (k0_pay7 (F := Ideal) x0 x2 (View.ld x4 (Rect.unit ![1, 0, 0] ![1, 1024, 2816] inb_S2x1024x2816_S1x1024x2816_1_0_0))) (k0_pay8 (F := Ideal) x0 x2 (View.ld x4 (Rect.unit ![0, 0, 0] ![1, 1024, 2816] inb_S2x1024x2816_S1x1024x2816_0_0_0))) (k0_pay9 (F := Ideal)) x5 x1) x5 (ix2 r l)
    = dgate (par x2 (fun k => x3 (ix2 0 k)) x4 x5) (rowOf x0 r) (rowOf x1 r) l := by
  unfold k0_pay23
  pointwise [p_dact x0 x1 x2 x3 x4 x5, p_up x0 x2 x3 x4 x5, p_sg x0 x2 x3 x4 x5, p_gate x0 x2 x3 x4 x5]
  rfl

theorem p_dup (r : Fin 256) (l : Fin 2816) : k0_pay24 (F := Ideal) (k0_pay2 (F := Ideal) x3) (k0_pay11 (F := Ideal) (k0_pay6 (F := Ideal) x0 x2 (View.ld x4 (Rect.unit ![0, 0, 0] ![1, 1024, 2816] inb_S2x1024x2816_S1x1024x2816_0_0_0))) (k0_pay8 (F := Ideal) x0 x2 (View.ld x4 (Rect.unit ![0, 0, 0] ![1, 1024, 2816] inb_S2x1024x2816_S1x1024x2816_0_0_0))) (k0_pay9 (F := Ideal))) (k0_pay14 (F := Ideal) x0 (k0_pay6 (F := Ideal) x0 x2 (View.ld x4 (Rect.unit ![0, 0, 0] ![1, 1024, 2816] inb_S2x1024x2816_S1x1024x2816_0_0_0))) (k0_pay7 (F := Ideal) x0 x2 (View.ld x4 (Rect.unit ![1, 0, 0] ![1, 1024, 2816] inb_S2x1024x2816_S1x1024x2816_1_0_0))) (k0_pay8 (F := Ideal) x0 x2 (View.ld x4 (Rect.unit ![0, 0, 0] ![1, 1024, 2816] inb_S2x1024x2816_S1x1024x2816_0_0_0))) (k0_pay9 (F := Ideal)) x5) (k0_pay15 (F := Ideal) x0 (k0_pay6 (F := Ideal) x0 x2 (View.ld x4 (Rect.unit ![0, 0, 0] ![1, 1024, 2816] inb_S2x1024x2816_S1x1024x2816_0_0_0))) (k0_pay7 (F := Ideal) x0 x2 (View.ld x4 (Rect.unit ![1, 0, 0] ![1, 1024, 2816] inb_S2x1024x2816_S1x1024x2816_1_0_0))) (k0_pay8 (F := Ideal) x0 x2 (View.ld x4 (Rect.unit ![0, 0, 0] ![1, 1024, 2816] inb_S2x1024x2816_S1x1024x2816_0_0_0))) (k0_pay9 (F := Ideal)) x5) (k0_pay18 (F := Ideal) x0 (k0_pay2 (F := Ideal) x3) (k0_pay6 (F := Ideal) x0 x2 (View.ld x4 (Rect.unit ![0, 0, 0] ![1, 1024, 2816] inb_S2x1024x2816_S1x1024x2816_0_0_0))) (k0_pay7 (F := Ideal) x0 x2 (View.ld x4 (Rect.unit ![1, 0, 0] ![1, 1024, 2816] inb_S2x1024x2816_S1x1024x2816_1_0_0))) (k0_pay8 (F := Ideal) x0 x2 (View.ld x4 (Rect.unit ![0, 0, 0] ![1, 1024, 2816] inb_S2x1024x2816_S1x1024x2816_0_0_0))) (k0_pay9 (F := Ideal)) x5 x1) x5 (ix2 r l)
    = dup (par x2 (fun k => x3 (ix2 0 k)) x4 x5) (rowOf x0 r) (rowOf x1 r) l := by
  unfold k0_pay24
  pointwise [p_dact x0 x1 x2 x3 x4 x5, p_si x0 x2 x3 x4 x5]
  rfl

theorem p_dh (r : Fin 256) (k : Fin 1024) : k0_pay27 (F := Ideal) (k0_pay23 (F := Ideal) (k0_pay2 (F := Ideal) x3) (k0_pay6 (F := Ideal) x0 x2 (View.ld x4 (Rect.unit ![0, 0, 0] ![1, 1024, 2816] inb_S2x1024x2816_S1x1024x2816_0_0_0))) (k0_pay7 (F := Ideal) x0 x2 (View.ld x4 (Rect.unit ![1, 0, 0] ![1, 1024, 2816] inb_S2x1024x2816_S1x1024x2816_1_0_0))) (k0_pay10 (F := Ideal) (k0_pay8 (F := Ideal) x0 x2 (View.ld x4 (Rect.unit ![0, 0, 0] ![1, 1024, 2816] inb_S2x1024x2816_S1x1024x2816_0_0_0))) (k0_pay9 (F := Ideal))) (k0_pay14 (F := Ideal) x0 (k0_pay6 (F := Ideal) x0 x2 (View.ld x4 (Rect.unit ![0, 0, 0] ![1, 1024, 2816] inb_S2x1024x2816_S1x1024x2816_0_0_0))) (k0_pay7 (F := Ideal) x0 x2 (View.ld x4 (Rect.unit ![1, 0, 0] ![1, 1024, 2816] inb_S2x1024x2816_S1x1024x2816_1_0_0))) (k0_pay8 (F := Ideal) x0 x2 (View.ld x4 (Rect.unit ![0, 0, 0] ![1, 1024, 2816] inb_S2x1024x2816_S1x1024x2816_0_0_0))) (k0_pay9 (F := Ideal)) x5) (k0_pay15 (F := Ideal) x0 (k0_pay6 (F := Ideal) x0 x2 (View.ld x4 (Rect.unit ![0, 0, 0] ![1, 1024, 2816] inb_S2x1024x2816_S1x1024x2816_0_0_0))) (k0_pay7 (F := Ideal) x0 x2 (View.ld x4 (Rect.unit ![1, 0, 0] ![1, 1024, 2816] inb_S2x1024x2816_S1x1024x2816_1_0_0))) (k0_pay8 (F := Ideal) x0 x2 (View.ld x4 (Rect.unit ![0, 0, 0] ![1, 1024, 2816] inb_S2x1024x2816_S1x1024x2816_0_0_0))) (k0_pay9 (F := Ideal)) x5) (k0_pay18 (F := Ideal) x0 (k0_pay2 (F := Ideal) x3) (k0_pay6 (F := Ideal) x0 x2 (View.ld x4 (Rect.unit ![0, 0, 0] ![1, 1024, 2816] inb_S2x1024x2816_S1x1024x2816_0_0_0))) (k0_pay7 (F := Ideal) x0 x2 (View.ld x4 (Rect.unit ![1, 0, 0] ![1, 1024, 2816] inb_S2x1024x2816_S1x1024x2816_1_0_0))) (k0_pay8 (F := Ideal) x0 x2 (View.ld x4 (Rect.unit ![0, 0, 0] ![1, 1024, 2816] inb_S2x1024x2816_S1x1024x2816_0_0_0))) (k0_pay9 (F := Ideal)) x5 x1) x5) (k0_pay24 (F := Ideal) (k0_pay2 (F := Ideal) x3) (k0_pay11 (F := Ideal) (k0_pay6 (F := Ideal) x0 x2 (View.ld x4 (Rect.unit ![0, 0, 0] ![1, 1024, 2816] inb_S2x1024x2816_S1x1024x2816_0_0_0))) (k0_pay8 (F := Ideal) x0 x2 (View.ld x4 (Rect.unit ![0, 0, 0] ![1, 1024, 2816] inb_S2x1024x2816_S1x1024x2816_0_0_0))) (k0_pay9 (F := Ideal))) (k0_pay14 (F := Ideal) x0 (k0_pay6 (F := Ideal) x0 x2 (View.ld x4 (Rect.unit ![0, 0, 0] ![1, 1024, 2816] inb_S2x1024x2816_S1x1024x2816_0_0_0))) (k0_pay7 (F := Ideal) x0 x2 (View.ld x4 (Rect.unit ![1, 0, 0] ![1, 1024, 2816] inb_S2x1024x2816_S1x1024x2816_1_0_0))) (k0_pay8 (F := Ideal) x0 x2 (View.ld x4 (Rect.unit ![0, 0, 0] ![1, 1024, 2816] inb_S2x1024x2816_S1x1024x2816_0_0_0))) (k0_pay9 (F := Ideal)) x5) (k0_pay15 (F := Ideal) x0 (k0_pay6 (F := Ideal) x0 x2 (View.ld x4 (Rect.unit ![0, 0, 0] ![1, 1024, 2816] inb_S2x1024x2816_S1x1024x2816_0_0_0))) (k0_pay7 (F := Ideal) x0 x2 (View.ld x4 (Rect.unit ![1, 0, 0] ![1, 1024, 2816] inb_S2x1024x2816_S1x1024x2816_1_0_0))) (k0_pay8 (F := Ideal) x0 x2 (View.ld x4 (Rect.unit ![0, 0, 0] ![1, 1024, 2816] inb_S2x1024x2816_S1x1024x2816_0_0_0))) (k0_pay9 (F := Ideal)) x5) (k0_pay18 (F := Ideal) x0 (k0_pay2 (F := Ideal) x3) (k0_pay6 (F := Ideal) x0 x2 (View.ld x4 (Rect.unit ![0, 0, 0] ![1, 1024, 2816] inb_S2x1024x2816_S1x1024x2816_0_0_0))) (k0_pay7 (F := Ideal) x0 x2 (View.ld x4 (Rect.unit ![1, 0, 0] ![1, 1024, 2816] inb_S2x1024x2816_S1x1024x2816_1_0_0))) (k0_pay8 (F := Ideal) x0 x2 (View.ld x4 (Rect.unit ![0, 0, 0] ![1, 1024, 2816] inb_S2x1024x2816_S1x1024x2816_0_0_0))) (k0_pay9 (F := Ideal)) x5 x1) x5) (View.ld x4 (Rect.unit ![0, 0, 0] ![1, 1024, 2816] inb_S2x1024x2816_S1x1024x2816_0_0_0)) (View.ld x4 (Rect.unit ![1, 0, 0] ![1, 1024, 2816] inb_S2x1024x2816_S1x1024x2816_1_0_0)) (ix2 r k)
    = dh (par x2 (fun k => x3 (ix2 0 k)) x4 x5) (rowOf x0 r) (rowOf x1 r) k := by
  unfold k0_pay27
  pointwise [p_dgate x0 x1 x2 x3 x4 x5, p_dup x0 x1 x2 x3 x4 x5]
  rfl

end Values

section Body

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S2x1024x2816 .bf16) (harg5 : arg5.IsWhole) (arg6 : Memref sig .tc .vmem S2816x1024 .bf16) (harg6 : arg6.IsWhole) (arg7 : Memref sig .tc .vmem S256x2816 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S2x256x2816 .bf16) (harg10 : arg10.IsWhole) (arg11 : Memref sig .tc .vmem S256x1024 .f32) (harg11 : arg11.IsWhole) (arg12 : Memref sig .tc .vmem S256x1024 .bf16) (harg12 : arg12.IsWhole) (arg13 : Memref sig .tc .vmem S3x8x1024 .f32) (harg13 : arg13.IsWhole)
  (x0 : Vec Ideal S256x1024 .f32) (x1 : Vec Ideal S256x1024 .f32) (x2 : Vec Ideal S1x1024 .f32) (x3 : Vec Ideal S1x1024 .f32) (x4 : Vec Ideal S2x1024x2816 .bf16) (x5 : Vec Ideal S2816x1024 .bf16) (xo12 : Vec Ideal S3x8x1024 .f32)

theorem out6_A (hc0 : cond0_0 i) : out0_A_6 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5
    = fun (y : S256x2816.Idx) => act (par x2 (fun k => x3 (ix2 0 k)) x4 x5) (rowOf x0 (y 0 : Fin 256)) (y 1) := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread]
  simp (disch := decide) only [↓ View.readCov_skip, ↓ View.readCov_cons_toLoadRect, ↓ View.readCov_fill, View.ld_unit_lit']
  refine canon_of_tiles _ 1 ![256, 2816] _ (by sl_kernel_rfl) fun p hp x => ?_
  simp only [List.take_succ_cons, List.take_zero, List.mem_cons, List.not_mem_nil, or_false] at hp
  obtain rfl := hp
  obtain ⟨r, l, rfl⟩ := exists_ix2 (a := 256) (b := 2816) x
  rw [emb_ix2 (h0 := by omega) (h1 := by omega)]
  unfold k0_pay12
  pointwise [p_si x0 x2 x3 x4 x5, p_up x0 x2 x3 x4 x5]
  rfl

theorem out7_A (hc0 : cond0_0 i) : out0_A_7 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5
    = fun (y : S256x1024.Idx) => Ffn.dx2 (par x2 (fun k => x3 (ix2 0 k)) x4 x5) (rowOf x0 (y 0 : Fin 256)) (rowOf x1 (y 0 : Fin 256)) (y 1) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread]
  simp (disch := decide) only [↓ View.readCov_skip, ↓ View.readCov_cons_toLoadRect, ↓ View.readCov_fill, View.ld_unit_lit']
  refine canon_of_tiles _ 1 ![256, 1024] _ (by sl_kernel_rfl) fun p hp x => ?_
  simp only [List.take_succ_cons, List.take_zero, List.mem_cons, List.not_mem_nil, or_false] at hp
  obtain rfl := hp
  obtain ⟨r, l, rfl⟩ := exists_ix2 (a := 256) (b := 1024) x
  rw [emb_ix2 (h0 := by omega) (h1 := by omega)]
  unfold k0_pay21
  pointwise [p_dx2 x0 x1 x2 x3 x4 x5]

theorem out8_A (hc0 : cond0_0 i) : out0_A_8 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5
    = fun (y : S256x1024.Idx) => h (par x2 (fun k => x3 (ix2 0 k)) x4 x5) (rowOf x0 (y 0 : Fin 256)) (y 1) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread]
  simp (disch := decide) only [↓ View.readCov_skip, ↓ View.readCov_cons_toLoadRect, ↓ View.readCov_fill, View.ld_unit_lit']
  refine canon_of_tiles _ 1 ![256, 1024] _ (by sl_kernel_rfl) fun p hp x => ?_
  simp only [List.take_succ_cons, List.take_zero, List.mem_cons, List.not_mem_nil, or_false] at hp
  obtain rfl := hp
  obtain ⟨r, l, rfl⟩ := exists_ix2 (a := 256) (b := 1024) x
  rw [emb_ix2 (h0 := by omega) (h1 := by omega)]
  unfold k0_pay5
  pointwise [p_hat x0]
  rfl

theorem out9_A (hc0 : cond0_0 i) : out0_A_9 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5
    = fun (y : S2x256x2816.Idx) => dgu (par x2 (fun k => x3 (ix2 0 k)) x4 x5) (rowOf x0 (y 1 : Fin 256)) (rowOf x1 (y 1 : Fin 256)) (y 0) (y 2) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread]
  simp (disch := decide) only [↓ View.readCov_skip, ↓ View.readCov_cons_toLoadRect, ↓ View.readCov_fill, View.ld_unit_lit']
  refine canon_of_tiles _ 2 ![1, 256, 2816] _ (by sl_kernel_rfl) fun p hp x => ?_
  simp only [List.take_succ_cons, List.take_zero, List.mem_cons, List.not_mem_nil, or_false] at hp
  rcases hp with rfl | rfl
  · obtain ⟨k, r, l, rfl⟩ := exists_ix3 (a := 1) (b := 256) (d := 2816) x
    obtain rfl := Subsingleton.elim k 0
    rw [emb_ix3 (h := by omega) (h0 := by omega) (h1 := by omega)]
    unfold k0_pay26
    pointwise [p_dup x0 x1 x2 x3 x4 x5]
    rfl
  · obtain ⟨k, r, l, rfl⟩ := exists_ix3 (a := 1) (b := 256) (d := 2816) x
    obtain rfl := Subsingleton.elim k 0
    rw [emb_ix3 (h := by omega) (h0 := by omega) (h1 := by omega)]
    unfold k0_pay25
    pointwise [p_dgate x0 x1 x2 x3 x4 x5]
    rfl

theorem out10_A (hc0 : cond0_0 i) : out0_A_10 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5
    = fun (y : S256x1024.Idx) => dx1 (par x2 (fun k => x3 (ix2 0 k)) x4 x5) (rowOf x0 (y 0 : Fin 256)) (rowOf x1 (y 0 : Fin 256)) (y 1) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread]
  simp (disch := decide) only [↓ View.readCov_skip, ↓ View.readCov_cons_toLoadRect, ↓ View.readCov_fill, View.ld_unit_lit']
  refine canon_of_tiles _ 1 ![256, 1024] _ (by sl_kernel_rfl) fun p hp x => ?_
  simp only [List.take_succ_cons, List.take_zero, List.mem_cons, List.not_mem_nil, or_false] at hp
  obtain rfl := hp
  obtain ⟨r, l, rfl⟩ := exists_ix2 (a := 256) (b := 1024) x
  rw [emb_ix2 (h0 := by omega) (h1 := by omega)]
  unfold k0_pay29
  pointwise [p_dh x0 x1 x2 x3 x4 x5, p_dx2 x0 x1 x2 x3 x4 x5, p_rs x0, p_hat x0]
  rfl

theorem out11_A (hc0 : cond0_0 i) : out0_A_11 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5
    = fun (y : S256x1024.Idx) => dx1 (par x2 (fun k => x3 (ix2 0 k)) x4 x5) (rowOf x0 (y 0 : Fin 256)) (rowOf x1 (y 0 : Fin 256)) (y 1) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread]
  simp (disch := decide) only [↓ View.readCov_skip, ↓ View.readCov_cons_toLoadRect, ↓ View.readCov_fill, View.ld_unit_lit']
  refine canon_of_tiles _ 1 ![256, 1024] _ (by sl_kernel_rfl) fun p hp x => ?_
  simp only [List.take_succ_cons, List.take_zero, List.mem_cons, List.not_mem_nil, or_false] at hp
  obtain rfl := hp
  obtain ⟨r, l, rfl⟩ := exists_ix2 (a := 256) (b := 1024) x
  rw [emb_ix2 (h0 := by omega) (h1 := by omega)]
  unfold k0_pay30 k0_pay29
  pointwise [p_dh x0 x1 x2 x3 x4 x5, p_dx2 x0 x1 x2 x3 x4 x5, p_rs x0, p_hat x0]
  rfl

theorem out12_A (hc0 : cond0_0 i) : out0_A_12 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5
    = fun (y : S3x8x1024.Idx) => k0_pay1 (F := Ideal) y + vacc x0 x1 (par x2 (fun k => x3 (ix2 0 k)) x4 x5) (y 0) (y 1) (y 2) := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread]
  simp (disch := decide) only [↓ View.readCov_skip, ↓ View.readCov_cons_toLoadRect, ↓ View.readCov_fill, View.ld_unit_lit']
  refine canon_of_tiles _ 3 ![1, 8, 1024] _ (by sl_kernel_rfl) fun p hp x => ?_
  simp only [List.take_succ_cons, List.take_zero, List.mem_cons, List.not_mem_nil, or_false] at hp
  rcases hp with rfl | rfl | rfl
  · obtain ⟨k, r, l, rfl⟩ := exists_ix3 (a := 1) (b := 8) (d := 1024) x
    obtain rfl := Subsingleton.elim k 0
    rw [emb_ix3 (h := by omega) (h0 := by omega) (h1 := by omega)]
    unfold k0_pay28
    pointwise [p_dh x0 x1 x2 x3 x4 x5, p_hat x0]
    rfl
  · obtain ⟨k, r, l, rfl⟩ := exists_ix3 (a := 1) (b := 8) (d := 1024) x
    obtain rfl := Subsingleton.elim k 0
    rw [emb_ix3 (h := by omega) (h0 := by omega) (h1 := by omega)]
    unfold k0_pay19
    pointwise [p_dy x0 x1 x2 x3 x4 x5, p_hat2 x0 x2 x3 x4 x5]
    rfl
  · obtain ⟨k, r, l, rfl⟩ := exists_ix3 (a := 1) (b := 8) (d := 1024) x
    obtain rfl := Subsingleton.elim k 0
    rw [emb_ix3 (h := by omega) (h0 := by omega) (h1 := by omega)]
    unfold k0_pay17
    pointwise [p_err x0 x1 x2 x3 x4 x5]
    rfl

theorem out6_B (hc0 : ¬cond0_0 i) : out0_B_6 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo12
    = fun (y : S256x2816.Idx) => act (par x2 (fun k => x3 (ix2 0 k)) x4 x5) (rowOf x0 (y 0 : Fin 256)) (y 1) := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo12)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread]
  simp (disch := decide) only [↓ View.readCov_skip, ↓ View.readCov_cons_toLoadRect, ↓ View.readCov_fill, View.ld_unit_lit']
  refine canon_of_tiles _ 1 ![256, 2816] _ (by sl_kernel_rfl) fun p hp x => ?_
  simp only [List.take_succ_cons, List.take_zero, List.mem_cons, List.not_mem_nil, or_false] at hp
  obtain rfl := hp
  obtain ⟨r, l, rfl⟩ := exists_ix2 (a := 256) (b := 2816) x
  rw [emb_ix2 (h0 := by omega) (h1 := by omega)]
  unfold k0_pay12
  pointwise [p_si x0 x2 x3 x4 x5, p_up x0 x2 x3 x4 x5]
  rfl

theorem out7_B (hc0 : ¬cond0_0 i) : out0_B_7 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo12
    = fun (y : S256x1024.Idx) => Ffn.dx2 (par x2 (fun k => x3 (ix2 0 k)) x4 x5) (rowOf x0 (y 0 : Fin 256)) (rowOf x1 (y 0 : Fin 256)) (y 1) := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo12)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread]
  simp (disch := decide) only [↓ View.readCov_skip, ↓ View.readCov_cons_toLoadRect, ↓ View.readCov_fill, View.ld_unit_lit']
  refine canon_of_tiles _ 1 ![256, 1024] _ (by sl_kernel_rfl) fun p hp x => ?_
  simp only [List.take_succ_cons, List.take_zero, List.mem_cons, List.not_mem_nil, or_false] at hp
  obtain rfl := hp
  obtain ⟨r, l, rfl⟩ := exists_ix2 (a := 256) (b := 1024) x
  rw [emb_ix2 (h0 := by omega) (h1 := by omega)]
  unfold k0_pay21
  pointwise [p_dx2 x0 x1 x2 x3 x4 x5]

theorem out8_B (hc0 : ¬cond0_0 i) : out0_B_8 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo12
    = fun (y : S256x1024.Idx) => h (par x2 (fun k => x3 (ix2 0 k)) x4 x5) (rowOf x0 (y 0 : Fin 256)) (y 1) := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo12)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread]
  simp (disch := decide) only [↓ View.readCov_skip, ↓ View.readCov_cons_toLoadRect, ↓ View.readCov_fill, View.ld_unit_lit']
  refine canon_of_tiles _ 1 ![256, 1024] _ (by sl_kernel_rfl) fun p hp x => ?_
  simp only [List.take_succ_cons, List.take_zero, List.mem_cons, List.not_mem_nil, or_false] at hp
  obtain rfl := hp
  obtain ⟨r, l, rfl⟩ := exists_ix2 (a := 256) (b := 1024) x
  rw [emb_ix2 (h0 := by omega) (h1 := by omega)]
  unfold k0_pay5
  pointwise [p_hat x0]
  rfl

theorem out9_B (hc0 : ¬cond0_0 i) : out0_B_9 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo12
    = fun (y : S2x256x2816.Idx) => dgu (par x2 (fun k => x3 (ix2 0 k)) x4 x5) (rowOf x0 (y 1 : Fin 256)) (rowOf x1 (y 1 : Fin 256)) (y 0) (y 2) := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo12)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread]
  simp (disch := decide) only [↓ View.readCov_skip, ↓ View.readCov_cons_toLoadRect, ↓ View.readCov_fill, View.ld_unit_lit']
  refine canon_of_tiles _ 2 ![1, 256, 2816] _ (by sl_kernel_rfl) fun p hp x => ?_
  simp only [List.take_succ_cons, List.take_zero, List.mem_cons, List.not_mem_nil, or_false] at hp
  rcases hp with rfl | rfl
  · obtain ⟨k, r, l, rfl⟩ := exists_ix3 (a := 1) (b := 256) (d := 2816) x
    obtain rfl := Subsingleton.elim k 0
    rw [emb_ix3 (h := by omega) (h0 := by omega) (h1 := by omega)]
    unfold k0_pay26
    pointwise [p_dup x0 x1 x2 x3 x4 x5]
    rfl
  · obtain ⟨k, r, l, rfl⟩ := exists_ix3 (a := 1) (b := 256) (d := 2816) x
    obtain rfl := Subsingleton.elim k 0
    rw [emb_ix3 (h := by omega) (h0 := by omega) (h1 := by omega)]
    unfold k0_pay25
    pointwise [p_dgate x0 x1 x2 x3 x4 x5]
    rfl

theorem out10_B (hc0 : ¬cond0_0 i) : out0_B_10 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo12
    = fun (y : S256x1024.Idx) => dx1 (par x2 (fun k => x3 (ix2 0 k)) x4 x5) (rowOf x0 (y 0 : Fin 256)) (rowOf x1 (y 0 : Fin 256)) (y 1) := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo12)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread]
  simp (disch := decide) only [↓ View.readCov_skip, ↓ View.readCov_cons_toLoadRect, ↓ View.readCov_fill, View.ld_unit_lit']
  refine canon_of_tiles _ 1 ![256, 1024] _ (by sl_kernel_rfl) fun p hp x => ?_
  simp only [List.take_succ_cons, List.take_zero, List.mem_cons, List.not_mem_nil, or_false] at hp
  obtain rfl := hp
  obtain ⟨r, l, rfl⟩ := exists_ix2 (a := 256) (b := 1024) x
  rw [emb_ix2 (h0 := by omega) (h1 := by omega)]
  unfold k0_pay29
  pointwise [p_dh x0 x1 x2 x3 x4 x5, p_dx2 x0 x1 x2 x3 x4 x5, p_rs x0, p_hat x0]
  rfl

theorem out11_B (hc0 : ¬cond0_0 i) : out0_B_11 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo12
    = fun (y : S256x1024.Idx) => dx1 (par x2 (fun k => x3 (ix2 0 k)) x4 x5) (rowOf x0 (y 0 : Fin 256)) (rowOf x1 (y 0 : Fin 256)) (y 1) := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo12)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread]
  simp (disch := decide) only [↓ View.readCov_skip, ↓ View.readCov_cons_toLoadRect, ↓ View.readCov_fill, View.ld_unit_lit']
  refine canon_of_tiles _ 1 ![256, 1024] _ (by sl_kernel_rfl) fun p hp x => ?_
  simp only [List.take_succ_cons, List.take_zero, List.mem_cons, List.not_mem_nil, or_false] at hp
  obtain rfl := hp
  obtain ⟨r, l, rfl⟩ := exists_ix2 (a := 256) (b := 1024) x
  rw [emb_ix2 (h0 := by omega) (h1 := by omega)]
  unfold k0_pay30 k0_pay29
  pointwise [p_dh x0 x1 x2 x3 x4 x5, p_dx2 x0 x1 x2 x3 x4 x5, p_rs x0, p_hat x0]
  rfl

theorem out12_B (hc0 : ¬cond0_0 i) : out0_B_12 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo12
    = fun (y : S3x8x1024.Idx) => xo12 y + vacc x0 x1 (par x2 (fun k => x3 (ix2 0 k)) x4 x5) (y 0) (y 1) (y 2) := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo12)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread]
  simp (disch := decide) only [↓ View.readCov_skip, ↓ View.readCov_cons_toLoadRect, ↓ View.readCov_fill, View.ld_unit_lit']
  refine canon_of_tiles _ 3 ![1, 8, 1024] _ (by sl_kernel_rfl) fun p hp x => ?_
  simp only [List.take_succ_cons, List.take_zero, List.mem_cons, List.not_mem_nil, or_false] at hp
  rcases hp with rfl | rfl | rfl
  · obtain ⟨k, r, l, rfl⟩ := exists_ix3 (a := 1) (b := 8) (d := 1024) x
    obtain rfl := Subsingleton.elim k 0
    rw [emb_ix3 (h := by omega) (h0 := by omega) (h1 := by omega)]
    unfold k0_pay28
    pointwise [p_dh x0 x1 x2 x3 x4 x5, p_hat x0]
    rfl
  · obtain ⟨k, r, l, rfl⟩ := exists_ix3 (a := 1) (b := 8) (d := 1024) x
    obtain rfl := Subsingleton.elim k 0
    rw [emb_ix3 (h := by omega) (h0 := by omega) (h1 := by omega)]
    unfold k0_pay19
    pointwise [p_dy x0 x1 x2 x3 x4 x5, p_hat2 x0 x2 x3 x4 x5]
    rfl
  · obtain ⟨k, r, l, rfl⟩ := exists_ix3 (a := 1) (b := 8) (d := 1024) x
    obtain rfl := Subsingleton.elim k 0
    rw [emb_ix3 (h := by omega) (h0 := by omega) (h1 := by omega)]
    unfold k0_pay17
    pointwise [p_err x0 x1 x2 x3 x4 x5]
    rfl

end Body

end Cert.FfnIdeal.KValue

end
-- ==== Proof.FfnValue.lean ====
/-
  The feed-forward part, kernel side: the arrays that the run leaves, from the blocks its points leave.
-/
module

public import proofs.«01_k».proof.Proof.FfnBody
public import proofs.«01_k».proof.Proof.Accum
public import proofs.«01_k».proof.Proof.Sums
public import proofs.«01_k».proof.Proof.Gen.FfnIdeal.Run

@[expose] public section

set_option maxRecDepth 16384
set_option maxHeartbeats 4000000

noncomputable section

open Idealize.ShloMosaic Idealize.ShloMosaic.TcCoe Idealize.SL.Sem
open Idealize.ShloMosaic.Pipeline (Dat)

namespace Cert.FfnIdeal.KValue

open Cert.FfnIdeal Cert.FfnIdeal.Gen Cert.Blocks Cert.Pieces Cert.Ffn

variable (m : (ℓ : Loc nD τ sig) → Buf (Elt Ideal) ℓ) (c : Dev nD)

/-! The arguments. -/

abbrev X : S4096x1024.Idx → EReal := m ((c : Thread nD τ).loc main_arg0)
abbrev Tg : S4096x1024.Idx → EReal := m ((c : Thread nD τ).loc main_arg1)
abbrev Gf : S1x1024.Idx → EReal := m ((c : Thread nD τ).loc main_arg2)
abbrev Gn : S1024.Idx → EReal := m ((c : Thread nD τ).loc main_arg3)
abbrev Wgu : S2x1024x2816.Idx → EReal := m ((c : Thread nD τ).loc main_arg4)
abbrev Wd : S2816x1024.Idx → EReal := m ((c : Thread nD τ).loc main_arg5)
abbrev Pm : Par := par (Gf m c) (fun k => Gn m c (ix1 k)) (Wgu m c) (Wd m c)

theorem hN : cfg0.N = 16 := N_0

/-- Row `r` of the block at point `t`. -/
def row (t : Fin cfg0.N) (r : Fin 256) : Fin 4096 := ⟨t.val * 256 + r.val, Accum.row_lt hN t r⟩

variable (t : Fin cfg0.N)

/-! The windows' blocks. -/

/-- The last gain, as the host hands it to the kernel: a row. -/
theorem pre_v0 (k : Fin 1024) : V m c main_v0 (ix2 0 k : S1x1024.Idx) = Gn m c (ix1 k) := by
  have h : V m c main_v0 = shapeCast S1x1024 (Gn m c) shapeCasts_S1024_S1x1024 := by
    dsimp only [V, V0]
    simp only [Gen.hostOps0, List.flatten_cons, List.flatten_nil, List.append_nil, List.cons_append, List.nil_append]
    after_results
    rfl
  rw [h]
  generalize Gn m c = g
  pointwise

theorem blk0 (r : Fin 256) (l : Fin 1024) : iblk m c 0 t (ix2 r l) = X m c (ix2 (row t r) l) := by
  have e : ∀ (t : Fin cfg0.N) a, win0_0.index t a * win0_0.size a = ![t.val * 256, 0] a := by decide +kernel
  refine (congrArg (V m c main_arg0) (rect_emb_eq win0_0 t _ _ fun a => ?_)).trans (congrFun (V_main_arg0 m c) _)
  rw [e t a]; match a with
  | ⟨0, _⟩ => rfl
  | ⟨1, _⟩ => exact Nat.zero_add _

theorem blk1 (r : Fin 256) (l : Fin 1024) : iblk m c 1 t (ix2 r l) = Tg m c (ix2 (row t r) l) := by
  have e : ∀ (t : Fin cfg0.N) a, win0_1.index t a * win0_1.size a = ![t.val * 256, 0] a := by decide +kernel
  refine (congrArg (V m c main_arg1) (rect_emb_eq win0_1 t _ _ fun a => ?_)).trans (congrFun (V_main_arg1 m c) _)
  rw [e t a]; match a with
  | ⟨0, _⟩ => rfl
  | ⟨1, _⟩ => exact Nat.zero_add _

theorem blk2 (l : Fin 1024) : iblk m c 2 t (ix2 0 l) = Gf m c (ix2 0 l) := by
  have e : ∀ (t : Fin cfg0.N) a, win0_2.index t a * win0_2.size a = ![0, 0] a := by decide +kernel
  refine (congrArg (V m c main_arg2) (rect_emb_eq win0_2 t _ _ fun a => ?_)).trans (congrFun (V_main_arg2 m c) _)
  rw [e t a]; match a with
  | ⟨0, _⟩ => rfl
  | ⟨1, _⟩ => exact Nat.zero_add _

theorem blk3 (l : Fin 1024) : iblk m c 3 t (ix2 0 l) = Gn m c (ix1 l) := by
  have e : ∀ (t : Fin cfg0.N) a, win0_3.index t a * win0_3.size a = ![0, 0] a := by decide +kernel
  refine (congrArg (V m c main_v0) (rect_emb_eq win0_3 t _ _ fun a => ?_)).trans (pre_v0 m c _)
  rw [e t a]; match a with
  | ⟨0, _⟩ => rfl
  | ⟨1, _⟩ => exact Nat.zero_add _

theorem blk4 (k : Fin 2) (r : Fin 1024) (l : Fin 2816) : iblk m c 4 t (ix3 k r l) = Wgu m c (ix3 k r l) := by
  have e : ∀ (t : Fin cfg0.N) a, win0_4.index t a * win0_4.size a = ![0, 0, 0] a := by decide +kernel
  refine (congrArg (V m c main_arg4) (rect_emb_eq win0_4 t _ _ fun a => ?_)).trans (congrFun (V_main_arg4 m c) _)
  rw [e t a]; match a with
  | ⟨0, _⟩ => exact Nat.zero_add _
  | ⟨1, _⟩ => exact Nat.zero_add _
  | ⟨2, _⟩ => exact Nat.zero_add _

theorem blk5 (r : Fin 2816) (l : Fin 1024) : iblk m c 5 t (ix2 r l) = Wd m c (ix2 r l) := by
  have e : ∀ (t : Fin cfg0.N) a, win0_5.index t a * win0_5.size a = ![0, 0] a := by decide +kernel
  refine (congrArg (V m c main_arg5) (rect_emb_eq win0_5 t _ _ fun a => ?_)).trans (congrFun (V_main_arg5 m c) _)
  rw [e t a]; match a with
  | ⟨0, _⟩ => exact Nat.zero_add _
  | ⟨1, _⟩ => exact Nat.zero_add _

/-- A row of a block is a row of its array, and the parameters are the whole arrays'. -/
theorem bX : rowOf (T := 256) (iblk m c 0 t) = fun r => rowOf (X m c) (row t r) := funext fun r => funext fun l => blk0 m c t r l
theorem bTg : rowOf (T := 256) (iblk m c 1 t) = fun r => rowOf (Tg m c) (row t r) := funext fun r => funext fun l => blk1 m c t r l
theorem bP : par (iblk m c 2 t) (fun k => iblk m c 3 t (ix2 0 k)) (iblk m c 4 t) (iblk m c 5 t) = Pm m c := by
  unfold Pm par
  simp only [blk2, blk3, blk4, blk5]

/-! What a point leaves: the blocks of six outputs; and of the accumulator, what it adds. -/

theorem outs :
    (outsAt0 m c t.val t.isLt).1 = (fun (y : S256x2816.Idx) => act (Pm m c) (rowOf (X m c) (row t (y 0))) (y 1))
      ∧ (outsAt0 m c t.val t.isLt).2.1 = (fun (y : S256x1024.Idx) => Ffn.dx2 (Pm m c) (rowOf (X m c) (row t (y 0))) (rowOf (Tg m c) (row t (y 0))) (y 1))
      ∧ (outsAt0 m c t.val t.isLt).2.2.1 = (fun (y : S256x1024.Idx) => h (Pm m c) (rowOf (X m c) (row t (y 0))) (y 1))
      ∧ (outsAt0 m c t.val t.isLt).2.2.2.1 = (fun (y : S2x256x2816.Idx) => dgu (Pm m c) (rowOf (X m c) (row t (y 1))) (rowOf (Tg m c) (row t (y 1))) (y 0) (y 2))
      ∧ (outsAt0 m c t.val t.isLt).2.2.2.2.1 = (fun (y : S256x1024.Idx) => dx1 (Pm m c) (rowOf (X m c) (row t (y 0))) (rowOf (Tg m c) (row t (y 0))) (y 1))
      ∧ (outsAt0 m c t.val t.isLt).2.2.2.2.2.1 = (fun (y : S256x1024.Idx) => dx1 (Pm m c) (rowOf (X m c) (row t (y 0))) (rowOf (Tg m c) (row t (y 0))) (y 1)) := by
  by_cases h0 : t.val % 16 = 0
  · rw [outsAt0_A m c t h0]
    dsimp only
    rw [out6_A, out7_A, out8_A, out9_A, out10_A, out11_A]
    simp only [bX, bTg, bP, and_self]
  · rw [outsAt0_B m c t h0]
    dsimp only
    rw [out6_B, out7_B, out8_B, out9_B, out10_B, out11_B]
    simp only [bX, bTg, bP, and_self]

/-- What a point adds to the accumulator. -/
theorem step12 (k : Fin 3) (r : Fin 8) (j : Fin 1024) :
    (outsAt0 m c t.val t.isLt).2.2.2.2.2.2 (ix3 k r j)
      = (if t.val % 16 = 0 then 0 else (outsAt0 m c (t.val - 1) (Nat.lt_of_le_of_lt (Nat.sub_le _ _) t.isLt)).2.2.2.2.2.2 (ix3 k r j))
        + vacc (iblk m c 0 t) (iblk m c 1 t) (Pm m c) k r j := by
  by_cases h0 : t.val % 16 = 0
  · rw [outsAt0_A m c t h0, if_pos h0]
    dsimp only
    rw [out12_A, bP]
    refine congrArg (· + _) ?_
    unfold_payloads
    pointwise
  · rw [outsAt0_B m c t h0, if_neg h0]
    dsimp only
    rw [out12_B, bP]
    rfl

/-- Row `x * 8 + r` of the block at a point. -/
abbrev arow (t : Fin cfg0.N) (r : Fin 8) (x : Fin 32) : Fin 4096 :=
  ⟨t.val * 256 + (x.val * 8 + r.val), Accum.row_lt hN t ⟨x.val * 8 + r.val, by omega⟩⟩

/-- The terms of row `i`. -/
def sqAt (i : Fin 4096) (j : Fin 1024) : EReal := sq (Pm m c) (rowOf (X m c) i) (rowOf (Tg m c) i) j
def dgnAt (i : Fin 4096) (j : Fin 1024) : EReal := dgn (Pm m c) (rowOf (X m c) i) (rowOf (Tg m c) i) j
def dgfAt (i : Fin 4096) (j : Fin 1024) : EReal := dgf (Pm m c) (rowOf (X m c) i) (rowOf (Tg m c) i) j

/-- The accumulator's last contents. -/
def acc (k : Fin 3) (r : Fin 8) (j : Fin 1024) : EReal :=
  ∑ t : Fin cfg0.N, if k.val = 0 then (∑ x, sqAt m c (arow t r x) j) * halfInvD
    else if k.val = 1 then ∑ x, dgnAt m c (arow t r x) j else ∑ x, dgfAt m c (arow t r x) j

theorem last12 (ht : t.val % 16 = 15) (k : Fin 3) (r : Fin 8) (j : Fin 1024) :
    (outsAt0 m c t.val t.isLt).2.2.2.2.2.2 (ix3 k r j) = acc m c k r j := by
  rw [Accum.last hN (fun n hn => (outsAt0 m c n hn).2.2.2.2.2.2 (ix3 k r j)) _ (fun t => step12 m c t k r j) t ht, acc]
  refine Finset.sum_congr rfl fun t _ => ?_
  unfold vacc sqAt dgnAt dgfAt
  simp only [bX, bTg]
  rfl

/-! The result arrays. -/

def G6 : Buf (Elt Ideal) ((c : Thread nD τ).loc main_v1_0) := fun (y : S4096x2816.Idx) => act (Pm m c) (rowOf (X m c) (y 0)) (y 1)
def G7 : Buf (Elt Ideal) ((c : Thread nD τ).loc main_v1_1) := fun (y : S4096x1024.Idx) => Ffn.dx2 (Pm m c) (rowOf (X m c) (y 0)) (rowOf (Tg m c) (y 0)) (y 1)
def G8 : Buf (Elt Ideal) ((c : Thread nD τ).loc main_v1_2) := fun (y : S4096x1024.Idx) => h (Pm m c) (rowOf (X m c) (y 0)) (y 1)
def G9 : Buf (Elt Ideal) ((c : Thread nD τ).loc main_v1_3) := fun (y : S2x4096x2816.Idx) => dgu (Pm m c) (rowOf (X m c) (y 1)) (rowOf (Tg m c) (y 1)) (y 0) (y 2)
def G10 : Buf (Elt Ideal) ((c : Thread nD τ).loc main_v1_4) := fun (y : S4096x1024.Idx) => dx1 (Pm m c) (rowOf (X m c) (y 0)) (rowOf (Tg m c) (y 0)) (y 1)
def G11 : Buf (Elt Ideal) ((c : Thread nD τ).loc main_v1_5) := fun (y : S4096x1024.Idx) => dx1 (Pm m c) (rowOf (X m c) (y 0)) (rowOf (Tg m c) (y 0)) (y 1)
def G12 : Buf (Elt Ideal) ((c : Thread nD τ).loc main_v1_6) := fun (y : S3x8x1024.Idx) => acc m c (y 0) (y 1) (y 2)

theorem emb6 (r : Fin 256) (l : Fin 2816) : (win0_6.rect t).emb (ix2 r l) = (ix2 (row t r) l : S4096x2816.Idx) := by
  have e : ∀ (t : Fin cfg0.N) a, win0_6.index t a * win0_6.size a = ![t.val * 256, 0] a := by decide +kernel
  refine rect_emb_eq _ t _ _ fun a => ?_
  rw [e t a]; match a with
  | ⟨0, _⟩ => rfl
  | ⟨1, _⟩ => exact Nat.zero_add _

theorem emb7 (r : Fin 256) (l : Fin 1024) : (win0_7.rect t).emb (ix2 r l) = (ix2 (row t r) l : S4096x1024.Idx) := by
  have e : ∀ (t : Fin cfg0.N) a, win0_7.index t a * win0_7.size a = ![t.val * 256, 0] a := by decide +kernel
  refine rect_emb_eq _ t _ _ fun a => ?_
  rw [e t a]; match a with
  | ⟨0, _⟩ => rfl
  | ⟨1, _⟩ => exact Nat.zero_add _

theorem emb8 (r : Fin 256) (l : Fin 1024) : (win0_8.rect t).emb (ix2 r l) = (ix2 (row t r) l : S4096x1024.Idx) := emb7 t r l
theorem emb10 (r : Fin 256) (l : Fin 1024) : (win0_10.rect t).emb (ix2 r l) = (ix2 (row t r) l : S4096x1024.Idx) := emb7 t r l
theorem emb11 (r : Fin 256) (l : Fin 1024) : (win0_11.rect t).emb (ix2 r l) = (ix2 (row t r) l : S4096x1024.Idx) := emb7 t r l

theorem emb9 (k : Fin 2) (r : Fin 256) (l : Fin 2816) : (win0_9.rect t).emb (ix3 k r l) = (ix3 k (row t r) l : S2x4096x2816.Idx) := by
  have e : ∀ (t : Fin cfg0.N) a, win0_9.index t a * win0_9.size a = ![0, t.val * 256, 0] a := by decide +kernel
  refine rect_emb_eq _ t _ _ fun a => ?_
  rw [e t a]; match a with
  | ⟨0, _⟩ => exact Nat.zero_add _
  | ⟨1, _⟩ => rfl
  | ⟨2, _⟩ => exact Nat.zero_add _

theorem emb12 (k : Fin 3) (r : Fin 8) (l : Fin 1024) : (win0_12.rect t).emb (ix3 k r l) = (ix3 k r l : S3x8x1024.Idx) := by
  have e : ∀ (t : Fin cfg0.N) a, win0_12.index t a * win0_12.size a = ![0, 0, 0] a := by decide +kernel
  refine rect_emb_eq _ t _ _ fun a => ?_
  rw [e t a]; match a with
  | ⟨0, _⟩ => exact Nat.zero_add _
  | ⟨1, _⟩ => exact Nat.zero_add _
  | ⟨2, _⟩ => exact Nat.zero_add _

theorem final6 : (dats m 0 c).arrAt 6 cfg0.N = G6 m c :=
  (dats m 0 c).arrAt_eq_of_cover 6 (G6 m c) (fun t _ => by
    funext (y : S256x2816.Idx)
    obtain ⟨r, l, rfl⟩ := exists_ix2 y
    show (dats m 0 c).after 6 t (ix2 r l) = G6 m c ((win0_6.rect t).emb (ix2 r l))
    rw [after0_6, emb6, (outs m c t).1]
    rfl) fun (i : S4096x2816.Idx) => by
    obtain ⟨i, l, rfl⟩ := exists_ix2 i
    obtain ⟨t, r, rfl⟩ := Accum.split_row hN i
    exact ⟨t, flush0_6 t, emb6 t r l ▸ ((cfg0.win 6).blk t).view.emb_mem_set (ix2 r l : S256x2816.Idx)⟩

theorem final7 : (dats m 0 c).arrAt 7 cfg0.N = G7 m c :=
  (dats m 0 c).arrAt_eq_of_cover 7 (G7 m c) (fun t _ => by
    funext (y : S256x1024.Idx)
    obtain ⟨r, l, rfl⟩ := exists_ix2 y
    show (dats m 0 c).after 7 t (ix2 r l) = G7 m c ((win0_7.rect t).emb (ix2 r l))
    rw [after0_7, emb7, (outs m c t).2.1]
    rfl) fun (i : S4096x1024.Idx) => by
    obtain ⟨i, l, rfl⟩ := exists_ix2 i
    obtain ⟨t, r, rfl⟩ := Accum.split_row hN i
    exact ⟨t, flush0_7 t, emb7 t r l ▸ ((cfg0.win 7).blk t).view.emb_mem_set (ix2 r l : S256x1024.Idx)⟩

theorem final8 : (dats m 0 c).arrAt 8 cfg0.N = G8 m c :=
  (dats m 0 c).arrAt_eq_of_cover 8 (G8 m c) (fun t _ => by
    funext (y : S256x1024.Idx)
    obtain ⟨r, l, rfl⟩ := exists_ix2 y
    show (dats m 0 c).after 8 t (ix2 r l) = G8 m c ((win0_8.rect t).emb (ix2 r l))
    rw [after0_8, emb8, (outs m c t).2.2.1]
    rfl) fun (i : S4096x1024.Idx) => by
    obtain ⟨i, l, rfl⟩ := exists_ix2 i
    obtain ⟨t, r, rfl⟩ := Accum.split_row hN i
    exact ⟨t, flush0_8 t, emb8 t r l ▸ ((cfg0.win 8).blk t).view.emb_mem_set (ix2 r l : S256x1024.Idx)⟩

theorem final9 : (dats m 0 c).arrAt 9 cfg0.N = G9 m c :=
  (dats m 0 c).arrAt_eq_of_cover 9 (G9 m c) (fun t _ => by
    funext (y : S2x256x2816.Idx)
    obtain ⟨k, r, l, rfl⟩ := exists_ix3 y
    show (dats m 0 c).after 9 t (ix3 k r l) = G9 m c ((win0_9.rect t).emb (ix3 k r l))
    rw [after0_9, emb9, (outs m c t).2.2.2.1]
    rfl) fun (i : S2x4096x2816.Idx) => by
    obtain ⟨k, i, l, rfl⟩ := exists_ix3 i
    obtain ⟨t, r, rfl⟩ := Accum.split_row hN i
    exact ⟨t, flush0_9 t, emb9 t k r l ▸ ((cfg0.win 9).blk t).view.emb_mem_set (ix3 k r l : S2x256x2816.Idx)⟩

theorem final10 : (dats m 0 c).arrAt 10 cfg0.N = G10 m c :=
  (dats m 0 c).arrAt_eq_of_cover 10 (G10 m c) (fun t _ => by
    funext (y : S256x1024.Idx)
    obtain ⟨r, l, rfl⟩ := exists_ix2 y
    show (dats m 0 c).after 10 t (ix2 r l) = G10 m c ((win0_10.rect t).emb (ix2 r l))
    rw [after0_10, emb10, (outs m c t).2.2.2.2.1]
    rfl) fun (i : S4096x1024.Idx) => by
    obtain ⟨i, l, rfl⟩ := exists_ix2 i
    obtain ⟨t, r, rfl⟩ := Accum.split_row hN i
    exact ⟨t, flush0_10 t, emb10 t r l ▸ ((cfg0.win 10).blk t).view.emb_mem_set (ix2 r l : S256x1024.Idx)⟩

theorem final11 : (dats m 0 c).arrAt 11 cfg0.N = G11 m c :=
  (dats m 0 c).arrAt_eq_of_cover 11 (G11 m c) (fun t _ => by
    funext (y : S256x1024.Idx)
    obtain ⟨r, l, rfl⟩ := exists_ix2 y
    show (dats m 0 c).after 11 t (ix2 r l) = G11 m c ((win0_11.rect t).emb (ix2 r l))
    rw [after0_11, emb11, (outs m c t).2.2.2.2.2]
    rfl) fun (i : S4096x1024.Idx) => by
    obtain ⟨i, l, rfl⟩ := exists_ix2 i
    obtain ⟨t, r, rfl⟩ := Accum.split_row hN i
    exact ⟨t, flush0_11 t, emb11 t r l ▸ ((cfg0.win 11).blk t).view.emb_mem_set (ix2 r l : S256x1024.Idx)⟩

theorem final12 : (dats m 0 c).arrAt 12 cfg0.N = G12 m c :=
  (dats m 0 c).arrAt_eq_of_cover 12 (G12 m c) (fun t h => by
    funext (y : S3x8x1024.Idx)
    obtain ⟨k, r, l, rfl⟩ := exists_ix3 y
    show (dats m 0 c).after 12 t (ix3 k r l) = G12 m c ((win0_12.rect t).emb (ix3 k r l))
    rw [after0_12, emb12, last12 m c t ((flush0_12 t).mp h)]
    rfl) fun (i : S3x8x1024.Idx) => by
    obtain ⟨k, r, l, rfl⟩ := exists_ix3 i
    have h15 : 15 < cfg0.N := by rw [hN]; decide
    exact ⟨⟨15, h15⟩, (flush0_12 _).mpr rfl, emb12 ⟨15, h15⟩ k r l ▸ ((cfg0.win 12).blk ⟨15, h15⟩).view.emb_mem_set (ix3 k r l : S3x8x1024.Idx)⟩

/-! What the host makes of the accumulator. -/

/-- Each gain's gradient is the sum of its terms over the rows. -/
def dgfOut (y : S1024.Idx) : EReal := ∑ i, dgfAt m c i (y 0)
def dgnOut (y : S1024.Idx) : EReal := ∑ i, dgnAt m c i (y 0)

theorem tail7 : Host.reduceAdd (shapeCast _ (extractStridedSlice S1x8x1024 ![2, 0, 0] (Cert.FfnIdeal.Value.reg_main_v1_6 m c) slices_S3x8x1024_S1x8x1024_2_0_0) shapeCasts_S1x8x1024_S8x1024) (constant (F := Ideal) S_ .f32 0x00000000#32) reducesTo_S8x1024_S1024_d0 h_S_ = dgfOut m c := by
  rw [show Cert.FfnIdeal.Value.reg_main_v1_6 m c = G12 m c from final12 m c]
  funext (y : S1024.Idx)
  obtain ⟨j, rfl⟩ : ∃ j : Fin 1024, y = ix1 j := ⟨y 0, funext fun k => by match k with | ⟨0, _⟩ => rfl⟩
  refine Eq.trans ?_ (Accum.sum_rows hN fun i => dgfAt m c i j)
  generalize hG : G12 m c = G
  pointwise
  subst hG
  rfl

theorem tail10 : Host.reduceAdd (shapeCast _ (extractStridedSlice S1x8x1024 ![1, 0, 0] (Cert.FfnIdeal.Value.reg_main_v1_6 m c) slices_S3x8x1024_S1x8x1024_1_0_0) shapeCasts_S1x8x1024_S8x1024) (constant (F := Ideal) S_ .f32 0x00000000#32) reducesTo_S8x1024_S1024_d0 h_S_ = dgnOut m c := by
  rw [show Cert.FfnIdeal.Value.reg_main_v1_6 m c = G12 m c from final12 m c]
  funext (y : S1024.Idx)
  obtain ⟨j, rfl⟩ : ∃ j : Fin 1024, y = ix1 j := ⟨y 0, funext fun k => by match k with | ⟨0, _⟩ => rfl⟩
  refine Eq.trans ?_ (Accum.sum_rows hN fun i => dgnAt m c i j)
  generalize hG : G12 m c = G
  pointwise
  subst hG
  rfl

/-- The loss: half the mean over the columns of the squared errors, summed over the rows. The factor stands outside each
    partial sum, and may be taken to each term because the terms are real. -/
def lossOut (_ : S_.Idx) : EReal := ∑ j, ∑ i, sqAt m c i j * halfInvD

theorem tail4 (hR : ∀ i j, Reals.IsR (sqAt m c i j)) : Host.reduceAdd (shapeCast _ (extractStridedSlice S1x8x1024 ![0, 0, 0] (Cert.FfnIdeal.Value.reg_main_v1_6 m c) slices_S3x8x1024_S1x8x1024_0_0_0) shapeCasts_S1x8x1024_S8x1024) (constant (F := Ideal) S_ .f32 0x00000000#32) reducesTo_S8x1024_S_d0_1 h_S_ = lossOut m c := by
  rw [show Cert.FfnIdeal.Value.reg_main_v1_6 m c = G12 m c from final12 m c]
  funext (y : S_.Idx)
  have hG (r : Fin 8) (j : Fin 1024) : shapeCast S8x1024 (extractStridedSlice S1x8x1024 ![0, 0, 0] (G12 m c) slices_S3x8x1024_S1x8x1024_0_0_0) shapeCasts_S1x8x1024_S8x1024 (ix2 r j)
      = ∑ t : Fin cfg0.N, ∑ x, sqAt m c (arow t r x) j * halfInvD := by
    have h : acc m c 0 r j = ∑ t : Fin cfg0.N, ∑ x, sqAt m c (arow t r x) j * halfInvD := by
      refine Finset.sum_congr rfl fun t _ => ?_
      rw [if_pos (by rfl), mul_comm, Reals.mul_sum _ isR_halfInvD fun x => hR _ _]
      exact Finset.sum_congr rfl fun x _ => mul_comm _ _
    rw [← h]
    generalize hG : G12 m c = G
    pointwise
    subst hG
    rfl
  refine (Sums.reduce_eq reducesTo_S8x1024_S_d0_1 h_S_ _ _
    (fun (_ : S_.Idx) (k : Fin 1024 × Fin 8) => (ix2 k.2 k.1 : S8x1024.Idx)) (fun j k => Subsingleton.elim _ _)
    (fun i => ⟨(i 1, i 0), funext fun b => match b with
      | ⟨0, _⟩ => rfl
      | ⟨1, _⟩ => rfl⟩)
    (fun j a b h => Prod.ext (congrFun h 1) (congrFun h 0)) _).trans ?_
  rw [show constant (F := Ideal) S_ .f32 0x00000000#32 (Shape.Idx.first h_S_) = (0 : EReal) by pointwise, zero_add, Fintype.sum_prod_type]
  refine Finset.sum_congr rfl fun j _ => ?_
  simp only [hG]
  exact Accum.sum_rows hN fun i => sqAt m c i j * halfInvD

end Cert.FfnIdeal.KValue

end
-- ==== Proof.FfnReal.lean ====
/-
  The feed-forward part where its arguments are real numbers: every value is real, and the gradients written the way the
  derivative of the forward lines writes them are the ones of `FfnSpec`.
-/
module

public import proofs.«01_k».proof.Proof.FfnSpec

@[expose] public section

noncomputable section

open Idealize.ShloMosaic Idealize.ShloMosaic.TcCoe

namespace Cert.Ffn

open Cert.Reals
open Cert.Gmlp (Row width width_eq two_eq)

theorem half_eq : Ideal.ofBits .f32 0x3F000000#32 = ((1 / 2 : ℝ) : EReal) := by
  simp [Ideal.ofBits, Ideal.ieee, -EReal.coe_mul]; norm_num

/-- The parameters are real numbers. -/
structure Par.Real (p : Par) : Prop where
  gf : ∀ k, IsR (p.gf k)
  gn : ∀ k, IsR (p.gn k)
  wg : ∀ k l, IsR (p.wg k l)
  wu : ∀ k l, IsR (p.wu k l)
  wd : ∀ l k, IsR (p.wd l k)

variable {p : Par} {f g : Row} (hp : p.Real) (hf : ∀ k, IsR (f k)) (hg : ∀ k, IsR (g k))

section Forward

include hp hf

theorem isR_h (k : Fin 1024) : IsR (h p f k) := (Rms.isR_hat hf k).mul (hp.gf k)
theorem isR_gate (l : Fin 2816) : IsR (gate p f l) := .sum _ fun k => (isR_h hp hf k).mul (hp.wg k l)
theorem isR_up (l : Fin 2816) : IsR (up p f l) := .sum _ fun k => (isR_h hp hf k).mul (hp.wu k l)
theorem isR_sg (l : Fin 2816) : IsR (sg p f l) := by
  obtain ⟨a, ha⟩ := isR_gate hp hf l
  refine isR_one.div (isR_one.add (isR_zero.sub (isR_gate hp hf l)).exp) ?_
  rw [ha, show (0 : EReal) - (a : EReal) = ((0 - a : ℝ) : EReal) from rfl, show Ideal.exp ((0 - a : ℝ) : EReal) = (Real.exp (0 - a) : EReal) from rfl]
  exact_mod_cast (add_pos one_pos (Real.exp_pos (0 - a))).ne'
theorem isR_si (l : Fin 2816) : IsR (si p f l) := (isR_gate hp hf l).mul (isR_sg hp hf l)
theorem isR_act (l : Fin 2816) : IsR (act p f l) := (isR_si hp hf l).mul (isR_up hp hf l)
theorem isR_x2 (k : Fin 1024) : IsR (x2 p f k) := (hf k).add (.sum _ fun l => (isR_act hp hf l).mul (hp.wd l k))

include hg

theorem isR_err (k : Fin 1024) : IsR (err p f g k) := ((Rms.isR_hat (isR_x2 hp hf) k).mul (hp.gn k)).sub (hg k)
theorem isR_sq (k : Fin 1024) : IsR (sq p f g k) := (isR_err hp hf hg k).mul (isR_err hp hf hg k)
theorem isR_dy (k : Fin 1024) : IsR (dy p f g k) := (isR_err hp hf hg k).mul (invD_eq ▸ isR_coe _)
theorem isR_dx2 (k : Fin 1024) : IsR (dx2 p f g k) :=
  Rms.isR_back (isR_x2 hp hf) (fun k => (isR_dy hp hf hg k).mul (hp.gn k)) k
theorem isR_dact (l : Fin 2816) : IsR (dact p f g l) := .sum _ fun k => (isR_dx2 hp hf hg k).mul (hp.wd l k)

/-- The gate's gradient, with the derivative of the logistic function as the product of the function and its complement. -/
theorem dgate_eq (l : Fin 2816) :
    dact p f g l * up p f l * sg p f l + gate p f l * (dact p f g l * up p f l) * (sg p f l * (1 - sg p f l)) = dgate p f g l := by
  unfold dgate
  obtain ⟨a, ha⟩ := isR_dact hp hf hg l
  obtain ⟨b, hb⟩ := isR_up hp hf l
  obtain ⟨s, hs⟩ := isR_sg hp hf l
  obtain ⟨t, ht⟩ := isR_gate hp hf l
  rw [ha, hb, hs, ht, ← EReal.coe_one]
  simp only [← EReal.coe_mul, ← EReal.coe_sub, ← EReal.coe_add]
  exact congrArg _ (by ring)

theorem isR_dgate (l : Fin 2816) : IsR (dgate p f g l) :=
  ((isR_dact hp hf hg l).mul (isR_up hp hf l)).mul
    ((isR_sg hp hf l).mul (isR_one.add ((isR_gate hp hf l).mul (isR_one.sub (isR_sg hp hf l)))))
theorem isR_dup (l : Fin 2816) : IsR (dup p f g l) := (isR_dact hp hf hg l).mul (isR_si hp hf l)
theorem isR_dh (k : Fin 1024) : IsR (dh p f g k) :=
  (IsR.sum Finset.univ fun l => (isR_dgate hp hf hg l).mul (hp.wg k l)).add (IsR.sum Finset.univ fun l => (isR_dup hp hf hg l).mul (hp.wu k l))

/-- The gradient of the error, with the factor of the mean of squares as the loss writes it. -/
theorem dy_eq (k : Fin 1024) : Ideal.div (Ideal.ofBits .f32 0x3F000000#32) width * (Ideal.ofBits .f32 0x40000000#32 * err p f g k) = dy p f g k := by
  unfold dy
  obtain ⟨e, he⟩ := isR_err hp hf hg k
  rw [he, half_eq, two_eq, width_eq, invD_eq, div_coe (by norm_num)]
  simp only [← EReal.coe_mul]
  exact congrArg _ (by ring)

end Forward

/-- Half the sum of the rows' mean squares is the sum of all terms with the one factor. -/
theorem loss_eq {sq : Fin 4096 → Fin 1024 → EReal} (h : ∀ i j, IsR (sq i j)) :
    Ideal.ofBits .f32 0x3F000000#32 * ∑ i, Ideal.div (∑ j, sq i j) width = ∑ j, ∑ i, sq i j * halfInvD := by
  choose s hs using h
  simp only [hs, half_eq, width_eq, halfInvD_eq, ← coe_sum, div_coe (show (1024 : ℝ) ≠ 0 by norm_num), ← EReal.coe_mul]
  refine congrArg _ ?_
  rw [Finset.sum_comm, Finset.mul_sum]
  refine Finset.sum_congr rfl fun i _ => ?_
  rw [← Finset.sum_mul]
  ring

end Cert.Ffn

end
-- ==== Proof.FfnRef.lean ====
/-
  The feed-forward part, reference side: the results of the reference, read row by row into the functions of `FfnSpec`.
-/
module

public import proofs.«01_k».proof.Proof.Blocks
public import proofs.«01_k».proof.Proof.FfnReal
public import proofs.«01_k».proof.Proof.Sums
public import proofs.«01_k».proof.Proof.Gen.FfnRefIdeal.Read

@[expose] public section

set_option maxRecDepth 16384
set_option maxHeartbeats 4000000

noncomputable section

open Idealize.ShloMosaic Idealize.ShloMosaic.TcCoe Idealize.SL.Sem

namespace Cert.FfnRefIdeal.RefValue

open Cert.FfnRefIdeal Cert.FfnRefIdeal.Gen Cert.FfnRefIdeal.Read Cert.Blocks Cert.Ffn

variable (x0 x1 : S4096x1024.Idx → EReal) (x2 : S1x1024.Idx → EReal) (x3 : S1024.Idx → EReal)
  (x4 : S2x1024x2816.Idx → EReal) (x5 : S2816x1024.Idx → EReal)

/-- The parameters, and the rows of the stream and of the target. -/
abbrev P : Par := par x2 (fun k => x3 (ix1 k)) x4 x5
abbrev fr (i : Fin 4096) : Cert.Gmlp.Row := rowOf x0 i
abbrev gr (i : Fin 4096) : Cert.Gmlp.Row := rowOf x1 i

/-! Forward. -/

theorem meansq (i : Fin 4096) : val_main_v15 (F := Ideal) x0 (ix3 0 i 0) = Rms.ms (fr x0 i) := by
  pointwise [val_main_v15, val_main_v14, val_main_v13, val_main_v12, val_main_v11, val_main_v10, val_main_v9, val_main_v0, val_main_cst, val_main_cst_0, val_main_cst_1]
  rfl

theorem invroot (i : Fin 4096) : val_main_v16 (F := Ideal) x0 (ix3 0 i 0) = Rms.rs (fr x0 i) := by
  pointwise [val_main_v16, meansq x0]
  rfl

theorem normed (i : Fin 4096) (k : Fin 1024) : val_main_v21 (F := Ideal) x0 (ix3 0 i k) = Rms.hat (fr x0 i) k := by
  pointwise [val_main_v21, val_main_v20, val_main_v0, invroot x0]
  rfl

theorem p_h (i : Fin 4096) (k : Fin 1024) : val_main_v24 (F := Ideal) x0 x2 (ix3 0 i k) = h (P x2 x3 x4 x5) (fr x0 i) k := by
  pointwise [val_main_v24, val_main_v23, val_main_v22, val_main_v8, normed x0]
  rfl

theorem p_gate (i : Fin 4096) (l : Fin 2816) : val_main_v25 (F := Ideal) x0 x2 x4 (ix3 0 i l) = gate (P x2 x3 x4 x5) (fr x0 i) l := by
  pointwise [val_main_v25, val_main_v3, val_main_v2, val_main_v1, p_h x0 x2 x3 x4 x5]
  rfl

theorem p_up (i : Fin 4096) (l : Fin 2816) : val_main_v26 (F := Ideal) x0 x2 x4 (ix3 0 i l) = up (P x2 x3 x4 x5) (fr x0 i) l := by
  pointwise [val_main_v26, val_main_v6, val_main_v5, val_main_v4, p_h x0 x2 x3 x4 x5]
  rfl

theorem p_sg (i : Fin 4096) (l : Fin 2816) : val_main_v27_2 (F := Ideal) x0 x2 x4 (ix3 0 i l) = sg (P x2 x3 x4 x5) (fr x0 i) l := by
  pointwise [val_main_v27_2, val_main_call0_v4, val_main_call0_cst_0, val_main_call0_v3, val_main_call0_v2, val_main_call0_cst, val_main_call0_v1, val_main_call0_v0, p_gate x0 x2 x3 x4 x5]
  rw [← zero_sub]; rfl

theorem p_si (i : Fin 4096) (l : Fin 2816) : val_main_v27_0 (F := Ideal) x0 x2 x4 (ix3 0 i l) = si (P x2 x3 x4 x5) (fr x0 i) l := by
  pointwise [val_main_v27_0, p_gate x0 x2 x3 x4 x5, p_sg x0 x2 x3 x4 x5]
  rfl

theorem p_act (i : Fin 4096) (l : Fin 2816) : val_main_v28 (F := Ideal) x0 x2 x4 (ix3 0 i l) = act (P x2 x3 x4 x5) (fr x0 i) l := by
  pointwise [val_main_v28, p_si x0 x2 x3 x4 x5, p_up x0 x2 x3 x4 x5]
  rfl

theorem p_x2 (i : Fin 4096) (k : Fin 1024) : val_main_v30 (F := Ideal) x0 x2 x4 x5 (ix3 0 i k) = Ffn.x2 (P x2 x3 x4 x5) (fr x0 i) k := by
  pointwise [val_main_v30, val_main_v0, val_main_v29, val_main_v7, p_act x0 x2 x3 x4 x5]
  rfl

theorem meansq2 (i : Fin 4096) : val_main_v38 (F := Ideal) x0 x2 x4 x5 (ix3 0 i 0) = Rms.ms (Ffn.x2 (P x2 x3 x4 x5) (fr x0 i)) := by
  pointwise [val_main_v38, val_main_v37, val_main_v36, val_main_v35, val_main_v34, val_main_v33, val_main_v32, val_main_cst_3, val_main_cst_4, val_main_cst_5, p_x2 x0 x2 x3 x4 x5]
  rfl

theorem invroot2 (i : Fin 4096) : val_main_v39 (F := Ideal) x0 x2 x4 x5 (ix3 0 i 0) = Rms.rs (Ffn.x2 (P x2 x3 x4 x5) (fr x0 i)) := by
  pointwise [val_main_v39, meansq2 x0 x2 x3 x4 x5]
  rfl

theorem normed2 (i : Fin 4096) (k : Fin 1024) : val_main_v44 (F := Ideal) x0 x2 x4 x5 (ix3 0 i k) = Rms.hat (Ffn.x2 (P x2 x3 x4 x5) (fr x0 i)) k := by
  pointwise [val_main_v44, val_main_v43, invroot2 x0 x2 x3 x4 x5, p_x2 x0 x2 x3 x4 x5]
  rfl

theorem p_err (i : Fin 4096) (k : Fin 1024) : val_main_v48 (F := Ideal) x0 x1 x2 x3 x4 x5 (ix3 0 i k) = err (P x2 x3 x4 x5) (fr x0 i) (gr x1 i) k := by
  pointwise [val_main_v48, val_main_v47, val_main_v46, val_main_v45, val_main_v31, normed2 x0 x2 x3 x4 x5]
  rfl

section Finite

variable (h0 : ∀ y, Reals.IsR (x0 y)) (h1 : ∀ y, Reals.IsR (x1 y)) (h2 : ∀ y, Reals.IsR (x2 y)) (h3 : ∀ y, Reals.IsR (x3 y))
  (h4 : ∀ y, Reals.IsR (x4 y)) (h5 : ∀ y, Reals.IsR (x5 y))

include h2 h3 h4 h5 in
theorem real_p : (P x2 x3 x4 x5).Real where
  gf _ := h2 _
  gn _ := h3 _
  wg _ _ := h4 _
  wu _ _ := h4 _
  wd _ _ := h5 _

include h0 h1 h2 h3 h4 h5

/-! The loss. -/

theorem loss : val_main_v56 (F := Ideal) x0 x1 x2 x3 x4 x5 = fun _ => ∑ j, ∑ i, sq (P x2 x3 x4 x5) (fr x0 i) (gr x1 i) j * halfInvD := by
  funext y
  have hp := real_p x2 x3 x4 x5 h2 h3 h4 h5
  refine Eq.trans ?_ (loss_eq fun i j => isR_sq hp (f := (fr x0 i)) (g := (gr x1 i)) (fun _ => h0 _) (fun _ => h1 _) j)
  have e : val_main_v55 (F := Ideal) x0 x1 x2 x3 x4 x5 y = ∑ i : Fin 4096, val_main_v54 (F := Ideal) x0 x1 x2 x3 x4 x5 (ix2 0 i) := by
    refine (Sums.reduce_eq _ _ _ _ (fun (_ : S_.Idx) (k : Fin 4096) => (ix2 0 k : S1x4096.Idx)) (fun j k => Subsingleton.elim _ _)
      (fun i => ⟨i 1, funext fun b => match b with
        | ⟨0, _⟩ => Subsingleton.elim (α := Fin 1) _ _
        | ⟨1, _⟩ => rfl⟩)
      (fun j a b h => congrFun h 1) _).trans ?_
    rw [show val_main_cst_10 (F := Ideal) (Shape.Idx.first h_S_) = (0 : EReal) by pointwise [val_main_cst_10], zero_add]
  have e2 (i : Fin 4096) : val_main_v54 (F := Ideal) x0 x1 x2 x3 x4 x5 (ix2 0 i) = Ideal.div (∑ j, sq (P x2 x3 x4 x5) (fr x0 i) (gr x1 i) j) Cert.Gmlp.width := by
    pointwise [val_main_v54, val_main_v53, val_main_v52, val_main_v49, val_main_cst_8, val_main_cst_9, p_err x0 x1 x2 x3 x4 x5]
    rfl
  simp only [e2] at e
  show Ideal.ofBits .f32 0x3F000000#32 * val_main_v55 (F := Ideal) x0 x1 x2 x3 x4 x5 y = _
  rw [e]

/-! Backward. -/

theorem p_dy (i : Fin 4096) (k : Fin 1024) : val_main_v62 (F := Ideal) x0 x1 x2 x3 x4 x5 (ix3 0 i k) = dy (P x2 x3 x4 x5) (fr x0 i) (gr x1 i) k := by
  pointwise [val_main_v62, val_main_v61, val_main_v60, val_main_v59, val_main_v58, val_main_v57, val_main_v51, val_main_v50, val_main_cst_7, val_main_cst_12, val_main_cst_13, val_main_cst_14, p_err x0 x1 x2 x3 x4 x5]
  exact dy_eq (real_p x2 x3 x4 x5 h2 h3 h4 h5) (fun _ => h0 _) (fun _ => h1 _) k

theorem d_hat2 (i : Fin 4096) (k : Fin 1024) : val_main_v67 (F := Ideal) x0 x1 x2 x3 x4 x5 (ix3 0 i k) = dy (P x2 x3 x4 x5) (fr x0 i) (gr x1 i) k * x3 (ix1 k) := by
  pointwise [val_main_v67, val_main_v66, val_main_v45, p_dy x0 x1 x2 x3 x4 x5 h0 h1 h2 h3 h4 h5]

theorem through_mean2 (i : Fin 4096) (k : Fin 1024) : val_main_v79 (F := Ideal) x0 x1 x2 x3 x4 x5 (ix3 0 i k)
    = Ideal.div ((∑ k, (Ffn.x2 (P x2 x3 x4 x5) (fr x0 i)) k * (dy (P x2 x3 x4 x5) (fr x0 i) (gr x1 i) k * x3 (ix1 k))) * (Ideal.ofBits .f32 0xBF000000#32 * Ideal.div (Rms.rs (Ffn.x2 (P x2 x3 x4 x5) (fr x0 i))) (Rms.ms (Ffn.x2 (P x2 x3 x4 x5) (fr x0 i))))) Cert.Gmlp.width := by
  have e : val_main_v77 (F := Ideal) x0 x1 x2 x3 x4 x5 (ix1 i) = val_main_v76 (F := Ideal) x0 x1 x2 x3 x4 x5 (ix3 0 i 0) :=
    Sums.drop_row_units _ _ _ _ (by pointwise [val_main_cst_19]) i
  pointwise [val_main_v79, val_main_v78, val_main_v76, val_main_v75, val_main_v74, val_main_v71, val_main_v70, val_main_v69, val_main_v42, val_main_v41, val_main_v40, val_main_cst_6, val_main_cst_17, val_main_cst_18, e, d_hat2 x0 x1 x2 x3 x4 x5 h0 h1 h2 h3 h4 h5, p_x2 x0 x2 x3 x4 x5, meansq2 x0 x2 x3 x4 x5, invroot2 x0 x2 x3 x4 x5]
  rfl

theorem p_dx2 (i : Fin 4096) (k : Fin 1024) : val_main_v83 (F := Ideal) x0 x1 x2 x3 x4 x5 (ix3 0 i k) = dx2 (P x2 x3 x4 x5) (fr x0 i) (gr x1 i) k := by
  have hp := real_p x2 x3 x4 x5 h2 h3 h4 h5
  have e := Rms.norm_grad (f := Ffn.x2 (P x2 x3 x4 x5) (fr x0 i)) (d := fun k => dy (P x2 x3 x4 x5) (fr x0 i) (gr x1 i) k * x3 (ix1 k)) (isR_x2 hp fun _ => h0 _)
    (fun k => (isR_dy hp (fun _ => h0 _) (fun _ => h1 _) k).mul (h3 _)) k _ rfl
  show _ = Rms.back (Ffn.x2 (P x2 x3 x4 x5) (fr x0 i)) (fun k => dy (P x2 x3 x4 x5) (fr x0 i) (gr x1 i) k * x3 (ix1 k)) k
  rw [← e, ← add_assoc]
  pointwise [val_main_v83, val_main_v82, val_main_v81, val_main_v80, val_main_v73, val_main_v72, through_mean2 x0 x1 x2 x3 x4 x5 h0 h1 h2 h3 h4 h5, d_hat2 x0 x1 x2 x3 x4 x5 h0 h1 h2 h3 h4 h5, p_x2 x0 x2 x3 x4 x5, invroot2 x0 x2 x3 x4 x5]

theorem p_dact (i : Fin 4096) (l : Fin 2816) : val_main_v84 (F := Ideal) x0 x1 x2 x3 x4 x5 (ix3 0 i l) = dact (P x2 x3 x4 x5) (fr x0 i) (gr x1 i) l := by
  pointwise [val_main_v84, val_main_v7, p_dx2 x0 x1 x2 x3 x4 x5 h0 h1 h2 h3 h4 h5]
  rfl

theorem p_dup (i : Fin 4096) (l : Fin 2816) : val_main_v85 (F := Ideal) x0 x1 x2 x3 x4 x5 (ix3 0 i l) = dup (P x2 x3 x4 x5) (fr x0 i) (gr x1 i) l := by
  pointwise [val_main_v85, p_dact x0 x1 x2 x3 x4 x5 h0 h1 h2 h3 h4 h5, p_si x0 x2 x3 x4 x5]
  exact mul_comm _ _

theorem p_dgate (i : Fin 4096) (l : Fin 2816) : val_main_v87 (F := Ideal) x0 x1 x2 x3 x4 x5 (ix3 0 i l) = dgate (P x2 x3 x4 x5) (fr x0 i) (gr x1 i) l := by
  pointwise [val_main_v87, val_main_call1_v2, val_main_call1_v1, val_main_call1_v0, val_main_v27_1, val_main_call0_v7, val_main_call0_v6, val_main_call0_cst_1, val_main_v86, p_dact x0 x1 x2 x3 x4 x5 h0 h1 h2 h3 h4 h5, p_up x0 x2 x3 x4 x5, p_gate x0 x2 x3 x4 x5, p_sg x0 x2 x3 x4 x5]
  exact dgate_eq (real_p x2 x3 x4 x5 h2 h3 h4 h5) (fun _ => h0 _) (fun _ => h1 _) l

theorem p_dh (i : Fin 4096) (k : Fin 1024) : val_main_v90 (F := Ideal) x0 x1 x2 x3 x4 x5 (ix3 0 i k) = dh (P x2 x3 x4 x5) (fr x0 i) (gr x1 i) k := by
  pointwise [val_main_v90, val_main_v89, val_main_v88, val_main_v6, val_main_v5, val_main_v4, val_main_v3, val_main_v2, val_main_v1, p_dup x0 x1 x2 x3 x4 x5 h0 h1 h2 h3 h4 h5, p_dgate x0 x1 x2 x3 x4 x5 h0 h1 h2 h3 h4 h5]
  exact add_comm _ _

theorem d_hat1 (i : Fin 4096) (k : Fin 1024) : val_main_v95 (F := Ideal) x0 x1 x2 x3 x4 x5 (ix3 0 i k) = dh (P x2 x3 x4 x5) (fr x0 i) (gr x1 i) k * x2 (ix2 0 k) := by
  pointwise [val_main_v95, val_main_v94, val_main_v22, val_main_v8, p_dh x0 x1 x2 x3 x4 x5 h0 h1 h2 h3 h4 h5]

theorem through_mean1 (i : Fin 4096) (k : Fin 1024) : val_main_v107 (F := Ideal) x0 x1 x2 x3 x4 x5 (ix3 0 i k)
    = Ideal.div ((∑ k, (fr x0 i) k * (dh (P x2 x3 x4 x5) (fr x0 i) (gr x1 i) k * x2 (ix2 0 k))) * (Ideal.ofBits .f32 0xBF000000#32 * Ideal.div (Rms.rs (fr x0 i)) (Rms.ms (fr x0 i)))) Cert.Gmlp.width := by
  have e : val_main_v105 (F := Ideal) x0 x1 x2 x3 x4 x5 (ix1 i) = val_main_v104 (F := Ideal) x0 x1 x2 x3 x4 x5 (ix3 0 i 0) :=
    Sums.drop_row_units _ _ _ _ (by pointwise [val_main_cst_24]) i
  pointwise [val_main_v107, val_main_v106, val_main_v104, val_main_v103, val_main_v102, val_main_v99, val_main_v98, val_main_v97, val_main_v19, val_main_v18, val_main_v17, val_main_v0, val_main_cst_2, val_main_cst_22, val_main_cst_23, e, d_hat1 x0 x1 x2 x3 x4 x5 h0 h1 h2 h3 h4 h5, meansq x0, invroot x0]
  rfl

theorem p_dx1 (i : Fin 4096) (k : Fin 1024) : val_main_v113 (F := Ideal) x0 x1 x2 x3 x4 x5 (ix3 0 i k) = dx1 (P x2 x3 x4 x5) (fr x0 i) (gr x1 i) k := by
  have hp := real_p x2 x3 x4 x5 h2 h3 h4 h5
  have e := Rms.norm_grad (f := (fr x0 i)) (d := fun k => dh (P x2 x3 x4 x5) (fr x0 i) (gr x1 i) k * x2 (ix2 0 k)) (fun _ => h0 _)
    (fun k => (isR_dh hp (fun _ => h0 _) (fun _ => h1 _) k).mul (h2 _)) k _ rfl
  show _ = dx2 (P x2 x3 x4 x5) (fr x0 i) (gr x1 i) k + Rms.back (fr x0 i) (fun k => dh (P x2 x3 x4 x5) (fr x0 i) (gr x1 i) k * x2 (ix2 0 k)) k
  rw [← e, ← add_assoc (dh (P x2 x3 x4 x5) (fr x0 i) (gr x1 i) k * x2 (ix2 0 k) * _)]
  pointwise [val_main_v113, val_main_v111, val_main_v110, val_main_v109, val_main_v108, val_main_v101, val_main_v100, val_main_v0, through_mean1 x0 x1 x2 x3 x4 x5 h0 h1 h2 h3 h4 h5, d_hat1 x0 x1 x2 x3 x4 x5 h0 h1 h2 h3 h4 h5, p_dx2 x0 x1 x2 x3 x4 x5 h0 h1 h2 h3 h4 h5, invroot x0]
  rfl

/-! The results. -/

theorem act_out : val_main_v115 (F := Ideal) x0 x2 x4 = fun y => act (P x2 x3 x4 x5) (fr x0 (y 0)) (y 1) := by
  funext y
  obtain ⟨i, k, rfl⟩ := exists_ix2 (a := 4096) (b := 2816) y
  pointwise [val_main_v115, val_main_v114, p_act x0 x2 x3 x4 x5]

theorem dx2_out : val_main_v117 (F := Ideal) x0 x1 x2 x3 x4 x5 = fun y => dx2 (P x2 x3 x4 x5) (fr x0 (y 0)) (gr x1 (y 0)) (y 1) := by
  funext y
  obtain ⟨i, k, rfl⟩ := exists_ix2 (a := 4096) (b := 1024) y
  pointwise [val_main_v117, val_main_v116, p_dx2 x0 x1 x2 x3 x4 x5 h0 h1 h2 h3 h4 h5]

theorem h_out : val_main_v119 (F := Ideal) x0 x2 = fun y => h (P x2 x3 x4 x5) (fr x0 (y 0)) (y 1) := by
  funext y
  obtain ⟨i, k, rfl⟩ := exists_ix2 (a := 4096) (b := 1024) y
  pointwise [val_main_v119, val_main_v118, p_h x0 x2 x3 x4 x5]

theorem dx1_out : val_main_v122 (F := Ideal) x0 x1 x2 x3 x4 x5 = fun y => dx1 (P x2 x3 x4 x5) (fr x0 (y 0)) (gr x1 (y 0)) (y 1) := by
  funext y
  obtain ⟨i, k, rfl⟩ := exists_ix2 (a := 4096) (b := 1024) y
  pointwise [val_main_v122, p_dx1 x0 x1 x2 x3 x4 x5 h0 h1 h2 h3 h4 h5]

theorem dx1_cast : val_main_v124 (F := Ideal) x0 x1 x2 x3 x4 x5 = fun y => dx1 (P x2 x3 x4 x5) (fr x0 (y 0)) (gr x1 (y 0)) (y 1) := by
  funext y
  obtain ⟨i, k, rfl⟩ := exists_ix2 (a := 4096) (b := 1024) y
  pointwise [val_main_v124, val_main_v123, p_dx1 x0 x1 x2 x3 x4 x5 h0 h1 h2 h3 h4 h5]

theorem dgu_out : val_main_v121 (F := Ideal) x0 x1 x2 x3 x4 x5 = fun y => dgu (P x2 x3 x4 x5) (fr x0 (y 1)) (gr x1 (y 1)) (y 0) (y 2) := by
  funext y
  obtain ⟨c, i, l, rfl⟩ := exists_ix3 (a := 2) (b := 4096) (d := 2816) y
  show _ = dgu (P x2 x3 x4 x5) (fr x0 i) (gr x1 i) c l
  unfold dgu
  obtain ⟨c, hc⟩ := c
  pointwise [val_main_v121, val_main_v120]
  rcases (by omega : c = 0 ∨ c = 1) with rfl | rfl
  · rw [dif_pos (by omega), if_pos rfl]; exact p_dgate x0 x1 x2 x3 x4 x5 h0 h1 h2 h3 h4 h5 i l
  · rw [dif_neg (by omega)]; exact (p_dup x0 x1 x2 x3 x4 x5 h0 h1 h2 h3 h4 h5 i l).trans (if_neg Nat.one_ne_zero).symm

theorem dgn_out : val_main_v68 (F := Ideal) x0 x1 x2 x3 x4 x5 = fun y => ∑ i, dgn (P x2 x3 x4 x5) (fr x0 i) (gr x1 i) (y 0) := by
  funext y
  obtain ⟨j, rfl⟩ : ∃ j : Fin 1024, y = ix1 j := ⟨y 0, funext fun k => by match k with | ⟨0, _⟩ => rfl⟩
  refine (Sums.drop_units _ _ _ _ (by pointwise [val_main_cst_16]) j).trans ?_
  pointwise [val_main_v65, val_main_v64, val_main_v63, val_main_cst_15, normed2 x0 x2 x3 x4 x5, p_dy x0 x1 x2 x3 x4 x5 h0 h1 h2 h3 h4 h5]
  exact Finset.sum_congr rfl fun i _ => mul_comm _ _

theorem dgf_out : val_main_v125 (F := Ideal) x0 x1 x2 x3 x4 x5 = fun y => ∑ i, dgf (P x2 x3 x4 x5) (fr x0 i) (gr x1 i) (y 0) := by
  funext y
  obtain ⟨j, rfl⟩ : ∃ j : Fin 1024, y = ix1 j := ⟨y 0, funext fun k => by match k with | ⟨0, _⟩ => rfl⟩
  have e : val_main_v96 (F := Ideal) x0 x1 x2 x3 x4 x5 (ix1 j) = val_main_v93 (F := Ideal) x0 x1 x2 x3 x4 x5 (ix3 0 0 j) :=
    Sums.drop_units _ _ _ _ (by pointwise [val_main_cst_21]) j
  pointwise [val_main_v125, val_main_v112, e, val_main_v93, val_main_v92, val_main_v91, val_main_cst_20, normed x0, p_dh x0 x1 x2 x3 x4 x5 h0 h1 h2 h3 h4 h5]
  exact Finset.sum_congr rfl fun i _ => mul_comm _ _

end Finite

end Cert.FfnRefIdeal.RefValue

end
-- ==== Proof.Ffn.lean ====
/-
  The claims about the feed-forward part: where the arguments are real numbers, what the two runs leave is the same function
  of them.
-/
module

public import proofs.«01_k».proof.Defs
public import proofs.«01_k».proof.Proof.FfnValue
public import proofs.«01_k».proof.Proof.FfnRef
public import proofs.«01_k».proof.Proof.Gen.FfnRefIdeal.Run
public import proofs.«01_k».proof.Proof.Gen.Pre_ffn_finite
public import Idealize.ShloMosaic.Lib.Claim

@[expose] public section

set_option maxRecDepth 16384

noncomputable section

open Idealize.ShloMosaic Idealize.ShloMosaic.TcCoe Idealize.SL.Sem

namespace Cert.Proof.Ffn

open Cert.Ffn Cert.FfnIdeal.KValue Cert.FfnRefIdeal.RefValue Cert.Reals

/-- What the precondition says of the arguments: each is a real number throughout. -/
theorem finite {x0 x1 : Cert.Pre_ffn_finite.S4096x1024.Idx → EReal} {x2 : Cert.Pre_ffn_finite.S1x1024.Idx → EReal}
    {x3 : Cert.Pre_ffn_finite.S1024.Idx → EReal} {x4 : Cert.Pre_ffn_finite.S2x1024x2816.Idx → EReal}
    {x5 : Cert.Pre_ffn_finite.S2816x1024.Idx → EReal}
    (h : Cert.Pre_ffn_finite.fn (F := Ideal) x0 x1 x2 x3 x4 x5 = fun _ => 1#1) :
    (∀ y, IsR (x0 y)) ∧ (∀ y, IsR (x1 y)) ∧ (∀ y, IsR (x2 y)) ∧ (∀ y, IsR (x3 y)) ∧ (∀ y, IsR (x4 y)) ∧ (∀ y, IsR (x5 y)) := by
  have h := congrFun h ix0
  unfold Cert.Pre_ffn_finite.fn Cert.Pre_ffn_finite.fn_part1 at h
  obtain ⟨h, a5⟩ := IntOp.andi_eq_one.1 h
  obtain ⟨h, a4⟩ := IntOp.andi_eq_one.1 h
  obtain ⟨h, a3⟩ := IntOp.andi_eq_one.1 h
  obtain ⟨h, a2⟩ := IntOp.andi_eq_one.1 h
  obtain ⟨a0, a1⟩ := IntOp.andi_eq_one.1 h
  exact ⟨fun y => isR_of_cmp (Host.reduce_andi_all _ _ _ _ _ a0 y), fun y => isR_of_cmp (Host.reduce_andi_all _ _ _ _ _ a1 y),
    fun y => isR_of_cmp (Host.reduce_andi_all _ _ _ _ _ a2 y), fun y => isR_of_cmp (Host.reduce_andi_all _ _ _ _ _ a3 y),
    fun y => isR_of_cmp (Host.reduce_andi_all _ _ _ _ _ a4 y), fun y => isR_of_cmp (Host.reduce_andi_all _ _ _ _ _ a5 y)⟩

/-- Both runs end with the loss, its gradients and the saved arrays as the same functions of the arguments. -/
theorem algebraic : Cert.algebraic_FfnIdeal_FfnRefIdeal_pre_ffn_finite := by
  intro m ρ m' ρ' hpre hagree
  refine ⟨G6 m, G7 m, G8 m, G9 m, G10 m, G11 m, fun c => lossOut m c, fun c => dgfOut m c, fun c => dgnOut m c,
    (θ_run Cert.FfnIdeal.defs _ _).mono (fun r h c => ?_) (Cert.FfnIdeal.Value.run m ρ), ?_⟩
  · obtain ⟨h0, h1, h2, h3, h4, h5⟩ := finite (hpre c)
    obtain ⟨r0, r1, r2, r3, r4, r5, r6, r7, r8, hargs⟩ := h c
    exact ⟨r0.trans (final6 m c), r1.trans (final7 m c), r2.trans (final8 m c), r3.trans (final9 m c), r4.trans (final10 m c),
      r5.trans (final11 m c), r6.trans (tail4 m c fun i j => isR_sq (p := Pm m c) ⟨fun _ => h2 _, fun _ => h3 _, fun _ _ => h4 _, fun _ _ => h4 _, fun _ _ => h5 _⟩
        (fun _ => h0 _) (fun _ => h1 _) j), r7.trans (tail7 m c), r8.trans (tail10 m c), hargs⟩
  · refine (θ_run Cert.FfnRefIdeal.defs _ _).mono (fun r h c => ?_) (Cert.FfnRefIdeal.Value.run (F := Ideal) m' ρ')
    obtain ⟨e0, e1, e2, e3, e4, e5⟩ := hagree c
    obtain ⟨h0, h1, h2, h3, h4, h5⟩ := finite (hpre c)
    obtain ⟨r0, r1, r2, r3, r4, r5, r6, r7, r8, hargs⟩ := h c
    refine ⟨r0.trans ?_, r1.trans ?_, r2.trans ?_, r3.trans ?_, r4.trans ?_, r5.trans ?_, r6.trans ?_, r7.trans ?_, r8.trans ?_, hargs⟩
    · refine (Cert.FfnRefIdeal.Read.val_main_v115_eq _).trans ?_
      unfold StableHlo.launchContents
      rw [e0, e2, e4]
      exact act_out _ (Tg m c) _ (Gn m c) _ (Wd m c) h0 h1 h2 h3 h4 h5
    · refine (Cert.FfnRefIdeal.Read.val_main_v117_eq _).trans ?_
      unfold StableHlo.launchContents
      rw [e0, e1, e2, e3, e4, e5]
      exact dx2_out _ _ _ _ _ _ h0 h1 h2 h3 h4 h5
    · refine (Cert.FfnRefIdeal.Read.val_main_v119_eq _).trans ?_
      unfold StableHlo.launchContents
      rw [e0, e2]
      exact h_out _ (Tg m c) _ (Gn m c) (Wgu m c) (Wd m c) h0 h1 h2 h3 h4 h5
    · refine (Cert.FfnRefIdeal.Read.val_main_v121_eq _).trans ?_
      unfold StableHlo.launchContents
      rw [e0, e1, e2, e3, e4, e5]
      exact dgu_out _ _ _ _ _ _ h0 h1 h2 h3 h4 h5
    · refine (Cert.FfnRefIdeal.Read.val_main_v122_eq _).trans ?_
      unfold StableHlo.launchContents
      rw [e0, e1, e2, e3, e4, e5]
      exact dx1_out _ _ _ _ _ _ h0 h1 h2 h3 h4 h5
    · refine (Cert.FfnRefIdeal.Read.val_main_v124_eq _).trans ?_
      unfold StableHlo.launchContents
      rw [e0, e1, e2, e3, e4, e5]
      exact dx1_cast _ _ _ _ _ _ h0 h1 h2 h3 h4 h5
    · refine (Cert.FfnRefIdeal.Read.val_main_v56_eq _).trans ?_
      unfold StableHlo.launchContents
      rw [e0, e1, e2, e3, e4, e5]
      exact loss _ _ _ _ _ _ h0 h1 h2 h3 h4 h5
    · refine (Cert.FfnRefIdeal.Read.val_main_v125_eq _).trans ?_
      unfold StableHlo.launchContents
      rw [e0, e1, e2, e3, e4, e5]
      exact dgf_out _ _ _ _ _ _ h0 h1 h2 h3 h4 h5
    · refine (Cert.FfnRefIdeal.Read.val_main_v68_eq _).trans ?_
      unfold StableHlo.launchContents
      rw [e0, e1, e2, e3, e4, e5]
      exact dgn_out _ _ _ _ _ _ h0 h1 h2 h3 h4 h5

/-- The reference ends with its arguments unchanged and every counter at zero: it declares no semaphore. -/
theorem frame : Cert.quiescent_FfnRefIdeal := fun m ρ _ =>
  (θ_run Cert.FfnRefIdeal.defs _ _).mono (fun r h => ⟨fun c => (h c).2.2.2.2.2.2.2.2.2, sem_eq_zero_of_no_sems (by decide) r.2⟩)
    (Cert.FfnRefIdeal.Value.run (F := Ideal) m ρ)

end Cert.Proof.Ffn

end
-- ==== Proof.GmlpFwdValue.lean ====
/-
  The gated spatial mixing itself, kernel side: what `GmlpFwdIdeal`'s run leaves in its result, element by element. A block
  has 512 rows, four chunks of 128.
-/
module

public import proofs.«01_k».proof.Proof.Gen.GmlpFwdIdeal.Value
public import proofs.«01_k».proof.Proof.GmlpSpec
public import Idealize.ShloMosaic.Rules

@[expose] public section

set_option maxRecDepth 16384
set_option maxHeartbeats 4000000

noncomputable section

open Idealize.ShloMosaic Idealize.ShloMosaic.TcCoe Idealize.SL.Sem
open Idealize.ShloMosaic.Pipeline (Dat)

namespace Cert.GmlpFwdIdeal.KValue

open Cert.GmlpFwdIdeal Cert.GmlpFwdIdeal.Gen Cert.Blocks Cert.Pieces Cert.Gmlp

theorem named1 : (Named.named κ "gelu_c1" 0x3D372713#32 : Ideal .f32) = c1 :=
  (IdealRules.named_const.ideal_named_scalar _ _ _ _ rfl).trans (by norm_num [c1])

/-- Row `t` of chunk `q` of a block. -/
def brow (q : Fin 4) (t : Fin 128) : Fin 512 := ⟨q.val * 128 + t.val, by omega⟩
def bchunk (r : Fin 512) : Fin 4 := ⟨r.val / 128, by omega⟩
def brest (r : Fin 512) : Fin 128 := ⟨r.val % 128, by omega⟩

theorem exists_brow (r : Fin 512) : ∃ q t, r = brow q t := ⟨bchunk r, brest r, Fin.ext (Nat.div_add_mod' _ _).symm⟩
theorem bchunk_brow (q : Fin 4) (t : Fin 128) : bchunk (brow q t) = q := Fin.ext (by simp only [bchunk, brow]; omega)
theorem brest_brow (q : Fin 4) (t : Fin 128) : brest (brow q t) = t := Fin.ext (by simp only [brest, brow]; omega)

/-- Four chunks mixed side by side and stacked again, read at a row of the block: the chunk the row lies in, mixed. -/
theorem stacked (w : Fin 128 → Fin 128 → EReal) (b : Fin 128 → EReal) (v : Fin 512 → EReal) (r : Fin 512) :
    (if h : r.val < 128 then ∑ x : Fin 128, w ⟨r.val, h⟩ x * v ⟨x.val, by omega⟩ + b ⟨r.val, h⟩
      else if h : r.val - 128 < 128 then ∑ x : Fin 128, w ⟨r.val - 128, h⟩ x * v ⟨128 + x.val, by omega⟩ + b ⟨r.val - 128, h⟩
      else if h : r.val - 128 - 128 < 128 then ∑ x : Fin 128, w ⟨r.val - 128 - 128, h⟩ x * v ⟨256 + x.val, by omega⟩ + b ⟨r.val - 128 - 128, h⟩
      else ∑ x : Fin 128, w ⟨r.val - 128 - 128 - 128, by omega⟩ x * v ⟨384 + x.val, by omega⟩ + b ⟨r.val - 128 - 128 - 128, by omega⟩)
    = ∑ s, w (brest r) s * v (brow (bchunk r) s) + b (brest r) := by
  obtain ⟨q, t, rfl⟩ := exists_brow r
  have e (n : ℕ) (p : n < 128) (hn : n = t.val) : (⟨n, p⟩ : Fin 128) = t := Fin.ext hn
  rw [brest_brow, bchunk_brow]
  rcases (by omega : q = 0 ∨ q = 1 ∨ q = 2 ∨ q = 3) with rfl | rfl | rfl | rfl
  · have h0 : (brow 0 t).val < 128 := by simp [brow]
    rw [dif_pos h0, e _ _ (by simp [brow])]
    exact congrArg (· + _) (Finset.sum_congr rfl fun x _ => congrArg (fun k => _ * v k) (Fin.ext (by simp [brow])))
  · have h0 : (brow 1 t).val = 128 + t.val := by simp [brow]
    rw [dif_neg (by omega), dif_pos (by omega), e _ _ (by omega)]
    exact congrArg (· + _) (Finset.sum_congr rfl fun x _ => congrArg (fun k => _ * v k) (Fin.ext (by simp [brow])))
  · have h0 : (brow 2 t).val = 256 + t.val := by simp [brow]
    rw [dif_neg (by omega), dif_neg (by omega), dif_pos (by omega), e _ _ (by omega)]
    exact congrArg (· + _) (Finset.sum_congr rfl fun x _ => congrArg (fun k => _ * v k) (Fin.ext (by simp [brow])))
  · have h0 : (brow 3 t).val = 384 + t.val := by simp [brow]
    rw [dif_neg (by omega), dif_neg (by omega), dif_neg (by omega), e _ _ (by omega)]
    exact congrArg (· + _) (Finset.sum_congr rfl fun x _ => congrArg (fun k => _ * v k) (Fin.ext (by simp [brow])))

/-- The same on the arrays of the body, at column `j` of group `g`. -/
theorem tile (gu : FVec Ideal S512x1024 .f32) (vn : FVec Ideal S512x1024 .bf16) (w : Vec Ideal S8x128x128 .bf16) (b : Vec Ideal S128x8 .f32)
    (g : Fin 8) (r : Fin 512) (j : Fin 1024) :
    gu (ix2 r j) * (if h : r.val < 128 then ∑ x : Fin 128, w (ix3 g ⟨r.val, h⟩ x) * vn (ix2 ⟨x.val, by omega⟩ j) + b (ix2 ⟨r.val, h⟩ g)
      else if h : r.val - 128 < 128 then ∑ x : Fin 128, w (ix3 g ⟨r.val - 128, h⟩ x) * vn (ix2 ⟨128 + x.val, by omega⟩ j) + b (ix2 ⟨r.val - 128, h⟩ g)
      else if h : r.val - 128 - 128 < 128 then
        ∑ x : Fin 128, w (ix3 g ⟨r.val - 128 - 128, h⟩ x) * vn (ix2 ⟨256 + x.val, by omega⟩ j) + b (ix2 ⟨r.val - 128 - 128, h⟩ g)
      else ∑ x : Fin 128, w (ix3 g ⟨r.val - 128 - 128 - 128, by omega⟩ x) * vn (ix2 ⟨384 + x.val, by omega⟩ j) + b (ix2 ⟨r.val - 128 - 128 - 128, by omega⟩ g))
    = gu (ix2 r j) * (∑ s, w (ix3 g (brest r) s) * vn (ix2 (brow (bchunk r) s) j) + b (ix2 (brest r) g)) :=
  congrArg _ (stacked (fun t s => w (ix3 g t s)) (fun t => b (ix2 t g)) (fun k => vn (ix2 k j)) r)

/-! ## What the body leaves in its block -/

/-- The gated rows of a block: `gu` the rectified first component, `vn` the normalised second one. -/
def gated (gu : FVec Ideal S512x1024 .f32) (vn : FVec Ideal S512x1024 .bf16) (w : Vec Ideal S8x128x128 .bf16) (b : Vec Ideal S128x8 .f32)
    (y : S512x1024.Idx) : EReal :=
  gu y * mix (fun g t s => w (ix3 g t s)) (fun g t => b (ix2 t g)) (fun s j => vn (ix2 (brow (bchunk (y 0)) s) j)) (brest (y 0)) (y 1)

section Body

variable (c : Dev nD) (i : grid0.Coords) (arg1 : Memref sig .tc .vmem S1x512x1024 .f32) (harg1 : arg1.IsWhole) (arg2 : Memref sig .tc .vmem S1x512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S8x128x128 .bf16) (harg5 : arg5.IsWhole) (arg6 : Memref sig .tc .vmem S128x8 .f32) (harg6 : arg6.IsWhole) (arg7 : Memref sig .tc .vmem S512x1024 .bf16) (harg7 : arg7.IsWhole) (arg8 : Memref sig .tc .vmem S512x1024 .f32) (harg8 : arg8.IsWhole)
  (x0 x1 : Vec Ideal S1x512x1024 .f32) (x2 x3 : Vec Ideal S1x1024 .f32) (x4 : Vec Ideal S8x128x128 .bf16) (x5 : Vec Ideal S128x8 .f32)

/-- The rectified first component, and the normalised second one. -/
abbrev GU := k0_pay3 (F := Ideal) x0
abbrev VN := k0_pay6 (F := Ideal) (k0_pay4 x1) (k0_pay5 x1) x2 x3

theorem out6_A : out0_A_6 (F := Ideal) c i arg1 harg1 arg2 harg2 arg3 harg3 arg4 harg4 arg5 harg5 arg6 harg6 arg7 harg7 arg8 harg8 x0 x1 x2 x3 x4 x5
    = gated (GU x0) (VN x1 x2 x3) x4 x5 := by
  unfold out0_A_6
  rw [View.read_writes_eq_canon _ _ _ (cover0_A_6 c i arg1 harg1 arg2 harg2 arg3 harg3 arg4 harg4 arg5 harg5 arg6 harg6 arg7 harg7 arg8 harg8 x0 x1 x2 x3 x4 x5)]
  unfold kernelRun0_A
  dsimp only
  sl_unfold_words
  simp only [View.readAt_eq_ld, harg1.read_unread, harg2.read_unread, harg3.read_unread, harg4.read_unread, harg5.read_unread, harg6.read_unread, harg7.read_unread, harg8.read_unread]
  simp (disch := decide) only [↓ View.readCov_skip, ↓ View.readCov_cons_toLoadRect, ↓ View.readCov_fill, View.ld_unit_lit']
  rw [readCov_of_tiles arg8.view (gated (GU x0) (VN x1 x2 x3) x4 x5) 8 ![512, 128] _ _ (by decide) (by sl_kernel_rfl) fun p hp x => ?tile]
  case tile =>
    simp only [List.take_succ_cons, List.take_zero, List.mem_cons, List.not_mem_nil, or_false] at hp
    rcases hp with rfl | rfl | rfl | rfl | rfl | rfl | rfl | rfl
    all_goals
      obtain ⟨r, l, rfl⟩ := exists_ix2 (a := 512) (b := 128) x
      rw [emb_ix2 (h0 := by omega) (h1 := by omega)]
      simp only [gated, mix, GU, VN, Matrix.cons_val_zero, Matrix.cons_val_one, ix2_0, ix2_1]
      simp (disch := decide) only [grp_add, lane_add]
      try unfold k0_pay7
      try unfold k0_pay9
      generalize k0_pay6 (k0_pay4 x1) (k0_pay5 x1) x2 x3 = vn, k0_pay3 x0 = gu
      unfold_payloads
      pointwise
      have e1 : 256 + l.val - 128 - 128 = l.val := by omega
      have e2 : 384 + l.val - 128 - 128 - 128 = l.val := by omega
      have l1 : ¬256 + l.val < 128 := by omega
      have l2 : ¬256 + l.val - 128 < 128 := by omega
      have l3 : ¬384 + l.val < 128 := by omega
      have l4 : ¬384 + l.val - 128 < 128 := by omega
      have l5 : ¬384 + l.val - 128 - 128 < 128 := by omega
      simp only [l1, l2, l3, l4, l5, e1, e2, l.isLt, dite_true, dite_false]
      exact tile _ _ _ _ _ _ _
  refine canon_of_tiles _ 1 ![512, 1024] _ (by sl_kernel_rfl) fun p hp x => ?_
  simp only [List.take_succ_cons, List.take_zero, List.mem_cons, List.not_mem_nil, or_false] at hp
  obtain rfl := hp
  obtain ⟨r, l, rfl⟩ := exists_ix2 (a := 512) (b := 1024) x
  rw [emb_ix2 (h0 := by omega) (h1 := by omega)]
  generalize gated (GU x0) (VN x1 x2 x3) x4 x5 = G
  unfold_payloads
  pointwise

end Body

/-! ## The vectors at an index -/

section At

variable (x0 x1 : Vec Ideal S1x512x1024 .f32) (x2 x3 : Vec Ideal S1x1024 .f32)

theorem GU_apply (r : Fin 512) (j : Fin 1024) : GU x0 (ix2 r j) = gelu (x0 (ix3 0 r j)) := by
  unfold GU; unfold_payloads; pointwise; simp only [named1]; rfl

theorem centred_apply (r : Fin 512) (j : Fin 1024) : k0_pay4 (F := Ideal) x1 (ix2 r j)
    = gelu (x1 (ix3 0 r j)) - mean fun k => gelu (x1 (ix3 0 r k)) := by
  unfold_payloads; pointwise; simp only [named1]; rfl

theorem var_apply (r : Fin 512) : k0_pay5 (F := Ideal) x1 (ix2 r 0) = mean fun j =>
    (gelu (x1 (ix3 0 r j)) - mean fun k => gelu (x1 (ix3 0 r k))) * (gelu (x1 (ix3 0 r j)) - mean fun k => gelu (x1 (ix3 0 r k))) := by
  simp only [← centred_apply]
  unfold k0_pay5
  pointwise
  rfl

theorem VN_apply (r : Fin 512) (j : Fin 1024) :
    VN x1 x2 x3 (ix2 r j) = hat (fun j => gelu (x1 (ix3 0 r j))) j * x2 (ix2 0 j) + x3 (ix2 0 j) := by
  unfold hat rs
  rw [← centred_apply, ← var_apply]
  unfold VN; generalize k0_pay4 x1 = X, k0_pay5 x1 = M; unfold_payloads; pointwise; rfl

end At

end Cert.GmlpFwdIdeal.KValue

end
-- ==== Proof.GmlpFwdBlocks.lean ====
/-
  The gated spatial mixing itself, kernel side: the blocks its windows read, and the array its run leaves.
-/
module

public import proofs.«01_k».proof.Proof.GmlpFwdValue

@[expose] public section

set_option maxRecDepth 16384
set_option maxHeartbeats 4000000

noncomputable section

open Idealize.ShloMosaic Idealize.ShloMosaic.TcCoe Idealize.SL.Sem
open Idealize.ShloMosaic.Pipeline (Dat)

namespace Cert.GmlpFwdIdeal.KValue

open Cert.GmlpFwdIdeal Cert.GmlpFwdIdeal.Gen Cert.Blocks Cert.Pieces Cert.Gmlp

variable (m : (ℓ : Loc nD τ sig) → Buf (Elt Ideal) ℓ) (c : Dev nD)

/-! The arguments. -/

abbrev Proj : S8x4096x1024.Idx → EReal := m ((c : Thread nD τ).loc main_arg0)
abbrev Lg : S1x1024.Idx → EReal := m ((c : Thread nD τ).loc main_arg1)
abbrev Lb : S1x1024.Idx → EReal := m ((c : Thread nD τ).loc main_arg2)
abbrev Ws : S1x8x128x128.Idx → EReal := m ((c : Thread nD τ).loc main_arg3)
abbrev Bs : S1x8x128.Idx → EReal := m ((c : Thread nD τ).loc main_arg4)

/-! What the host prepares before the region: the masked weights, and the bias with one column for each group. -/

theorem host_weights (g : Fin 8) (t s : Fin 128) : V m c main_v4 (ix3 g t s : S8x128x128.Idx) = wm (Ws m c) g t s := by
  have e : V m c main_v4 = truncf .bf16 (select (broadcastInDim S8x128x128 ![1, 2] bcast_S128x128_S8x128x128_1_2 (
    select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1)))) (shapeCast S8x128x128 (Ws m c) shapeCasts_S1x8x128x128_S8x128x128) (broadcastInDim S8x128x128 ![] bcast_S_S8x128x128 (constant (F := Ideal) S_ .f32 0x00000000#32))) bitsLt_bf16_f32 := by
    dsimp only [V]
    simp only [Gen.hostOps0, Gen.hostOps0_1, Gen.hostOps0_2, Gen.hostOps0_3, Gen.hostOps0_4, List.flatten_cons, List.flatten_nil, List.append_nil, List.cons_append, List.nil_append]
    after_results
    rfl
  rw [e]
  unfold wm
  pointwise
  exact pick t s _ _

theorem host_bias (g : Fin 8) (t : Fin 128) : V m c main_v6 (ix2 t g : S128x8.Idx) = bm (Bs m c) g t := by
  have e : V m c main_v6 = transpose S128x8 [1, 0] (shapeCast S8x128 (Bs m c) shapeCasts_S1x8x128_S8x128) transposes_S8x128_S128x8_1_0 := by
    dsimp only [V]
    simp only [Gen.hostOps0, Gen.hostOps0_1, Gen.hostOps0_2, Gen.hostOps0_3, Gen.hostOps0_4, List.flatten_cons, List.flatten_nil, List.append_nil, List.cons_append, List.nil_append]
    after_results
    rfl
  rw [e]
  unfold bm
  pointwise

/-! The windows' blocks. -/

/-- Row `r` of the block at point `t`, and chunk `q` of it. -/
def row (t : Fin cfg0.N) (r : Fin 512) : Fin 4096 := ⟨t.val * 512 + r.val, by have := t.isLt; have h : cfg0.N = 8 := N_0; omega⟩

theorem row_brow (t : Fin cfg0.N) (r : Fin 512) (s : Fin 128) : row t (brow (bchunk r) s) = crow (chunkOf (row t r)) s :=
  Fin.ext (by simp only [row, brow, bchunk, crow, chunkOf]; omega)
theorem brest_row (t : Fin cfg0.N) (r : Fin 512) : brest r = rowOf (row t r) := Fin.ext (by simp only [row, brest, rowOf]; omega)

variable (t : Fin cfg0.N)

theorem blk0 (r : Fin 512) (l : Fin 1024) : iblk m c 0 t (ix3 0 r l) = Proj m c (ix3 0 (row t r) l) := by
  have e : ∀ (t : Fin cfg0.N) a, win0_0.index t a * win0_0.size a = ![0, t.val * 512, 0] a := by decide +kernel
  refine (congrArg (V m c main_arg0) (rect_emb_eq win0_0 t _ _ fun a => ?_)).trans (congrFun (V_main_arg0 m c) _)
  rw [e t a]; match a with
  | ⟨0, _⟩ => rfl
  | ⟨1, _⟩ => rfl
  | ⟨2, _⟩ => exact Nat.zero_add _

theorem blk1 (r : Fin 512) (l : Fin 1024) : iblk m c 1 t (ix3 0 r l) = Proj m c (ix3 1 (row t r) l) := by
  have e : ∀ (t : Fin cfg0.N) a, win0_1.index t a * win0_1.size a = ![1, t.val * 512, 0] a := by decide +kernel
  refine (congrArg (V m c main_arg0) (rect_emb_eq win0_1 t _ _ fun a => ?_)).trans (congrFun (V_main_arg0 m c) _)
  rw [e t a]; match a with
  | ⟨0, _⟩ => rfl
  | ⟨1, _⟩ => rfl
  | ⟨2, _⟩ => exact Nat.zero_add _

theorem blk2 (l : Fin 1024) : iblk m c 2 t (ix2 0 l) = Lg m c (ix2 0 l) := by
  have e : ∀ (t : Fin cfg0.N) a, win0_2.index t a * win0_2.size a = ![0, 0] a := by decide +kernel
  refine (congrArg (V m c main_arg1) (rect_emb_eq win0_2 t _ _ fun a => ?_)).trans (congrFun (V_main_arg1 m c) _)
  rw [e t a]; match a with
  | ⟨0, _⟩ => rfl
  | ⟨1, _⟩ => exact Nat.zero_add _

theorem blk3 (l : Fin 1024) : iblk m c 3 t (ix2 0 l) = Lb m c (ix2 0 l) := by
  have e : ∀ (t : Fin cfg0.N) a, win0_3.index t a * win0_3.size a = ![0, 0] a := by decide +kernel
  refine (congrArg (V m c main_arg2) (rect_emb_eq win0_3 t _ _ fun a => ?_)).trans (congrFun (V_main_arg2 m c) _)
  rw [e t a]; match a with
  | ⟨0, _⟩ => rfl
  | ⟨1, _⟩ => exact Nat.zero_add _

theorem blk4 (g : Fin 8) (i j : Fin 128) : iblk m c 4 t (ix3 g i j) = wm (Ws m c) g i j := by
  have e : ∀ (t : Fin cfg0.N) a, win0_4.index t a * win0_4.size a = ![0, 0, 0] a := by decide +kernel
  refine (congrArg (V m c main_v4) (rect_emb_eq win0_4 t _ _ fun a => ?_)).trans (host_weights m c _ _ _)
  rw [e t a]; match a with
  | ⟨0, _⟩ => exact Nat.zero_add _
  | ⟨1, _⟩ => exact Nat.zero_add _
  | ⟨2, _⟩ => exact Nat.zero_add _

theorem blk5 (g : Fin 8) (i : Fin 128) : iblk m c 5 t (ix2 i g) = bm (Bs m c) g i := by
  have e : ∀ (t : Fin cfg0.N) a, win0_5.index t a * win0_5.size a = ![0, 0] a := by decide +kernel
  refine (congrArg (V m c main_v6) (rect_emb_eq win0_5 t _ _ fun a => ?_)).trans (host_bias m c _ _)
  rw [e t a]; match a with
  | ⟨0, _⟩ => exact Nat.zero_add _
  | ⟨1, _⟩ => exact Nat.zero_add _

theorem out_rows (r : Fin 512) (l : Fin 1024) : (win0_6.rect t).emb (ix2 r l) = (ix2 (row t r) l : S4096x1024.Idx) := by
  have e : ∀ (t : Fin cfg0.N) a, win0_6.index t a * win0_6.size a = ![t.val * 512, 0] a := by decide +kernel
  refine rect_emb_eq _ t _ _ fun a => ?_
  rw [e t a]; match a with
  | ⟨0, _⟩ => rfl
  | ⟨1, _⟩ => exact Nat.zero_add _

/-- What the run leaves in its result. -/
abbrev G6 : S4096x1024.Idx → EReal := gatedOut (Proj m c) (Lg m c) (Lb m c) (Ws m c) (Bs m c)

theorem written : (dats m 0 c).flushed 6 t = (win0_6.blk t).view.read (Elt Ideal) (G6 m c) := by
  rw [Cert.GmlpFwdIdeal.Value.flushed6_A]
  funext (y : S512x1024.Idx)
  obtain ⟨r, l, rfl⟩ := exists_ix2 (a := 512) (b := 1024) y
  show out0_A_6 (F := Ideal) c _ _ _ _ _ _ _ _ _ _ _ _ _ _ _ _ _ _ _ _ _ _ _ (ix2 r l) = G6 m c ((win0_6.rect t).emb (ix2 r l))
  rw [out_rows, out6_A]
  simp only [gated, G6, gatedOut, ix2_0, ix2_1, GU_apply, VN_apply, blk0 m c t, blk1 m c t, blk2 m c t, blk3 m c t, blk4 m c t, blk5 m c t, row_brow, brest_row t]
  rfl

theorem final : (dats m 0 c).arrAt 6 cfg0.N = G6 m c := by
  refine (dats m 0 c).arrAt_eq_of_cover 6 (G6 m c) (fun t _ => written m c t) fun i => ?_
  obtain ⟨r, l, rfl⟩ := exists_ix2 (a := 4096) (b := 1024) i
  obtain ⟨t, r, rfl⟩ : ∃ (t : Fin cfg0.N) (q : Fin 512), row t q = r :=
    ⟨⟨r.val / 512, by have h : cfg0.N = 8 := N_0; omega⟩, ⟨r.val % 512, by omega⟩, Fin.ext (Nat.div_add_mod' _ _)⟩
  exact ⟨t, flush0_6 t, out_rows t r l ▸ ((cfg0.win 6).blk t).view.emb_mem_set (ix2 r l : S512x1024.Idx)⟩

end Cert.GmlpFwdIdeal.KValue

end
-- ==== Proof.GmlpFwdRef.lean ====
/-
  The gated spatial mixing itself, reference side: what `GmlpFwdRefIdeal` computes, element by element. Nothing here needs
  finite arguments.
-/
module

public import proofs.«01_k».proof.Proof.GmlpReal
public import proofs.«01_k».proof.Proof.Gen.GmlpFwdRefIdeal.Read

@[expose] public section

set_option maxRecDepth 16384

noncomputable section

open Idealize.ShloMosaic Idealize.ShloMosaic.TcCoe Idealize.SL.Sem

namespace Cert.GmlpFwdRefIdeal.RefValue

open Cert.GmlpFwdRefIdeal Cert.GmlpFwdRefIdeal.Gen Cert.GmlpFwdRefIdeal.Read Cert.Blocks Cert.Gmlp

variable (x0 : S8x4096x1024.Idx → EReal) (x1 x2 : S1x1024.Idx → EReal) (x3 : S1x8x128x128.Idx → EReal) (x4 : S1x8x128.Idx → EReal)

/-! The two branches' rectifier. -/

theorem first_branch (i : Fin 4096) (j : Fin 1024) : val_main_v14 (F := Ideal) x0 (ix3 0 i j) = gel x0 0 i j := by
  pointwise [val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2, val_main_cst_3]
  rw [tanh_eq, mul_left_comm, ← mul_assoc]; rfl
theorem second_branch (i : Fin 4096) (j : Fin 1024) : val_main_v29 (F := Ideal) x0 (ix3 0 i j) = gel x0 1 i j := by
  pointwise [val_main_v29, val_main_v28, val_main_v27, val_main_v26, val_main_v25, val_main_v24, val_main_v23, val_main_v22, val_main_v21, val_main_v20,
    val_main_v19, val_main_v18, val_main_v17, val_main_v16, val_main_v15, val_main_cst_4, val_main_cst_5, val_main_cst_6, val_main_cst_7, val_main_cst_8]
  rw [tanh_eq, mul_left_comm, ← mul_assoc]; rfl

/-! The normalised rows of the second. -/

theorem less_mean (i : Fin 4096) (j : Fin 1024) : val_main_v46 (F := Ideal) x0 (ix3 0 i j) = gel x0 1 i j - mean (gel x0 1 i) := by
  pointwise [val_main_v46, val_main_v45, val_main_v37, val_main_v36, val_main_v35, val_main_v34, val_main_cst_9, val_main_cst_10, second_branch x0]
  rfl
theorem scale (i : Fin 4096) : val_main_v49 (F := Ideal) x0 (ix3 0 i 0) = rs (gel x0 1 i) := by
  pointwise [val_main_v49, val_main_v48, val_main_v47, val_main_v44, val_main_v43, val_main_v42, val_main_v41, val_main_v40, val_main_v39, val_main_v38,
    val_main_v37, val_main_v36, val_main_v35, val_main_v34, val_main_cst_9, val_main_cst_10, val_main_cst_11, val_main_cst_12, val_main_cst_13,
    second_branch x0]
  rfl
theorem normed (n : Fin 32) (t : Fin 128) (g : Fin 8) (d : Fin 128) :
    val_main_v58 (F := Ideal) x0 x1 x2 (ix5 0 n t g d) = vn x0 x1 x2 n t (col g d) := by
  have h (i : Fin 4096) (j : Fin 1024) : val_main_v57 (F := Ideal) x0 x1 x2 (ix3 0 i j) = hat (gel x0 1 i) j * x1 (ix2 0 j) + x2 (ix2 0 j) := by
    pointwise [val_main_v57, val_main_v56, val_main_v55, val_main_v54, val_main_v53, val_main_v52, val_main_v51, val_main_v50, val_main_v31, val_main_v30,
      less_mean x0, scale x0]
    rfl
  refine Eq.trans ?_ (h (crow n t) (col g d))
  pointwise [val_main_v58]
  rfl

/-! The mixing. -/

theorem weights (g : Fin 8) (t s : Fin 128) : val_main_v61 (F := Ideal) x3 (ix3 g t s) = wm x3 g t s := by
  pointwise [val_main_v61, val_main_v60, val_main_v59, val_main_v32, val_main_c, val_main_cst_14, val_main_call1_v0, val_main_call1_v1, val_main_call0_v0,
    val_main_call0_c, val_main_call0_v1, val_main_call0_v2, val_main_call0_v3, val_main_call0_v4, val_main_call0_c_0, val_main_call0_v5]
  exact pick t s _ _

/-- The result: the rectified first component times the mixed rows of the second. -/
theorem result : val_main_v72 (F := Ideal) x0 x1 x2 x3 x4 = gatedOut x0 x1 x2 x3 x4 := by
  funext y
  obtain ⟨i, j, rfl⟩ := exists_ix2 (a := 4096) (b := 1024) y
  have h (n t g d) : val_main_v68 (F := Ideal) x0 x1 x2 x3 x4 (ix5 0 n t g d)
      = ∑ s, vn x0 x1 x2 n s (col g d) * wm x3 g t s + bm x4 g t := by
    pointwise [val_main_v68, val_main_v67, val_main_v66, val_main_v65, val_main_v64, val_main_v33, val_main_v63, val_main_v62, weights x3, normed x0 x1 x2]
    rfl
  have h9 : val_main_v69 (F := Ideal) x0 x1 x2 x3 x4 (ix3 0 i j) = mix (wm x3) (bm x4) (vn x0 x1 x2 (chunkOf i)) (rowOf i) j := by
    pointwise [val_main_v69]
    refine (h (chunkOf i) (rowOf i) (grp j) (lane j)).trans ?_
    rw [col_of, mix]
    exact congrArg (· + _) (Finset.sum_congr rfl fun s _ => mul_comm _ _)
  pointwise [val_main_v72, val_main_v71, val_main_v70, first_branch x0, h9]
  rfl

end Cert.GmlpFwdRefIdeal.RefValue

end
-- ==== Proof.GmlpFwd.lean ====
/-
  The claims about the gated spatial mixing itself: what the two runs leave is the same function of the same arguments.
-/
module

public import proofs.«01_k».proof.Defs
public import proofs.«01_k».proof.Proof.GmlpFwdBlocks
public import proofs.«01_k».proof.Proof.GmlpFwdRef
public import proofs.«01_k».proof.Proof.Gen.GmlpFwdRefIdeal.Run
public import Idealize.ShloMosaic.Lib.Claim

@[expose] public section

set_option maxRecDepth 16384

noncomputable section

open Idealize.ShloMosaic Idealize.ShloMosaic.TcCoe Idealize.SL.Sem

namespace Cert.Proof.GmlpFwd

/-- Both runs end with `gatedOut` of the arguments, whatever these are. -/
theorem algebraic : Cert.algebraic_GmlpFwdIdeal_GmlpFwdRefIdeal := by
  intro m ρ m' ρ' _ hagree
  refine ⟨Cert.GmlpFwdIdeal.KValue.G6 m, (θ_run Cert.GmlpFwdIdeal.defs _ _).mono
    (fun r h c => ⟨(h c).1.trans (Cert.GmlpFwdIdeal.KValue.final m c), (h c).2⟩) (Cert.GmlpFwdIdeal.Value.run_blocks m ρ),
    (θ_run Cert.GmlpFwdRefIdeal.defs _ _).mono (fun r h c => ⟨(h c).1.trans ?_, (h c).2⟩) (Cert.GmlpFwdRefIdeal.Value.run (F := Ideal) m' ρ')⟩
  obtain ⟨e0, e1, e2, e3, e4⟩ := hagree c
  refine (Cert.GmlpFwdRefIdeal.Read.val_main_v72_eq _ _).trans ?_
  rw [e0, e1, e2, e3, e4]
  exact Cert.GmlpFwdRefIdeal.RefValue.result _ _ _ _ _

/-- The reference ends with its arguments unchanged and every counter at zero: it declares no semaphore. -/
theorem frame : Cert.quiescent_GmlpFwdRefIdeal := fun m ρ _ =>
  (θ_run Cert.GmlpFwdRefIdeal.defs _ _).mono (fun r h => ⟨fun c => (h c).2, sem_eq_zero_of_no_sems (by decide) r.2⟩)
    (Cert.GmlpFwdRefIdeal.Value.run (F := Ideal) m ρ)

end Cert.Proof.GmlpFwd

end
-- ==== Proof.MergeFwdValue.lean ====
/-
  The merge itself, kernel side: what `MergeFwdIdeal`'s run leaves in its two results, element by element.
-/
module

public import proofs.«01_k».proof.Proof.Gen.MergeFwdIdeal.Value
public import proofs.«01_k».proof.Proof.MergeValue

@[expose] public section

set_option maxRecDepth 16384

noncomputable section

open Idealize.ShloMosaic Idealize.ShloMosaic.TcCoe Idealize.SL.Sem
open Idealize.ShloMosaic.Pipeline (Dat)
open Cert.MergeBwdIdeal.KValue (sig1 branch)

namespace Cert.MergeFwdIdeal.KValue

open Cert.MergeFwdIdeal Cert.MergeFwdIdeal.Gen Cert.Blocks

/-! The two results as functions of the argument arrays, which both programs are shown to compute. -/

section Spec

variable (x : S4096x1024.Idx → EReal) (ab ob : S4096x1024.Idx → EReal) (proj : S8x4096x1024.Idx → EReal) (wa wb wo : S1024x1024.Idx → EReal)

/-- The merged activations: each branch under the logistic of its gate. -/
def merged (i : Fin 4096) (j : Fin 1024) : EReal :=
  sig1 (proj (ix3 6 i j)) * branch ab wa i j + sig1 (proj (ix3 7 i j)) * branch ob wb i j

def specMerged (i : S4096x1024.Idx) : EReal := merged ab ob proj wa wb (i 0) (i 1)

/-- The stream after the mixers: the input plus the merged activations through the output weights. -/
def specStream (i : S4096x1024.Idx) : EReal := x i + ∑ k : Fin 1024, merged ab ob proj wa wb (i 0) k * wo (ix2 k (i 1))

end Spec

/-! What the body leaves in its output blocks, at an index. -/

section Body

variable (x0 : Vec Ideal S512x1024 .f32) (x1 x2 : Vec Ideal S512x1024 .bf16) (x3 x4 : Vec Ideal S1x512x1024 .f32) (x5 x6 x7 : Vec Ideal S1024x1024 .bf16)

theorem hz2 : (![0, 0] : Fin 2 → Nat) = fun _ => 0 := funext fun a => by fin_cases a <;> rfl

/-- The merged activations of one block. -/
def bmerged (r : Fin 512) (l : Fin 1024) : EReal :=
  sig1 (x3 (ix3 0 r l)) * (∑ k : Fin 1024, x1 (ix2 r k) * x5 (ix2 k l)) + sig1 (x4 (ix3 0 r l)) * ∑ k : Fin 1024, x2 (ix2 r k) * x6 (ix2 k l)

theorem pay2_apply (r : Fin 512) (l : Fin 1024) : k0_pay2 (View.ld x1 r0_0) (View.ld x5 r0_1) (View.ld x2 r0_0) (View.ld x6 r0_1) (View.ld x3 r0_2) (View.ld x4 r0_2) (ix2 r l) = bmerged x1 x2 x3 x4 x5 x6 r l := by
  unfold bmerged sig1
  simp only [← zero_sub]
  unfold k0_pay2
  pointwise

theorem out8_apply (r : Fin 512) (l : Fin 1024) : out0_8 x0 x1 x2 x3 x4 x5 x6 x7 (ix2 r l) = bmerged x1 x2 x3 x4 x5 x6 r l := by
  unfold out0_8
  rw [View.canon_unit_zero hz2]
  exact pay2_apply x1 x2 x3 x4 x5 x6 r l

theorem out9_apply (r : Fin 512) (l : Fin 1024) : out0_9 x0 x1 x2 x3 x4 x5 x6 x7 (ix2 r l)
      = x0 (ix2 r l) + ∑ k : Fin 1024, bmerged x1 x2 x3 x4 x5 x6 r k * x7 (ix2 k l) := by
  unfold out0_9
  rw [View.canon_unit_zero hz2]
  simp only [← pay2_apply]
  generalize k0_pay2 (View.ld x1 r0_0) (View.ld x5 r0_1) (View.ld x2 r0_0) (View.ld x6 r0_1) (View.ld x3 r0_2) (View.ld x4 r0_2) = M
  unfold k0_pay1
  pointwise

end Body

variable (m : (ℓ : Loc nD τ sig) → Buf (Elt Ideal) ℓ)

/-- Row `r` of the block at point `t`. -/
def row (t : Fin cfg0.N) (r : Fin 512) : Fin 4096 := ⟨t.val * 512 + r.val, by
  have := t.isLt; have h : cfg0.N = 8 := N_0; omega⟩

/-! The input windows' blocks at an index. -/

theorem blk0 (c : Dev nD) (t : Fin cfg0.N) (r : Fin 512) (l : Fin 1024) : iblk m c 0 t (ix2 r l) = m ((c : Thread nD τ).loc main_arg0) (ix2 (row t r) l) := by
  have e : ∀ (t : Fin cfg0.N) a, win0_0.index t a * win0_0.size a = ![t.val * 512, 0] a := by decide +kernel
  refine congrArg (m ((c : Thread nD τ).loc main_arg0)) (rect_emb_eq win0_0 t _ _ fun a => ?_)
  rw [e t a]; match a with
  | ⟨0, _⟩ => exact rfl
  | ⟨1, _⟩ => exact Nat.zero_add _

theorem blk1 (c : Dev nD) (t : Fin cfg0.N) (r : Fin 512) (l : Fin 1024) : iblk m c 1 t (ix2 r l) = m ((c : Thread nD τ).loc main_arg1) (ix2 (row t r) l) := by
  have e : ∀ (t : Fin cfg0.N) a, win0_1.index t a * win0_1.size a = ![t.val * 512, 0] a := by decide +kernel
  refine congrArg (m ((c : Thread nD τ).loc main_arg1)) (rect_emb_eq win0_1 t _ _ fun a => ?_)
  rw [e t a]; match a with
  | ⟨0, _⟩ => exact rfl
  | ⟨1, _⟩ => exact Nat.zero_add _

theorem blk2 (c : Dev nD) (t : Fin cfg0.N) (r : Fin 512) (l : Fin 1024) : iblk m c 2 t (ix2 r l) = m ((c : Thread nD τ).loc main_arg2) (ix2 (row t r) l) := by
  have e : ∀ (t : Fin cfg0.N) a, win0_2.index t a * win0_2.size a = ![t.val * 512, 0] a := by decide +kernel
  refine congrArg (m ((c : Thread nD τ).loc main_arg2)) (rect_emb_eq win0_2 t _ _ fun a => ?_)
  rw [e t a]; match a with
  | ⟨0, _⟩ => exact rfl
  | ⟨1, _⟩ => exact Nat.zero_add _

theorem blk3 (c : Dev nD) (t : Fin cfg0.N) (r : Fin 512) (l : Fin 1024) : iblk m c 3 t (ix3 0 r l) = m ((c : Thread nD τ).loc main_arg3) (ix3 6 (row t r) l) := by
  have e : ∀ (t : Fin cfg0.N) a, win0_3.index t a * win0_3.size a = ![6, t.val * 512, 0] a := by decide +kernel
  refine congrArg (m ((c : Thread nD τ).loc main_arg3)) (rect_emb_eq win0_3 t _ _ fun a => ?_)
  rw [e t a]; match a with
  | ⟨0, _⟩ => exact rfl
  | ⟨1, _⟩ => exact rfl
  | ⟨2, _⟩ => exact Nat.zero_add _

theorem blk4 (c : Dev nD) (t : Fin cfg0.N) (r : Fin 512) (l : Fin 1024) : iblk m c 4 t (ix3 0 r l) = m ((c : Thread nD τ).loc main_arg3) (ix3 7 (row t r) l) := by
  have e : ∀ (t : Fin cfg0.N) a, win0_4.index t a * win0_4.size a = ![7, t.val * 512, 0] a := by decide +kernel
  refine congrArg (m ((c : Thread nD τ).loc main_arg3)) (rect_emb_eq win0_4 t _ _ fun a => ?_)
  rw [e t a]; match a with
  | ⟨0, _⟩ => exact rfl
  | ⟨1, _⟩ => exact rfl
  | ⟨2, _⟩ => exact Nat.zero_add _

theorem blk5 (c : Dev nD) (t : Fin cfg0.N) (r l : Fin 1024) : iblk m c 5 t (ix2 r l) = m ((c : Thread nD τ).loc main_arg4) (ix2 r l) := by
  have e : ∀ (t : Fin cfg0.N) a, win0_5.index t a * win0_5.size a = ![0, 0] a := by decide +kernel
  refine congrArg (m ((c : Thread nD τ).loc main_arg4)) (rect_emb_eq win0_5 t _ _ fun a => ?_)
  rw [e t a]; match a with
  | ⟨0, _⟩ => exact Nat.zero_add _
  | ⟨1, _⟩ => exact Nat.zero_add _

theorem blk6 (c : Dev nD) (t : Fin cfg0.N) (r l : Fin 1024) : iblk m c 6 t (ix2 r l) = m ((c : Thread nD τ).loc main_arg5) (ix2 r l) := by
  have e : ∀ (t : Fin cfg0.N) a, win0_6.index t a * win0_6.size a = ![0, 0] a := by decide +kernel
  refine congrArg (m ((c : Thread nD τ).loc main_arg5)) (rect_emb_eq win0_6 t _ _ fun a => ?_)
  rw [e t a]; match a with
  | ⟨0, _⟩ => exact Nat.zero_add _
  | ⟨1, _⟩ => exact Nat.zero_add _

theorem blk7 (c : Dev nD) (t : Fin cfg0.N) (r l : Fin 1024) : iblk m c 7 t (ix2 r l) = m ((c : Thread nD τ).loc main_arg6) (ix2 r l) := by
  have e : ∀ (t : Fin cfg0.N) a, win0_7.index t a * win0_7.size a = ![0, 0] a := by decide +kernel
  refine congrArg (m ((c : Thread nD τ).loc main_arg6)) (rect_emb_eq win0_7 t _ _ fun a => ?_)
  rw [e t a]; match a with
  | ⟨0, _⟩ => exact Nat.zero_add _
  | ⟨1, _⟩ => exact Nat.zero_add _

/-! What the run leaves. -/

def mergedOut (c : Dev nD) : S4096x1024.Idx → EReal :=
  specMerged (m ((c : Thread nD τ).loc main_arg1)) (m ((c : Thread nD τ).loc main_arg2)) (m ((c : Thread nD τ).loc main_arg3))
    (m ((c : Thread nD τ).loc main_arg4)) (m ((c : Thread nD τ).loc main_arg5))

def streamOut (c : Dev nD) : S4096x1024.Idx → EReal :=
  specStream (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- Where an output block's element lands. -/
theorem emb_rows (t : Fin cfg0.N) (r : Fin 512) (l : Fin 1024) :
    (win0_8.rect t).emb (ix2 r l) = ix2 (row t r) l ∧ (win0_9.rect t).emb (ix2 r l) = ix2 (row t r) l := by
  have e : ∀ (t : Fin cfg0.N) a, win0_8.index t a * win0_8.size a = ![t.val * 512, 0] a ∧ win0_9.index t a * win0_9.size a = ![t.val * 512, 0] a := by
    decide +kernel
  constructor
  · refine rect_emb_eq win0_8 t _ _ fun a => ?_
    rw [(e t a).1]; match a with
    | ⟨0, _⟩ => exact rfl
    | ⟨1, _⟩ => exact Nat.zero_add _
  · refine rect_emb_eq win0_9 t _ _ fun a => ?_
    rw [(e t a).2]; match a with
    | ⟨0, _⟩ => exact rfl
    | ⟨1, _⟩ => exact Nat.zero_add _

/-- The merged activations of a block are those of the rows it holds. -/
theorem bmerged_blk (c : Dev nD) (t : Fin cfg0.N) (r : Fin 512) (l : Fin 1024) :
    bmerged (iblk m c 1 t) (iblk m c 2 t) (iblk m c 3 t) (iblk m c 4 t) (iblk m c 5 t) (iblk m c 6 t) r l = mergedOut m c (ix2 (row t r) l) := by
  simp only [bmerged, blk1, blk2, blk3, blk4, blk5, blk6]
  rfl

theorem flushed8 (c : Dev nD) (t : Fin cfg0.N) : (dats m 0 c).flushed 8 t = (win0_8.blk t).view.read (Elt Ideal) (mergedOut m c) := by
  funext (y : S512x1024.Idx)
  obtain ⟨r, l, rfl⟩ := exists_ix2 y
  show (dats m 0 c).after 8 t (ix2 r l) = mergedOut m c ((win0_8.rect t).emb (ix2 r l))
  rw [after0_8, (emb_rows t r l).1, out8_apply, bmerged_blk]

theorem flushed9 (c : Dev nD) (t : Fin cfg0.N) : (dats m 0 c).flushed 9 t = (win0_9.blk t).view.read (Elt Ideal) (streamOut m c) := by
  funext (y : S512x1024.Idx)
  obtain ⟨r, l, rfl⟩ := exists_ix2 y
  show (dats m 0 c).after 9 t (ix2 r l) = streamOut m c ((win0_9.rect t).emb (ix2 r l))
  rw [after0_9, (emb_rows t r l).2, out9_apply]
  simp only [bmerged_blk, blk0, blk7]
  rfl

/-- The point whose block holds row `i`, and the row within the block. -/
theorem split_row (i : Fin 4096) : ∃ (t : Fin cfg0.N) (r : Fin 512), row t r = i :=
  ⟨⟨i.val / 512, by have h : cfg0.N = 8 := N_0; omega⟩, ⟨i.val % 512, by omega⟩, Fin.ext (Nat.div_add_mod' _ _)⟩

theorem final8 (c : Dev nD) : (dats m 0 c).arrAt 8 cfg0.N = mergedOut m c :=
  (dats m 0 c).arrAt_eq_of_cover 8 (mergedOut m c) (fun t _ => flushed8 m c t) fun (i : S4096x1024.Idx) => by
    obtain ⟨r, l, rfl⟩ := exists_ix2 i
    obtain ⟨t, r, rfl⟩ := split_row r
    exact ⟨t, flush0_8 t, (emb_rows t r l).1 ▸ ((cfg0.win 8).blk t).view.emb_mem_set (ix2 r l : S512x1024.Idx)⟩

theorem final9 (c : Dev nD) : (dats m 0 c).arrAt 9 cfg0.N = streamOut m c :=
  (dats m 0 c).arrAt_eq_of_cover 9 (streamOut m c) (fun t _ => flushed9 m c t) fun (i : S4096x1024.Idx) => by
    obtain ⟨r, l, rfl⟩ := exists_ix2 i
    obtain ⟨t, r, rfl⟩ := split_row r
    exact ⟨t, flush0_9 t, (emb_rows t r l).2 ▸ ((cfg0.win 9).blk t).view.emb_mem_set (ix2 r l : S512x1024.Idx)⟩

end Cert.MergeFwdIdeal.KValue

end
-- ==== Proof.MergeFwd.lean ====
/-
  The claims about the merge itself: the reference read element by element, and the two runs set side by side.
-/
module

public import proofs.«01_k».proof.Defs
public import proofs.«01_k».proof.Proof.MergeFwdValue
public import proofs.«01_k».proof.Proof.Gen.MergeFwdRefIdeal.Read
public import proofs.«01_k».proof.Proof.Gen.MergeFwdRefIdeal.Run
public import Idealize.ShloMosaic.Lib.Claim

@[expose] public section

set_option maxRecDepth 16384

noncomputable section

open Idealize.ShloMosaic Idealize.ShloMosaic.TcCoe Idealize.SL.Sem

namespace Cert.MergeFwdRefIdeal.RefValue

open Cert.MergeFwdRefIdeal Cert.MergeFwdRefIdeal.Gen Cert.MergeFwdRefIdeal.Read Cert.Blocks
open Cert.MergeFwdIdeal.KValue (merged specMerged specStream)
open Cert.MergeBwdIdeal.KValue (sig1 branch)

variable (x ab ob : S4096x1024.Idx → EReal) (proj : S8x4096x1024.Idx → EReal) (wa wb wo : S1024x1024.Idx → EReal)

/-- The merged activations, before the cast. -/
theorem v24_apply (i : Fin 4096) (j : Fin 1024) : val_main_v24 (F := Ideal) ab ob proj wa wb (ix3 0 i j) = merged ab ob proj wa wb i j := by
  unfold merged branch sig1
  pointwise [val_main_v24, val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5, val_main_v4,
    val_main_v3, val_main_v2, val_main_v1, val_main_v0, val_main_cst, val_main_cst_0, val_main_cst_1, val_main_cst_2]

theorem v30_eq : val_main_v30 (F := Ideal) ab ob proj wa wb = specMerged ab ob proj wa wb := by
  funext (i : S4096x1024.Idx)
  obtain ⟨i, j, rfl⟩ := exists_ix2 i
  refine Eq.trans ?_ (v24_apply ab ob proj wa wb i j)
  unfold val_main_v30 val_main_v29
  generalize val_main_v24 (F := Ideal) ab ob proj wa wb = M
  pointwise

theorem v31_eq : val_main_v31 (F := Ideal) x ab ob proj wa wb wo = specStream x ab ob proj wa wb wo := by
  funext (i : S4096x1024.Idx)
  obtain ⟨i, j, rfl⟩ := exists_ix2 i
  unfold specStream
  show _ = x (ix2 i j) + ∑ k : Fin 1024, merged ab ob proj wa wb i k * wo (ix2 k j)
  simp only [← v24_apply]
  unfold val_main_v31 val_main_v28 val_main_v27
  generalize val_main_v24 (F := Ideal) ab ob proj wa wb = M
  pointwise [val_main_v25, val_main_v26]

end Cert.MergeFwdRefIdeal.RefValue

namespace Cert.Proof.MergeFwd

open Cert.MergeFwdIdeal.KValue Cert.MergeFwdRefIdeal.RefValue

/-- Both runs end with the merged activations and the stream after the mixers, whatever the arguments are. -/
theorem algebraic : Cert.algebraic_MergeFwdIdeal_MergeFwdRefIdeal := by
  intro m ρ m' ρ' _ hagree
  refine ⟨mergedOut m, streamOut m, (θ_run Cert.MergeFwdIdeal.defs _ _).mono
    (fun r h c => ⟨(h c).1.trans (final8 m c), (h c).2.1.trans (final9 m c), (h c).2.2⟩) (Cert.MergeFwdIdeal.Value.run_blocks m ρ),
    (θ_run Cert.MergeFwdRefIdeal.defs _ _).mono (fun r h c => ⟨(h c).1.trans ?_, (h c).2.1.trans ?_, (h c).2.2⟩)
      (Cert.MergeFwdRefIdeal.Value.run (F := Ideal) m' ρ')⟩
  all_goals obtain ⟨e0, e1, e2, e3, e4, e5, e6⟩ := hagree c
  · refine (Cert.MergeFwdRefIdeal.Read.val_main_v30_eq _ _ _ _ _).trans ?_
    rw [e1, e2, e3, e4, e5]
    exact v30_eq _ _ _ _ _
  · refine (Cert.MergeFwdRefIdeal.Read.val_main_v31_eq _ _ _ _ _ _ _).trans ?_
    rw [e0, e1, e2, e3, e4, e5, e6]
    exact v31_eq _ _ _ _ _ _ _

/-- The reference ends with its arguments unchanged and every counter at zero: it declares no semaphore. -/
theorem frame : Cert.quiescent_MergeFwdRefIdeal := fun m ρ _ =>
  (θ_run Cert.MergeFwdRefIdeal.defs _ _).mono (fun r h => ⟨fun c => (h c).2.2, sem_eq_zero_of_no_sems (by decide) r.2⟩)
    (Cert.MergeFwdRefIdeal.Value.run (F := Ideal) m ρ)

end Cert.Proof.MergeFwd

end
-- ==== Proof.HgrnSpec.lean ====
/-
  The gated recurrence, forward, on the extended reals. Rows come in chunks of 64, columns in 8 heads of 128. Within a
  chunk the outputs are a causal product of decayed queries and keys with the values; from chunk to chunk each head carries
  a matrix (value lane by key lane), decayed and added to.
-/
module

public import proofs.«01_k».proof.Proof.Pieces

@[expose] public section

noncomputable section

open Idealize.ShloMosaic

namespace Cert.Hgrn

/-- The logistic function. -/
def sigm (x : EReal) : EReal := Ideal.div 1 (1 + Ideal.exp (-x))

/-- Column `d` of head `h`. -/
def hcol (h : Fin 8) (d : Fin 128) : Fin 1024 :=
  ⟨match h.val with | 0 => d.val | n + 1 => 128 * (n + 1) + d.val, by split <;> omega⟩

theorem hcol_val (h : Fin 8) (d : Fin 128) : (hcol h d).val = h.val * 128 + d.val := by
  unfold hcol; dsimp only; split <;> omega

/-- The head of a column, and its lane. -/
def head (j : Fin 1024) : Fin 8 := ⟨j.val / 128, by omega⟩
def lane (j : Fin 1024) : Fin 128 := ⟨j.val % 128, by omega⟩

theorem head_hcol (h : Fin 8) (d : Fin 128) : head (hcol h d) = h := Fin.ext (by rw [head]; dsimp only; rw [hcol_val]; omega)
theorem lane_hcol (h : Fin 8) (d : Fin 128) : lane (hcol h d) = d := Fin.ext (by rw [lane]; dsimp only; rw [hcol_val]; omega)
theorem hcol_head (j : Fin 1024) : hcol (head j) (lane j) = j := Fin.ext (by rw [hcol_val]; exact Nat.div_add_mod' _ _)
theorem exists_hcol (j : Fin 1024) : ∃ h d, j = hcol h d := ⟨head j, lane j, (hcol_head j).symm⟩

/-- A chunk of a matrix, and the carried matrices of the heads. -/
abbrev Chunk := Fin 64 → Fin 1024 → EReal
abbrev State := Fin 8 → Fin 128 → Fin 128 → EReal

/-- The carried matrices after a chunk with values `V`, keys `K` and decay `D`. -/
def nextS (V K : Chunk) (D : Fin 1024 → EReal) (S : State) : State := fun h d k =>
  S h d k * D (hcol h k) + ∑ s, V s (hcol h d) * K s (hcol h k)

/-- What a chunk's rows become: the causal product within the chunk, and the query read against the carried matrix. -/
def outS (QI KI QA V : Chunk) (S : State) (r : Fin 64) (h : Fin 8) (d : Fin 128) : EReal :=
  (∑ s, (if s ≤ r then ∑ k, QI r (hcol h k) * KI s (hcol h k) else 0) * V s (hcol h d)) + ∑ k, QA r (hcol h k) * S h d k

end Cert.Hgrn

end
-- ==== Proof.HgrnFwdBody.lean ====
/-
  The gated recurrence, kernel side: what `HgrnFwdIdeal`'s body leaves in its results and in the carried matrices, in terms
  of the block's decayed queries, keys and decays. A block has 256 rows, four chunks of 64.
-/
module

public import proofs.«01_k».proof.Proof.Gen.HgrnFwdIdeal.Value
public import proofs.«01_k».proof.Proof.HgrnSpec
public import Idealize.ShloMosaic.Rules

@[expose] public section

set_option maxRecDepth 16384
set_option maxHeartbeats 4000000

noncomputable section

open Idealize.ShloMosaic Idealize.ShloMosaic.TcCoe Idealize.SL.Sem
open Idealize.ShloMosaic.Pipeline (Dat)

namespace Cert.HgrnFwdIdeal.KValue

open Cert.HgrnFwdIdeal Cert.HgrnFwdIdeal.Gen Cert.Blocks Cert.Pieces
open Cert.Hgrn

theorem hz2 : (![0, 0] : Fin 2 → ℕ) = fun _ => 0 := by decide

/-- Row `s` of chunk `a` of a block. -/
def row (a : Fin 4) (s : Fin 64) : Fin 256 :=
  ⟨match a.val with | 0 => s.val | n + 1 => 64 * (n + 1) + s.val, by split <;> omega⟩

theorem row_val (a : Fin 4) (s : Fin 64) : (row a s).val = a.val * 64 + s.val := by
  unfold row; dsimp only; split <;> omega

theorem exists_row (r : Fin 256) : ∃ a s, r = row a s :=
  ⟨⟨r.val / 64, by omega⟩, ⟨r.val % 64, by omega⟩, Fin.ext (by rw [row_val]; exact (Nat.div_add_mod' _ _).symm)⟩

/-- Chunk `a` of a block. -/
def ch {e : FTy} (a : Fin 4) (X : FVec Ideal S256x1024 e) : Chunk := fun s j => X (ix2 (row a s) j)

section Vectors

variable (x0 x1 x2 x3 : Vec Ideal S1x256x1024 .f32) (x4 : Vec Ideal S2x1024 .f32)

/-- The rows of the table, the gate's running sum of logarithms, its middle and its last row of each chunk, and one minus the gate. -/
abbrev T0 : Vec Ideal S1x1024 .f32 := View.ld x4 (Rect.unit ![0, 0] ![1, 1024] inb_S2x1024_S1x1024_0_0)
abbrev T1 : Vec Ideal S1x1024 .f32 := View.ld x4 (Rect.unit ![1, 0] ![1, 1024] inb_S2x1024_S1x1024_1_0)
abbrev ACC : FVec Ideal S256x1024 .f32 := k0_pay7 k0_pay3 (k0_pay5 (T0 x4) (T1 x4) x1) (k0_pay6 (T0 x4) (T1 x4) x1)
abbrev MID : FVec Ideal S256x1024 .f32 := k0_pay8 k0_pay3 (k0_pay5 (T0 x4) (T1 x4) x1) (k0_pay6 (T0 x4) (T1 x4) x1)
abbrev LAST : FVec Ideal S256x1024 .f32 := k0_pay9 k0_pay3 (k0_pay5 (T0 x4) (T1 x4) x1) (k0_pay6 (T0 x4) (T1 x4) x1)
abbrev REST : FVec Ideal S256x1024 .f32 := k0_pay10 (k0_pay4 (T0 x4) (T1 x4) x1)
/-- The decayed queries and keys of a block, its decay and its values. -/
abbrev QI : FVec Ideal S256x1024 .bf16 := k0_pay12 (ACC x1 x4) (MID x1 x4) x0
abbrev KI : FVec Ideal S256x1024 .bf16 := k0_pay13 (ACC x1 x4) (MID x1 x4) (REST x1 x4)
abbrev QA : FVec Ideal S256x1024 .bf16 := k0_pay14 (ACC x1 x4) x0
abbrev KD : FVec Ideal S256x1024 .bf16 := k0_pay15 (ACC x1 x4) (LAST x1 x4) (REST x1 x4)
abbrev DEC : FVec Ideal S256x1024 .f32 := k0_pay16 (LAST x1 x4)
abbrev VB : FVec Ideal S256x1024 .bf16 := k0_pay17 x2

/-- The last row of each chunk does not depend on the row. -/
theorem dec_row (a : Fin 4) (s : Fin 64) (j : Fin 1024) : DEC x1 x4 (ix2 (row a s) j) = DEC x1 x4 (ix2 (row a 0) j) := by
  unfold DEC LAST
  generalize k0_pay5 (T0 x4) (T1 x4) x1 = M, k0_pay6 (T0 x4) (T1 x4) x1 = N
  unfold k0_pay16 k0_pay9
  generalize k0_pay7 k0_pay3 M N = A
  have e (s : Fin 64) : (row a s).val / 64 = a.val := by rw [row_val]; omega
  pointwise
  simp only [e]

end Vectors

section Body

variable (c : Dev nD) (i : grid0.Coords) (arg2 : Memref sig .tc .vmem S1x256x1024 .f32) (harg2 : arg2.IsWhole) (arg3 : Memref sig .tc .vmem S1x256x1024 .f32) (harg3 : arg3.IsWhole)
  (arg4 : Memref sig .tc .vmem S1x256x1024 .f32) (harg4 : arg4.IsWhole) (arg5 : Memref sig .tc .vmem S1x256x1024 .f32) (harg5 : arg5.IsWhole)
  (arg6 : Memref sig .tc .vmem S2x1024 .f32) (harg6 : arg6.IsWhole) (arg7 : Memref sig .tc .vmem S1x1024 .f32) (harg7 : arg7.IsWhole)
  (arg8 : Memref sig .tc .vmem S256x1024 .f32) (harg8 : arg8.IsWhole) (arg9 : Memref sig .tc .vmem S256x1024 .bf16) (harg9 : arg9.IsWhole)
  (arg10 : Memref sig .tc .vmem S8x4x128x128 .f32) (harg10 : arg10.IsWhole) (arg11 : Memref sig .tc .vmem S8x128x128 .f32) (harg11 : arg11.IsWhole)
  (arg12 : Memref sig .tc .vmem S256x1024 .f32) (harg12 : arg12.IsWhole)
  (x0 x1 x2 x3 : Vec Ideal S1x256x1024 .f32) (x4 : Vec Ideal S2x1024 .f32) (x5 : Vec Ideal S1x1024 .f32) (xs0 : Vec Ideal S8x128x128 .f32)

/-- The carried matrices after chunk `a` of a block. -/
def nextB (K : FVec Ideal S256x1024 .bf16) (D : FVec Ideal S256x1024 .f32) (V : FVec Ideal S256x1024 .bf16) (a : Fin 4) (S : State) : State :=
  nextS (ch a V) (ch a K) (ch a D 0) S

/-- The carried matrices before chunk `a` of a block. -/
def before (K : FVec Ideal S256x1024 .bf16) (D : FVec Ideal S256x1024 .f32) (V : FVec Ideal S256x1024 .bf16) (a : Fin 4) (S : State) : State :=
  match a.val with
  | 0 => S
  | 1 => nextB K D V 0 S
  | 2 => nextB K D V 1 (nextB K D V 0 S)
  | _ => nextB K D V 2 (nextB K D V 1 (nextB K D V 0 S))

/-- A stack of matrices as the carried matrices. -/
abbrev stOf (X : Vec Ideal S8x128x128 .f32) : State := fun h d k => X (ix3 h d k)

/-- The causal mask: a column is kept at the rows from it on. -/
theorem tri_select (r s : Fin 64) (a b : EReal) :
    Scalar.select (IntOp.cmpi CmpIPredicate.sge (BitVec.ofNat 32 r.val) (BitVec.ofNat 32 s.val)) a b = if s ≤ r then a else b := by
  have e : IntOp.cmpi CmpIPredicate.sge (BitVec.ofNat 32 r.val) (BitVec.ofNat 32 s.val) = if s ≤ r then 1#1 else 0#1 := by
    revert r s; decide +kernel
  rw [e]
  split <;> rfl

section Step

variable {K V : FVec Ideal S256x1024 .bf16} {D : FVec Ideal S256x1024 .f32}
  (hd : ∀ (a : Fin 4) (s : Fin 64) (j : Fin 1024), D (ix2 (row a s) j) = D (ix2 (row a 0) j))
include hd

/-- The decay's rows within a chunk are equal. -/
theorem low (o : ℕ) (ho : 64 ∣ o) (r : Fin 128) (hr : r.val < 64) (j : Fin 1024) (h : o + r.val < 256) :
    D (ix2 ⟨o + r.val, h⟩ j) = D (ix2 ⟨o, by omega⟩ j) := by
  have e1 : (⟨o + r.val, h⟩ : Fin 256) = row ⟨o / 64, by omega⟩ ⟨r.val, hr⟩ := Fin.ext (by rw [row_val]; dsimp only; omega)
  have e2 : (⟨o, by omega⟩ : Fin 256) = row ⟨o / 64, by omega⟩ 0 := Fin.ext (by rw [row_val]; dsimp only [Fin.val_zero]; omega)
  rw [e1, e2]; exact hd _ _ _

theorem high (o : ℕ) (ho : 64 ∣ o) (r : Fin 128) (hr : ¬r.val < 64) (j : Fin 1024) (h : o + (r.val - 64) < 256) :
    D (ix2 ⟨o + (r.val - 64), h⟩ j) = D (ix2 ⟨o, by omega⟩ j) := by
  have e1 : (⟨o + (r.val - 64), h⟩ : Fin 256) = row ⟨o / 64, by omega⟩ ⟨r.val - 64, by omega⟩ := Fin.ext (by rw [row_val]; dsimp only; omega)
  have e2 : (⟨o, by omega⟩ : Fin 256) = row ⟨o / 64, by omega⟩ 0 := Fin.ext (by rw [row_val]; dsimp only [Fin.val_zero]; omega)
  rw [e1, e2]; exact hd _ _ _

theorem low0 (r : Fin 128) (hr : r.val < 64) (j : Fin 1024) (h : r.val < 256) : D (ix2 ⟨r.val, h⟩ j) = D (ix2 ⟨0, by omega⟩ j) :=
  hd 0 ⟨r.val, hr⟩ j

theorem high0 (r : Fin 128) (hr : ¬r.val < 64) (j : Fin 1024) (h : r.val - 64 < 256) : D (ix2 ⟨r.val - 64, h⟩ j) = D (ix2 ⟨0, by omega⟩ j) :=
  hd 0 ⟨r.val - 64, by omega⟩ j

end Step

/-! The rows and the columns by their numbers. -/

theorem row_0 (s : Fin 64) : row 0 s = ⟨s.val, by omega⟩ := rfl
theorem row_1 (s : Fin 64) : row 1 s = ⟨64 + s.val, by omega⟩ := rfl
theorem row_2 (s : Fin 64) : row 2 s = ⟨128 + s.val, by omega⟩ := rfl
theorem row_3 (s : Fin 64) : row 3 s = ⟨192 + s.val, by omega⟩ := rfl
theorem hcol_0 (d : Fin 128) : hcol 0 d = ⟨d.val, by omega⟩ := rfl
theorem hcol_1 (d : Fin 128) : hcol 1 d = ⟨128 + d.val, by omega⟩ := rfl
theorem hcol_2 (d : Fin 128) : hcol 2 d = ⟨256 + d.val, by omega⟩ := rfl
theorem hcol_3 (d : Fin 128) : hcol 3 d = ⟨384 + d.val, by omega⟩ := rfl
theorem hcol_4 (d : Fin 128) : hcol 4 d = ⟨512 + d.val, by omega⟩ := rfl
theorem hcol_5 (d : Fin 128) : hcol 5 d = ⟨640 + d.val, by omega⟩ := rfl
theorem hcol_6 (d : Fin 128) : hcol 6 d = ⟨768 + d.val, by omega⟩ := rfl
theorem hcol_7 (d : Fin 128) : hcol 7 d = ⟨896 + d.val, by omega⟩ := rfl

section
variable (K V : FVec Ideal S256x1024 .bf16) (D : FVec Ideal S256x1024 .f32) (S : State)
theorem before_0 : before K D V 0 S = S := rfl
theorem before_1 : before K D V 1 S = nextB K D V 0 S := rfl
theorem before_2 : before K D V 2 S = nextB K D V 1 (nextB K D V 0 S) := rfl
theorem before_3 : before K D V 3 S = nextB K D V 2 (nextB K D V 1 (nextB K D V 0 S)) := rfl
end

/-- The chunk a row of a block lies in, and its place there. -/
def chunkOf (r : Fin 256) : Fin 4 := ⟨r.val / 64, by omega⟩
def rest (r : Fin 256) : Fin 64 := ⟨r.val % 64, by omega⟩
theorem chunkOf_row (a : Fin 4) (s : Fin 64) : chunkOf (row a s) = a := Fin.ext (by rw [chunkOf]; dsimp only; rw [row_val]; omega)
theorem rest_row (a : Fin 4) (s : Fin 64) : rest (row a s) = s := Fin.ext (by rw [rest]; dsimp only; rw [row_val]; omega)
theorem chunkOf_add (o : ℕ) (l : Fin 64) (h : o + l.val < 256) (ho : 64 ∣ o) : chunkOf ⟨o + l.val, h⟩ = ⟨o / 64, by omega⟩ :=
  Fin.ext (by simp only [chunkOf]; omega)
theorem rest_add (o : ℕ) (l : Fin 64) (h : o + l.val < 256) (ho : 64 ∣ o) : rest ⟨o + l.val, h⟩ = l := Fin.ext (by simp only [rest]; omega)
theorem head_add (o : ℕ) (l : Fin 128) (h : o + l.val < 1024) (ho : 128 ∣ o) : head ⟨o + l.val, h⟩ = ⟨o / 128, by omega⟩ :=
  Fin.ext (by simp only [head]; omega)
theorem lane_add (o : ℕ) (l : Fin 128) (h : o + l.val < 1024) (ho : 128 ∣ o) : lane ⟨o + l.val, h⟩ = l := Fin.ext (by simp only [lane]; omega)

/-- The recurrence's outputs over a block. -/
def oB (QI KI QA K V : FVec Ideal S256x1024 .bf16) (D : FVec Ideal S256x1024 .f32) (S : State) : FVec Ideal S256x1024 .f32 := fun y =>
  outS (ch (chunkOf (y 0)) QI) (ch (chunkOf (y 0)) KI) (ch (chunkOf (y 0)) QA) (ch (chunkOf (y 0)) V) (before K D V (chunkOf (y 0)) S)
    (rest (y 0)) (head (y 1)) (lane (y 1))

theorem sout_B (hc0 : ¬cond0_0 i) : sout0_B_0 (F := Ideal) c i arg2 harg2 arg3 harg3 arg4 harg4 arg5 harg5 arg6 harg6 arg7 harg7 arg8 harg8 arg9 harg9 arg10 harg10 arg11 harg11 arg12 harg12 hc0 x0 x1 x2 x3 x4 x5 xs0
    = fun y => nextB (KD x1 x4) (DEC x1 x4) (VB x2) 3 (before (KD x1 x4) (DEC x1 x4) (VB x2) 3 (stOf xs0)) (y 0) (y 1) (y 2) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 x0 x1 x2 x3 x4 x5 xs0)]
  unfold kernelRun0_B
  dsimp only
  sl_unfold_words
  simp only [View.readAt_eq_ld, harg2.read_unread, harg3.read_unread, harg4.read_unread, harg5.read_unread, harg6.read_unread, harg7.read_unread, harg11.read_unread]
  simp (disch := decide) only [↓ View.readCov_skip, ↓ View.readCov_cons_toLoadRect, ↓ View.readCov_fill, View.ld_unit_lit']
  refine canon_of_tiles _ 8 ![1, 128, 128] _ (by sl_kernel_rfl) fun p hp x => ?_
  have hd := dec_row x1 x4
  unfold DEC at hd
  unfold KD DEC VB
  simp only [List.take_succ_cons, List.take_zero, List.mem_cons, List.not_mem_nil, or_false] at hp
  generalize k0_pay15 (ACC x1 x4) (LAST x1 x4) (REST x1 x4) = K, k0_pay16 (LAST x1 x4) = D, k0_pay17 x2 = V at hp hd ⊢
  rcases hp with rfl | rfl | rfl | rfl | rfl | rfl | rfl | rfl
  all_goals
    obtain ⟨h, r, l, rfl⟩ := exists_ix3 (a := 1) (b := 128) (d := 128) x
    obtain rfl := Subsingleton.elim h 0
    rw [emb_ix3 (h := by omega) (h0 := by omega) (h1 := by omega)]
    unfold_payloads
    pointwise
    simp only [before_3, nextB, nextS, ch, row_0, row_1, row_2, row_3, hcol_0, hcol_1, hcol_2, hcol_3, hcol_4, hcol_5, hcol_6, hcol_7, Fin.val_zero, Nat.add_zero]
    by_cases hr : r.val < 64
    · simp (disch := first | decide | assumption) only [dif_pos hr, low hd, low0 hd]
    · simp (disch := first | decide | assumption) only [dif_neg hr, high hd, high0 hd]

theorem scratch_B (hc0 : ¬cond0_0 i) :
    arg12.view.readCov (kernelRun0_B (F := Ideal) c i arg2 harg2 arg3 harg3 arg4 harg4 arg5 harg5 arg6 harg6 arg7 harg7 arg8 harg8 arg9 harg9 arg10 harg10 arg11 harg11 arg12 harg12 hc0 x0 x1 x2 x3 x4 x5 xs0).2.2.2.2.1 (Rect.unit ![0, 0] ![256, 1024] inb_S256x1024_S256x1024_0_0).toLoadRect
    = oB (QI x0 x1 x4) (KI x1 x4) (QA x0 x1 x4) (KD x1 x4) (VB x2) (DEC x1 x4) (stOf xs0) := by
  unfold kernelRun0_B
  dsimp only
  sl_unfold_words
  simp only [View.readAt_eq_ld, harg2.read_unread, harg3.read_unread, harg4.read_unread, harg5.read_unread, harg6.read_unread, harg7.read_unread, harg11.read_unread]
  simp (disch := decide) only [↓ View.readCov_skip, ↓ View.readCov_cons_toLoadRect, ↓ View.readCov_fill, View.ld_unit_lit']
  have hd := dec_row x1 x4
  unfold DEC at hd
  unfold QI KI QA KD DEC VB
  unfold k0_pay21 k0_pay22
  generalize k0_pay12 (ACC x1 x4) (MID x1 x4) x0 = Q, k0_pay13 (ACC x1 x4) (MID x1 x4) (REST x1 x4) = G, k0_pay14 (ACC x1 x4) x0 = A, k0_pay15 (ACC x1 x4) (LAST x1 x4) (REST x1 x4) = K, k0_pay16 (LAST x1 x4) = D, k0_pay17 x2 = V at hd ⊢
  refine readCov_of_tiles arg12.view (oB Q G A K V D (stOf xs0)) 32 ![64, 128] _ _ (by decide) (by sl_kernel_rfl) fun p hp x => ?_
  simp only [List.take_succ_cons, List.take_zero, List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals
    obtain ⟨r, l, rfl⟩ := exists_ix2 (a := 64) (b := 128) x
    rw [emb_ix2 (h0 := by omega) (h1 := by omega)]
    simp only [oB, ix2_0, ix2_1]
    simp (disch := decide) only [chunkOf_add, rest_add, head_add, lane_add, Nat.reduceDiv]
    unfold_payloads
    pointwise
    simp only [tri_select, outS, before_0, before_1, before_2, before_3, nextB, nextS, ch, row_0, row_1, row_2, row_3, hcol_0, hcol_1, hcol_2, hcol_3, hcol_4, hcol_5, hcol_6, hcol_7, Fin.val_zero, Nat.add_zero, ite_mul, zero_mul]
    try
      by_cases hr : l.val < 64
      · simp (disch := first | decide | assumption) only [dif_pos hr, low hd, low0 hd]
      · simp (disch := first | decide | assumption) only [dif_neg hr, high hd, high0 hd]

/-- One over the root of the mean square of a row's head, with a small constant under the root. -/
def rms (o : FVec Ideal S256x1024 .f32) (r : Fin 256) (h : Fin 8) : EReal :=
  Ideal.rsqrt (Ideal.div (∑ x, o (ix2 r (hcol h x)) * o (ix2 r (hcol h x))) (Ideal.ofBits .f32 0x43000000#32) + Ideal.ofBits .f32 897988541#32)

/-- The block's second result: each row normalised by head, times the gain and the gate's silu. -/
def gated (o : FVec Ideal S256x1024 .f32) (g : Vec Ideal S1x256x1024 .f32) (w : Vec Ideal S1x1024 .f32) : FVec Ideal S256x1024 .bf16 := fun y =>
  o y * rms o (y 0) (head (y 1)) * w (ix2 0 (y 1)) * (g (ix3 0 (y 0) (y 1)) * sigm (g (ix3 0 (y 0) (y 1))))

/-- The body's text of the second result is that: eight heads side by side. -/
theorem gated_eq (o : FVec Ideal S256x1024 .f32) (g : Vec Ideal S1x256x1024 .f32) (w : Vec Ideal S1x1024 .f32) :
    k0_pay1 (k0_pay181 o (k0_pay175 o) (k0_pay176 o) (k0_pay177 o) (k0_pay178 o) (k0_pay179 o) (k0_pay180 o)
      (View.ld g (Rect.unit ![0, 0, 0] ![1, 256, 1024] inb_S1x256x1024_S1x256x1024_0_0_0))
      (View.ld w (Rect.unit ![0, 0] ![1, 1024] inb_S1x1024_S1x1024_0_0))) = gated o g w := by
  funext y
  obtain ⟨r, j, rfl⟩ := exists_ix2 y
  obtain ⟨h, d, rfl⟩ := exists_hcol j
  have hd := d.isLt
  unfold gated
  change _ = o (ix2 r (hcol h d)) * rms o r (head (hcol h d)) * w (ix2 0 (hcol h d)) * (g (ix3 0 r (hcol h d)) * sigm (g (ix3 0 r (hcol h d))))
  rw [head_hcol, rms, sigm, ← zero_sub]
  generalize hj : hcol h d = j
  unfold k0_pay1
  have hv : j.val = h.val * 128 + d.val := hj ▸ hcol_val h d
  fin_cases h <;> (
    unfold_payloads; pointwise
    simp only [hcol_0, hcol_1, hcol_2, hcol_3, hcol_4, hcol_5, hcol_6, hcol_7, Fin.zero_eta, Fin.mk_one, Fin.reduceFinMk]
    dsimp only at hv
    clear hj
    split_ifs <;> first | omega | rfl)

theorem out6_B (hc0 : ¬cond0_0 i) : out0_B_6 (F := Ideal) c i arg2 harg2 arg3 harg3 arg4 harg4 arg5 harg5 arg6 harg6 arg7 harg7 arg8 harg8 arg9 harg9 arg10 harg10 arg11 harg11 arg12 harg12 hc0 x0 x1 x2 x3 x4 x5 xs0
    = oB (QI x0 x1 x4) (KI x1 x4) (QA x0 x1 x4) (KD x1 x4) (VB x2) (DEC x1 x4) (stOf xs0) := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 arg12 harg12 hc0 x0 x1 x2 x3 x4 x5 xs0)]
  have e := scratch_B c i arg2 harg2 arg3 harg3 arg4 harg4 arg5 harg5 arg6 harg6 arg7 harg7 arg8 harg8 arg9 harg9 arg10 harg10 arg11 harg11 arg12 harg12 x0 x1 x2 x3 x4 x5 xs0 hc0
  unfold kernelRun0_B at e ⊢
  dsimp only at e ⊢
  rw [View.canon_unit_zero hz2]
  exact e

theorem out7_B (hc0 : ¬cond0_0 i) : out0_B_7 (F := Ideal) c i arg2 harg2 arg3 harg3 arg4 harg4 arg5 harg5 arg6 harg6 arg7 harg7 arg8 harg8 arg9 harg9 arg10 harg10 arg11 harg11 arg12 harg12 hc0 x0 x1 x2 x3 x4 x5 xs0
    = gated (oB (QI x0 x1 x4) (KI x1 x4) (QA x0 x1 x4) (KD x1 x4) (VB x2) (DEC x1 x4) (stOf xs0)) x3 x5 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 hc0 x0 x1 x2 x3 x4 x5 xs0)]
  have e := scratch_B c i arg2 harg2 arg3 harg3 arg4 harg4 arg5 harg5 arg6 harg6 arg7 harg7 arg8 harg8 arg9 harg9 arg10 harg10 arg11 harg11 arg12 harg12 x0 x1 x2 x3 x4 x5 xs0 hc0
  unfold kernelRun0_B at e ⊢
  dsimp only at e ⊢
  rw [View.canon_unit_zero hz2]
  have e' : kernelRun0_B.sl.v1066 c arg2 harg2 arg3 harg3 arg4 harg4 arg6 harg6 arg11 harg11 arg12 x0 x1 x2 x4 xs0 = oB (QI x0 x1 x4) (KI x1 x4) (QA x0 x1 x4) (KD x1 x4) (VB x2) (DEC x1 x4) (stOf xs0) := e
  generalize oB (QI x0 x1 x4) (KI x1 x4) (QA x0 x1 x4) (KD x1 x4) (VB x2) (DEC x1 x4) (stOf xs0) = o at e' ⊢
  simp only [kernelRun0_B.sl.r_63, kernelRun0_B.sl.r_57, kernelRun0_B.sl.r_58, kernelRun0_B.sl.r_59, kernelRun0_B.sl.r_60, kernelRun0_B.sl.r_61, kernelRun0_B.sl.r_62, e', View.readAt_eq_ld, harg5.read_unread, harg7.read_unread]
  exact gated_eq o x3 x5

end Body

end Cert.HgrnFwdIdeal.KValue

end
-- ==== Proof.HgrnFwdFirst.lean ====
/-
  The gated recurrence, kernel side, at the first block: as at the others, but the carried matrices start from zero.
-/
module

public import proofs.«01_k».proof.Proof.HgrnFwdBody
public import Idealize.ShloMosaic.Rules

@[expose] public section

set_option maxRecDepth 16384
set_option maxHeartbeats 4000000

noncomputable section

open Idealize.ShloMosaic Idealize.ShloMosaic.TcCoe Idealize.SL.Sem
open Idealize.ShloMosaic.Pipeline (Dat)

namespace Cert.HgrnFwdIdeal.KValue

open Cert.HgrnFwdIdeal Cert.HgrnFwdIdeal.Gen Cert.Blocks Cert.Pieces
open Cert.Hgrn

section Body

variable (c : Dev nD) (i : grid0.Coords) (arg2 : Memref sig .tc .vmem S1x256x1024 .f32) (harg2 : arg2.IsWhole) (arg3 : Memref sig .tc .vmem S1x256x1024 .f32) (harg3 : arg3.IsWhole)
  (arg4 : Memref sig .tc .vmem S1x256x1024 .f32) (harg4 : arg4.IsWhole) (arg5 : Memref sig .tc .vmem S1x256x1024 .f32) (harg5 : arg5.IsWhole)
  (arg6 : Memref sig .tc .vmem S2x1024 .f32) (harg6 : arg6.IsWhole) (arg7 : Memref sig .tc .vmem S1x1024 .f32) (harg7 : arg7.IsWhole)
  (arg8 : Memref sig .tc .vmem S256x1024 .f32) (harg8 : arg8.IsWhole) (arg9 : Memref sig .tc .vmem S256x1024 .bf16) (harg9 : arg9.IsWhole)
  (arg10 : Memref sig .tc .vmem S8x4x128x128 .f32) (harg10 : arg10.IsWhole) (arg11 : Memref sig .tc .vmem S8x128x128 .f32) (harg11 : arg11.IsWhole)
  (arg12 : Memref sig .tc .vmem S256x1024 .f32) (harg12 : arg12.IsWhole)
  (x0 x1 x2 x3 : Vec Ideal S1x256x1024 .f32) (x4 : Vec Ideal S2x1024 .f32) (x5 : Vec Ideal S1x1024 .f32)

/-- No matrices yet. -/
def none0 : State := fun _ _ _ => 0

theorem sout_A (hc0 : cond0_0 i) : sout0_A_0 (F := Ideal) c i arg2 harg2 arg3 harg3 arg4 harg4 arg5 harg5 arg6 harg6 arg7 harg7 arg8 harg8 arg9 harg9 arg10 harg10 arg11 harg11 arg12 harg12 hc0 x0 x1 x2 x3 x4 x5
    = fun y => nextB (KD x1 x4) (DEC x1 x4) (VB x2) 3 (before (KD x1 x4) (DEC x1 x4) (VB x2) 3 (none0)) (y 0) (y 1) (y 2) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 x0 x1 x2 x3 x4 x5)]
  unfold kernelRun0_A
  dsimp only
  sl_unfold_words
  simp only [View.readAt_eq_ld, harg2.read_unread, harg3.read_unread, harg4.read_unread, harg5.read_unread, harg6.read_unread, harg7.read_unread, harg11.read_unread]
  simp (disch := decide) only [↓ View.readCov_skip, ↓ View.readCov_cons_toLoadRect, ↓ View.readCov_fill, View.ld_unit_lit']
  refine canon_of_tiles _ 8 ![1, 128, 128] _ (by sl_kernel_rfl) fun p hp x => ?_
  have hd := dec_row x1 x4
  unfold DEC at hd
  unfold KD DEC VB
  simp only [List.take_succ_cons, List.take_zero, List.mem_cons, List.not_mem_nil, or_false] at hp
  generalize k0_pay15 (ACC x1 x4) (LAST x1 x4) (REST x1 x4) = K, k0_pay16 (LAST x1 x4) = D, k0_pay17 x2 = V at hp hd ⊢
  rcases hp with rfl | rfl | rfl | rfl | rfl | rfl | rfl | rfl
  all_goals
    obtain ⟨h, r, l, rfl⟩ := exists_ix3 (a := 1) (b := 128) (d := 128) x
    obtain rfl := Subsingleton.elim h 0
    rw [emb_ix3 (h := by omega) (h0 := by omega) (h1 := by omega)]
    unfold_payloads
    pointwise
    simp only [none0, before_3, nextB, nextS, ch, row_0, row_1, row_2, row_3, hcol_0, hcol_1, hcol_2, hcol_3, hcol_4, hcol_5, hcol_6, hcol_7, Fin.val_zero, Nat.add_zero]
    by_cases hr : r.val < 64
    · simp (disch := first | decide | assumption) only [dif_pos hr, low hd, low0 hd]
    · simp (disch := first | decide | assumption) only [dif_neg hr, high hd, high0 hd]

theorem scratch_A (hc0 : cond0_0 i) :
    arg12.view.readCov (kernelRun0_A (F := Ideal) c i arg2 harg2 arg3 harg3 arg4 harg4 arg5 harg5 arg6 harg6 arg7 harg7 arg8 harg8 arg9 harg9 arg10 harg10 arg11 harg11 arg12 harg12 hc0 x0 x1 x2 x3 x4 x5).2.2.2.2.1 (Rect.unit ![0, 0] ![256, 1024] inb_S256x1024_S256x1024_0_0).toLoadRect
    = oB (QI x0 x1 x4) (KI x1 x4) (QA x0 x1 x4) (KD x1 x4) (VB x2) (DEC x1 x4) (none0) := by
  unfold kernelRun0_A
  dsimp only
  sl_unfold_words
  simp only [View.readAt_eq_ld, harg2.read_unread, harg3.read_unread, harg4.read_unread, harg5.read_unread, harg6.read_unread, harg7.read_unread, harg11.read_unread]
  simp (disch := decide) only [↓ View.readCov_skip, ↓ View.readCov_cons_toLoadRect, ↓ View.readCov_fill, View.ld_unit_lit']
  have hd := dec_row x1 x4
  unfold DEC at hd
  unfold QI KI QA KD DEC VB
  unfold k0_pay21 k0_pay22
  generalize k0_pay12 (ACC x1 x4) (MID x1 x4) x0 = Q, k0_pay13 (ACC x1 x4) (MID x1 x4) (REST x1 x4) = G, k0_pay14 (ACC x1 x4) x0 = A, k0_pay15 (ACC x1 x4) (LAST x1 x4) (REST x1 x4) = K, k0_pay16 (LAST x1 x4) = D, k0_pay17 x2 = V at hd ⊢
  refine readCov_of_tiles arg12.view (oB Q G A K V D (none0)) 32 ![64, 128] _ _ (by decide) (by sl_kernel_rfl) fun p hp x => ?_
  simp only [List.take_succ_cons, List.take_zero, List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals
    obtain ⟨r, l, rfl⟩ := exists_ix2 (a := 64) (b := 128) x
    rw [emb_ix2 (h0 := by omega) (h1 := by omega)]
    simp only [oB, ix2_0, ix2_1]
    simp (disch := decide) only [chunkOf_add, rest_add, head_add, lane_add, Nat.reduceDiv]
    unfold_payloads
    pointwise
    simp only [none0, tri_select, outS, before_0, before_1, before_2, before_3, nextB, nextS, ch, row_0, row_1, row_2, row_3, hcol_0, hcol_1, hcol_2, hcol_3, hcol_4, hcol_5, hcol_6, hcol_7, Fin.val_zero, Nat.add_zero, ite_mul, zero_mul]
    try
      by_cases hr : l.val < 64
      · simp (disch := first | decide | assumption) only [dif_pos hr, low hd, low0 hd]
      · simp (disch := first | decide | assumption) only [dif_neg hr, high hd, high0 hd]

theorem out6_A (hc0 : cond0_0 i) : out0_A_6 (F := Ideal) c i arg2 harg2 arg3 harg3 arg4 harg4 arg5 harg5 arg6 harg6 arg7 harg7 arg8 harg8 arg9 harg9 arg10 harg10 arg11 harg11 arg12 harg12 hc0 x0 x1 x2 x3 x4 x5
    = oB (QI x0 x1 x4) (KI x1 x4) (QA x0 x1 x4) (KD x1 x4) (VB x2) (DEC x1 x4) (none0) := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 arg12 harg12 hc0 x0 x1 x2 x3 x4 x5)]
  have e := scratch_A c i arg2 harg2 arg3 harg3 arg4 harg4 arg5 harg5 arg6 harg6 arg7 harg7 arg8 harg8 arg9 harg9 arg10 harg10 arg11 harg11 arg12 harg12 x0 x1 x2 x3 x4 x5 hc0
  unfold kernelRun0_A at e ⊢
  dsimp only at e ⊢
  rw [View.canon_unit_zero hz2]
  exact e

theorem out7_A (hc0 : cond0_0 i) : out0_A_7 (F := Ideal) c i arg2 harg2 arg3 harg3 arg4 harg4 arg5 harg5 arg6 harg6 arg7 harg7 arg8 harg8 arg9 harg9 arg10 harg10 arg11 harg11 arg12 harg12 hc0 x0 x1 x2 x3 x4 x5
    = gated (oB (QI x0 x1 x4) (KI x1 x4) (QA x0 x1 x4) (KD x1 x4) (VB x2) (DEC x1 x4) (none0)) x3 x5 := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 hc0 x0 x1 x2 x3 x4 x5)]
  have e := scratch_A c i arg2 harg2 arg3 harg3 arg4 harg4 arg5 harg5 arg6 harg6 arg7 harg7 arg8 harg8 arg9 harg9 arg10 harg10 arg11 harg11 arg12 harg12 x0 x1 x2 x3 x4 x5 hc0
  unfold kernelRun0_A at e ⊢
  dsimp only at e ⊢
  rw [View.canon_unit_zero hz2]
  have e' : kernelRun0_A.sl.v1066 c arg2 harg2 arg3 harg3 arg4 harg4 arg6 harg6 arg11 arg12 x0 x1 x2 x4 = oB (QI x0 x1 x4) (KI x1 x4) (QA x0 x1 x4) (KD x1 x4) (VB x2) (DEC x1 x4) (none0) := e
  generalize oB (QI x0 x1 x4) (KI x1 x4) (QA x0 x1 x4) (KD x1 x4) (VB x2) (DEC x1 x4) (none0) = o at e' ⊢
  simp only [kernelRun0_A.sl.r_63, kernelRun0_A.sl.r_57, kernelRun0_A.sl.r_58, kernelRun0_A.sl.r_59, kernelRun0_A.sl.r_60, kernelRun0_A.sl.r_61, kernelRun0_A.sl.r_62, e', View.readAt_eq_ld, harg5.read_unread, harg7.read_unread]
  exact gated_eq o x3 x5

end Body

end Cert.HgrnFwdIdeal.KValue

end
-- ==== Proof.HgrnChunk.lean ====
/-
  The gated recurrence: one chunk's decayed queries and keys from its queries, gates and values, and the carried matrices over
  all the chunks.
-/
module

public import proofs.«01_k».proof.Proof.HgrnSpec
public import proofs.«01_k».proof.Proof.Pieces

@[expose] public section

noncomputable section

open Idealize.ShloMosaic

namespace Cert.Hgrn

/-! The running sum by doubling. -/

/-- One doubling step. -/
def roll (k : ℕ) (f : Fin 64 → EReal) : Fin 64 → EReal := fun r => f r + if h : k ≤ r.val then f ⟨r.val - k, by omega⟩ else 0

/-- The sum of the last `w` terms. -/
def window (w : ℕ) (f : Fin 64 → EReal) : Fin 64 → EReal := fun r => ∑ s : Fin 64, if s.val ≤ r.val ∧ r.val < s.val + w then f s else 0

theorem roll_window (w : ℕ) (f : Fin 64 → EReal) : roll w (window w f) = window (w + w) f := by
  funext r
  unfold roll window
  split_ifs with h
  · rw [← Finset.sum_add_distrib]
    refine Finset.sum_congr rfl fun s _ => ?_
    dsimp only
    split_ifs <;> first | omega | simp only [add_zero, zero_add]
  · rw [add_zero]
    refine Finset.sum_congr rfl fun s _ => ?_
    split_ifs <;> first | omega | rfl

theorem window_one (f : Fin 64 → EReal) : window 1 f = f := by
  funext r
  unfold window
  rw [Finset.sum_eq_single r (fun s _ hs => if_neg fun h => hs (Fin.ext (by omega))) (fun h => absurd (Finset.mem_univ r) h)]
  exact if_pos (by omega)

theorem window_all (f : Fin 64 → EReal) (r : Fin 64) : window 64 f r = ∑ s : Fin 64, if s ≤ r then f s else 0 :=
  Finset.sum_congr rfl fun s _ => if_congr (by rw [Fin.le_def]; omega) rfl rfl

theorem doubling (f : Fin 64 → EReal) (r : Fin 64) :
    roll 32 (roll 16 (roll 8 (roll 4 (roll 2 (roll 1 f))))) r = ∑ s : Fin 64, if s ≤ r then f s else 0 := by
  have e : roll 1 f = window 2 f := by conv_lhs => rw [← window_one f]; exact roll_window 1 f
  rw [e, roll_window 2, roll_window 4, roll_window 8, roll_window 16, roll_window 32, window_all]

/-! One chunk. -/

/-- The gate of a logit above its lower bound. -/
def gate (lb x : EReal) : EReal := lb + (1 - lb) * sigm x

/-- The running sum of the gates' logarithms. -/
def accS (f : Chunk) : Chunk := fun r j => ∑ s : Fin 64, if s ≤ r then Ideal.log (f s j) else 0

/-- The queries, scaled. -/
def scaled (q : Chunk) : Chunk := fun r j => q r j * Ideal.ofBits .f32 0x3DB504F3#32

/-- Queries and keys decayed to the chunk's middle, queries from its start, keys to its end, and the whole chunk's decay. -/
def qIn (q f : Chunk) : Chunk := fun r j => scaled q r j * Ideal.exp (accS f r j - accS f 31 j)
def kIn (f : Chunk) : Chunk := fun r j => (1 - f r j) * Ideal.exp (accS f 31 j - accS f r j)
def qAll (q f : Chunk) : Chunk := fun r j => scaled q r j * Ideal.exp (accS f r j)
def kEnd (f : Chunk) : Chunk := fun r j => (1 - f r j) * Ideal.exp (accS f 63 j - accS f r j)
def decay (f : Chunk) : Fin 1024 → EReal := fun j => Ideal.exp (accS f 63 j)

/-- A chunk's outputs, and the matrices after it. -/
def outC (q f v : Chunk) (S : State) : Fin 64 → Fin 8 → Fin 128 → EReal := outS (qIn q f) (kIn f) (qAll q f) v S
def nextC (f v : Chunk) (S : State) : State := nextS v (kEnd f) (decay f) S

/-! All the chunks. -/

/-- Row `r` of chunk `n`. -/
def crow (n : ℕ) (r : Fin 64) : Fin 4096 := ⟨(64 * n + r.val) % 4096, Nat.mod_lt _ (by omega)⟩

/-- Chunk `n` of a matrix of rows. -/
def chunk (X : Fin 4096 → Fin 1024 → EReal) (n : ℕ) : Chunk := fun r j => X (crow n r) j

/-- The carried matrices before chunk `n`. -/
def states (f v : Fin 4096 → Fin 1024 → EReal) : ℕ → State
  | 0 => fun _ _ _ => 0
  | n + 1 => nextC (chunk f n) (chunk v n) (states f v n)

/-- The recurrence's output at a row and a column. -/
def output (q f v : Fin 4096 → Fin 1024 → EReal) (r : Fin 4096) (j : Fin 1024) : EReal :=
  outC (chunk q (r.val / 64)) (chunk f (r.val / 64)) (chunk v (r.val / 64)) (states f v (r.val / 64)) ⟨r.val % 64, by omega⟩ (head j) (lane j)

/-- The output, normalised by head, times the gain and the gate's silu. -/
def gatedOut (o g : Fin 4096 → Fin 1024 → EReal) (w : Fin 1024 → EReal) (r : Fin 4096) (j : Fin 1024) : EReal :=
  o r j * Ideal.rsqrt (Ideal.div (∑ x, o r (hcol (head j) x) * o r (hcol (head j) x)) (Ideal.ofBits .f32 0x43000000#32) + Ideal.ofBits .f32 897988541#32)
    * w j * (g r j * sigm (g r j))

end Cert.Hgrn

end
-- ==== Proof.HgrnFwdGates.lean ====
/-
  The gated recurrence, kernel side: the gate, the running sum of its logarithm within a chunk, and the decayed queries and keys.
-/
module

public import proofs.«01_k».proof.Proof.HgrnFwdBody
public import proofs.«01_k».proof.Proof.HgrnChunk
public import Idealize.ShloMosaic.Rules

@[expose] public section

set_option maxRecDepth 16384
set_option maxHeartbeats 4000000

noncomputable section

open Idealize.ShloMosaic Idealize.ShloMosaic.TcCoe Idealize.SL.Sem
open Idealize.ShloMosaic.Pipeline (Dat)

namespace Cert.HgrnFwdIdeal.KValue

open Cert.HgrnFwdIdeal Cert.HgrnFwdIdeal.Gen Cert.Blocks Cert.Pieces
open Cert.Hgrn

theorem select_one (x y : EReal) : Scalar.select 1#1 x y = x := rfl
theorem select_zero (x y : EReal) : Scalar.select 0#1 x y = y := rfl

/-- One doubling step of the running sum: each row takes the row `k` before it in its chunk. -/
theorem step_read (k : BitVec 32) (n : ℕ) (hk : k.toNat = n) (hn : n < 64)
    (hc : ∀ r : Fin 256, IntOp.cmpi .sge (IntOp.andi (BitVec.ofNat 32 r.val) 63#32) k = if n ≤ r.val % 64 then 1#1 else 0#1)
    (x : FVec Ideal S256x1024 .f32) (a : Fin 4) (j : Fin 1024) :
    (fun r => addf x (select (cmpi .sge k0_pay3 (broadcast S256x1024 k)) (dynamicRotate 0 k none x rotates_S256x1024_d0)
      (broadcast S256x1024 (Scalar.ofBits .f32 0x00000000#32))) (ix2 (row a r) j))
    = roll n (fun r => x (ix2 (row a r) j)) := by
  funext r
  unfold k0_pay3 roll
  pointwise
  have hv := row_val a r
  subst hk
  rw [hc]
  have e : (row a r).val % 64 = r.val := by omega
  simp only [e]
  split_ifs with h
  · rw [select_one]
    have e2 : (⟨((row a r).val + 256 - k.toNat % 256) % 256, Nat.mod_lt _ (by omega)⟩ : Fin 256) = row a ⟨r.val - k.toNat, by omega⟩ :=
      Fin.ext (by have hw := row_val a ⟨r.val - k.toNat, by omega⟩; dsimp only at hw ⊢; omega)
    exact congrArg (fun z => x (ix2 (row a r) j) + x (ix2 z j)) e2
  · rw [select_zero]

section
variable (x0 x1 x2 : Vec Ideal S1x256x1024 .f32) (x4 : Vec Ideal S2x1024 .f32)

/-- The block's queries, gates and values. -/
def bq (x : Vec Ideal S1x256x1024 .f32) (a : Fin 4) : Chunk := fun r j => x (ix3 0 (row a r) j)
def bf (a : Fin 4) : Chunk := fun r j => gate (sigm (x4 (ix2 0 j) - x4 (ix2 1 j))) (x1 (ix3 0 (row a r) j))

theorem gate_read (r : Fin 256) (j : Fin 1024) :
    k0_pay4 (T0 x4) (T1 x4) x1 (ix2 r j) = gate (sigm (x4 (ix2 0 j) - x4 (ix2 1 j))) (x1 (ix3 0 r j)) := by
  unfold k0_pay4 gate sigm T0 T1
  simp only [← zero_sub]
  pointwise

theorem log_read (a : Fin 4) (r : Fin 64) (j : Fin 1024) :
    k0_pay5 (T0 x4) (T1 x4) x1 (ix2 (row a r) j) = Ideal.log (bf x1 x4 a r j) := by
  unfold k0_pay5
  pointwise
  rw [gate_read]
  rfl

theorem acc_read (a : Fin 4) (r : Fin 64) (j : Fin 1024) : ACC x1 x4 (ix2 (row a r) j) = accS (bf x1 x4 a) r j := by
  unfold ACC accS k0_pay7 k0_pay6
  have e0 := fun r => log_read x1 x4 a r j
  generalize k0_pay5 (T0 x4) (T1 x4) x1 = X at e0 ⊢
  refine (congrFun (step_read 32#32 32 rfl (by omega) (by decide) _ a j) r).trans ?_
  rw [step_read 16#32 16 rfl (by omega) (by decide) _ a j, step_read 8#32 8 rfl (by omega) (by decide) _ a j,
    step_read 4#32 4 rfl (by omega) (by decide) _ a j, step_read 2#32 2 rfl (by omega) (by decide) _ a j,
    step_read 1#32 1 rfl (by omega) (by decide) _ a j, doubling]
  simp only [e0]

theorem mid_read (a : Fin 4) (r : Fin 64) (j : Fin 1024) : MID x1 x4 (ix2 (row a r) j) = ACC x1 x4 (ix2 (row a 31) j) := by
  unfold MID ACC k0_pay8
  generalize k0_pay7 (F := Ideal) k0_pay3 (k0_pay5 (T0 x4) (T1 x4) x1) (k0_pay6 (T0 x4) (T1 x4) x1) = A
  have e : (row a r).val / 64 = a.val := by rw [row_val]; omega
  pointwise
  simp only [e]
  refine congrArg A (congrArg (fun z => ix2 z j) (Fin.ext ?_))
  exact (row_val a 31).symm

theorem last_read (a : Fin 4) (r : Fin 64) (j : Fin 1024) : LAST x1 x4 (ix2 (row a r) j) = ACC x1 x4 (ix2 (row a 63) j) := by
  unfold LAST ACC k0_pay9
  generalize k0_pay7 (F := Ideal) k0_pay3 (k0_pay5 (T0 x4) (T1 x4) x1) (k0_pay6 (T0 x4) (T1 x4) x1) = A
  have e : (row a r).val / 64 = a.val := by rw [row_val]; omega
  pointwise
  simp only [e]
  refine congrArg A (congrArg (fun z => ix2 z j) (Fin.ext ?_))
  exact (row_val a 63).symm

theorem ch_QI (a : Fin 4) : ch a (QI x0 x1 x4) = qIn (bq x0 a) (bf x1 x4 a) := by
  funext r j
  unfold ch QI k0_pay12 k0_pay11 qIn scaled bq
  pointwise
  rw [mid_read, acc_read, acc_read]

theorem rest_read (a : Fin 4) (r : Fin 64) (j : Fin 1024) : REST x1 x4 (ix2 (row a r) j) = 1 - bf x1 x4 a r j := by
  unfold REST k0_pay10
  pointwise
  rw [gate_read]
  rfl

theorem ch_KI (a : Fin 4) : ch a (KI x1 x4) = kIn (bf x1 x4 a) := by
  funext r j
  unfold ch KI k0_pay13 kIn
  pointwise
  rw [mid_read, acc_read, acc_read, rest_read]

theorem ch_QA (a : Fin 4) : ch a (QA x0 x1 x4) = qAll (bq x0 a) (bf x1 x4 a) := by
  funext r j
  unfold ch QA k0_pay14 k0_pay11 qAll scaled bq
  pointwise
  rw [acc_read]

theorem ch_KD (a : Fin 4) : ch a (KD x1 x4) = kEnd (bf x1 x4 a) := by
  funext r j
  unfold ch KD k0_pay15 kEnd
  pointwise
  rw [last_read, acc_read, acc_read, rest_read]

theorem ch_DEC (a : Fin 4) : ch a (DEC x1 x4) 0 = decay (bf x1 x4 a) := by
  funext j
  unfold ch DEC k0_pay16 decay
  pointwise
  rw [last_read, acc_read]

theorem ch_VB (a : Fin 4) : ch a (VB x2) = bq x2 a := by
  funext r j
  unfold ch VB k0_pay17 bq
  pointwise

end

end Cert.HgrnFwdIdeal.KValue

end
-- ==== Proof.HgrnArgs.lean ====
/-
  The gated recurrence: its queries, gates, values and output gates by row and column, taken from the projections and the table
  of lower bounds.
-/
module

public import proofs.«01_k».proof.Proof.HgrnChunk
public import proofs.«01_k».proof.Proof.Blocks

@[expose] public section

noncomputable section

open Idealize.ShloMosaic Idealize.ShloMosaic.TcCoe

namespace Cert.Hgrn

variable (P : (⟨3, ![8, 4096, 1024]⟩ : Shape).Idx → EReal) (T : (⟨2, ![2, 1024]⟩ : Shape).Idx → EReal)

/-- The queries. -/
def qs (r : Fin 4096) (j : Fin 1024) : EReal := P (ix3 2 r j)
/-- The gates. -/
def fs (r : Fin 4096) (j : Fin 1024) : EReal := gate (sigm (T (ix2 0 j) - T (ix2 1 j))) (P (ix3 3 r j))
/-- The values. -/
def vs (r : Fin 4096) (j : Fin 1024) : EReal := P (ix3 4 r j)
/-- The output gates. -/
def gs (r : Fin 4096) (j : Fin 1024) : EReal := P (ix3 5 r j)

end Cert.Hgrn

end
-- ==== Proof.HgrnFwdBlocks.lean ====
/-
  The gated recurrence, kernel side: the blocks its windows read, the matrices carried from block to block, and the arrays its run leaves.
-/
module

public import proofs.«01_k».proof.Proof.HgrnFwdFirst
public import proofs.«01_k».proof.Proof.HgrnFwdGates
public import proofs.«01_k».proof.Proof.HgrnArgs
public import Idealize.ShloMosaic.Rules

@[expose] public section

set_option maxRecDepth 16384
set_option maxHeartbeats 4000000

noncomputable section

open Idealize.ShloMosaic Idealize.ShloMosaic.TcCoe Idealize.SL.Sem
open Idealize.ShloMosaic.Pipeline (Dat)

namespace Cert.HgrnFwdIdeal.KValue

open Cert.HgrnFwdIdeal Cert.HgrnFwdIdeal.Gen Cert.Blocks Cert.Pieces
open Cert.Hgrn

variable (m : (ℓ : Loc nD τ sig) → Buf (Elt Ideal) ℓ) (c : Dev nD)

/-! The arguments. -/

abbrev Proj : S8x4096x1024.Idx → EReal := m ((c : Thread nD τ).loc main_arg0)
abbrev Tab : S2x1024.Idx → EReal := m ((c : Thread nD τ).loc main_arg1)
abbrev Gain : S1x1024.Idx → EReal := m ((c : Thread nD τ).loc main_arg2)

/-- Row `r` of block `t`. -/
def brow (t : Fin cfg0.N) (r : Fin 256) : Fin 4096 := ⟨t.val * 256 + r.val, by have h := t.isLt; have h2 : cfg0.N = 16 := N_0; omega⟩

theorem brow_row (t : Fin cfg0.N) (a : Fin 4) (r : Fin 64) : brow t (row a r) = crow (4 * t.val + a.val) r :=
  Fin.ext (by have h := t.isLt; have h2 : cfg0.N = 16 := N_0; have h3 := row_val a r; simp only [brow, crow]; omega)

section Windows
variable (t : Fin cfg0.N)

theorem blk0 (r : Fin 256) (l : Fin 1024) : iblk m c 0 t (ix3 0 r l) = Proj m c (ix3 2 (brow t r) l) := by
  have e : ∀ (t : Fin cfg0.N) a, win0_0.index t a * win0_0.size a = ![2, t.val * 256, 0] a := by decide +kernel
  refine (congrArg (V m c main_arg0) (rect_emb_eq win0_0 t _ _ fun a => ?_)).trans (congrFun (V_main_arg0 m c) _)
  rw [e t a]; match a with
  | ⟨0, _⟩ => rfl
  | ⟨1, _⟩ => rfl
  | ⟨2, _⟩ => exact Nat.zero_add _

theorem blk1 (r : Fin 256) (l : Fin 1024) : iblk m c 1 t (ix3 0 r l) = Proj m c (ix3 3 (brow t r) l) := by
  have e : ∀ (t : Fin cfg0.N) a, win0_1.index t a * win0_1.size a = ![3, t.val * 256, 0] a := by decide +kernel
  refine (congrArg (V m c main_arg0) (rect_emb_eq win0_1 t _ _ fun a => ?_)).trans (congrFun (V_main_arg0 m c) _)
  rw [e t a]; match a with
  | ⟨0, _⟩ => rfl
  | ⟨1, _⟩ => rfl
  | ⟨2, _⟩ => exact Nat.zero_add _

theorem blk2 (r : Fin 256) (l : Fin 1024) : iblk m c 2 t (ix3 0 r l) = Proj m c (ix3 4 (brow t r) l) := by
  have e : ∀ (t : Fin cfg0.N) a, win0_2.index t a * win0_2.size a = ![4, t.val * 256, 0] a := by decide +kernel
  refine (congrArg (V m c main_arg0) (rect_emb_eq win0_2 t _ _ fun a => ?_)).trans (congrFun (V_main_arg0 m c) _)
  rw [e t a]; match a with
  | ⟨0, _⟩ => rfl
  | ⟨1, _⟩ => rfl
  | ⟨2, _⟩ => exact Nat.zero_add _

theorem blk3 (r : Fin 256) (l : Fin 1024) : iblk m c 3 t (ix3 0 r l) = Proj m c (ix3 5 (brow t r) l) := by
  have e : ∀ (t : Fin cfg0.N) a, win0_3.index t a * win0_3.size a = ![5, t.val * 256, 0] a := by decide +kernel
  refine (congrArg (V m c main_arg0) (rect_emb_eq win0_3 t _ _ fun a => ?_)).trans (congrFun (V_main_arg0 m c) _)
  rw [e t a]; match a with
  | ⟨0, _⟩ => rfl
  | ⟨1, _⟩ => rfl
  | ⟨2, _⟩ => exact Nat.zero_add _

theorem blk4 (q : Fin 2) (l : Fin 1024) : iblk m c 4 t (ix2 q l) = Tab m c (ix2 q l) := by
  have e : ∀ (t : Fin cfg0.N) a, win0_4.index t a * win0_4.size a = ![0, 0] a := by decide +kernel
  refine (congrArg (V m c main_arg1) (rect_emb_eq win0_4 t _ _ fun a => ?_)).trans (congrFun (V_main_arg1 m c) _)
  rw [e t a]; match a with
  | ⟨0, _⟩ => exact Nat.zero_add _
  | ⟨1, _⟩ => exact Nat.zero_add _

theorem blk5 (l : Fin 1024) : iblk m c 5 t (ix2 0 l) = Gain m c (ix2 0 l) := by
  have e : ∀ (t : Fin cfg0.N) a, win0_5.index t a * win0_5.size a = ![0, 0] a := by decide +kernel
  refine (congrArg (V m c main_arg2) (rect_emb_eq win0_5 t _ _ fun a => ?_)).trans (congrFun (V_main_arg2 m c) _)
  rw [e t a]; match a with
  | ⟨0, _⟩ => exact Nat.zero_add _
  | ⟨1, _⟩ => exact Nat.zero_add _

theorem out_rows6 (r : Fin 256) (l : Fin 1024) : (win0_6.rect t).emb (ix2 r l) = (ix2 (brow t r) l : S4096x1024.Idx) := by
  have e : ∀ (t : Fin cfg0.N) a, win0_6.index t a * win0_6.size a = ![t.val * 256, 0] a := by decide +kernel
  refine rect_emb_eq _ t _ _ fun a => ?_
  rw [e t a]; match a with
  | ⟨0, _⟩ => rfl
  | ⟨1, _⟩ => exact Nat.zero_add _

theorem out_rows7 (r : Fin 256) (l : Fin 1024) : (win0_7.rect t).emb (ix2 r l) = (ix2 (brow t r) l : S4096x1024.Idx) := by
  have e : ∀ (t : Fin cfg0.N) a, win0_7.index t a * win0_7.size a = ![t.val * 256, 0] a := by decide +kernel
  refine rect_emb_eq _ t _ _ fun a => ?_
  rw [e t a]; match a with
  | ⟨0, _⟩ => rfl
  | ⟨1, _⟩ => exact Nat.zero_add _

end Windows

/-! What the run leaves. -/

/-- The carried matrices before chunk `n`. -/
abbrev st (n : ℕ) : State := states (fs (Proj m c) (Tab m c)) (vs (Proj m c)) n

/-- The two arrays. -/
abbrev G6 : S4096x1024.Idx → EReal := fun y => output (qs (Proj m c)) (fs (Proj m c) (Tab m c)) (vs (Proj m c)) (y 0) (y 1)
abbrev G7 : S4096x1024.Idx → EReal := fun y =>
  gatedOut (output (qs (Proj m c)) (fs (Proj m c) (Tab m c)) (vs (Proj m c))) (gs (Proj m c)) (fun j => Gain m c (ix2 0 j)) (y 0) (y 1)

section Block
variable (t : Fin cfg0.N)

theorem bq_eq (a : Fin 4) : bq (iblk m c 0 t) a = chunk (qs (Proj m c)) (4 * t.val + a.val) := by
  funext r j; simp only [bq, blk0, brow_row, chunk, qs]
theorem bv_eq (a : Fin 4) : bq (iblk m c 2 t) a = chunk (vs (Proj m c)) (4 * t.val + a.val) := by
  funext r j; simp only [bq, blk2, brow_row, chunk, vs]
theorem bf_eq (a : Fin 4) : bf (iblk m c 1 t) (iblk m c 4 t) a = chunk (fs (Proj m c) (Tab m c)) (4 * t.val + a.val) := by
  funext r j; simp only [bf, blk1, blk4, brow_row, chunk, fs]

theorem nextB_eq (a : Fin 4) (S : State) (h : S = st m c (4 * t.val + a.val)) :
    nextB (KD (iblk m c 1 t) (iblk m c 4 t)) (DEC (iblk m c 1 t) (iblk m c 4 t)) (VB (iblk m c 2 t)) a S = st m c (4 * t.val + a.val + 1) := by
  unfold nextB
  rw [ch_VB, ch_KD, ch_DEC, bf_eq, bv_eq, h]
  rfl

theorem before_eq (a : Fin 4) :
    before (KD (iblk m c 1 t) (iblk m c 4 t)) (DEC (iblk m c 1 t) (iblk m c 4 t)) (VB (iblk m c 2 t)) a (st m c (4 * t.val)) = st m c (4 * t.val + a.val) := by
  have e0 := nextB_eq m c t 0 _ rfl
  have e1 := nextB_eq m c t 1 _ rfl
  have e2 := nextB_eq m c t 2 _ rfl
  fin_cases a
  · exact before_0 _ _ _ _
  · exact (before_1 _ _ _ _).trans e0
  · exact (before_2 _ _ _ _).trans ((congrArg _ e0).trans e1)
  · exact (before_3 _ _ _ _).trans ((congrArg _ ((congrArg _ e0).trans e1)).trans e2)

/-- A block's outputs over the matrices before it. -/
abbrev oT : FVec Ideal S256x1024 .f32 :=
  oB (QI (iblk m c 0 t) (iblk m c 1 t) (iblk m c 4 t)) (KI (iblk m c 1 t) (iblk m c 4 t)) (QA (iblk m c 0 t) (iblk m c 1 t) (iblk m c 4 t))
    (KD (iblk m c 1 t) (iblk m c 4 t)) (VB (iblk m c 2 t)) (DEC (iblk m c 1 t) (iblk m c 4 t)) (st m c (4 * t.val))

theorem oT_eq (r : Fin 256) (j : Fin 1024) : oT m c t (ix2 r j) = G6 m c (ix2 (brow t r) j) := by
  obtain ⟨a, r, rfl⟩ := exists_row r
  have h := t.isLt
  have h2 : cfg0.N = 16 := N_0
  have hn : (brow t (row a r)).val / 64 = 4 * t.val + a.val := by have h3 := row_val a r; simp only [brow]; omega
  have hr : (⟨(brow t (row a r)).val % 64, by omega⟩ : Fin 64) = r := Fin.ext (by have h3 := row_val a r; simp only [brow]; omega)
  simp only [oT, oB, G6, output, ix2_0, ix2_1, chunkOf_row, rest_row, before_eq, ch_QI, ch_KI, ch_QA, ch_VB, bf_eq, bq_eq, bv_eq, hr, hn, outC]

theorem gated_row (r : Fin 256) (j : Fin 1024) : gated (oT m c t) (iblk m c 3 t) (iblk m c 5 t) (ix2 r j) = G7 m c (ix2 (brow t r) j) := by
  simp only [gated, rms, G7, gatedOut, ix2_0, ix2_1, oT_eq, G6, blk3, blk5, gs]

theorem left : (outsAt0 m c t.val t.isLt).1 = oT m c t ∧ (outsAt0 m c t.val t.isLt).2.1 = gated (oT m c t) (iblk m c 3 t) (iblk m c 5 t)
    ∧ (outsAt0 m c t.val t.isLt).2.2.2 = fun y => st m c (4 * (t.val + 1)) (y 0) (y 1) (y 2) := by
  obtain ⟨n, hn⟩ := t
  induction n with
  | zero =>
    rw [outsAt0_A m c ⟨0, hn⟩ (Nat.zero_mod _)]
    dsimp only
    rw [out6_A, out7_A, sout_A]
    refine ⟨rfl, rfl, ?_⟩
    exact congrArg (fun S : State => fun y : S8x128x128.Idx => S (y 0) (y 1) (y 2)) (nextB_eq m c ⟨0, hn⟩ 3 _ (before_eq m c ⟨0, hn⟩ 3))
  | succ n ih =>
    have h2 : cfg0.N = 16 := N_0
    have ih := (ih (Nat.lt_of_succ_lt hn)).2.2
    have es : stOf (outsAt0 m c (n + 1 - 1) (Nat.lt_of_succ_lt hn)).2.2.2 = st m c (4 * (n + 1)) := congrArg stOf ih
    have es' : stOf (outsAt0 m c n (Nat.lt_of_succ_lt hn)).2.2.2 = st m c (4 * (n + 1)) := congrArg stOf ih
    rw [outsAt0_B m c ⟨n + 1, hn⟩ (by dsimp only; omega)]
    dsimp only
    rw [out6_B, out7_B, sout_B]
    first | rw [es] | rw [es']
    refine ⟨rfl, rfl, ?_⟩
    exact congrArg (fun S : State => fun y : S8x128x128.Idx => S (y 0) (y 1) (y 2)) (nextB_eq m c ⟨n + 1, hn⟩ 3 _ (before_eq m c ⟨n + 1, hn⟩ 3))

theorem written6 : (dats m 0 c).flushed 6 t = (win0_6.blk t).view.read (Elt Ideal) (G6 m c) := by
  rw [Cert.HgrnFwdIdeal.Value.flushed6, (left m c t).1]
  funext (y : S256x1024.Idx)
  obtain ⟨r, l, rfl⟩ := exists_ix2 (a := 256) (b := 1024) y
  show oT m c t (ix2 r l) = G6 m c ((win0_6.rect t).emb (ix2 r l))
  rw [out_rows6, oT_eq]

theorem written7 : (dats m 0 c).flushed 7 t = (win0_7.blk t).view.read (Elt Ideal) (G7 m c) := by
  rw [Cert.HgrnFwdIdeal.Value.flushed7, (left m c t).2.1]
  funext (y : S256x1024.Idx)
  obtain ⟨r, l, rfl⟩ := exists_ix2 (a := 256) (b := 1024) y
  show gated (oT m c t) (iblk m c 3 t) (iblk m c 5 t) (ix2 r l) = G7 m c ((win0_7.rect t).emb (ix2 r l))
  rw [out_rows7, gated_row]

end Block

theorem exists_brow (r : Fin 4096) : ∃ t q, brow t q = r :=
  ⟨⟨r.val / 256, by have h : cfg0.N = 16 := N_0; omega⟩, ⟨r.val % 256, by omega⟩, Fin.ext (Nat.div_add_mod' _ _)⟩

theorem final6 : (dats m 0 c).arrAt 6 cfg0.N = G6 m c := by
  refine (dats m 0 c).arrAt_eq_of_cover 6 (G6 m c) (fun t _ => written6 m c t) fun i => ?_
  obtain ⟨r, l, rfl⟩ := exists_ix2 (a := 4096) (b := 1024) i
  obtain ⟨t, r, rfl⟩ := exists_brow r
  exact ⟨t, flush0_6 t, out_rows6 t r l ▸ ((cfg0.win 6).blk t).view.emb_mem_set (ix2 r l : S256x1024.Idx)⟩

theorem final7 : (dats m 0 c).arrAt 7 cfg0.N = G7 m c := by
  refine (dats m 0 c).arrAt_eq_of_cover 7 (G7 m c) (fun t _ => written7 m c t) fun i => ?_
  obtain ⟨r, l, rfl⟩ := exists_ix2 (a := 4096) (b := 1024) i
  obtain ⟨t, r, rfl⟩ := exists_brow r
  exact ⟨t, flush0_7 t, out_rows7 t r l ▸ ((cfg0.win 7).blk t).view.emb_mem_set (ix2 r l : S256x1024.Idx)⟩

end Cert.HgrnFwdIdeal.KValue

end
-- ==== Proof.HgrnFwdRefGates.lean ====
/-
  The gated recurrence, reference side: running sums, the gates and the chunks the scan walks.
-/
module

public import proofs.«01_k».proof.Proof.HgrnArgs
public import proofs.«01_k».proof.Proof.Reals
public import proofs.«01_k».proof.Proof.Sums
public import proofs.«01_k».proof.Proof.Gen.HgrnFwdRefIdeal.Step

@[expose] public section

set_option maxRecDepth 16384
set_option maxHeartbeats 4000000

noncomputable section

open Idealize.ShloMosaic Idealize.ShloMosaic.TcCoe Idealize.SL.Sem Idealize.ShloMosaic.StableHlo
open scoped BigOperators

namespace Cert.HgrnFwdRefIdeal.RefValue

open Cert.HgrnFwdRefIdeal Cert.HgrnFwdRefIdeal.Gen Cert.HgrnFwdRefIdeal.Step Cert.Blocks Cert.Hgrn Cert.Reals

/-! A window's sum, over any family that names the window's places once each. -/

theorem foldl_add {ι : Type} (g : ι → EReal) (l : List ι) (a : EReal) : l.foldl (fun r n => r + g n) a = a + (l.map g).sum := by
  induction l generalizing a with
  | nil => simp
  | cons n l ih => rw [List.foldl_cons, ih, List.map_cons, List.sum_cons, add_assoc]

theorem window_eq {s t u : Shape} {φ : FTy} {ι : Type} [Fintype ι] (window strides lo hi : Fin s.rank → Nat) (x : FVec Ideal s φ)
    (init : FVec Ideal u φ) (h : s.ReduceWindows window strides lo hi t) (hu : 0 < u.numel) (hz : init (Shape.Idx.first hu) = (0 : EReal))
    (e : ι → (⟨s.rank, window⟩ : Shape).Idx) (he : Function.Bijective e) (j : t.Idx) :
    Host.reduceWindowAdd window strides lo hi x init h hu j
      = (∑ k, if hin : ∀ a, lo a ≤ (j (a.cast h.1.symm)).val * strides a + (e k a).val
          ∧ (j (a.cast h.1.symm)).val * strides a + (e k a).val - lo a < s.size a
        then x (fun a => ⟨(j (a.cast h.1.symm)).val * strides a + (e k a).val - lo a, (hin a).2⟩) else 0 : EReal) := by
  unfold Host.reduceWindowAdd
  rw [hz]
  change Ideal.hostReduceWindowAdd window strides lo hi h x 0 j = _
  unfold Ideal.hostReduceWindowAdd Host.reduceWindow
  refine (foldl_add (fun n => _) _ _).trans ?_
  rw [zero_add, ← Fin.sum_univ_def]
  let g : (⟨s.rank, window⟩ : Shape).Idx → EReal := fun w => if hin : ∀ a, lo a ≤ (j (a.cast h.1.symm)).val * strides a + (w a).val
      ∧ (j (a.cast h.1.symm)).val * strides a + (w a).val - lo a < s.size a
    then x (fun a => ⟨(j (a.cast h.1.symm)).val * strides a + (w a).val - lo a, (hin a).2⟩) else 0
  refine (Finset.sum_congr rfl fun n _ => (?_ : _ = g ((⟨s.rank, window⟩ : Shape).rowMajor.symm n))).trans
    (((⟨s.rank, window⟩ : Shape).rowMajor.symm.sum_comp g).trans (he.sum_comp g).symm)
  dsimp only [g]
  split_ifs <;> rfl

/-- The first row of the running sum of two rows. -/
theorem cum_two (x : FVec Ideal S2x1024 .f32) (init : FVec Ideal S_ .f32) (hz : init (Shape.Idx.first h_S_) = (0 : EReal)) (j : Fin 1024) :
    Host.reduceWindowAdd ![2, 1] ![1, 1] ![1, 0] ![0, 0] x init reduceWindows_S2x1024_S2x1024_w2s1p1_0_w1s1p0_0 h_S_ (ix2 0 j) = x (ix2 0 j) := by
  refine (window_eq _ _ _ _ x init _ _ hz (fun k : Fin 2 => (ix2 k (0 : Fin 1) : (⟨2, ![2, 1]⟩ : Shape).Idx))
    ⟨fun a b h => congrFun h 0, fun y => ⟨y 0, funext fun a => match a with
      | ⟨0, _⟩ => rfl
      | ⟨1, _⟩ => Subsingleton.elim (α := Fin 1) _ _⟩⟩ _).trans ?_
  rw [Fin.sum_univ_two, dif_neg (fun h => by have e : 1 ≤ 0 * 1 + 0 := (h 0).1; omega), zero_add, dif_pos (fun a => match a with
    | ⟨0, _⟩ => ⟨by show 1 ≤ 0 * 1 + 1; omega, by show 0 * 1 + 1 - 1 < 2; omega⟩
    | ⟨1, _⟩ => ⟨Nat.zero_le _, by show j.val * 1 + 0 - 0 < 1024; omega⟩)]
  exact congrArg x (funext fun a => match a with
    | ⟨0, _⟩ => rfl
    | ⟨1, _⟩ => Fin.ext (by show j.val * 1 + 0 - 0 = j.val; omega))

/-- The running sum within a chunk. -/
theorem cum_chunk (x : FVec Ideal S1x8x64x64x128 .f32) (init : FVec Ideal S_ .f32) (hz : init (Shape.Idx.first h_S_) = (0 : EReal))
    (H) (h : Fin 8) (n r : Fin 64) (k : Fin 128) :
    Host.reduceWindowAdd ![1, 1, 1, 64, 1] ![1, 1, 1, 1, 1] ![0, 0, 0, 63, 0] ![0, 0, 0, 0, 0] x init H h_S_
      (ix5 (0 : Fin 1) h n r k : S1x8x64x64x128.Idx) = ∑ s : Fin 64, if s ≤ r then x (ix5 (0 : Fin 1) h n s k : S1x8x64x64x128.Idx) else 0 := by
  refine (window_eq _ _ _ _ x init _ _ hz
    (fun s : Fin 64 => (ix5 (0 : Fin 1) (0 : Fin 1) (0 : Fin 1) (⟨(s.val + 63 - r.val) % 64, Nat.mod_lt _ (by omega)⟩ : Fin 64) (0 : Fin 1) : (⟨5, ![1, 1, 1, 64, 1]⟩ : Shape).Idx))
    ⟨fun a b h => Fin.ext (by have e : (a.val + 63 - r.val) % 64 = (b.val + 63 - r.val) % 64 := congrArg Fin.val (congrFun h 3); omega), fun y =>
      ⟨⟨((y 3).val + r.val + 1) % 64, Nat.mod_lt _ (by omega)⟩, funext fun a => match a with
      | ⟨0, _⟩ => Subsingleton.elim (α := Fin 1) _ _
      | ⟨1, _⟩ => Subsingleton.elim (α := Fin 1) _ _
      | ⟨2, _⟩ => Subsingleton.elim (α := Fin 1) _ _
      | ⟨3, _⟩ => Fin.ext (by
          have hy : (y 3).val < 64 := (y 3).isLt
          show (((y 3).val + r.val + 1) % 64 + 63 - r.val) % 64 = (y 3).val
          omega)
      | ⟨4, _⟩ => Subsingleton.elim (α := Fin 1) _ _⟩⟩ _).trans ?_
  refine Finset.sum_congr rfl fun s _ => ?_
  by_cases hs : s ≤ r
  · have hs' : s.val ≤ r.val := hs
    rw [if_pos hs, dif_pos (fun a => match a with
      | ⟨0, _⟩ => ⟨Nat.zero_le _, by show 0 * 1 + 0 - 0 < 1; omega⟩
      | ⟨1, _⟩ => ⟨Nat.zero_le _, by show h.val * 1 + 0 - 0 < 8; omega⟩
      | ⟨2, _⟩ => ⟨Nat.zero_le _, by show n.val * 1 + 0 - 0 < 64; omega⟩
      | ⟨3, _⟩ => ⟨by show 63 ≤ r.val * 1 + (s.val + 63 - r.val) % 64; omega, by show r.val * 1 + (s.val + 63 - r.val) % 64 - 63 < 64; omega⟩
      | ⟨4, _⟩ => ⟨Nat.zero_le _, by show k.val * 1 + 0 - 0 < 128; omega⟩)]
    exact congrArg x (funext fun a => match a with
      | ⟨0, _⟩ => rfl
      | ⟨1, _⟩ => Fin.ext (by show h.val * 1 + 0 - 0 = h.val; omega)
      | ⟨2, _⟩ => Fin.ext (by show n.val * 1 + 0 - 0 = n.val; omega)
      | ⟨3, _⟩ => Fin.ext (by show r.val * 1 + (s.val + 63 - r.val) % 64 - 63 = s.val; omega)
      | ⟨4, _⟩ => Fin.ext (by show k.val * 1 + 0 - 0 = k.val; omega))
  · have hs' : r.val < s.val := not_le.1 hs
    rw [if_neg hs, dif_neg (fun hh => by
      have e : 63 ≤ r.val * 1 + (s.val + 63 - r.val) % 64 := (hh 3).1
      omega)]

/-! The lower bound of the gates. -/

/-- A maximum over a nonempty list of real numbers is a real number. -/
theorem fold_max {ι : Type} (g : ι → EReal) (hg : ∀ i, g i ≠ ⊤ ∧ g i ≠ ⊥) (l : List ι) : ∀ a : EReal, a ≠ ⊤ → (a ≠ ⊥ ∨ l ≠ []) →
    l.foldl (fun r n => max r (g n)) a ≠ ⊤ ∧ l.foldl (fun r n => max r (g n)) a ≠ ⊥ := by
  induction l with
  | nil => exact fun a h1 h2 => ⟨h1, h2.resolve_right fun h => h rfl⟩
  | cons n l ih => exact fun a h1 _ => ih _ (by rw [Ne, max_eq_top]; exact not_or.2 ⟨h1, (hg n).1⟩) (.inl (by rw [Ne, max_eq_bot]; exact fun h => (hg n).2 h.2))

variable (P : S8x4096x1024.Idx → EReal) (T : S2x1024.Idx → EReal)

theorem softmax_max (hT : ∀ y, IsR (T y)) (j : Fin 1024) : IsR (A_main_v2 (F := Ideal) P T (ix1 j)) := by
  have hg : ∀ n, T (S2x1024.rowMajor.symm n) ≠ ⊤ ∧ T (S2x1024.rowMajor.symm n) ≠ ⊥ := fun n => by
    obtain ⟨r, hr⟩ := hT (S2x1024.rowMajor.symm n)
    rw [hr]
    exact ⟨EReal.coe_ne_top r, EReal.coe_ne_bot r⟩
  have hb : Ideal.ofBits .f32 0xFF800000#32 = (⊥ : EReal) := by simp [Ideal.ofBits, Ideal.ieee]
  have h := fold_max (fun n => T (S2x1024.rowMajor.symm n)) hg
    ((List.finRange S2x1024.numel).filter fun n => reducesTo_S2x1024_S1024_d0.drop (S2x1024.rowMajor.symm n) = ix1 j) ⊥ (by decide)
    (.inr (List.ne_nil_of_mem (a := S2x1024.rowMajor (ix2 0 j)) (List.mem_filter.2 ⟨List.mem_finRange _, by
      rw [Equiv.symm_apply_apply]
      exact decide_eq_true (funext fun a => match a with
        | ⟨0, _⟩ => rfl)⟩)))
  have e : A_main_v2 (F := Ideal) P T (ix1 j) = max (Ideal.ofBits .f32 0xFF800000#32) (((List.finRange S2x1024.numel).filter fun n => reducesTo_S2x1024_S1024_d0.drop (S2x1024.rowMajor.symm n) = ix1 j).foldl
      (fun r n => max r (T (S2x1024.rowMajor.symm n))) (Ideal.ofBits .f32 0xFF800000#32)) := rfl
  rw [e, hb, max_eq_right bot_le]
  exact ⟨_, (EReal.coe_toReal h.1 h.2).symm⟩

theorem soft_row (q : Fin 2) (j : Fin 1024) : A_main_v10 (F := Ideal) P T (ix2 q j)
    = Ideal.div (Ideal.exp (T (ix2 q j) - A_main_v2 (F := Ideal) P T (ix1 j)))
      (Ideal.exp (T (ix2 0 j) - A_main_v2 (F := Ideal) P T (ix1 j)) + Ideal.exp (T (ix2 1 j) - A_main_v2 (F := Ideal) P T (ix1 j))) := by
  pointwise [A_main_v10, A_main_v9, A_main_v8, A_main_v7, A_main_v6, A_main_v5, A_main_v4, A_main_v3, K_main_cst_1]
  rw [Fin.sum_univ_two]

theorem lower (hT : ∀ y, IsR (T y)) (j : Fin 1024) : A_main_v16 (F := Ideal) P T (ix1 j) = sigm (T (ix2 0 j) - T (ix2 1 j)) := by
  have hz : K_main_call0_call0_v0 (F := Ideal) (Shape.Idx.first h_S_) = (0 : EReal) := by pointwise [K_main_call0_call0_v0, K_main_call0_call0_cst]
  have h : A_main_v16 (F := Ideal) P T (ix1 j) = A_main_v10 (F := Ideal) P T (ix2 0 j) := by
    refine Eq.trans ?_ (cum_two _ _ hz j)
    pointwise [A_main_v16, A_main_v15]
    rfl
  obtain ⟨a, ha⟩ := hT (ix2 0 j)
  obtain ⟨b, hb⟩ := hT (ix2 1 j)
  obtain ⟨M, hM⟩ := softmax_max P T hT j
  rw [h, soft_row, hM, ha, hb, sigm]
  simp only [← EReal.coe_sub, Ideal.exp_coe, ← EReal.coe_add, ← EReal.coe_neg, ← EReal.coe_one]
  rw [div_coe (by positivity), div_coe (by positivity)]
  refine congrArg _ ?_
  have e1 : Real.exp (b - M) = Real.exp (-(a - b)) * Real.exp (a - M) := by rw [← Real.exp_add]; congr 1; ring
  have e2 := Real.exp_pos (a - M)
  have e3 := Real.exp_pos (-(a - b))
  rw [e1]
  field_simp

/-! The arguments by row and column. -/

theorem query (r : Fin 4096) (j : Fin 1024) : A_main_v12 (F := Ideal) P T (ix3 0 r j) = qs P r j := by
  pointwise [A_main_v12]
  rfl

theorem value (r : Fin 4096) (j : Fin 1024) : A_main_v14 (F := Ideal) P T (ix3 0 r j) = vs P r j := by
  pointwise [A_main_v14]
  rfl

theorem gates (hT : ∀ y, IsR (T y)) (r : Fin 4096) (j : Fin 1024) : A_main_v30 (F := Ideal) P T (ix3 0 r j) = fs P T r j := by
  pointwise [A_main_v30, A_main_v29, A_main_v28, A_main_v27, A_main_v26, A_main_v25, A_main_v24, A_main_v22, A_main_v20, A_main_v19,
    A_main_v18, A_main_v13, K_main_v17, K_main_cst_2, K_main_v21, K_main_cst_3, K_main_v23, K_main_cst_4]
  rw [lower P T hT, fs, gate, sigm]
  rfl

/-- A matrix of rows cut in chunks and heads. -/
theorem cut (x : FVec Ideal S1x4096x1024 .f32) (h : Fin 8) (n r : Fin 64) (k : Fin 128) :
    transpose S1x8x64x64x128 [0, 3, 1, 2, 4] (shapeCast S1x64x64x8x128 x shapeCasts_S1x4096x1024_S1x64x64x8x128) transposes_S1x64x64x8x128_S1x8x64x64x128_0_3_1_2_4
      (ix5 (0 : Fin 1) h n r k : S1x8x64x64x128.Idx) = x (ix3 0 (crow n.val r) (hcol h k)) := by
  pointwise []
  exact congrArg x (congrArg₂ (ix3 0) (Fin.ext (by show n.val * 64 + r.val = (64 * n.val + r.val) % 4096; omega)) (Fin.ext (hcol_val h k).symm))

end Cert.HgrnFwdRefIdeal.RefValue

end
-- ==== Proof.HgrnFwdRefChunks.lean ====
/-
  The gated recurrence, reference side: each chunk's decayed queries and keys, its own outputs and what it adds to the carried
  matrices.
-/
module

public import proofs.«01_k».proof.Proof.HgrnFwdRefGates

@[expose] public section

set_option maxRecDepth 16384
set_option maxHeartbeats 4000000

noncomputable section

open Idealize.ShloMosaic Idealize.ShloMosaic.TcCoe Idealize.SL.Sem Idealize.ShloMosaic.StableHlo
open scoped BigOperators

namespace Cert.HgrnFwdRefIdeal.RefValue

open Cert.HgrnFwdRefIdeal Cert.HgrnFwdRefIdeal.Gen Cert.HgrnFwdRefIdeal.Step Cert.Blocks Cert.Hgrn Cert.Reals

variable (P : S8x4096x1024.Idx → EReal) (T : S2x1024.Idx → EReal)

section Chunks
variable (h : Fin 8) (n : Fin 64)

theorem chunk_query (r : Fin 64) (k : Fin 128) : A_main_v37 (F := Ideal) P T (ix5 0 h n r k) = scaled (chunk (qs P) n.val) r (hcol h k) := by
  have e : A_main_v35 (F := Ideal) P T (ix5 0 h n r k) = _ := (cut _ h n r k).trans (query P T _ _)
  pointwise [A_main_v37, e, K_main_v36, K_main_cst_6]
  rfl

theorem chunk_value (r : Fin 64) (k : Fin 128) : A_main_v41 (F := Ideal) P T (ix5 0 h n r k) = chunk (vs P) n.val r (hcol h k) :=
  (cut _ h n r k).trans (value P T _ _)

variable (hT : ∀ y, IsR (T y))
include hT

theorem chunk_key (r : Fin 64) (k : Fin 128) : A_main_v39 (F := Ideal) P T (ix5 0 h n r k) = 1 - chunk (fs P T) n.val r (hcol h k) := by
  refine (cut _ h n r k).trans ?_
  pointwise [A_main_v32, gates P T hT, K_main_v31, K_main_cst_5]
  rfl

theorem chunk_log (r : Fin 64) (k : Fin 128) : A_main_v43 (F := Ideal) P T (ix5 0 h n r k) = Ideal.log (chunk (fs P T) n.val r (hcol h k)) := by
  refine (cut _ h n r k).trans ?_
  pointwise [A_main_v33, gates P T hT]
  rfl

theorem chunk_acc (r : Fin 64) (k : Fin 128) : A_main_v44 (F := Ideal) P T (ix5 0 h n r k) = accS (chunk (fs P T) n.val) r (hcol h k) := by
  have hz : K_main_call1_call0_v0 (F := Ideal) (Shape.Idx.first h_S_) = (0 : EReal) := by pointwise [K_main_call1_call0_v0, K_main_call1_call0_cst]
  refine (cum_chunk _ _ hz _ h n r k).trans ?_
  simp only [chunk_log P T h n hT]
  rfl

theorem chunk_mid (k : Fin 128) : A_main_v45 (F := Ideal) P T (ix5 0 h n 0 k) = accS (chunk (fs P T) n.val) 31 (hcol h k) := by
  rw [← chunk_acc P T h n hT]
  pointwise [A_main_v45]

theorem chunk_last (k : Fin 128) : A_main_v46 (F := Ideal) P T (ix5 0 h n 0 k) = accS (chunk (fs P T) n.val) 63 (hcol h k) := by
  rw [← chunk_acc P T h n hT]
  pointwise [A_main_v46]

theorem query_in (r : Fin 64) (k : Fin 128) : A_main_v50 (F := Ideal) P T (ix5 0 h n r k) = qIn (chunk (qs P) n.val) (chunk (fs P T) n.val) r (hcol h k) := by
  pointwise [A_main_v50, A_main_v49, A_main_v48, A_main_v47, chunk_query, chunk_acc P T h n hT, chunk_mid P T h n hT]
  rfl

theorem key_in (r : Fin 64) (k : Fin 128) : A_main_v54 (F := Ideal) P T (ix5 0 h n r k) = kIn (chunk (fs P T) n.val) r (hcol h k) := by
  pointwise [A_main_v54, A_main_v53, A_main_v52, A_main_v51, chunk_key P T h n hT, chunk_acc P T h n hT, chunk_mid P T h n hT]
  rfl

theorem key_end (r : Fin 64) (k : Fin 128) : A_main_v63 (F := Ideal) P T (ix5 0 h n r k) = kEnd (chunk (fs P T) n.val) r (hcol h k) := by
  pointwise [A_main_v63, A_main_v62, A_main_v61, A_main_v60, chunk_key P T h n hT, chunk_acc P T h n hT, chunk_last P T h n hT]
  rfl

theorem query_all (r : Fin 64) (k : Fin 128) : A_main_v68 (F := Ideal) P T (ix5 0 h n r k) = qAll (chunk (qs P) n.val) (chunk (fs P T) n.val) r (hcol h k) := by
  pointwise [A_main_v68, A_main_v67, chunk_query, chunk_acc P T h n hT]
  rfl

theorem chunk_decay (k : Fin 128) : A_main_v66 (F := Ideal) P T (ix4 0 h n k) = decay (chunk (fs P T) n.val) (hcol h k) := by
  pointwise [A_main_v66, A_main_v65, chunk_last P T h n hT]
  rfl

end Chunks

/-! The three products. -/

theorem five {m : Fin 5 → ℕ} {f g : ∀ a, Fin (m a)} (h0 : f 0 = g 0) (h1 : f 1 = g 1) (h2 : f 2 = g 2) (h3 : f 3 = g 3) (h4 : f 4 = g 4) : f = g :=
  funext fun a => match a with
  | ⟨0, _⟩ => h0
  | ⟨1, _⟩ => h1
  | ⟨2, _⟩ => h2
  | ⟨3, _⟩ => h3
  | ⟨4, _⟩ => h4

section Products
variable (h : Fin 8) (n : Fin 64)

/-- Queries against keys. -/
theorem scores (r s : Fin 64) : A_main_v57 (F := Ideal) P T (ix5 0 h n r s) = ∑ k : Fin 128, A_main_v50 (F := Ideal) P T (ix5 0 h n r k) * A_main_v54 (F := Ideal) P T (ix5 0 h n s k) := by
  unfold A_main_v57
  rw [Sums.dot_eq dot_S1x8x64x64x128_S1x8x64x64x128_S1x8x64x64x64_4_4_3_3_012_012 _ _ _ _ (fun (k : Fin 128) a => match a with
    | ⟨0, _⟩ => k) ⟨fun a b h => congrFun h ⟨0, by decide⟩, fun q => ⟨q ⟨0, by decide⟩, funext fun a => match a with
      | ⟨0, _⟩ => rfl⟩⟩]
  exact Finset.sum_congr rfl fun _ _ => congrArg₂ (· * ·) (congrArg _ (five rfl rfl rfl rfl rfl)) (congrArg _ (five rfl rfl rfl rfl rfl))

/-- A chunk against its own values. -/
theorem inner (r : Fin 64) (d : Fin 128) : A_main_v59 (F := Ideal) P T (ix5 0 h n r d) = ∑ k : Fin 64, A_main_v58 (F := Ideal) P T (ix5 0 h n r k) * A_main_v41 (F := Ideal) P T (ix5 0 h n k d) := by
  unfold A_main_v59
  rw [Sums.dot_eq dot_S1x8x64x64x64_S1x8x64x64x128_S1x8x64x64x128_4_3_3_4_012_012 _ _ _ _ (fun (k : Fin 64) a => match a with
    | ⟨0, _⟩ => k) ⟨fun a b h => congrFun h ⟨0, by decide⟩, fun q => ⟨q ⟨0, by decide⟩, funext fun a => match a with
      | ⟨0, _⟩ => rfl⟩⟩]
  exact Finset.sum_congr rfl fun _ _ => congrArg₂ (· * ·) (congrArg _ (five rfl rfl rfl rfl rfl)) (congrArg _ (five rfl rfl rfl rfl rfl))

/-- What a chunk adds to the carried matrices. -/
theorem added (k d : Fin 128) : A_main_v64 (F := Ideal) P T (ix5 0 h n k d) = ∑ s : Fin 64, A_main_v63 (F := Ideal) P T (ix5 0 h n s k) * A_main_v41 (F := Ideal) P T (ix5 0 h n s d) := by
  unfold A_main_v64
  rw [Sums.dot_eq dot_S1x8x64x64x128_S1x8x64x64x128_S1x8x64x128x128_3_3_4_4_012_012 _ _ _ _ (fun (k : Fin 64) a => match a with
    | ⟨0, _⟩ => k) ⟨fun a b h => congrFun h ⟨0, by decide⟩, fun q => ⟨q ⟨0, by decide⟩, funext fun a => match a with
      | ⟨0, _⟩ => rfl⟩⟩]
  exact Finset.sum_congr rfl fun _ _ => congrArg₂ (· * ·) (congrArg _ (five rfl rfl rfl rfl rfl)) (congrArg _ (five rfl rfl rfl rfl rfl))

theorem lower_triangle (r s : Fin 64) : K_main_call3_v1 (F := Ideal) (ix5 0 h n r s) = if s ≤ r then 1#1 else 0#1 := by
  have e : ∀ r s : Fin 64, K_main_v56 (F := Ideal) (ix2 r s) = if s ≤ r then 1#1 else 0#1 := by decide +kernel
  rw [← e r s]
  pointwise [K_main_call3_v1]

theorem select_ite {p : Prop} [Decidable p] (x y : EReal) : Scalar.select (if p then 1#1 else 0#1) x y = if p then x else y := by
  split_ifs <;> rfl

theorem masked (r s : Fin 64) : A_main_v58 (F := Ideal) P T (ix5 0 h n r s) = if s ≤ r then A_main_v57 (F := Ideal) P T (ix5 0 h n r s) else 0 := by
  have hz : K_main_call3_v0 (F := Ideal) ix0 = (0 : EReal) := by
    unfold K_main_call3_v0
    rw [id]
    pointwise [K_main_cst_7]
  pointwise [A_main_v58, lower_triangle, K_main_call3_v2, hz]
  rw [select_ite]

end Products

end Cert.HgrnFwdRefIdeal.RefValue

end
-- ==== Proof.HgrnFwdRefRun.lean ====
/-
  The run of the recurrence's reference, stated over one trip of its scan: the sequence of states that starts
  where the scan starts and goes on by one trip, and the two results read from the last of them.
-/
module

public import proofs.«01_k».proof.Proof.Gen.HgrnFwdRefIdeal.Run
public import proofs.«01_k».proof.Proof.Gen.HgrnFwdRefIdeal.Step

@[expose] public section

set_option maxRecDepth 65536
set_option maxHeartbeats 4000000

noncomputable section

namespace Cert.HgrnFwdRefIdeal.RefRun

open Idealize.ShloMosaic Idealize.ShloMosaic.TcCoe Idealize.SL.Sem Idealize.ShloMosaic.StableHlo
open Cert.HgrnFwdRefIdeal Cert.HgrnFwdRefIdeal.Gen Cert.HgrnFwdRefIdeal.Value

variable {F : FTy → Type} [FloatOps F]

/-- What the scan's buffers hold before trip `j`: the carried state, the four arrays the scan walks, the rows
    written so far, and the trip's number. -/
structure Before (V : Valuation τ sig (Elt F)) (s : Step.State F) (j : ℕ) : Prop where
  carried : V (Proc.devRef .tc main_v75_5) = s.main_v75_5
  rows : V (Proc.devRef .tc main_v75_6) = s.main_v75_6
  decay : V (Proc.devRef .tc main_v75_0) = s.main_v75_0
  added : V (Proc.devRef .tc main_v75_1) = s.main_v75_1
  inner : V (Proc.devRef .tc main_v75_2) = s.main_v75_2
  query : V (Proc.devRef .tc main_v75_3) = s.main_v75_3
  number : V (Proc.devRef .tc main_v75_4) = constantI S_ 32 (BitVec.ofNat 32 j)

/-- The state the first trip starts from. -/
abbrev start (m : (ℓ : Loc nD τ sig) → Buf (Elt F) ℓ) (c : Dev nD) : Step.State F :=
  Step.init (m ((c.tc : Thread nD τ).loc main_arg0)) (m ((c.tc : Thread nD τ).loc main_arg1))

/-- The states one after another. -/
def seq (s0 : Step.State F) : ℕ → Step.State F
  | 0 => s0
  | n + 1 => Step.step n (seq s0 n)

/-- What the scan starts from. -/
theorem before_zero (m : (ℓ : Loc nD τ sig) → Buf (Elt F) ℓ) (c : Dev nD) :
    Before (entryContents preI m c) (start m c) 0 := by
  refine ⟨?_, ?_, ?_, ?_, ?_, ?_, ?_⟩ <;> (simp only [entryContents, afterL_cons, afterL_nil]; after_reads_simp) <;> rfl

section
variable {V : Valuation τ sig (Elt F)} {s : Step.State F} {j : ℕ} (h : Before V s j)
include h

/-- The carried state after a trip. -/
theorem carried_next : step_main_v75_5 V = (Step.step j s).main_v75_5 := by
  unfold step_main_v75_5
  simp only [h.decay, h.number, h.carried, h.added]
  rfl

/-- The rows written after a trip. -/
theorem rows_next : step_main_v75_6 V = (Step.step j s).main_v75_6 := by
  unfold step_main_v75_6
  simp only [h.rows, h.inner, h.number, h.query, h.carried]
  rfl

/-- The trip's number after a trip. -/
theorem number_next : step_main_v75_4 V = constantI S_ 32 (BitVec.ofNat 32 (j + 1)) := by
  unfold step_main_v75_4
  rw [h.number]
  funext x
  show BitVec.ofNat 32 j + 1#32 = BitVec.ofNat 32 (j + 1)
  rw [BitVec.ofNat_add]

/-- One trip. -/
theorem before_succ : Before (STEP V) (Step.step j s) (j + 1) :=
  ⟨(STEP_main_v75_5 V).trans (carried_next h), (STEP_main_v75_6 V).trans (rows_next h),
    (STEP_main_v75_0 V).trans h.decay, (STEP_main_v75_1 V).trans h.added, (STEP_main_v75_2 V).trans h.inner,
    (STEP_main_v75_3 V).trans h.query, (STEP_main_v75_4 V).trans (number_next h)⟩
end

/-- Before trip `n`. -/
theorem before_all (m : (ℓ : Loc nD τ sig) → Buf (Elt F) ℓ) (c : Dev nD) :
    ∀ n, Before (STEP^[n] (entryContents preI m c)) (seq (start m c) n) n
  | 0 => before_zero m c
  | n + 1 => by
    rw [Function.iterate_succ_apply']
    exact before_succ (before_all m c n)

/-- The run: both results, read from the state after the last trip; the arguments as they were. -/
theorem run_seq (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v96) = Step.R_main_v96 (seq (start m c) 64)
      ∧ r.2.mem ((c.tc : Thread nD τ).loc main_v98) = Step.R_main_v98 (seq (start m c) 64)
          (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r hr c => ?_) (Value.run m ρ)
  obtain ⟨h1, h2, h3, h4, h5⟩ := hr c
  have hb := before_all m c 64
  refine ⟨h1.trans ?_, h2.trans ?_, h3, h4, h5⟩
  · unfold out_main_v96
    simp only [hb.rows]
    rfl
  · unfold out_main_v98
    simp only [hb.rows, iter_main_arg0 m c 64, iter_main_arg2 m c 64]
    rfl

end Cert.HgrnFwdRefIdeal.RefRun

end
-- ==== Proof.HgrnFwdRef.lean ====
/-
  The gated recurrence, reference side: one trip of its scan, the carried matrices and the written rows before any trip, and the
  two results.
-/
module

public import proofs.«01_k».proof.Proof.HgrnFwdRefChunks
public import proofs.«01_k».proof.Proof.HgrnFwdRefRun

@[expose] public section

set_option maxRecDepth 16384
set_option maxHeartbeats 4000000

noncomputable section

open Idealize.ShloMosaic Idealize.ShloMosaic.TcCoe Idealize.SL.Sem Idealize.ShloMosaic.StableHlo
open scoped BigOperators

namespace Cert.HgrnFwdRefIdeal.RefValue

open Cert.HgrnFwdRefIdeal Cert.HgrnFwdRefIdeal.Gen Cert.HgrnFwdRefIdeal.Step Cert.Blocks Cert.Hgrn Cert.Reals

open Cert.HgrnFwdRefIdeal.RefRun

/-! A trip reads and writes one row of a stack. -/

theorem word (j : Fin 64) : (BitVec.ofNat 32 j.val).toInt = (j.val : ℤ) := by
  revert j
  decide +kernel

section Stacks
variable {a b : ℕ} (start : Fin 5 → Int) (j : Fin 64) (h0 : start 0 = (j.val : ℤ)) (h1 : start 1 = ((0 : ℕ) : ℤ)) (h2 : start 2 = ((0 : ℕ) : ℤ))
  (h3 : start 3 = ((0 : ℕ) : ℤ)) (h4 : start 4 = ((0 : ℕ) : ℤ))

include h0 h1 h2 h3 h4 in
theorem at_row (H : (⟨5, ![64, 1, 8, a, b]⟩ : Shape).Slices (fun _ => 0) ⟨5, ![1, 1, 8, a, b]⟩) (c : Fin 5) :
    Host.clampedStart ⟨5, ![64, 1, 8, a, b]⟩ ⟨5, ![1, 1, 8, a, b]⟩ H.1 start c = (![j.val, 0, 0, 0, 0] : Fin 5 → ℕ) c := by
  have hj := j.isLt
  match c with
  | ⟨0, _⟩ => exact Host.clampedStart_of_le H.1 start _ _ h0 (by show j.val + 1 ≤ 64; omega)
  | ⟨1, _⟩ => exact Host.clampedStart_of_le H.1 start _ _ h1 (by show 0 + 1 ≤ 1; omega)
  | ⟨2, _⟩ => exact Host.clampedStart_of_le H.1 start _ _ h2 (by show 0 + 8 ≤ 8; omega)
  | ⟨3, _⟩ => exact Host.clampedStart_of_le H.1 start _ _ h3 (by show 0 + a ≤ a; omega)
  | ⟨4, _⟩ => exact Host.clampedStart_of_le H.1 start _ _ h4 (by show 0 + b ≤ b; omega)

include h0 h1 h2 h3 h4 in
theorem slice_row (x : (⟨5, ![64, 1, 8, a, b]⟩ : Shape).Idx → EReal) (H) (h : Fin 8) (p : Fin a) (q : Fin b) :
    Host.dynamicSlice ⟨5, ![1, 1, 8, a, b]⟩ x start H (ix5 0 0 h p q) = x (ix5 j 0 h p q) := by
  rw [Host.dynamicSlice_apply]
  have e := at_row start j h0 h1 h2 h3 h4 H
  exact congrArg x (five (Fin.ext (congrArg (· + 0) (e 0))) (Fin.ext (congrArg (· + 0) (e 1))) (Fin.ext ((congrArg (· + h.val) (e 2)).trans (Nat.zero_add _)))
    (Fin.ext ((congrArg (· + p.val) (e 3)).trans (Nat.zero_add _))) (Fin.ext ((congrArg (· + q.val) (e 4)).trans (Nat.zero_add _))))

include h0 h1 h2 h3 h4 in
theorem update_row (x : (⟨5, ![64, 1, 8, a, b]⟩ : Shape).Idx → EReal) (u : (⟨5, ![1, 1, 8, a, b]⟩ : Shape).Idx → EReal) (H) (i : Fin 64) (h : Fin 8) (p : Fin a) (q : Fin b) :
    Host.dynamicUpdateSlice x u start H (ix5 i 0 h p q) = if i = j then u (ix5 0 0 h p q) else x (ix5 i 0 h p q) := by
  rw [Host.dynamicUpdateSlice_apply]
  have e := at_row start j h0 h1 h2 h3 h4 H
  by_cases hi : i = j
  · subst hi
    rw [if_pos rfl, dif_pos (fun c => by
      rw [e c]
      match c with
      | ⟨0, _⟩ => exact ⟨le_refl i.val, Nat.lt_succ_self i.val⟩
      | ⟨1, _⟩ => exact ⟨Nat.zero_le _, Nat.one_pos⟩
      | ⟨2, _⟩ => exact ⟨Nat.zero_le _, lt_of_lt_of_eq h.isLt (Nat.zero_add _).symm⟩
      | ⟨3, _⟩ => exact ⟨Nat.zero_le _, lt_of_lt_of_eq p.isLt (Nat.zero_add _).symm⟩
      | ⟨4, _⟩ => exact ⟨Nat.zero_le _, lt_of_lt_of_eq q.isLt (Nat.zero_add _).symm⟩)]
    exact congrArg u (five (Fin.ext ((congrArg (i.val - ·) (e 0)).trans (Nat.sub_self _))) (Fin.ext ((congrArg (0 - ·) (e 1)).trans (Nat.sub_zero _)))
      (Fin.ext ((congrArg (h.val - ·) (e 2)).trans (Nat.sub_zero _)))
      (Fin.ext ((congrArg (p.val - ·) (e 3)).trans (Nat.sub_zero _))) (Fin.ext ((congrArg (q.val - ·) (e 4)).trans (Nat.sub_zero _))))
  · rw [if_neg hi, dif_neg (fun hh => hi (by
      have t := hh 0
      rw [e 0] at t
      have t1 : j.val ≤ i.val := t.1
      have t2 : i.val < j.val + 1 := t.2
      exact Fin.ext (by omega)))]

end Stacks

theorem slice_decay (x : S64x1x8x128.Idx → EReal) (start : Fin 4 → Int) (j : Fin 64) (h0 : start 0 = (j.val : ℤ)) (h1 : start 1 = ((0 : ℕ) : ℤ))
    (h2 : start 2 = ((0 : ℕ) : ℤ)) (h3 : start 3 = ((0 : ℕ) : ℤ)) (H) (h : Fin 8) (k : Fin 128) :
    Host.dynamicSlice S1x1x8x128 x start H (ix4 0 0 h k) = x (ix4 j 0 h k) := by
  have hj := j.isLt
  rw [Host.dynamicSlice_apply]
  refine congrArg x (funext fun c => Fin.ext ?_)
  match c with
  | ⟨0, _⟩ => exact congrArg (· + 0) (Host.clampedStart_of_le H.1 start 0 _ h0 (by show j.val + 1 ≤ 64; omega))
  | ⟨1, _⟩ => exact congrArg (· + 0) (Host.clampedStart_of_le H.1 start 1 _ h1 (by show 0 + 1 ≤ 1; omega))
  | ⟨2, _⟩ => exact (congrArg (· + h.val) (Host.clampedStart_of_le H.1 start 2 _ h2 (by show 0 + 8 ≤ 8; omega))).trans (Nat.zero_add _)
  | ⟨3, _⟩ => exact (congrArg (· + k.val) (Host.clampedStart_of_le H.1 start 3 _ h3 (by show 0 + 128 ≤ 128; omega))).trans (Nat.zero_add _)

section Trip
variable (j : Fin 64) (s : Step.State Ideal)

theorem trip_decay (h : Fin 8) (k : Fin 128) : b4 j.val s (ix3 0 h k) = s.main_v75_0 (ix4 j 0 h k) := by
  have e : b3 j.val s (ix4 0 0 h k) = s.main_v75_0 (ix4 j 0 h k) := slice_decay _ _ j (word j) rfl rfl rfl _ h k
  pointwise [b4, e]

theorem trip_added (h : Fin 8) (k d : Fin 128) : b10 j.val s (ix4 0 h k d) = s.main_v75_1 (ix5 j 0 h k d) := by
  have e : b9 j.val s (ix5 0 0 h k d) = s.main_v75_1 (ix5 j 0 h k d) := slice_row _ j (word j) rfl rfl rfl rfl _ _ h k d
  pointwise [b10, e]

theorem trip_inner (h : Fin 8) (r : Fin 64) (d : Fin 128) : b16 j.val s (ix4 0 h r d) = s.main_v75_2 (ix5 j 0 h r d) := by
  have e : b15 j.val s (ix5 0 0 h r d) = s.main_v75_2 (ix5 j 0 h r d) := slice_row _ j (word j) rfl rfl rfl rfl _ _ h r d
  pointwise [b16, e]

theorem trip_query (h : Fin 8) (r : Fin 64) (k : Fin 128) : b22 j.val s (ix4 0 h r k) = s.main_v75_3 (ix5 j 0 h r k) := by
  have e : b21 j.val s (ix5 0 0 h r k) = s.main_v75_3 (ix5 j 0 h r k) := slice_row _ j (word j) rfl rfl rfl rfl _ _ h r k
  pointwise [b22, e]

/-- The matrices after a trip. -/
theorem trip_carried (h : Fin 8) (k d : Fin 128) : b26 j.val s (ix4 0 h k d)
    = s.main_v75_0 (ix4 j 0 h k) * s.main_v75_5 (ix4 0 h k d) + s.main_v75_1 (ix5 j 0 h k d) := by
  pointwise [b26, b25, b24, b23, trip_decay, trip_added]

/-- The queries against the matrices before the trip. -/
theorem trip_product (h : Fin 8) (r : Fin 64) (d : Fin 128) : b27 j.val s (ix4 0 h r d)
    = ∑ k : Fin 128, b22 j.val s (ix4 0 h r k) * s.main_v75_5 (ix4 0 h k d) := by
  unfold b27
  rw [Sums.dot_eq dot_S1x8x64x128_S1x8x128x128_S1x8x64x128_3_2_2_3_01_01 _ _ _ _ (fun (k : Fin 128) a => match a with
    | ⟨0, _⟩ => k) ⟨fun a b h => congrFun h ⟨0, by decide⟩, fun q => ⟨q ⟨0, by decide⟩, funext fun a => match a with
      | ⟨0, _⟩ => rfl⟩⟩]
  refine Finset.sum_congr rfl fun _ _ => congrArg₂ (· * ·) (congrArg _ (funext fun a => ?_)) (congrArg _ (funext fun a => ?_)) <;>
  exact match a with
    | ⟨0, _⟩ => rfl
    | ⟨1, _⟩ => rfl
    | ⟨2, _⟩ => rfl
    | ⟨3, _⟩ => rfl

/-- The rows a trip leaves. -/
theorem trip_rows (i : Fin 64) (h : Fin 8) (r : Fin 64) (d : Fin 128) : b34 j.val s (ix5 i 0 h r d)
    = if i = j then s.main_v75_2 (ix5 j 0 h r d) + ∑ k : Fin 128, s.main_v75_3 (ix5 j 0 h r k) * s.main_v75_5 (ix4 0 h k d) else s.main_v75_6 (ix5 i 0 h r d) := by
  refine (update_row _ j (word j) rfl rfl rfl rfl _ _ _ i h r d).trans ?_
  refine if_congr Iff.rfl ?_ rfl
  pointwise [b29, b28, trip_inner, trip_product, trip_query]

end Trip

/-! All the trips. -/

variable (P : S8x4096x1024.Idx → EReal) (T : S2x1024.Idx → EReal)

theorem fixed (n : ℕ) : (seq (F := Ideal) (Step.init P T) n).main_v75_0 = A_main_v70 (F := Ideal) P T ∧ (seq (F := Ideal) (Step.init P T) n).main_v75_1 = A_main_v71 (F := Ideal) P T
    ∧ (seq (F := Ideal) (Step.init P T) n).main_v75_2 = A_main_v72 (F := Ideal) P T ∧ (seq (F := Ideal) (Step.init P T) n).main_v75_3 = A_main_v73 (F := Ideal) P T := by
  induction n with
  | zero => exact ⟨rfl, rfl, rfl, rfl⟩
  | succ n ih => exact ih

variable (hT : ∀ y, IsR (T y))
include hT

theorem stack_decay (n : Fin 64) (h : Fin 8) (k : Fin 128) : A_main_v70 (F := Ideal) P T (ix4 n 0 h k) = decay (chunk (fs P T) n.val) (hcol h k) := by
  pointwise [A_main_v70, chunk_decay P T h n hT]

theorem stack_added (n : Fin 64) (h : Fin 8) (k d : Fin 128) : A_main_v71 (F := Ideal) P T (ix5 n 0 h k d)
    = ∑ s, kEnd (chunk (fs P T) n.val) s (hcol h k) * chunk (vs P) n.val s (hcol h d) := by
  pointwise [A_main_v71, added, key_end P T h n hT, chunk_value]

theorem stack_inner (n : Fin 64) (h : Fin 8) (r : Fin 64) (d : Fin 128) : A_main_v72 (F := Ideal) P T (ix5 n 0 h r d)
    = ∑ s, (if s ≤ r then ∑ k, qIn (chunk (qs P) n.val) (chunk (fs P T) n.val) r (hcol h k) * kIn (chunk (fs P T) n.val) s (hcol h k) else 0)
        * chunk (vs P) n.val s (hcol h d) := by
  pointwise [A_main_v72, inner, masked, scores, query_in P T h n hT, key_in P T h n hT, chunk_value]

theorem stack_query (n : Fin 64) (h : Fin 8) (r : Fin 64) (k : Fin 128) : A_main_v73 (F := Ideal) P T (ix5 n 0 h r k)
    = qAll (chunk (qs P) n.val) (chunk (fs P T) n.val) r (hcol h k) := by
  pointwise [A_main_v73, query_all P T h n hT]

/-- The matrices before trip `n`. -/
theorem carried (n : ℕ) (hn : n ≤ 64) (h : Fin 8) (k d : Fin 128) :
    (seq (F := Ideal) (Step.init P T) n).main_v75_5 (ix4 0 h k d) = states (fs P T) (vs P) n h d k := by
  induction n generalizing h k d with
  | zero =>
    show K_main_v69 (F := Ideal) (ix4 0 h k d) = 0
    pointwise [K_main_v69, K_main_cst_8]
  | succ n ih =>
    refine (trip_carried ⟨n, hn⟩ (seq (F := Ideal) (Step.init P T) n) h k d).trans ?_
    obtain ⟨e0, e1, -, -⟩ := fixed P T n
    rw [e0, e1, stack_decay P T hT, stack_added P T hT, ih (Nat.le_of_succ_le hn)]
    show _ = states (fs P T) (vs P) n h d k * decay (chunk (fs P T) n) (hcol h k) + ∑ s, chunk (vs P) n s (hcol h d) * kEnd (chunk (fs P T) n) s (hcol h k)
    rw [mul_comm]
    exact congrArg _ (Finset.sum_congr rfl fun _ _ => mul_comm _ _)

/-- The rows written before trip `n`. -/
theorem rows (n : ℕ) (hn : n ≤ 64) (i : Fin 64) (hi : i.val < n) (h : Fin 8) (r : Fin 64) (d : Fin 128) :
    (seq (F := Ideal) (Step.init P T) n).main_v75_6 (ix5 i 0 h r d)
      = outC (chunk (qs P) i.val) (chunk (fs P T) i.val) (chunk (vs P) i.val) (states (fs P T) (vs P) i.val) r h d := by
  induction n with
  | zero => exact absurd hi (Nat.not_lt_zero _)
  | succ n ih =>
    refine (trip_rows ⟨n, hn⟩ (seq (F := Ideal) (Step.init P T) n) i h r d).trans ?_
    obtain ⟨-, -, e2, e3⟩ := fixed P T n
    by_cases he : i = ⟨n, hn⟩
    · subst he
      rw [if_pos rfl, e2, e3, stack_inner P T hT]
      simp only [stack_query P T hT, carried P T hT n (Nat.le_of_succ_le hn)]
      rfl
    · rw [if_neg he]
      exact ih (Nat.le_of_succ_le hn) (lt_of_le_of_ne (Nat.le_of_lt_succ hi) fun e => he (Fin.ext e))

omit hT in
/-- The rows as one matrix. -/
theorem raw_of (s : Step.State Ideal) (r : Fin 4096) (j : Fin 1024) :
    R_main_v96 (F := Ideal) s (ix2 r j) = s.main_v75_6 (ix5 ⟨r.val / 64, by omega⟩ 0 (head j) ⟨r.val % 64, by omega⟩ (lane j)) := by
  pointwise [R_main_v96]
  refine congrArg _ (five (Fin.ext ?_) rfl (Fin.ext ?_) (Fin.ext ?_) (Fin.ext ?_))
  all_goals simp only [head, lane]

omit hT in
/-- The rows, normalised, times the gain and the gate. -/
theorem gated_of (s : Step.State Ideal) (G : S1x1024.Idx → EReal) (r : Fin 4096) (j : Fin 1024) :
    R_main_v98 (F := Ideal) s P G (ix2 r j)
      = gatedOut (fun r j => s.main_v75_6 (ix5 ⟨r.val / 64, by omega⟩ 0 (head j) ⟨r.val % 64, by omega⟩ (lane j))) (gs P) (fun j => G (ix2 0 j)) r j := by
  simp only [gatedOut, head_hcol, lane_hcol]
  pointwise [R_main_v98]
  rfl

/-- The rows after the last trip. -/
theorem last_rows (r : Fin 4096) (j : Fin 1024) : (seq (F := Ideal) (Step.init P T) 64).main_v75_6 (ix5 ⟨r.val / 64, by omega⟩ 0 (head j) ⟨r.val % 64, by omega⟩ (lane j))
    = output (qs P) (fs P T) (vs P) r j :=
  rows P T hT 64 (Nat.le_refl 64) ⟨r.val / 64, by omega⟩ (by show r.val / 64 < 64; omega) (head j) ⟨r.val % 64, by omega⟩ (lane j)

/-- The first result. -/
theorem result_raw (r : Fin 4096) (j : Fin 1024) :
    R_main_v96 (F := Ideal) (seq (F := Ideal) (Step.init P T) 64) (ix2 r j) = output (qs P) (fs P T) (vs P) r j :=
  (raw_of _ r j).trans (last_rows P T hT r j)

/-- The second result. -/
theorem result_gated (G : S1x1024.Idx → EReal) (r : Fin 4096) (j : Fin 1024) :
    R_main_v98 (F := Ideal) (seq (F := Ideal) (Step.init P T) 64) P G (ix2 r j)
      = gatedOut (output (qs P) (fs P T) (vs P)) (gs P) (fun j => G (ix2 0 j)) r j :=
  (gated_of P _ G r j).trans (congrArg (fun o => gatedOut o (gs P) (fun j => G (ix2 0 j)) r j) (funext fun r => funext fun j => last_rows P T hT r j))

end Cert.HgrnFwdRefIdeal.RefValue

end
-- ==== Proof.HgrnFwd.lean ====
/-
  The claims about the gated recurrence: where the table of lower bounds holds real numbers, what the two runs leave is the same
  function of the same arguments.
-/
module

public import proofs.«01_k».proof.Defs
public import proofs.«01_k».proof.Proof.HgrnFwdBlocks
public import proofs.«01_k».proof.Proof.HgrnFwdRef
public import proofs.«01_k».proof.Proof.Gen.Pre_hgrn_fwd_finite
public import Idealize.ShloMosaic.Lib.Claim

@[expose] public section

set_option maxRecDepth 16384

noncomputable section

open Idealize.ShloMosaic Idealize.ShloMosaic.TcCoe Idealize.SL.Sem

namespace Cert.Proof.HgrnFwd

open Cert.Hgrn Cert.Reals Cert.Blocks
open Cert.HgrnFwdIdeal.KValue (G6 G7 final6 final7)

/-- What the precondition says of the table of lower bounds. -/
theorem finite {x0 : Cert.Pre_hgrn_fwd_finite.S8x4096x1024.Idx → EReal} {x1 : Cert.Pre_hgrn_fwd_finite.S2x1024.Idx → EReal}
    {x2 : Cert.Pre_hgrn_fwd_finite.S1x1024.Idx → EReal} (h : Cert.Pre_hgrn_fwd_finite.fn (F := Ideal) x0 x1 x2 = fun _ => 1#1) : ∀ y, IsR (x1 y) := by
  have h := congrFun h ix0
  unfold Cert.Pre_hgrn_fwd_finite.fn at h
  exact fun y => isR_of_cmp (Host.reduce_andi_all _ _ _ _ _ h y)

/-- Both runs end with the recurrence's outputs, raw and gated. -/
theorem algebraic : Cert.algebraic_HgrnFwdIdeal_HgrnFwdRefIdeal_pre_hgrn_fwd_finite := by
  intro m ρ m' ρ' hpre hagree
  refine ⟨G6 m, G7 m, (θ_run Cert.HgrnFwdIdeal.defs _ _).mono
    (fun r h c => ⟨(h c).1.trans (final6 m c), (h c).2.1.trans (final7 m c), (h c).2.2.2⟩) (Cert.HgrnFwdIdeal.Value.run_blocks m ρ),
    (θ_run Cert.HgrnFwdRefIdeal.defs _ _).mono (fun r h c => ?_) (Cert.HgrnFwdRefIdeal.RefRun.run_seq (F := Ideal) m' ρ')⟩
  obtain ⟨e0, e1, e2⟩ := hagree c
  have hT := finite (hpre c)
  obtain ⟨r1, r2, hargs⟩ := h c
  refine ⟨r1.trans ?_, r2.trans ?_, hargs⟩
  · rw [Cert.HgrnFwdRefIdeal.RefRun.start, e0, e1]
    funext (y : Cert.HgrnFwdRefIdeal.S4096x1024.Idx)
    obtain ⟨r, j, rfl⟩ := exists_ix2 (a := 4096) (b := 1024) y
    exact Cert.HgrnFwdRefIdeal.RefValue.result_raw _ _ hT r j
  · rw [Cert.HgrnFwdRefIdeal.RefRun.start, e0, e1, e2]
    funext (y : Cert.HgrnFwdRefIdeal.S4096x1024.Idx)
    obtain ⟨r, j, rfl⟩ := exists_ix2 (a := 4096) (b := 1024) y
    exact Cert.HgrnFwdRefIdeal.RefValue.result_gated _ _ hT _ r j

/-- The reference ends with its arguments unchanged and every counter at zero: it declares no semaphore. -/
theorem frame : Cert.quiescent_HgrnFwdRefIdeal := fun m ρ _ =>
  (θ_run Cert.HgrnFwdRefIdeal.defs _ _).mono (fun r h => ⟨fun c => (h c).2.2, sem_eq_zero_of_no_sems (by decide) r.2⟩)
    (Cert.HgrnFwdRefIdeal.RefRun.run_seq (F := Ideal) m ρ)

end Cert.Proof.HgrnFwd

end
-- ==== Proof.lean ====
/-
  The proof of `Cert.Claim`: the frames of the kernels are their generated ones, those of the references hold because
  a program of host operations declares no semaphore, and each value claim is proved in a module of its own under `Proof/`.
-/
module

public import proofs.«01_k».proof.Defs
public import proofs.«01_k».proof.Proof.Gen.MergeBwd.Frame
public import proofs.«01_k».proof.Proof.Gen.MergeBwdIdeal.Frame
public import proofs.«01_k».proof.Proof.Gen.MergeBwdRefIdeal.Run
public import proofs.«01_k».proof.Proof.Gen.MergeBwdRefIdeal.Read
public import proofs.«01_k».proof.Proof.Merge
public import proofs.«01_k».proof.Proof.Gen.GmlpBwd.Frame
public import proofs.«01_k».proof.Proof.Gen.GmlpBwdIdeal.Frame
public import proofs.«01_k».proof.Proof.Gen.GmlpBwdRefIdeal.Run
public import proofs.«01_k».proof.Proof.Gen.GmlpBwdRefIdeal.Read
public import proofs.«01_k».proof.Proof.Gen.Pre_gmlp_bwd_finite
public import proofs.«01_k».proof.Proof.Gmlp
public import proofs.«01_k».proof.Proof.Gen.ProjBwd.Frame
public import proofs.«01_k».proof.Proof.Gen.ProjBwdIdeal.Frame
public import proofs.«01_k».proof.Proof.Gen.ProjBwdIdeal.Run
public import proofs.«01_k».proof.Proof.Gen.ProjBwdRefIdeal.Run
public import proofs.«01_k».proof.Proof.Gen.ProjBwdRefIdeal.Read
public import proofs.«01_k».proof.Proof.Gen.Pre_proj_bwd_finite
public import proofs.«01_k».proof.Proof.Proj
public import proofs.«01_k».proof.Proof.Gen.Ffn.Frame
public import proofs.«01_k».proof.Proof.Gen.FfnIdeal.Frame
public import proofs.«01_k».proof.Proof.Gen.FfnIdeal.Run
public import proofs.«01_k».proof.Proof.Gen.FfnRefIdeal.Run
public import proofs.«01_k».proof.Proof.Gen.FfnRefIdeal.Read
public import proofs.«01_k».proof.Proof.Gen.Pre_ffn_finite
public import proofs.«01_k».proof.Proof.Ffn
public import proofs.«01_k».proof.Proof.Gen.GmlpFwd.Frame
public import proofs.«01_k».proof.Proof.Gen.GmlpFwdIdeal.Frame
public import proofs.«01_k».proof.Proof.Gen.GmlpFwdIdeal.Value
public import proofs.«01_k».proof.Proof.Gen.GmlpFwdRefIdeal.Run
public import proofs.«01_k».proof.Proof.Gen.GmlpFwdRefIdeal.Read
public import proofs.«01_k».proof.Proof.GmlpFwd
public import proofs.«01_k».proof.Proof.Gen.MergeFwd.Frame
public import proofs.«01_k».proof.Proof.Gen.MergeFwdIdeal.Frame
public import proofs.«01_k».proof.Proof.Gen.MergeFwdIdeal.Value
public import proofs.«01_k».proof.Proof.Gen.MergeFwdRefIdeal.Run
public import proofs.«01_k».proof.Proof.Gen.MergeFwdRefIdeal.Read
public import proofs.«01_k».proof.Proof.MergeFwd
public import proofs.«01_k».proof.Proof.Gen.HgrnFwd.Frame
public import proofs.«01_k».proof.Proof.Gen.HgrnFwdIdeal.Frame
public import proofs.«01_k».proof.Proof.Gen.HgrnFwdIdeal.Value
public import proofs.«01_k».proof.Proof.Gen.HgrnFwdRefIdeal.Run
public import proofs.«01_k».proof.Proof.Gen.HgrnFwdRefIdeal.Step
public import proofs.«01_k».proof.Proof.Gen.Pre_hgrn_fwd_finite
public import proofs.«01_k».proof.Proof.HgrnFwd

@[expose] public section

noncomputable section

namespace Cert.Proof

open Idealize.ShloMosaic Idealize.SL.Sem

/-- Every claim of the certificate. -/
theorem claim : Cert.Claim :=
  ⟨Cert.MergeBwd.Gen.facts, Cert.MergeBwdIdeal.Gen.facts, Cert.MergeBwdRefIdeal.Gen.facts,
    Cert.GmlpBwd.Gen.facts, Cert.GmlpBwdIdeal.Gen.facts, Cert.GmlpBwdRefIdeal.Gen.facts,
    Cert.ProjBwd.Gen.facts, Cert.ProjBwdIdeal.Gen.facts, Cert.ProjBwdRefIdeal.Gen.facts,
    Cert.Ffn.Gen.facts, Cert.FfnIdeal.Gen.facts, Cert.FfnRefIdeal.Gen.facts,
    Cert.GmlpFwd.Gen.facts, Cert.GmlpFwdIdeal.Gen.facts, Cert.GmlpFwdRefIdeal.Gen.facts,
    Cert.MergeFwd.Gen.facts, Cert.MergeFwdIdeal.Gen.facts, Cert.MergeFwdRefIdeal.Gen.facts,
    Cert.HgrnFwd.Gen.facts, Cert.HgrnFwdIdeal.Gen.facts, Cert.HgrnFwdRefIdeal.Gen.facts,
    Cert.Pre_gmlp_bwd_finite.Gen.facts, Cert.Pre_proj_bwd_finite.Gen.facts, Cert.Pre_ffn_finite.Gen.facts, Cert.Pre_hgrn_fwd_finite.Gen.facts,
    fun m ρ _ => Cert.MergeBwd.Gen.frame m ρ, fun m ρ _ => Cert.MergeBwdIdeal.Gen.frame m ρ,
    fun m ρ _ => Cert.MergeBwdRefIdeal.RefValue.frame m ρ,
    fun m ρ _ => Cert.GmlpBwd.Gen.frame m ρ, fun m ρ _ => Cert.GmlpBwdIdeal.Gen.frame m ρ, fun m ρ _ => Cert.GmlpBwdIdeal.Gen.frame m ρ,
    Gmlp.frame, fun m ρ _ => Gmlp.frame m ρ trivial,
    fun m ρ _ => Cert.ProjBwd.Gen.frame m ρ, fun m ρ _ => Cert.ProjBwdIdeal.Gen.frame m ρ, fun m ρ _ => Cert.ProjBwdIdeal.Gen.frame m ρ,
    Proj.frame, fun m ρ _ => Proj.frame m ρ trivial,
    fun m ρ _ => Cert.Ffn.Gen.frame m ρ, fun m ρ _ => Cert.FfnIdeal.Gen.frame m ρ, fun m ρ _ => Cert.FfnIdeal.Gen.frame m ρ,
    Ffn.frame, fun m ρ _ => Ffn.frame m ρ trivial,
    fun m ρ _ => Cert.GmlpFwd.Gen.frame m ρ, fun m ρ _ => Cert.GmlpFwdIdeal.Gen.frame m ρ, GmlpFwd.frame,
    fun m ρ _ => Cert.MergeFwd.Gen.frame m ρ, fun m ρ _ => Cert.MergeFwdIdeal.Gen.frame m ρ, MergeFwd.frame,
    fun m ρ _ => Cert.HgrnFwd.Gen.frame m ρ, fun m ρ _ => Cert.HgrnFwdIdeal.Gen.frame m ρ, fun m ρ _ => Cert.HgrnFwdIdeal.Gen.frame m ρ,
    HgrnFwd.frame, fun m ρ _ => HgrnFwd.frame m ρ trivial,
    trivial, Merge.algebraic,
    ⟨IdealRules.named_const.statement Cert.GmlpBwdIdeal.κ "gelu_c1" .f32 0x3D372713#32 _ rfl,
      IdealRules.named_const.statement Cert.GmlpBwdIdeal.κ "gelu_c1_times_3" .f32 0x3E095D4F#32 _ rfl⟩,
    Gmlp.algebraic, trivial, Proj.algebraic, trivial, Ffn.algebraic,
    IdealRules.named_const.statement Cert.GmlpFwdIdeal.κ "gelu_c1" .f32 0x3D372713#32 _ rfl, GmlpFwd.algebraic, trivial, MergeFwd.algebraic, trivial, HgrnFwd.algebraic⟩

end Cert.Proof

end
